-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S82048x128 : Shape := ⟨2, ![82048, 128]⟩
abbrev S128 : Shape := ⟨1, ![128]⟩
abbrev S352x3x80 : Shape := ⟨3, ![352, 3, 80]⟩
abbrev S3x80 : Shape := ⟨2, ![3, 80]⟩
abbrev S80x3x80 : Shape := ⟨3, ![80, 3, 80]⟩
abbrev S80x352 : Shape := ⟨2, ![80, 352]⟩
abbrev S128x1 : Shape := ⟨2, ![128, 1]⟩
abbrev S_ : Shape := ⟨0, ![]⟩
abbrev S1x128 : Shape := ⟨2, ![1, 128]⟩
abbrev S128x128 : Shape := ⟨2, ![128, 128]⟩

class Facts : Prop where
  bcast_S128_S128x1_0 : S128.BroadcastsInDim S128x1 (![0] : Fin 1 → Fin S128x1.rank)
  bcast_S_S128x1 : S_.BroadcastsInDim S128x1 (![] : Fin 0 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)

variable [Facts]

def fn_part1 {F : FTy → Type} [FloatOps F] (main_v0 : IVec S128 32) (main_v7 : IVec S128x1 1) (main_v18 : IVec S128x128 1) (main_v20 : IVec S1x128 32) (main_v21 : IVec S128x128 32) : IVec S128x128 1 :=
  let main_v22 : IVec S128x128 32 := broadcastInDim S128x128 ![0, 1] bcast_S1x128_S128x128_0_1 main_v20
  let main_v23 : IVec S128x128 1 := cmpi .sge main_v21 main_v22
  let main_v24 : IVec S128x1 32 := broadcastInDim S128x1 ![0] bcast_S128_S128x1_0 main_v0
  let main_v25 : IVec S1x128 32 := broadcastInDim S1x128 ![1] bcast_S128_S1x128_1 main_v0
  let main_v26 : IVec S128x128 32 := broadcastInDim S128x128 ![0, 1] bcast_S128x1_S128x128_0_1 main_v24
  let main_v27 : IVec S128x128 32 := broadcastInDim S128x128 ![0, 1] bcast_S1x128_S128x128_0_1 main_v25
  let main_v28 : IVec S128x128 1 := cmpi .sgt main_v26 main_v27
  let main_v29 : IVec S128x128 1 := ori main_v23 main_v28
  let main_v30 : IVec S128x128 1 := broadcastInDim S128x128 ![0, 1] bcast_S128x1_S128x128_0_1 main_v7
  let main_v31 : IVec S128x128 1 := andi main_v30 main_v18
  let main_v32 : IVec S128x128 1 := andi main_v31 main_v29
  main_v32

def fn {F : FTy → Type} [FloatOps F] (main_arg0 : IVec S82048x128 32) (main_arg1 : IVec S128 32) (main_arg2 : IVec S128 32) (main_arg3 : FVec F S352x3x80 .fp8e4m3) (main_arg4 : FVec F S3x80 .f32) (main_arg5 : FVec F S80x3x80 .fp8e4m3) (main_arg6 : FVec F S3x80 .f32) (main_arg7 : FVec F S3x80 .f32) (main_arg8 : FVec F S3x80 .f32) (main_arg9 : FVec F S80x352 .f32) (main_arg10 : FVec F S80x3x80 .fp8e4m3) (main_arg11 : FVec F S3x80 .f32) (main_arg12 : FVec F S80x3x80 .fp8e4m3) (main_arg13 : FVec F S3x80 .f32) (main_arg14 : FVec F S3x80 .f32) (main_arg15 : FVec F S3x80 .f32) : IVec S128x128 1 :=
  let main_v0 : IVec S128 32 := iotaInDim S128 32 0
  let main_v1 : IVec S128x1 32 := broadcastInDim S128x1 ![0] bcast_S128_S128x1_0 main_arg2
  let main_c : IVec S_ 32 := constantI S_ 32 0#32
  let main_v2 : IVec S128x1 32 := broadcastInDim S128x1 ![] bcast_S_S128x1 main_c
  let main_v3 : IVec S128x1 1 := cmpi .sge main_v1 main_v2
  let main_v4 : IVec S128x1 32 := broadcastInDim S128x1 ![0] bcast_S128_S128x1_0 main_arg2
  let main_c_0 : IVec S_ 32 := constantI S_ 32 128#32
  let main_v5 : IVec S128x1 32 := broadcastInDim S128x1 ![] bcast_S_S128x1 main_c_0
  let main_v6 : IVec S128x1 1 := cmpi .slt main_v4 main_v5
  let main_v7 : IVec S128x1 1 := andi main_v3 main_v6
  let main_v8 : IVec S128x1 32 := broadcastInDim S128x1 ![0] bcast_S128_S128x1_0 main_arg2
  let main_v9 : IVec S1x128 32 := broadcastInDim S1x128 ![1] bcast_S128_S1x128_1 main_arg2
  let main_v10 : IVec S128x128 32 := broadcastInDim S128x128 ![0, 1] bcast_S128x1_S128x128_0_1 main_v8
  let main_v11 : IVec S128x128 32 := broadcastInDim S128x128 ![0, 1] bcast_S1x128_S128x128_0_1 main_v9
  let main_v12 : IVec S128x128 1 := cmpi .ne main_v10 main_v11
  let main_v13 : IVec S128x1 32 := broadcastInDim S128x1 ![0] bcast_S128_S128x1_0 main_v0
  let main_v14 : IVec S1x128 32 := broadcastInDim S1x128 ![1] bcast_S128_S1x128_1 main_v0
  let main_v15 : IVec S128x128 32 := broadcastInDim S128x128 ![0, 1] bcast_S128x1_S128x128_0_1 main_v13
  let main_v16 : IVec S128x128 32 := broadcastInDim S128x128 ![0, 1] bcast_S1x128_S128x128_0_1 main_v14
  let main_v17 : IVec S128x128 1 := cmpi .eq main_v15 main_v16
  let main_v18 : IVec S128x128 1 := ori main_v12 main_v17
  let main_v19 : IVec S128x1 32 := broadcastInDim S128x1 ![0] bcast_S128_S128x1_0 main_arg1
  let main_v20 : IVec S1x128 32 := broadcastInDim S1x128 ![1] bcast_S128_S1x128_1 main_arg1
  let main_v21 : IVec S128x128 32 := broadcastInDim S128x128 ![0, 1] bcast_S128x1_S128x128_0_1 main_v19
  fn_part1 (F := F) main_v0 main_v7 main_v18 main_v20 main_v21
-- ==== Kernel.lean ====
abbrev S82048x128 : Shape := ⟨2, ![82048, 128]⟩
abbrev S128 : Shape := ⟨1, ![128]⟩
abbrev S352x3x80 : Shape := ⟨3, ![352, 3, 80]⟩
abbrev S3x80 : Shape := ⟨2, ![3, 80]⟩
abbrev S80x3x80 : Shape := ⟨3, ![80, 3, 80]⟩
abbrev S80x352 : Shape := ⟨2, ![80, 352]⟩
abbrev S3 : Shape := ⟨1, ![3]⟩
abbrev S352x240 : Shape := ⟨2, ![352, 240]⟩
abbrev S352x80 : Shape := ⟨2, ![352, 80]⟩
abbrev S_ : Shape := ⟨0, ![]⟩
abbrev S384x128 : Shape := ⟨2, ![384, 128]⟩
abbrev S80x240 : Shape := ⟨2, ![80, 240]⟩
abbrev S3x1 : Shape := ⟨2, ![3, 1]⟩
abbrev S1x80 : Shape := ⟨2, ![1, 80]⟩
abbrev S80 : Shape := ⟨1, ![80]⟩
abbrev S1 : Shape := ⟨1, ![1]⟩
abbrev S1x3x80 : Shape := ⟨3, ![1, 3, 80]⟩
abbrev S8x3x80 : Shape := ⟨3, ![8, 3, 80]⟩
abbrev S8x3x128 : Shape := ⟨3, ![8, 3, 128]⟩
abbrev S8x384 : Shape := ⟨2, ![8, 384]⟩
abbrev S128x1 : Shape := ⟨2, ![128, 1]⟩
abbrev S128x80 : Shape := ⟨2, ![128, 80]⟩
abbrev S128x640 : Shape := ⟨2, ![128, 640]⟩
abbrev S2048x128 : Shape := ⟨2, ![2048, 128]⟩
abbrev S128x128 : Shape := ⟨2, ![128, 128]⟩
abbrev S384x512 : Shape := ⟨2, ![384, 512]⟩
abbrev S128x384 : Shape := ⟨2, ![128, 384]⟩
abbrev S2048x384 : Shape := ⟨2, ![2048, 384]⟩
abbrev S640x128x128 : Shape := ⟨3, ![640, 128, 128]⟩
abbrev S5x128x128 : Shape := ⟨3, ![5, 128, 128]⟩
abbrev S1x128 : Shape := ⟨2, ![1, 128]⟩
abbrev S80x80 : Shape := ⟨2, ![80, 80]⟩
abbrev S128x128x1 : Shape := ⟨3, ![128, 128, 1]⟩
abbrev S16x128 : Shape := ⟨2, ![16, 128]⟩
abbrev S256x128 : Shape := ⟨2, ![256, 128]⟩
abbrev S256x128x1 : Shape := ⟨3, ![256, 128, 1]⟩
abbrev S256x256 : Shape := ⟨2, ![256, 256]⟩
abbrev S256x512 : Shape := ⟨2, ![256, 512]⟩
abbrev S128x512 : Shape := ⟨2, ![128, 512]⟩
abbrev S256x384 : Shape := ⟨2, ![256, 384]⟩
abbrev S1x384 : Shape := ⟨2, ![1, 384]⟩
abbrev S16x384 : Shape := ⟨2, ![16, 384]⟩
abbrev S1x16x128 : Shape := ⟨3, ![1, 16, 128]⟩
abbrev S16 : Shape := ⟨1, ![16]⟩
abbrev S16x1 : Shape := ⟨2, ![16, 1]⟩
abbrev S32x128 : Shape := ⟨2, ![32, 128]⟩
abbrev S32x384 : Shape := ⟨2, ![32, 384]⟩
abbrev S1x32x128 : Shape := ⟨3, ![1, 32, 128]⟩
abbrev S32 : Shape := ⟨1, ![32]⟩
abbrev S32x1 : Shape := ⟨2, ![32, 1]⟩
abbrev S64x128 : Shape := ⟨2, ![64, 128]⟩
abbrev S64x384 : Shape := ⟨2, ![64, 384]⟩
abbrev S1x64x128 : Shape := ⟨3, ![1, 64, 128]⟩
abbrev S64 : Shape := ⟨1, ![64]⟩
abbrev S64x1 : Shape := ⟨2, ![64, 1]⟩
abbrev S1x128x128 : Shape := ⟨3, ![1, 128, 128]⟩
abbrev S1x1x128 : Shape := ⟨3, ![1, 1, 128]⟩
abbrev S16x128x1 : Shape := ⟨3, ![16, 128, 1]⟩
abbrev S32x128x1 : Shape := ⟨3, ![32, 128, 1]⟩
abbrev S64x128x1 : Shape := ⟨3, ![64, 128, 1]⟩

abbrev nBuf : Space → Nat
  | .hbm => 66
  | .vmem => 24
  | .smem => 2
  | _ => 0

abbrev bufTy : (tb : Table) → Fin (tcTables nBuf tb) → BufTy
  | .hbm, ⟨0, _⟩ => ⟨S82048x128, .i32⟩
  | .hbm, ⟨1, _⟩ => ⟨S352x3x80, .fp8e4m3⟩
  | .hbm, ⟨2, _⟩ => ⟨S3x80, .f32⟩
  | .hbm, ⟨3, _⟩ => ⟨S80x3x80, .fp8e4m3⟩
  | .hbm, ⟨4, _⟩ => ⟨S3x80, .f32⟩
  | .hbm, ⟨5, _⟩ => ⟨S3x80, .f32⟩
  | .hbm, ⟨6, _⟩ => ⟨S3x80, .f32⟩
  | .hbm, ⟨7, _⟩ => ⟨S80x352, .f32⟩
  | .hbm, ⟨8, _⟩ => ⟨S80x3x80, .fp8e4m3⟩
  | .hbm, ⟨9, _⟩ => ⟨S3x80, .f32⟩
  | .hbm, ⟨10, _⟩ => ⟨S80x3x80, .fp8e4m3⟩
  | .hbm, ⟨11, _⟩ => ⟨S3x80, .f32⟩
  | .hbm, ⟨12, _⟩ => ⟨S3x80, .f32⟩
  | .hbm, ⟨13, _⟩ => ⟨S3x80, .f32⟩
  | .hbm, ⟨14, _⟩ => ⟨S3, .f32⟩
  | .hbm, ⟨15, _⟩ => ⟨S3, .f32⟩
  | .hbm, ⟨16, _⟩ => ⟨S352x240, .fp8e4m3⟩
  | .hbm, ⟨17, _⟩ => ⟨S352x80, .f32⟩
  | .hbm, ⟨18, _⟩ => ⟨S_, .i32⟩
  | .hbm, ⟨19, _⟩ => ⟨S_, .f32⟩
  | .hbm, ⟨20, _⟩ => ⟨S384x128, .f32⟩
  | .hbm, ⟨21, _⟩ => ⟨S80x240, .fp8e4m3⟩
  | .hbm, ⟨22, _⟩ => ⟨S80x240, .fp8e4m3⟩
  | .hbm, ⟨23, _⟩ => ⟨S80x240, .fp8e4m3⟩
  | .hbm, ⟨24, _⟩ => ⟨S3x1, .f32⟩
  | .hbm, ⟨25, _⟩ => ⟨S3x1, .f32⟩
  | .hbm, ⟨26, _⟩ => ⟨S_, .f32⟩
  | .hbm, ⟨27, _⟩ => ⟨S3x1, .f32⟩
  | .hbm, ⟨28, _⟩ => ⟨S3x1, .i1⟩
  | .hbm, ⟨29, _⟩ => ⟨S_, .f32⟩
  | .hbm, ⟨30, _⟩ => ⟨S3x80, .f32⟩
  | .hbm, ⟨31, _⟩ => ⟨S1x80, .f32⟩
  | .hbm, ⟨32, _⟩ => ⟨S80, .f32⟩
  | .hbm, ⟨33, _⟩ => ⟨S_, .f32⟩
  | .hbm, ⟨34, _⟩ => ⟨S80, .f32⟩
  | .hbm, ⟨35, _⟩ => ⟨S80, .f32⟩
  | .hbm, ⟨36, _⟩ => ⟨S_, .i32⟩
  | .hbm, ⟨37, _⟩ => ⟨S1, .i32⟩
  | .hbm, ⟨38, _⟩ => ⟨S3x80, .f32⟩
  | .hbm, ⟨39, _⟩ => ⟨S3x80, .f32⟩
  | .hbm, ⟨40, _⟩ => ⟨S3x80, .f32⟩
  | .hbm, ⟨41, _⟩ => ⟨S3x80, .f32⟩
  | .hbm, ⟨42, _⟩ => ⟨S3x80, .f32⟩
  | .hbm, ⟨43, _⟩ => ⟨S3x80, .f32⟩
  | .hbm, ⟨44, _⟩ => ⟨S3x80, .i1⟩
  | .hbm, ⟨45, _⟩ => ⟨S3x80, .f32⟩
  | .hbm, ⟨46, _⟩ => ⟨S_, .f32⟩
  | .hbm, ⟨47, _⟩ => ⟨S3x80, .f32⟩
  | .hbm, ⟨48, _⟩ => ⟨S3x80, .f32⟩
  | .hbm, ⟨49, _⟩ => ⟨S1x3x80, .f32⟩
  | .hbm, ⟨50, _⟩ => ⟨S1x3x80, .f32⟩
  | .hbm, ⟨51, _⟩ => ⟨S1x3x80, .f32⟩
  | .hbm, ⟨52, _⟩ => ⟨S1x3x80, .f32⟩
  | .hbm, ⟨53, _⟩ => ⟨S1x3x80, .f32⟩
  | .hbm, ⟨54, _⟩ => ⟨S1x3x80, .f32⟩
  | .hbm, ⟨55, _⟩ => ⟨S1x3x80, .f32⟩
  | .hbm, ⟨56, _⟩ => ⟨S1x3x80, .f32⟩
  | .hbm, ⟨57, _⟩ => ⟨S8x3x80, .f32⟩
  | .hbm, ⟨58, _⟩ => ⟨S_, .i32⟩
  | .hbm, ⟨59, _⟩ => ⟨S_, .f32⟩
  | .hbm, ⟨60, _⟩ => ⟨S8x3x128, .f32⟩
  | .hbm, ⟨61, _⟩ => ⟨S8x384, .f32⟩
  | .hbm, ⟨62, _⟩ => ⟨S128x1, .i32⟩
  | .hbm, ⟨63, _⟩ => ⟨S128x80, .bf16⟩
  | .hbm, ⟨64, _⟩ => ⟨S128x640, .f32⟩
  | .hbm, ⟨65, _⟩ => ⟨S128x80, .f32⟩
  | .local _ .vmem, ⟨0, _⟩ => ⟨S2048x128, .i32⟩
  | .local _ .vmem, ⟨1, _⟩ => ⟨S2048x128, .i32⟩
  | .local _ .vmem, ⟨2, _⟩ => ⟨S128x128, .i32⟩
  | .local _ .vmem, ⟨3, _⟩ => ⟨S128x1, .i32⟩
  | .local _ .vmem, ⟨4, _⟩ => ⟨S352x240, .fp8e4m3⟩
  | .local _ .vmem, ⟨5, _⟩ => ⟨S80x240, .fp8e4m3⟩
  | .local _ .vmem, ⟨6, _⟩ => ⟨S80x240, .fp8e4m3⟩
  | .local _ .vmem, ⟨7, _⟩ => ⟨S80x240, .fp8e4m3⟩
  | .local _ .vmem, ⟨8, _⟩ => ⟨S384x128, .f32⟩
  | .local _ .vmem, ⟨9, _⟩ => ⟨S8x384, .f32⟩
  | .local _ .vmem, ⟨10, _⟩ => ⟨S128x80, .bf16⟩
  | .local _ .vmem, ⟨11, _⟩ => ⟨S128x640, .f32⟩
  | .local _ .vmem, ⟨12, _⟩ => ⟨S128x80, .f32⟩
  | .local _ .vmem, ⟨13, _⟩ => ⟨S384x512, .bf16⟩
  | .local _ .vmem, ⟨14, _⟩ => ⟨S128x384, .bf16⟩
  | .local _ .vmem, ⟨15, _⟩ => ⟨S128x384, .bf16⟩
  | .local _ .vmem, ⟨16, _⟩ => ⟨S128x384, .bf16⟩
  | .local _ .vmem, ⟨17, _⟩ => ⟨S128x128, .f32⟩
  | .local _ .vmem, ⟨18, _⟩ => ⟨S128x128, .i32⟩
  | .local _ .vmem, ⟨19, _⟩ => ⟨S2048x384, .f32⟩
  | .local _ .vmem, ⟨20, _⟩ => ⟨S640x128x128, .bf16⟩
  | .local _ .vmem, ⟨21, _⟩ => ⟨S128x128, .f32⟩
  | .local _ .vmem, ⟨22, _⟩ => ⟨S5x128x128, .f32⟩
  | .local _ .vmem, ⟨23, _⟩ => ⟨S128x128, .f32⟩
  | .local _ .smem, ⟨0, _⟩ => ⟨S128, .i32⟩
  | .local _ .smem, ⟨1, _⟩ => ⟨S128, .i32⟩
  | _, _ => ⟨S82048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_arg9 : Ref sig .tc := ⟨.hbm, 7, rfl⟩
abbrev main_arg10 : Ref sig .tc := ⟨.hbm, 8, rfl⟩
abbrev main_arg11 : Ref sig .tc := ⟨.hbm, 9, rfl⟩
abbrev main_arg12 : Ref sig .tc := ⟨.hbm, 10, rfl⟩
abbrev main_arg13 : Ref sig .tc := ⟨.hbm, 11, rfl⟩
abbrev main_arg14 : Ref sig .tc := ⟨.hbm, 12, rfl⟩
abbrev main_arg15 : Ref sig .tc := ⟨.hbm, 13, rfl⟩
abbrev main_cst : Ref sig .tc := ⟨.hbm, 14, rfl⟩
abbrev main_cst_0 : Ref sig .tc := ⟨.hbm, 15, rfl⟩
abbrev main_v0 : Ref sig .tc := ⟨.hbm, 16, rfl⟩
abbrev main_v1 : Ref sig .tc := ⟨.hbm, 17, rfl⟩
abbrev main_c : Ref sig .tc := ⟨.hbm, 18, rfl⟩
abbrev main_call0_v0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_cst_3 : Ref sig .tc := ⟨.hbm, 33, rfl⟩
abbrev main_v13 : Ref sig .tc := ⟨.hbm, 34, rfl⟩
abbrev main_v14 : Ref sig .tc := ⟨.hbm, 35, rfl⟩
abbrev main_c_4 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_call1_v0 : Ref sig .tc := ⟨.hbm, 44, rfl⟩
abbrev main_v22 : Ref sig .tc := ⟨.hbm, 45, rfl⟩
abbrev main_cst_5 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_c_6 : Ref sig .tc := ⟨.hbm, 58, rfl⟩
abbrev main_call2_v0 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37_0 : Ref sig .tc := ⟨.hbm, 63, rfl⟩
abbrev main_v37_1 : Ref sig .tc := ⟨.hbm, 64, rfl⟩
abbrev main_v37_2 : Ref sig .tc := ⟨.hbm, 65, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_scratch5 : Ref sig .tc := ⟨.vmem, 18, rfl⟩
abbrev cc0_scratch6 : Ref sig .tc := ⟨.vmem, 19, rfl⟩
abbrev cc0_scratch7 : Ref sig .tc := ⟨.vmem, 20, rfl⟩
abbrev cc0_scratch8 : Ref sig .tc := ⟨.vmem, 21, rfl⟩
abbrev cc0_scratch9 : Ref sig .tc := ⟨.vmem, 22, rfl⟩
abbrev cc0_scratch10 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12

abbrev nD : Nat := 1
abbrev τ : Topo := Topo.v7x

variable {F : FTy → Type} [FloatOps F]

abbrev grid0 : Pipeline.Grid := ⟨1, ![80], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond2 (i : grid0.Coords) : BitVec 1 :=
  let arg0 : BitVec 32 := BitVec.ofNat 32 (i 0).val
  let c40_i32 : BitVec 32 := 40#32
  let v4 : BitVec 1 := Scalar.cmpi .slt arg0 c40_i32
  let v5 : BitVec 32 := Scalar.extui v4
  let c0_i32_1 : BitVec 32 := 0#32
  let v6 : BitVec 1 := Scalar.cmpi .ne v5 c0_i32_1
  v6

def k0_off1 (c0_i32_18 : BitVec 32) : Fin 2 → Nat :=
  let c0_i32_16 : BitVec 32 := 0#32
  let c0_i32_15 : BitVec 32 := 0#32
  let c1_i32 : BitVec 32 := 1#32
  let v43 : BitVec 32 := Scalar.muli c0_i32_15 c1_i32
  let v44 : BitVec 32 := Scalar.addi c0_i32_16 v43
  let c16_i32_17 : BitVec 32 := 16#32
  let v45 : BitVec 32 := Scalar.muli v44 c16_i32_17
  let v46 : BitVec 32 := Scalar.addi v45 c0_i32_18
  let c128_i32 : BitVec 32 := 128#32
  let v47 : BitVec 32 := Scalar.muli v46 c128_i32
  let v48 : Index := Scalar.indexCast v47
  let c0_19 : Index := 0#32
  ![v48.toNat, 0]
def k0_off2 (c0_i32_159 : BitVec 32) : Fin 2 → Nat :=
  let c0_i32_16 : BitVec 32 := 0#32
  let c0_i32_15 : BitVec 32 := 0#32
  let c1_i32 : BitVec 32 := 1#32
  let v43 : BitVec 32 := Scalar.muli c0_i32_15 c1_i32
  let v44 : BitVec 32 := Scalar.addi c0_i32_16 v43
  let c16_i32_158 : BitVec 32 := 16#32
  let v459 : BitVec 32 := Scalar.muli v44 c16_i32_158
  let v460 : BitVec 32 := Scalar.addi v459 c0_i32_159
  let c128_i32_162 : BitVec 32 := 128#32
  let v466 : BitVec 32 := Scalar.muli v460 c128_i32_162
  let v470 : Index := Scalar.indexCast v466
  let c0_164 : Index := 0#32
  ![v470.toNat, 0]
def k0_off3 (c0_i32_159 : BitVec 32) : Fin 2 → Nat :=
  let c0_i32_16 : BitVec 32 := 0#32
  let c0_i32_15 : BitVec 32 := 0#32
  let c1_i32 : BitVec 32 := 1#32
  let v43 : BitVec 32 := Scalar.muli c0_i32_15 c1_i32
  let v44 : BitVec 32 := Scalar.addi c0_i32_16 v43
  let c16_i32_158 : BitVec 32 := 16#32
  let v459 : BitVec 32 := Scalar.muli v44 c16_i32_158
  let v460 : BitVec 32 := Scalar.addi v459 c0_i32_159
  let c128_i32_162 : BitVec 32 := 128#32
  let v466 : BitVec 32 := Scalar.muli v460 c128_i32_162
  let v477 : Index := Scalar.indexCast v466
  let c128 : Index := 128#32
  ![v477.toNat, 128]
def k0_off4 (c0_i32_159 : BitVec 32) : Fin 2 → Nat :=
  let c0_i32_16 : BitVec 32 := 0#32
  let c0_i32_15 : BitVec 32 := 0#32
  let c1_i32 : BitVec 32 := 1#32
  let v43 : BitVec 32 := Scalar.muli c0_i32_15 c1_i32
  let v44 : BitVec 32 := Scalar.addi c0_i32_16 v43
  let c16_i32_158 : BitVec 32 := 16#32
  let v459 : BitVec 32 := Scalar.muli v44 c16_i32_158
  let v460 : BitVec 32 := Scalar.addi v459 c0_i32_159
  let c128_i32_162 : BitVec 32 := 128#32
  let v466 : BitVec 32 := Scalar.muli v460 c128_i32_162
  let v484 : Index := Scalar.indexCast v466
  let c256_167 : Index := 256#32
  ![v484.toNat, 256]
@[reducible] def k0_t1_loop : Scf.Loop 32 :=
  let c0_i32_347 : BitVec 32 := 0#32
  let c16_i32_348 : BitVec 32 := 16#32
  let v946 : BitVec 32 := Scalar.addi c0_i32_347 c16_i32_348
  let c1_i32_349 : BitVec 32 := 1#32
  ⟨c0_i32_347, v946, c1_i32_349⟩
def k0_off5 (k0_t1 : Fin k0_t1_loop.trips) : Fin 2 → Nat :=
  let c0_i32_347 : BitVec 32 := 0#32
  let c1_i32_349 : BitVec 32 := 1#32
  let arg26 : BitVec 32 := Scf.iv c0_i32_347 c1_i32_349 k0_t1
  let c128_i32_356 : BitVec 32 := 128#32
  let v954 : BitVec 32 := Scalar.muli arg26 c128_i32_356
  let v955 : Index := Scalar.indexCast v954
  let c0_357 : Index := 0#32
  ![v955.toNat, 0]
def k0_off6 (i : grid0.Coords) (k0_t1 : Fin k0_t1_loop.trips) : Fin 3 → Nat :=
  let arg0 : BitVec 32 := BitVec.ofNat 32 (i 0).val
  let c16_i32_14 : BitVec 32 := 16#32
  let v42 : BitVec 32 := Scalar.muli arg0 c16_i32_14
  let c0_i32_347 : BitVec 32 := 0#32
  let c1_i32_349 : BitVec 32 := 1#32
  let arg26 : BitVec 32 := Scf.iv c0_i32_347 c1_i32_349 k0_t1
  let v992 : BitVec 32 := Scalar.addi v42 arg26
  let v993 : Index := Scalar.indexCast v992
  let c0_365 : Index := 0#32
  let c0_366 : Index := 0#32
  ![v993.toNat, 0, 0]
def k0_off7 (i : grid0.Coords) : Fin 3 → Nat :=
  let arg0 : BitVec 32 := BitVec.ofNat 32 (i 0).val
  let c0_i32_337 : BitVec 32 := 0#32
  let v928 : BitVec 1 := Scalar.cmpi .sgt arg0 c0_i32_337
  let v929 : BitVec 32 := Scalar.extui v928
  let c0_i32_338 : BitVec 32 := 0#32
  let v930 : BitVec 1 := Scalar.cmpi .slt arg0 c0_i32_338
  let v931 : BitVec 32 := Scalar.extui v930
  let v932 : BitVec 32 := Scalar.subi v929 v931
  let c8_i32_336 : BitVec 32 := 8#32
  let c0_i32_339 : BitVec 32 := 0#32
  let v933 : BitVec 1 := Scalar.cmpi .sgt c8_i32_336 c0_i32_339
  let v934 : BitVec 32 := Scalar.extui v933
  let c0_i32_340 : BitVec 32 := 0#32
  let v935 : BitVec 1 := Scalar.cmpi .slt c8_i32_336 c0_i32_340
  let v936 : BitVec 32 := Scalar.extui v935
  let v937 : BitVec 32 := Scalar.subi v934 v936
  let v938 : BitVec 1 := Scalar.cmpi .ne v932 v937
  let v939 : BitVec 32 := Scalar.remsi arg0 c8_i32_336
  let c0_i32_341 : BitVec 32 := 0#32
  let v940 : BitVec 1 := Scalar.cmpi .ne v939 c0_i32_341
  let v941 : BitVec 1 := Scalar.andi v938 v940
  let v927 : BitVec 32 := Scalar.divsi arg0 c8_i32_336
  let c1_i32_342 : BitVec 32 := 1#32
  let v942 : BitVec 32 := Scalar.subi v927 c1_i32_342
  let v943 : BitVec 32 := Scalar.select v941 v942 v927
  let v1000 : Index := Scalar.indexCast v943
  let c0_368 : Index := 0#32
  let c0_369 : Index := 0#32
  ![v1000.toNat, 0, 0]
@[reducible] def k0_t2_loop : Scf.Loop 32 :=
  let c0_i32_15 : BitVec 32 := 0#32
  let c2_i32 : BitVec 32 := 2#32
  let v43 : BitVec 32 := Scalar.addi c0_i32_15 c2_i32
  let c1_i32 : BitVec 32 := 1#32
  ⟨c0_i32_15, v43, c1_i32⟩
def k0_off8 (k0_t2 : Fin k0_t2_loop.trips) (c0_i32_38 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t2
  let c1_i32_35 : BitVec 32 := 1#32
  let v72 : BitVec 32 := Scalar.muli arg26 c1_i32_35
  let v73 : BitVec 32 := Scalar.addi c0_i32_36 v72
  let c8_i32_37 : BitVec 32 := 8#32
  let v74 : BitVec 32 := Scalar.muli v73 c8_i32_37
  let v75 : BitVec 32 := Scalar.addi v74 c0_i32_38
  let c128_i32 : BitVec 32 := 128#32
  let v76 : BitVec 32 := Scalar.muli v75 c128_i32
  let v77 : Index := Scalar.indexCast v76
  let c0_39 : Index := 0#32
  ![v77.toNat, 0]
def k0_off9 (k0_t2 : Fin k0_t2_loop.trips) (c0_i32_156 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t2
  let c1_i32_35 : BitVec 32 := 1#32
  let v72 : BitVec 32 := Scalar.muli arg26 c1_i32_35
  let v73 : BitVec 32 := Scalar.addi c0_i32_36 v72
  let c8_i32_155 : BitVec 32 := 8#32
  let v448 : BitVec 32 := Scalar.muli v73 c8_i32_155
  let v449 : BitVec 32 := Scalar.addi v448 c0_i32_156
  let c128_i32_159 : BitVec 32 := 128#32
  let v455 : BitVec 32 := Scalar.muli v449 c128_i32_159
  let v459 : Index := Scalar.indexCast v455
  let c0_161 : Index := 0#32
  ![v459.toNat, 0]
def k0_off10 (k0_t2 : Fin k0_t2_loop.trips) (c0_i32_156 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t2
  let c1_i32_35 : BitVec 32 := 1#32
  let v72 : BitVec 32 := Scalar.muli arg26 c1_i32_35
  let v73 : BitVec 32 := Scalar.addi c0_i32_36 v72
  let c8_i32_155 : BitVec 32 := 8#32
  let v448 : BitVec 32 := Scalar.muli v73 c8_i32_155
  let v449 : BitVec 32 := Scalar.addi v448 c0_i32_156
  let c128_i32_159 : BitVec 32 := 128#32
  let v455 : BitVec 32 := Scalar.muli v449 c128_i32_159
  let v466 : Index := Scalar.indexCast v455
  let c128 : Index := 128#32
  ![v466.toNat, 128]
def k0_off11 (k0_t2 : Fin k0_t2_loop.trips) (c0_i32_156 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t2
  let c1_i32_35 : BitVec 32 := 1#32
  let v72 : BitVec 32 := Scalar.muli arg26 c1_i32_35
  let v73 : BitVec 32 := Scalar.addi c0_i32_36 v72
  let c8_i32_155 : BitVec 32 := 8#32
  let v448 : BitVec 32 := Scalar.muli v73 c8_i32_155
  let v449 : BitVec 32 := Scalar.addi v448 c0_i32_156
  let c128_i32_159 : BitVec 32 := 128#32
  let v455 : BitVec 32 := Scalar.muli v449 c128_i32_159
  let v473 : Index := Scalar.indexCast v455
  let c256_164 : Index := 256#32
  ![v473.toNat, 256]
@[reducible] def k0_t3_loop : Scf.Loop 32 :=
  let c0_i32_29 : BitVec 32 := 0#32
  let c16_i32_30 : BitVec 32 := 16#32
  let v67 : BitVec 32 := Scalar.addi c0_i32_29 c16_i32_30
  let c1_i32_31 : BitVec 32 := 1#32
  ⟨c0_i32_29, v67, c1_i32_31⟩
def k0_off12 (k0_t3 : Fin k0_t3_loop.trips) : Fin 2 → Nat :=
  let c0_i32_29 : BitVec 32 := 0#32
  let c1_i32_31 : BitVec 32 := 1#32
  let arg26 : BitVec 32 := Scf.iv c0_i32_29 c1_i32_31 k0_t3
  let c128_i32 : BitVec 32 := 128#32
  let v75 : BitVec 32 := Scalar.muli arg26 c128_i32
  let v76 : Index := Scalar.indexCast v75
  let c0_37 : Index := 0#32
  ![v76.toNat, 0]
def k0_off13 (i : grid0.Coords) (k0_t3 : Fin k0_t3_loop.trips) : Fin 3 → Nat :=
  let arg0 : BitVec 32 := BitVec.ofNat 32 (i 0).val
  let c16_i32_14 : BitVec 32 := 16#32
  let v42 : BitVec 32 := Scalar.muli arg0 c16_i32_14
  let c0_i32_29 : BitVec 32 := 0#32
  let c1_i32_31 : BitVec 32 := 1#32
  let arg26 : BitVec 32 := Scf.iv c0_i32_29 c1_i32_31 k0_t3
  let v113 : BitVec 32 := Scalar.addi v42 arg26
  let v114 : Index := Scalar.indexCast v113
  let c0_45 : Index := 0#32
  let c0_46 : Index := 0#32
  ![v114.toNat, 0, 0]
def k0_off14 (i : grid0.Coords) : Fin 3 → Nat :=
  let arg0 : BitVec 32 := BitVec.ofNat 32 (i 0).val
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .slt arg0 c0_i32_20
  let v52 : BitVec 32 := Scalar.extui v51
  let v53 : BitVec 32 := Scalar.subi v50 v52
  let c8_i32 : BitVec 32 := 8#32
  let c0_i32_21 : BitVec 32 := 0#32
  let v54 : BitVec 1 := Scalar.cmpi .sgt c8_i32 c0_i32_21
  let v55 : BitVec 32 := Scalar.extui v54
  let c0_i32_22 : BitVec 32 := 0#32
  let v56 : BitVec 1 := Scalar.cmpi .slt c8_i32 c0_i32_22
  let v57 : BitVec 32 := Scalar.extui v56
  let v58 : BitVec 32 := Scalar.subi v55 v57
  let v59 : BitVec 1 := Scalar.cmpi .ne v53 v58
  let v60 : BitVec 32 := Scalar.remsi arg0 c8_i32
  let c0_i32_23 : BitVec 32 := 0#32
  let v61 : BitVec 1 := Scalar.cmpi .ne v60 c0_i32_23
  let v62 : BitVec 1 := Scalar.andi v59 v61
  let v48 : BitVec 32 := Scalar.divsi arg0 c8_i32
  let c1_i32_24 : BitVec 32 := 1#32
  let v63 : BitVec 32 := Scalar.subi v48 c1_i32_24
  let v64 : BitVec 32 := Scalar.select v62 v63 v48
  let v121 : Index := Scalar.indexCast v64
  let c0_48 : Index := 0#32
  let c0_49 : Index := 0#32
  ![v121.toNat, 0, 0]
@[reducible] def k0_t4_loop : Scf.Loop 32 :=
  let c0_i32_15 : BitVec 32 := 0#32
  let c4_i32 : BitVec 32 := 4#32
  let v43 : BitVec 32 := Scalar.addi c0_i32_15 c4_i32
  let c1_i32 : BitVec 32 := 1#32
  ⟨c0_i32_15, v43, c1_i32⟩
def k0_off15 (k0_t4 : Fin k0_t4_loop.trips) (c0_i32_38 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t4
  let c1_i32_35 : BitVec 32 := 1#32
  let v72 : BitVec 32 := Scalar.muli arg26 c1_i32_35
  let v73 : BitVec 32 := Scalar.addi c0_i32_36 v72
  let c4_i32_37 : BitVec 32 := 4#32
  let v74 : BitVec 32 := Scalar.muli v73 c4_i32_37
  let v75 : BitVec 32 := Scalar.addi v74 c0_i32_38
  let c128_i32 : BitVec 32 := 128#32
  let v76 : BitVec 32 := Scalar.muli v75 c128_i32
  let v77 : Index := Scalar.indexCast v76
  let c0_39 : Index := 0#32
  ![v77.toNat, 0]
def k0_off16 (k0_t4 : Fin k0_t4_loop.trips) (c0_i32_143 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t4
  let c1_i32_35 : BitVec 32 := 1#32
  let v72 : BitVec 32 := Scalar.muli arg26 c1_i32_35
  let v73 : BitVec 32 := Scalar.addi c0_i32_36 v72
  let c4_i32_142 : BitVec 32 := 4#32
  let v428 : BitVec 32 := Scalar.muli v73 c4_i32_142
  let v429 : BitVec 32 := Scalar.addi v428 c0_i32_143
  let c128_i32_146 : BitVec 32 := 128#32
  let v435 : BitVec 32 := Scalar.muli v429 c128_i32_146
  let v439 : Index := Scalar.indexCast v435
  let c0_148 : Index := 0#32
  ![v439.toNat, 0]
def k0_off17 (k0_t4 : Fin k0_t4_loop.trips) (c0_i32_143 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t4
  let c1_i32_35 : BitVec 32 := 1#32
  let v72 : BitVec 32 := Scalar.muli arg26 c1_i32_35
  let v73 : BitVec 32 := Scalar.addi c0_i32_36 v72
  let c4_i32_142 : BitVec 32 := 4#32
  let v428 : BitVec 32 := Scalar.muli v73 c4_i32_142
  let v429 : BitVec 32 := Scalar.addi v428 c0_i32_143
  let c128_i32_146 : BitVec 32 := 128#32
  let v435 : BitVec 32 := Scalar.muli v429 c128_i32_146
  let v446 : Index := Scalar.indexCast v435
  let c128 : Index := 128#32
  ![v446.toNat, 128]
def k0_off18 (k0_t4 : Fin k0_t4_loop.trips) (c0_i32_143 : BitVec 32) : Fin 2 → Nat :=
  let c0_i32_36 : BitVec 32 := 0#32
  let c0_i32_15 : BitVec 32 := 0#32
  let c1_i32 : BitVec 32 := 1#32
  let arg26 : BitVec 32 := Scf.iv c0_i32_15 c1_i32 k0_t4
  let c1_i32_35 : BitVec 32 := 1#32
  let v72 : BitVec 32 := Scalar.muli arg26 c1_i32_35
  let v73 : BitVec 32 := Scalar.addi c0_i32_36 v72
  let c4_i32_142 : BitVec 32 := 4#32
  let v428 : BitVec 32 := Scalar.muli v73 c4_i32_142
  let v429 : BitVec 32 := Scalar.addi v428 c0_i32_143
  let c128_i32_146 : BitVec 32 := 128#32
  let v435 : BitVec 32 := Scalar.muli v429 c128_i32_146
  let v453 : Index := Scalar.indexCast v435
  let c256_151 : Index := 256#32
  ![v453.toNat, 256]
@[reducible] def k0_t5_loop : Scf.Loop 32 :=
  let c0_i32_29 : BitVec 32 := 0#32
  let c16_i32_30 : BitVec 32 := 16#32
  let v67 : BitVec 32 := Scalar.addi c0_i32_29 c16_i32_30
  let c1_i32_31 : BitVec 32 := 1#32
  ⟨c0_i32_29, v67, c1_i32_31⟩
def k0_off19 (k0_t5 : Fin k0_t5_loop.trips) : Fin 2 → Nat :=
  let c0_i32_29 : BitVec 32 := 0#32
  let c1_i32_31 : BitVec 32 := 1#32
  let arg26 : BitVec 32 := Scf.iv c0_i32_29 c1_i32_31 k0_t5
  let c128_i32 : BitVec 32 := 128#32
  let v75 : BitVec 32 := Scalar.muli arg26 c128_i32
  let v76 : Index := Scalar.indexCast v75
  let c0_37 : Index := 0#32
  ![v76.toNat, 0]
def k0_off20 (i : grid0.Coords) (k0_t5 : Fin k0_t5_loop.trips) : Fin 3 → Nat :=
  let arg0 : BitVec 32 := BitVec.ofNat 32 (i 0).val
  let c16_i32_14 : BitVec 32 := 16#32
  let v42 : BitVec 32 := Scalar.muli arg0 c16_i32_14
  let c0_i32_29 : BitVec 32 := 0#32
  let c1_i32_31 : BitVec 32 := 1#32
  let arg26 : BitVec 32 := Scf.iv c0_i32_29 c1_i32_31 k0_t5
  let v113 : BitVec 32 := Scalar.addi v42 arg26
  let v114 : Index := Scalar.indexCast v113
  let c0_45 : Index := 0#32
  let c0_46 : Index := 0#32
  ![v114.toNat, 0, 0]
def k0_off21 (i : grid0.Coords) : Fin 3 → Nat :=
  let arg0 : BitVec 32 := BitVec.ofNat 32 (i 0).val
  let c0_i32_19 : BitVec 32 := 0#32
  let v49 : BitVec 1 := Scalar.cmpi .sgt arg0 c0_i32_19
  let v50 : BitVec 32 := Scalar.extui v49
  let c0_i32_20 : BitVec 32 := 0#32
  let v51 : BitVec 1 := Scalar.cmpi .slt arg0 c0_i32_20
  let v52 : BitVec 32 := Scalar.extui v51
  let v53 : BitVec 32 := Scalar.subi v50 v52
  let c8_i32 : BitVec 32 := 8#32
  let c0_i32_21 : BitVec 32 := 0#32
  let v54 : BitVec 1 := Scalar.cmpi .sgt c8_i32 c0_i32_21
  let v55 : BitVec 32 := Scalar.extui v54
  let c0_i32_22 : BitVec 32 := 0#32
  let v56 : BitVec 1 := Scalar.cmpi .slt c8_i32 c0_i32_22
  let v57 : BitVec 32 := Scalar.extui v56
  let v58 : BitVec 32 := Scalar.subi v55 v57
  let v59 : BitVec 1 := Scalar.cmpi .ne v53 v58
  let v60 : BitVec 32 := Scalar.remsi arg0 c8_i32
  let c0_i32_23 : BitVec 32 := 0#32
  let v61 : BitVec 1 := Scalar.cmpi .ne v60 c0_i32_23
  let v62 : BitVec 1 := Scalar.andi v59 v61
  let v48 : BitVec 32 := Scalar.divsi arg0 c8_i32
  let c1_i32_24 : BitVec 32 := 1#32
  let v63 : BitVec 32 := Scalar.subi v48 c1_i32_24
  let v64 : BitVec 32 := Scalar.select v62 v63 v48
  let v121 : Index := Scalar.indexCast v64
  let c0_48 : Index := 0#32
  let c0_49 : Index := 0#32
  ![v121.toNat, 0, 0]
@[reducible] def k0_t6_loop : Scf.Loop 32 :=
  let c0_i32_15 : BitVec 32 := 0#32
  let c8_i32 : BitVec 32 := 8#32
  let v43 : BitVec 32 := Scalar.addi c0_i32_15 c8_i32
  let c1_i32 : BitVec 32 := 1#32
  ⟨c0_i32_15, v43, c1_i32⟩
def k0_off22 (k0_t6 : Fin k0_t6_loop.trips) (c0_i32_38 : BitVec 32) : Fin 2 → Nat :=
  let c0_i32_37 : BitVec 32 := 0#32
  let c0_i32_15 : BitVec 32 := 0#32
  let c1_i32 : BitVec 32 := 1#32
  let arg26 : BitVec 32 := Scf.iv c0_i32_15 c1_i32 k0_t6
  let c1_i32_36 : BitVec 32 := 1#32
  let v72 : BitVec 32 := Scalar.muli arg26 c1_i32_36
  let v73 : BitVec 32 := Scalar.addi c0_i32_37 v72
  let c2_i32 : BitVec 32 := 2#32
  let v74 : BitVec 32 := Scalar.muli v73 c2_i32
  let v75 : BitVec 32 := Scalar.addi v74 c0_i32_38
  let c128_i32 : BitVec 32 := 128#32
  let v76 : BitVec 32 := Scalar.muli v75 c128_i32
  let v77 : Index := Scalar.indexCast v76
  let c0_39 : Index := 0#32
  ![v77.toNat, 0]
def k0_off23 (k0_t6 : Fin k0_t6_loop.trips) (c0_i32_136 : BitVec 32) : Fin 2 → Nat :=
  let c0_i32_37 : BitVec 32 := 0#32
  let c0_i32_15 : BitVec 32 := 0#32
  let c1_i32 : BitVec 32 := 1#32
  let arg26 : BitVec 32 := Scf.iv c0_i32_15 c1_i32 k0_t6
  let c1_i32_36 : BitVec 32 := 1#32
  let v72 : BitVec 32 := Scalar.muli arg26 c1_i32_36
  let v73 : BitVec 32 := Scalar.addi c0_i32_37 v72
  let c2_i32_135 : BitVec 32 := 2#32
  let v418 : BitVec 32 := Scalar.muli v73 c2_i32_135
  let v419 : BitVec 32 := Scalar.addi v418 c0_i32_136
  let c128_i32_139 : BitVec 32 := 128#32
  let v425 : BitVec 32 := Scalar.muli v419 c128_i32_139
  let v429 : Index := Scalar.indexCast v425
  let c0_141 : Index := 0#32
  ![v429.toNat, 0]
def k0_off24 (k0_t6 : Fin k0_t6_loop.trips) (c0_i32_136 : BitVec 32) : Fin 2 → Nat :=
  let c0_i32_37 : BitVec 32 := 0#32
  let c0_i32_15 : BitVec 32 := 0#32
  let c1_i32 : BitVec 32 := 1#32
  let arg26 : BitVec 32 := Scf.iv c0_i32_15 c1_i32 k0_t6
  let c1_i32_36 : BitVec 32 := 1#32
  let v72 : BitVec 32 := Scalar.muli arg26 c1_i32_36
  let v73 : BitVec 32 := Scalar.addi c0_i32_37 v72
  let c2_i32_135 : BitVec 32 := 2#32
  let v418 : BitVec 32 := Scalar.muli v73 c2_i32_135
  let v419 : BitVec 32 := Scalar.addi v418 c0_i32_136
  let c128_i32_139 : BitVec 32 := 128#32
  let v425 : BitVec 32 := Scalar.muli v419 c128_i32_139
  let v436 : Index := Scalar.indexCast v425
  let c128 : Index := 128#32
  ![v436.toNat, 128]
def k0_off25 (k0_t6 : Fin k0_t6_loop.trips) (c0_i32_136 : BitVec 32) : Fin 2 → Nat :=
  let c0_i32_37 : BitVec 32 := 0#32
  let c0_i32_15 : BitVec 32 := 0#32
  let c1_i32 : BitVec 32 := 1#32
  let arg26 : BitVec 32 := Scf.iv c0_i32_15 c1_i32 k0_t6
  let c1_i32_36 : BitVec 32 := 1#32
  let v72 : BitVec 32 := Scalar.muli arg26 c1_i32_36
  let v73 : BitVec 32 := Scalar.addi c0_i32_37 v72
  let c2_i32_135 : BitVec 32 := 2#32
  let v418 : BitVec 32 := Scalar.muli v73 c2_i32_135
  let v419 : BitVec 32 := Scalar.addi v418 c0_i32_136
  let c128_i32_139 : BitVec 32 := 128#32
  let v425 : BitVec 32 := Scalar.muli v419 c128_i32_139
  let v443 : Index := Scalar.indexCast v425
  let c256_144 : Index := 256#32
  ![v443.toNat, 256]
@[reducible] def k0_t7_loop : Scf.Loop 32 :=
  let c0_i32_30 : BitVec 32 := 0#32
  let c16_i32_31 : BitVec 32 := 16#32
  let v67 : BitVec 32 := Scalar.addi c0_i32_30 c16_i32_31
  let c1_i32_32 : BitVec 32 := 1#32
  ⟨c0_i32_30, v67, c1_i32_32⟩
def k0_off26 (k0_t7 : Fin k0_t7_loop.trips) : Fin 2 → Nat :=
  let c0_i32_30 : BitVec 32 := 0#32
  let c1_i32_32 : BitVec 32 := 1#32
  let arg26 : BitVec 32 := Scf.iv c0_i32_30 c1_i32_32 k0_t7
  let c128_i32 : BitVec 32 := 128#32
  let v75 : BitVec 32 := Scalar.muli arg26 c128_i32
  let v76 : Index := Scalar.indexCast v75
  let c0_38 : Index := 0#32
  ![v76.toNat, 0]
def k0_off27 (i : grid0.Coords) (k0_t7 : Fin k0_t7_loop.trips) : Fin 3 → Nat :=
  let arg0 : BitVec 32 := BitVec.ofNat 32 (i 0).val
  let c16_i32_14 : BitVec 32 := 16#32
  let v42 : BitVec 32 := Scalar.muli arg0 c16_i32_14
  let c0_i32_30 : BitVec 32 := 0#32
  let c1_i32_32 : BitVec 32 := 1#32
  let arg26 : BitVec 32 := Scf.iv c0_i32_30 c1_i32_32 k0_t7
  let v113 : BitVec 32 := Scalar.addi v42 arg26
  let v114 : Index := Scalar.indexCast v113
  let c0_46 : Index := 0#32
  let c0_47 : Index := 0#32
  ![v114.toNat, 0, 0]
def k0_off28 (i : grid0.Coords) : Fin 3 → Nat :=
  let arg0 : BitVec 32 := BitVec.ofNat 32 (i 0).val
  let c0_i32_20 : BitVec 32 := 0#32
  let v49 : BitVec 1 := Scalar.cmpi .sgt arg0 c0_i32_20
  let v50 : BitVec 32 := Scalar.extui v49
  let c0_i32_21 : BitVec 32 := 0#32
  let v51 : BitVec 1 := Scalar.cmpi .slt arg0 c0_i32_21
  let v52 : BitVec 32 := Scalar.extui v51
  let v53 : BitVec 32 := Scalar.subi v50 v52
  let c8_i32_19 : BitVec 32 := 8#32
  let c0_i32_22 : BitVec 32 := 0#32
  let v54 : BitVec 1 := Scalar.cmpi .sgt c8_i32_19 c0_i32_22
  let v55 : BitVec 32 := Scalar.extui v54
  let c0_i32_23 : BitVec 32 := 0#32
  let v56 : BitVec 1 := Scalar.cmpi .slt c8_i32_19 c0_i32_23
  let v57 : BitVec 32 := Scalar.extui v56
  let v58 : BitVec 32 := Scalar.subi v55 v57
  let v59 : BitVec 1 := Scalar.cmpi .ne v53 v58
  let v60 : BitVec 32 := Scalar.remsi arg0 c8_i32_19
  let c0_i32_24 : BitVec 32 := 0#32
  let v61 : BitVec 1 := Scalar.cmpi .ne v60 c0_i32_24
  let v62 : BitVec 1 := Scalar.andi v59 v61
  let v48 : BitVec 32 := Scalar.divsi arg0 c8_i32_19
  let c1_i32_25 : BitVec 32 := 1#32
  let v63 : BitVec 32 := Scalar.subi v48 c1_i32_25
  let v64 : BitVec 32 := Scalar.select v62 v63 v48
  let v121 : Index := Scalar.indexCast v64
  let c0_49 : Index := 0#32
  let c0_50 : Index := 0#32
  ![v121.toNat, 0, 0]
def k0_cond7 (i : grid0.Coords) : BitVec 1 :=
  let arg0 : BitVec 32 := BitVec.ofNat 32 (i 0).val
  let c40_i32_2 : BitVec 32 := 40#32
  let v7 : BitVec 1 := Scalar.cmpi .eq arg0 c40_i32_2
  let v8 : BitVec 32 := Scalar.extui v7
  let c0_i32_3 : BitVec 32 := 0#32
  let v9 : BitVec 1 := Scalar.cmpi .ne v8 c0_i32_3
  v9

@[reducible] def k0_t8_loop : Scf.Loop 32 :=
  let c0_i32_7 : BitVec 32 := 0#32
  let c128_i32 : BitVec 32 := 128#32
  let v16 : BitVec 32 := Scalar.addi c0_i32_7 c128_i32
  let c1_i32 : BitVec 32 := 1#32
  ⟨c0_i32_7, v16, c1_i32⟩
def k0_off29 (k0_t8 : Fin k0_t8_loop.trips) : Fin 1 → Nat :=
  let c0_i32_105 : BitVec 32 := 0#32
  let c0_i32_7 : BitVec 32 := 0#32
  let c1_i32 : BitVec 32 := 1#32
  let arg26 : BitVec 32 := Scf.iv c0_i32_7 c1_i32 k0_t8
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off30 (k0_t8 : Fin k0_t8_loop.trips) : Fin 2 → Nat :=
  let c0_i32_105 : BitVec 32 := 0#32
  let c0_i32_7 : BitVec 32 := 0#32
  let c1_i32 : BitVec 32 := 1#32
  let arg26 : BitVec 32 := Scf.iv c0_i32_7 c1_i32 k0_t8
  let c1_i32_104 : BitVec 32 := 1#32
  let v153 : BitVec 32 := Scalar.muli arg26 c1_i32_104
  let v154 : BitVec 32 := Scalar.addi c0_i32_105 v153
  let v157 : Index := Scalar.indexCast v154
  let c0_106 : Index := 0#32
  ![v157.toNat, 0]
def k0_off31 (v156 : BitVec 32) : Fin 2 → Nat :=
  let v159 : Index := Scalar.indexCast v156
  let c0_107 : Index := 0#32
  ![v159.toNat, 0]

def k0_chk1 (i : grid0.Coords) (v156 : BitVec 32) : Prop :=
  (∀ (k0_h7 : k0_cond7 i = 1#1), ∀ a, (k0_off31 v156) a + S1x128.size a ≤ S128x128.size a)
theorem k0_off31_inb : ∀ (i : grid0.Coords) (v156 : BitVec 32) (k0_hw1 : k0_chk1 i v156), ∀ (k0_h7 : k0_cond7 i = 1#1), ∀ a, (k0_off31 v156) a + S1x128.size a ≤ S128x128.size a := fun i v156 k0_hw1 k0_h7 => k0_hw1 k0_h7

@[reducible] def k0_t9_loop : Scf.Loop 32 :=
  let c0_i32_65 : BitVec 32 := 0#32
  let c128_i32_66 : BitVec 32 := 128#32
  let v134 : BitVec 32 := Scalar.addi c0_i32_65 c128_i32_66
  let c1_i32_67 : BitVec 32 := 1#32
  ⟨c0_i32_65, v134, c1_i32_67⟩
def k0_off32 (k0_t9 : Fin k0_t9_loop.trips) : Fin 1 → Nat :=
  let c0_i32_105 : BitVec 32 := 0#32
  let c0_i32_65 : BitVec 32 := 0#32
  let c1_i32_67 : BitVec 32 := 1#32
  let arg26 : BitVec 32 := Scf.iv c0_i32_65 c1_i32_67 k0_t9
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off33 (k0_t9 : Fin k0_t9_loop.trips) : Fin 3 → Nat :=
  let c0_106 : Index := 0#32
  let c0_i32_105 : BitVec 32 := 0#32
  let c0_i32_65 : BitVec 32 := 0#32
  let c1_i32_67 : BitVec 32 := 1#32
  let arg26 : BitVec 32 := Scf.iv c0_i32_65 c1_i32_67 k0_t9
  let c1_i32_104 : BitVec 32 := 1#32
  let v153 : BitVec 32 := Scalar.muli arg26 c1_i32_104
  let v154 : BitVec 32 := Scalar.addi c0_i32_105 v153
  let v157 : Index := Scalar.indexCast v154
  let c0_107 : Index := 0#32
  ![0, v157.toNat, 0]
def k0_off34 (v156 : BitVec 32) : Fin 2 → Nat :=
  let v160 : Index := Scalar.indexCast v156
  let c0_108 : Index := 0#32
  ![v160.toNat, 0]

def k0_chk2 (i : grid0.Coords) (v156 : BitVec 32) : Prop :=
  (∀ (k0_h7 : k0_cond7 i = 1#1), ∀ a, (k0_off34 v156) a + S1x128.size a ≤ S128x128.size a)
theorem k0_off34_inb : ∀ (i : grid0.Coords) (v156 : BitVec 32) (k0_hw2 : k0_chk2 i v156), ∀ (k0_h7 : k0_cond7 i = 1#1), ∀ a, (k0_off34 v156) a + S1x128.size a ≤ S128x128.size a := fun i v156 k0_hw2 k0_h7 => k0_hw2 k0_h7

@[reducible] def k0_t10_loop : Scf.Loop 32 :=
  let c0_i32_73 : BitVec 32 := 0#32
  let c128_i32_74 : BitVec 32 := 128#32
  let v137 : BitVec 32 := Scalar.addi c0_i32_73 c128_i32_74
  let c1_i32_75 : BitVec 32 := 1#32
  ⟨c0_i32_73, v137, c1_i32_75⟩
def k0_off35 (k0_t10 : Fin k0_t10_loop.trips) : Fin 1 → Nat :=
  let c0_i32_105 : BitVec 32 := 0#32
  let c0_i32_73 : BitVec 32 := 0#32
  let c1_i32_75 : BitVec 32 := 1#32
  let arg26 : BitVec 32 := Scf.iv c0_i32_73 c1_i32_75 k0_t10
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off36 (k0_t10 : Fin k0_t10_loop.trips) : Fin 3 → Nat :=
  let c1_106 : Index := 1#32
  let c0_i32_105 : BitVec 32 := 0#32
  let c0_i32_73 : BitVec 32 := 0#32
  let c1_i32_75 : BitVec 32 := 1#32
  let arg26 : BitVec 32 := Scf.iv c0_i32_73 c1_i32_75 k0_t10
  let c1_i32_104 : BitVec 32 := 1#32
  let v153 : BitVec 32 := Scalar.muli arg26 c1_i32_104
  let v154 : BitVec 32 := Scalar.addi c0_i32_105 v153
  let v157 : Index := Scalar.indexCast v154
  let c0_107 : Index := 0#32
  ![1, v157.toNat, 0]
def k0_off37 (v156 : BitVec 32) : Fin 2 → Nat :=
  let v160 : Index := Scalar.indexCast v156
  let c0_108 : Index := 0#32
  ![v160.toNat, 0]

def k0_chk3 (i : grid0.Coords) (v156 : BitVec 32) : Prop :=
  (∀ (k0_h7 : k0_cond7 i = 1#1), ∀ a, (k0_off37 v156) a + S1x128.size a ≤ S128x128.size a)
theorem k0_off37_inb : ∀ (i : grid0.Coords) (v156 : BitVec 32) (k0_hw3 : k0_chk3 i v156), ∀ (k0_h7 : k0_cond7 i = 1#1), ∀ a, (k0_off37 v156) a + S1x128.size a ≤ S128x128.size a := fun i v156 k0_hw3 k0_h7 => k0_hw3 k0_h7

@[reducible] def k0_t11_loop : Scf.Loop 32 :=
  let c0_i32_80 : BitVec 32 := 0#32
  let c128_i32_81 : BitVec 32 := 128#32
  let v140 : BitVec 32 := Scalar.addi c0_i32_80 c128_i32_81
  let c1_i32_82 : BitVec 32 := 1#32
  ⟨c0_i32_80, v140, c1_i32_82⟩
def k0_off38 (k0_t11 : Fin k0_t11_loop.trips) : Fin 1 → Nat :=
  let c0_i32_105 : BitVec 32 := 0#32
  let c0_i32_80 : BitVec 32 := 0#32
  let c1_i32_82 : BitVec 32 := 1#32
  let arg26 : BitVec 32 := Scf.iv c0_i32_80 c1_i32_82 k0_t11
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off39 (k0_t11 : Fin k0_t11_loop.trips) : Fin 3 → Nat :=
  let c2_106 : Index := 2#32
  let c0_i32_105 : BitVec 32 := 0#32
  let c0_i32_80 : BitVec 32 := 0#32
  let c1_i32_82 : BitVec 32 := 1#32
  let arg26 : BitVec 32 := Scf.iv c0_i32_80 c1_i32_82 k0_t11
  let c1_i32_104 : BitVec 32 := 1#32
  let v153 : BitVec 32 := Scalar.muli arg26 c1_i32_104
  let v154 : BitVec 32 := Scalar.addi c0_i32_105 v153
  let v157 : Index := Scalar.indexCast v154
  let c0_107 : Index := 0#32
  ![2, v157.toNat, 0]
def k0_off40 (v156 : BitVec 32) : Fin 2 → Nat :=
  let v160 : Index := Scalar.indexCast v156
  let c0_108 : Index := 0#32
  ![v160.toNat, 0]

def k0_chk4 (i : grid0.Coords) (v156 : BitVec 32) : Prop :=
  (∀ (k0_h7 : k0_cond7 i = 1#1), ∀ a, (k0_off40 v156) a + S1x128.size a ≤ S128x128.size a)
theorem k0_off40_inb : ∀ (i : grid0.Coords) (v156 : BitVec 32) (k0_hw4 : k0_chk4 i v156), ∀ (k0_h7 : k0_cond7 i = 1#1), ∀ a, (k0_off40 v156) a + S1x128.size a ≤ S128x128.size a := fun i v156 k0_hw4 k0_h7 => k0_hw4 k0_h7

@[reducible] def k0_t12_loop : Scf.Loop 32 :=
  let c0_i32_87 : BitVec 32 := 0#32
  let c128_i32_88 : BitVec 32 := 128#32
  let v143 : BitVec 32 := Scalar.addi c0_i32_87 c128_i32_88
  let c1_i32_89 : BitVec 32 := 1#32
  ⟨c0_i32_87, v143, c1_i32_89⟩
def k0_off41 (k0_t12 : Fin k0_t12_loop.trips) : Fin 1 → Nat :=
  let c0_i32_105 : BitVec 32 := 0#32
  let c0_i32_87 : BitVec 32 := 0#32
  let c1_i32_89 : BitVec 32 := 1#32
  let arg26 : BitVec 32 := Scf.iv c0_i32_87 c1_i32_89 k0_t12
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off42 (k0_t12 : Fin k0_t12_loop.trips) : Fin 3 → Nat :=
  let c3_106 : Index := 3#32
  let c0_i32_105 : BitVec 32 := 0#32
  let c0_i32_87 : BitVec 32 := 0#32
  let c1_i32_89 : BitVec 32 := 1#32
  let arg26 : BitVec 32 := Scf.iv c0_i32_87 c1_i32_89 k0_t12
  let c1_i32_104 : BitVec 32 := 1#32
  let v153 : BitVec 32 := Scalar.muli arg26 c1_i32_104
  let v154 : BitVec 32 := Scalar.addi c0_i32_105 v153
  let v157 : Index := Scalar.indexCast v154
  let c0_107 : Index := 0#32
  ![3, v157.toNat, 0]
def k0_off43 (v156 : BitVec 32) : Fin 2 → Nat :=
  let v160 : Index := Scalar.indexCast v156
  let c0_108 : Index := 0#32
  ![v160.toNat, 0]

def k0_chk5 (i : grid0.Coords) (v156 : BitVec 32) : Prop :=
  (∀ (k0_h7 : k0_cond7 i = 1#1), ∀ a, (k0_off43 v156) a + S1x128.size a ≤ S128x128.size a)
theorem k0_off43_inb : ∀ (i : grid0.Coords) (v156 : BitVec 32) (k0_hw5 : k0_chk5 i v156), ∀ (k0_h7 : k0_cond7 i = 1#1), ∀ a, (k0_off43 v156) a + S1x128.size a ≤ S128x128.size a := fun i v156 k0_hw5 k0_h7 => k0_hw5 k0_h7

@[reducible] def k0_t13_loop : Scf.Loop 32 :=
  let c0_i32_94 : BitVec 32 := 0#32
  let c128_i32_95 : BitVec 32 := 128#32
  let v146 : BitVec 32 := Scalar.addi c0_i32_94 c128_i32_95
  let c1_i32_96 : BitVec 32 := 1#32
  ⟨c0_i32_94, v146, c1_i32_96⟩
def k0_off44 (k0_t13 : Fin k0_t13_loop.trips) : Fin 1 → Nat :=
  let c0_i32_105 : BitVec 32 := 0#32
  let c0_i32_94 : BitVec 32 := 0#32
  let c1_i32_96 : BitVec 32 := 1#32
  let arg26 : BitVec 32 := Scf.iv c0_i32_94 c1_i32_96 k0_t13
  let c1_i32_104 : BitVec 32 := 1#32
  let v153 : BitVec 32 := Scalar.muli arg26 c1_i32_104
  let v154 : BitVec 32 := Scalar.addi c0_i32_105 v153
  let v155 : Index := Scalar.indexCast v154
  ![v155.toNat]
def k0_off45 (k0_t13 : Fin k0_t13_loop.trips) : Fin 3 → Nat :=
  let c4_106 : Index := 4#32
  let c0_i32_105 : BitVec 32 := 0#32
  let c0_i32_94 : BitVec 32 := 0#32
  let c1_i32_96 : BitVec 32 := 1#32
  let arg26 : BitVec 32 := Scf.iv c0_i32_94 c1_i32_96 k0_t13
  let c1_i32_104 : BitVec 32 := 1#32
  let v153 : BitVec 32 := Scalar.muli arg26 c1_i32_104
  let v154 : BitVec 32 := Scalar.addi c0_i32_105 v153
  let v157 : Index := Scalar.indexCast v154
  let c0_107 : Index := 0#32
  ![4, v157.toNat, 0]
def k0_off46 (v156 : BitVec 32) : Fin 2 → Nat :=
  let v160 : Index := Scalar.indexCast v156
  let c0_108 : Index := 0#32
  ![v160.toNat, 0]

def k0_chk6 (i : grid0.Coords) (v156 : BitVec 32) : Prop :=
  (∀ (k0_h7 : k0_cond7 i = 1#1), ∀ a, (k0_off46 v156) a + S1x128.size a ≤ S128x128.size a)
theorem k0_off46_inb : ∀ (i : grid0.Coords) (v156 : BitVec 32) (k0_hw6 : k0_chk6 i v156), ∀ (k0_h7 : k0_cond7 i = 1#1), ∀ a, (k0_off46 v156) a + S1x128.size a ≤ S128x128.size a := fun i v156 k0_hw6 k0_h7 => k0_hw6 k0_h7

def k0_cond8 (i : grid0.Coords) : BitVec 1 :=
  let arg0 : BitVec 32 := BitVec.ofNat 32 (i 0).val
  let c40_i32_4 : BitVec 32 := 40#32
  let v10 : BitVec 1 := Scalar.cmpi .sge arg0 c40_i32_4
  let v11 : BitVec 32 := Scalar.extui v10
  let c0_i32_5 : BitVec 32 := 0#32
  let v12 : BitVec 1 := Scalar.cmpi .ne v11 c0_i32_5
  v12

def k0_off47 (i : grid0.Coords) (c0_i32_19 : BitVec 32) : Fin 3 → Nat :=
  let arg0 : BitVec 32 := BitVec.ofNat 32 (i 0).val
  let c40_i32_7 : BitVec 32 := 40#32
  let v16 : BitVec 32 := Scalar.subi arg0 c40_i32_7
  let c16_i32_15 : BitVec 32 := 16#32
  let v43 : BitVec 32 := Scalar.muli v16 c16_i32_15
  let c0_i32_17 : BitVec 32 := 0#32
  let c0_i32_16 : BitVec 32 := 0#32
  let c1_i32 : BitVec 32 := 1#32
  let v44 : BitVec 32 := Scalar.muli c0_i32_16 c1_i32
  let v45 : BitVec 32 := Scalar.addi c0_i32_17 v44
  let c16_i32_18 : BitVec 32 := 16#32
  let v46 : BitVec 32 := Scalar.muli v45 c16_i32_18
  let v47 : BitVec 32 := Scalar.addi v43 v46
  let v48 : BitVec 32 := Scalar.addi v47 c0_i32_19
  let v49 : Index := Scalar.indexCast v48
  let c0_20 : Index := 0#32
  let c0_21 : Index := 0#32
  ![v49.toNat, 0, 0]
def k0_off48 (c0_i32_73 : BitVec 32) : Fin 2 → Nat :=
  let c0_i32_17 : BitVec 32 := 0#32
  let c0_i32_16 : BitVec 32 := 0#32
  let c1_i32 : BitVec 32 := 1#32
  let v44 : BitVec 32 := Scalar.muli c0_i32_16 c1_i32
  let v45 : BitVec 32 := Scalar.addi c0_i32_17 v44
  let c16_i32_72 : BitVec 32 := 16#32
  let v154 : BitVec 32 := Scalar.muli v45 c16_i32_72
  let v155 : BitVec 32 := Scalar.addi v154 c0_i32_73
  let c128_i32 : BitVec 32 := 128#32
  let v156 : BitVec 32 := Scalar.muli v155 c128_i32
  let v157 : Index := Scalar.indexCast v156
  let c0_74 : Index := 0#32
  ![v157.toNat, 0]
@[reducible] def k0_t14_loop : Scf.Loop 32 :=
  let c0_i32_147 : BitVec 32 := 0#32
  let c16_i32_148 : BitVec 32 := 16#32
  let v304 : BitVec 32 := Scalar.addi c0_i32_147 c16_i32_148
  let c1_i32_149 : BitVec 32 := 1#32
  ⟨c0_i32_147, v304, c1_i32_149⟩
def k0_off49 (k0_t14 : Fin k0_t14_loop.trips) : Fin 2 → Nat :=
  let c0_i32_147 : BitVec 32 := 0#32
  let c1_i32_149 : BitVec 32 := 1#32
  let arg26 : BitVec 32 := Scf.iv c0_i32_147 c1_i32_149 k0_t14
  let c128_i32_156 : BitVec 32 := 128#32
  let v312 : BitVec 32 := Scalar.muli arg26 c128_i32_156
  let v313 : Index := Scalar.indexCast v312
  let c0_157 : Index := 0#32
  ![v313.toNat, 0]
def k0_off50 (i : grid0.Coords) : Fin 3 → Nat :=
  let arg0 : BitVec 32 := BitVec.ofNat 32 (i 0).val
  let c40_i32_7 : BitVec 32 := 40#32
  let v16 : BitVec 32 := Scalar.subi arg0 c40_i32_7
  let c0_i32_139 : BitVec 32 := 0#32
  let v287 : BitVec 1 := Scalar.cmpi .sgt v16 c0_i32_139
  let v288 : BitVec 32 := Scalar.extui v287
  let c0_i32_140 : BitVec 32 := 0#32
  let v289 : BitVec 1 := Scalar.cmpi .slt v16 c0_i32_140
  let v290 : BitVec 32 := Scalar.extui v289
  let v291 : BitVec 32 := Scalar.subi v288 v290
  let c8_i32_138 : BitVec 32 := 8#32
  let c0_i32_141 : BitVec 32 := 0#32
  let v292 : BitVec 1 := Scalar.cmpi .sgt c8_i32_138 c0_i32_141
  let v293 : BitVec 32 := Scalar.extui v292
  let c0_i32_142 : BitVec 32 := 0#32
  let v294 : BitVec 1 := Scalar.cmpi .slt c8_i32_138 c0_i32_142
  let v295 : BitVec 32 := Scalar.extui v294
  let v296 : BitVec 32 := Scalar.subi v293 v295
  let v297 : BitVec 1 := Scalar.cmpi .ne v291 v296
  let v298 : BitVec 32 := Scalar.remsi v16 c8_i32_138
  let c0_i32_143 : BitVec 32 := 0#32
  let v299 : BitVec 1 := Scalar.cmpi .ne v298 c0_i32_143
  let v300 : BitVec 1 := Scalar.andi v297 v299
  let v286 : BitVec 32 := Scalar.divsi v16 c8_i32_138
  let c1_i32_144 : BitVec 32 := 1#32
  let v301 : BitVec 32 := Scalar.subi v286 c1_i32_144
  let v302 : BitVec 32 := Scalar.select v300 v301 v286
  let v327 : Index := Scalar.indexCast v302
  let c0_164 : Index := 0#32
  let c0_165 : Index := 0#32
  ![v327.toNat, 0, 0]
@[reducible] def k0_t15_loop : Scf.Loop 32 :=
  let c0_i32_16 : BitVec 32 := 0#32
  let c2_i32 : BitVec 32 := 2#32
  let v44 : BitVec 32 := Scalar.addi c0_i32_16 c2_i32
  let c1_i32 : BitVec 32 := 1#32
  ⟨c0_i32_16, v44, c1_i32⟩
def k0_off51 (i : grid0.Coords) (k0_t15 : Fin k0_t15_loop.trips) (c0_i32_37 : BitVec 32) : Fin 3 → Nat :=
  let arg0 : BitVec 32 := BitVec.ofNat 32 (i 0).val
  let c40_i32_7 : BitVec 32 := 40#32
  let v16 : BitVec 32 := Scalar.subi arg0 c40_i32_7
  let c16_i32_15 : BitVec 32 := 16#32
  let v43 : BitVec 32 := Scalar.muli v16 c16_i32_15
  let c0_i32_35 : BitVec 32 := 0#32
  let c0_i32_16 : BitVec 32 := 0#32
  let c1_i32 : BitVec 32 := 1#32
  let arg26 : BitVec 32 := Scf.iv c0_i32_16 c1_i32 k0_t15
  let c1_i32_34 : BitVec 32 := 1#32
  let v73 : BitVec 32 := Scalar.muli arg26 c1_i32_34
  let v74 : BitVec 32 := Scalar.addi c0_i32_35 v73
  let c8_i32_36 : BitVec 32 := 8#32
  let v75 : BitVec 32 := Scalar.muli v74 c8_i32_36
  let v76 : BitVec 32 := Scalar.addi v43 v75
  let v77 : BitVec 32 := Scalar.addi v76 c0_i32_37
  let v78 : Index := Scalar.indexCast v77
  let c0_38 : Index := 0#32
  let c0_39 : Index := 0#32
  ![v78.toNat, 0, 0]
def k0_off52 (k0_t15 : Fin k0_t15_loop.trips) (c0_i32_68 : BitVec 32) : Fin 2 → Nat :=
  let c0_i32_35 : BitVec 32 := 0#32
  let c0_i32_16 : BitVec 32 := 0#32
  let c1_i32 : BitVec 32 := 1#32
  let arg26 : BitVec 32 := Scf.iv c0_i32_16 c1_i32 k0_t15
  let c1_i32_34 : BitVec 32 := 1#32
  let v73 : BitVec 32 := Scalar.muli arg26 c1_i32_34
  let v74 : BitVec 32 := Scalar.addi c0_i32_35 v73
  let c8_i32_67 : BitVec 32 := 8#32
  let v135 : BitVec 32 := Scalar.muli v74 c8_i32_67
  let v136 : BitVec 32 := Scalar.addi v135 c0_i32_68
  let c128_i32 : BitVec 32 := 128#32
  let v137 : BitVec 32 := Scalar.muli v136 c128_i32
  let v138 : Index := Scalar.indexCast v137
  let c0_69 : Index := 0#32
  ![v138.toNat, 0]
@[reducible] def k0_t16_loop : Scf.Loop 32 :=
  let c0_i32_28 : BitVec 32 := 0#32
  let c16_i32_29 : BitVec 32 := 16#32
  let v68 : BitVec 32 := Scalar.addi c0_i32_28 c16_i32_29
  let c1_i32_30 : BitVec 32 := 1#32
  ⟨c0_i32_28, v68, c1_i32_30⟩
def k0_off53 (k0_t16 : Fin k0_t16_loop.trips) : Fin 2 → Nat :=
  let c0_i32_28 : BitVec 32 := 0#32
  let c1_i32_30 : BitVec 32 := 1#32
  let arg26 : BitVec 32 := Scf.iv c0_i32_28 c1_i32_30 k0_t16
  let c128_i32 : BitVec 32 := 128#32
  let v76 : BitVec 32 := Scalar.muli arg26 c128_i32
  let v77 : Index := Scalar.indexCast v76
  let c0_36 : Index := 0#32
  ![v77.toNat, 0]
def k0_off54 (i : grid0.Coords) : Fin 3 → Nat :=
  let arg0 : BitVec 32 := BitVec.ofNat 32 (i 0).val
  let c40_i32_7 : BitVec 32 := 40#32
  let v16 : BitVec 32 := Scalar.subi arg0 c40_i32_7
  let c0_i32_20 : BitVec 32 := 0#32
  let v51 : BitVec 1 := Scalar.cmpi .sgt v16 c0_i32_20
  let v52 : BitVec 32 := Scalar.extui v51
  let c0_i32_21 : BitVec 32 := 0#32
  let v53 : BitVec 1 := Scalar.cmpi .slt v16 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v16 c8_i32
  let c0_i32_24 : BitVec 32 := 0#32
  let v63 : BitVec 1 := Scalar.cmpi .ne v62 c0_i32_24
  let v64 : BitVec 1 := Scalar.andi v61 v63
  let v50 : BitVec 32 := Scalar.divsi v16 c8_i32
  let c1_i32_25 : BitVec 32 := 1#32
  let v65 : BitVec 32 := Scalar.subi v50 c1_i32_25
  let v66 : BitVec 32 := Scalar.select v64 v65 v50
  let v91 : Index := Scalar.indexCast v66
  let c0_43 : Index := 0#32
  let c0_44 : Index := 0#32
  ![v91.toNat, 0, 0]
@[reducible] def k0_t17_loop : Scf.Loop 32 :=
  let c0_i32_16 : BitVec 32 := 0#32
  let c4_i32 : BitVec 32 := 4#32
  let v44 : BitVec 32 := Scalar.addi c0_i32_16 c4_i32
  let c1_i32 : BitVec 32 := 1#32
  ⟨c0_i32_16, v44, c1_i32⟩
def k0_off55 (i : grid0.Coords) (k0_t17 : Fin k0_t17_loop.trips) (c0_i32_37 : BitVec 32) : Fin 3 → Nat :=
  let arg0 : BitVec 32 := BitVec.ofNat 32 (i 0).val
  let c40_i32_7 : BitVec 32 := 40#32
  let v16 : BitVec 32 := Scalar.subi arg0 c40_i32_7
  let c16_i32_15 : BitVec 32 := 16#32
  let v43 : BitVec 32 := Scalar.muli v16 c16_i32_15
  let c0_i32_35 : BitVec 32 := 0#32
  let c0_i32_16 : BitVec 32 := 0#32
  let c1_i32 : BitVec 32 := 1#32
  let arg26 : BitVec 32 := Scf.iv c0_i32_16 c1_i32 k0_t17
  let c1_i32_34 : BitVec 32 := 1#32
  let v73 : BitVec 32 := Scalar.muli arg26 c1_i32_34
  let v74 : BitVec 32 := Scalar.addi c0_i32_35 v73
  let c4_i32_36 : BitVec 32 := 4#32
  let v75 : BitVec 32 := Scalar.muli v74 c4_i32_36
  let v76 : BitVec 32 := Scalar.addi v43 v75
  let v77 : BitVec 32 := Scalar.addi v76 c0_i32_37
  let v78 : Index := Scalar.indexCast v77
  let c0_38 : Index := 0#32
  let c0_39 : Index := 0#32
  ![v78.toNat, 0, 0]
def k0_off56 (k0_t17 : Fin k0_t17_loop.trips) (c0_i32_55 : BitVec 32) : Fin 2 → Nat :=
  let c0_i32_35 : BitVec 32 := 0#32
  let c0_i32_16 : BitVec 32 := 0#32
  let c1_i32 : BitVec 32 := 1#32
  let arg26 : BitVec 32 := Scf.iv c0_i32_16 c1_i32 k0_t17
  let c1_i32_34 : BitVec 32 := 1#32
  let v73 : BitVec 32 := Scalar.muli arg26 c1_i32_34
  let v74 : BitVec 32 := Scalar.addi c0_i32_35 v73
  let c4_i32_54 : BitVec 32 := 4#32
  let v111 : BitVec 32 := Scalar.muli v74 c4_i32_54
  let v112 : BitVec 32 := Scalar.addi v111 c0_i32_55
  let c128_i32 : BitVec 32 := 128#32
  let v113 : BitVec 32 := Scalar.muli v112 c128_i32
  let v114 : Index := Scalar.indexCast v113
  let c0_56 : Index := 0#32
  ![v114.toNat, 0]
@[reducible] def k0_t18_loop : Scf.Loop 32 :=
  let c0_i32_28 : BitVec 32 := 0#32
  let c16_i32_29 : BitVec 32 := 16#32
  let v68 : BitVec 32 := Scalar.addi c0_i32_28 c16_i32_29
  let c1_i32_30 : BitVec 32 := 1#32
  ⟨c0_i32_28, v68, c1_i32_30⟩
def k0_off57 (k0_t18 : Fin k0_t18_loop.trips) : Fin 2 → Nat :=
  let c0_i32_28 : BitVec 32 := 0#32
  let c1_i32_30 : BitVec 32 := 1#32
  let arg26 : BitVec 32 := Scf.iv c0_i32_28 c1_i32_30 k0_t18
  let c128_i32 : BitVec 32 := 128#32
  let v76 : BitVec 32 := Scalar.muli arg26 c128_i32
  let v77 : Index := Scalar.indexCast v76
  let c0_36 : Index := 0#32
  ![v77.toNat, 0]
def k0_off58 (i : grid0.Coords) : Fin 3 → Nat :=
  let arg0 : BitVec 32 := BitVec.ofNat 32 (i 0).val
  let c40_i32_7 : BitVec 32 := 40#32
  let v16 : BitVec 32 := Scalar.subi arg0 c40_i32_7
  let c0_i32_20 : BitVec 32 := 0#32
  let v51 : BitVec 1 := Scalar.cmpi .sgt v16 c0_i32_20
  let v52 : BitVec 32 := Scalar.extui v51
  let c0_i32_21 : BitVec 32 := 0#32
  let v53 : BitVec 1 := Scalar.cmpi .slt v16 c0_i32_21
  let v54 : BitVec 32 := Scalar.extui v53
  let v55 : BitVec 32 := Scalar.subi v52 v54
  let c8_i32 : BitVec 32 := 8#32
  let c0_i32_22 : BitVec 32 := 0#32
  let v56 : BitVec 1 := Scalar.cmpi .sgt c8_i32 c0_i32_22
  let v57 : BitVec 32 := Scalar.extui v56
  let c0_i32_23 : BitVec 32 := 0#32
  let v58 : BitVec 1 := Scalar.cmpi .slt c8_i32 c0_i32_23
  let v59 : BitVec 32 := Scalar.extui v58
  let v60 : BitVec 32 := Scalar.subi v57 v59
  let v61 : BitVec 1 := Scalar.cmpi .ne v55 v60
  let v62 : BitVec 32 := Scalar.remsi v16 c8_i32
  let c0_i32_24 : BitVec 32 := 0#32
  let v63 : BitVec 1 := Scalar.cmpi .ne v62 c0_i32_24
  let v64 : BitVec 1 := Scalar.andi v61 v63
  let v50 : BitVec 32 := Scalar.divsi v16 c8_i32
  let c1_i32_25 : BitVec 32 := 1#32
  let v65 : BitVec 32 := Scalar.subi v50 c1_i32_25
  let v66 : BitVec 32 := Scalar.select v64 v65 v50
  let v91 : Index := Scalar.indexCast v66
  let c0_43 : Index := 0#32
  let c0_44 : Index := 0#32
  ![v91.toNat, 0, 0]
@[reducible] def k0_t19_loop : Scf.Loop 32 :=
  let c0_i32_16 : BitVec 32 := 0#32
  let c8_i32 : BitVec 32 := 8#32
  let v44 : BitVec 32 := Scalar.addi c0_i32_16 c8_i32
  let c1_i32 : BitVec 32 := 1#32
  ⟨c0_i32_16, v44, c1_i32⟩
def k0_off59 (i : grid0.Coords) (k0_t19 : Fin k0_t19_loop.trips) (c0_i32_37 : BitVec 32) : Fin 3 → Nat :=
  let arg0 : BitVec 32 := BitVec.ofNat 32 (i 0).val
  let c40_i32_7 : BitVec 32 := 40#32
  let v16 : BitVec 32 := Scalar.subi arg0 c40_i32_7
  let c16_i32_15 : BitVec 32 := 16#32
  let v43 : BitVec 32 := Scalar.muli v16 c16_i32_15
  let c0_i32_36 : BitVec 32 := 0#32
  let c0_i32_16 : BitVec 32 := 0#32
  let c1_i32 : BitVec 32 := 1#32
  let arg26 : BitVec 32 := Scf.iv c0_i32_16 c1_i32 k0_t19
  let c1_i32_35 : BitVec 32 := 1#32
  let v73 : BitVec 32 := Scalar.muli arg26 c1_i32_35
  let v74 : BitVec 32 := Scalar.addi c0_i32_36 v73
  let c2_i32 : BitVec 32 := 2#32
  let v75 : BitVec 32 := Scalar.muli v74 c2_i32
  let v76 : BitVec 32 := Scalar.addi v43 v75
  let v77 : BitVec 32 := Scalar.addi v76 c0_i32_37
  let v78 : Index := Scalar.indexCast v77
  let c0_38 : Index := 0#32
  let c0_39 : Index := 0#32
  ![v78.toNat, 0, 0]
def k0_off60 (k0_t19 : Fin k0_t19_loop.trips) (c0_i32_49 : BitVec 32) : Fin 2 → Nat :=
  let c0_i32_36 : BitVec 32 := 0#32
  let c0_i32_16 : BitVec 32 := 0#32
  let c1_i32 : BitVec 32 := 1#32
  let arg26 : BitVec 32 := Scf.iv c0_i32_16 c1_i32 k0_t19
  let c1_i32_35 : BitVec 32 := 1#32
  let v73 : BitVec 32 := Scalar.muli arg26 c1_i32_35
  let v74 : BitVec 32 := Scalar.addi c0_i32_36 v73
  let c2_i32_48 : BitVec 32 := 2#32
  let v99 : BitVec 32 := Scalar.muli v74 c2_i32_48
  let v100 : BitVec 32 := Scalar.addi v99 c0_i32_49
  let c128_i32 : BitVec 32 := 128#32
  let v101 : BitVec 32 := Scalar.muli v100 c128_i32
  let v102 : Index := Scalar.indexCast v101
  let c0_50 : Index := 0#32
  ![v102.toNat, 0]
@[reducible] def k0_t20_loop : Scf.Loop 32 :=
  let c0_i32_29 : BitVec 32 := 0#32
  let c16_i32_30 : BitVec 32 := 16#32
  let v68 : BitVec 32 := Scalar.addi c0_i32_29 c16_i32_30
  let c1_i32_31 : BitVec 32 := 1#32
  ⟨c0_i32_29, v68, c1_i32_31⟩
def k0_off61 (k0_t20 : Fin k0_t20_loop.trips) : Fin 2 → Nat :=
  let c0_i32_29 : BitVec 32 := 0#32
  let c1_i32_31 : BitVec 32 := 1#32
  let arg26 : BitVec 32 := Scf.iv c0_i32_29 c1_i32_31 k0_t20
  let c128_i32 : BitVec 32 := 128#32
  let v76 : BitVec 32 := Scalar.muli arg26 c128_i32
  let v77 : Index := Scalar.indexCast v76
  let c0_37 : Index := 0#32
  ![v77.toNat, 0]
def k0_off62 (i : grid0.Coords) : Fin 3 → Nat :=
  let arg0 : BitVec 32 := BitVec.ofNat 32 (i 0).val
  let c40_i32_7 : BitVec 32 := 40#32
  let v16 : BitVec 32 := Scalar.subi arg0 c40_i32_7
  let c0_i32_21 : BitVec 32 := 0#32
  let v51 : BitVec 1 := Scalar.cmpi .sgt v16 c0_i32_21
  let v52 : BitVec 32 := Scalar.extui v51
  let c0_i32_22 : BitVec 32 := 0#32
  let v53 : BitVec 1 := Scalar.cmpi .slt v16 c0_i32_22
  let v54 : BitVec 32 := Scalar.extui v53
  let v55 : BitVec 32 := Scalar.subi v52 v54
  let c8_i32_20 : BitVec 32 := 8#32
  let c0_i32_23 : BitVec 32 := 0#32
  let v56 : BitVec 1 := Scalar.cmpi .sgt c8_i32_20 c0_i32_23
  let v57 : BitVec 32 := Scalar.extui v56
  let c0_i32_24 : BitVec 32 := 0#32
  let v58 : BitVec 1 := Scalar.cmpi .slt c8_i32_20 c0_i32_24
  let v59 : BitVec 32 := Scalar.extui v58
  let v60 : BitVec 32 := Scalar.subi v57 v59
  let v61 : BitVec 1 := Scalar.cmpi .ne v55 v60
  let v62 : BitVec 32 := Scalar.remsi v16 c8_i32_20
  let c0_i32_25 : BitVec 32 := 0#32
  let v63 : BitVec 1 := Scalar.cmpi .ne v62 c0_i32_25
  let v64 : BitVec 1 := Scalar.andi v61 v63
  let v50 : BitVec 32 := Scalar.divsi v16 c8_i32_20
  let c1_i32_26 : BitVec 32 := 1#32
  let v65 : BitVec 32 := Scalar.subi v50 c1_i32_26
  let v66 : BitVec 32 := Scalar.select v64 v65 v50
  let v91 : Index := Scalar.indexCast v66
  let c0_44 : Index := 0#32
  let c0_45 : Index := 0#32
  ![v91.toNat, 0, 0]
def k0_cond13 (i : grid0.Coords) : BitVec 1 :=
  let arg0 : BitVec 32 := BitVec.ofNat 32 (i 0).val
  let c79_i32 : BitVec 32 := 79#32
  let v13 : BitVec 1 := Scalar.cmpi .eq arg0 c79_i32
  let v14 : BitVec 32 := Scalar.extui v13
  let c0_i32_6 : BitVec 32 := 0#32
  let v15 : BitVec 1 := Scalar.cmpi .ne v14 c0_i32_6
  v15

@[reducible] def k0_t21_loop : Scf.Loop 32 :=
  let c0_i32_7 : BitVec 32 := 0#32
  let c128_i32 : BitVec 32 := 128#32
  let v16 : BitVec 32 := Scalar.addi c0_i32_7 c128_i32
  let c1_i32 : BitVec 32 := 1#32
  ⟨c0_i32_7, v16, c1_i32⟩
def k0_off63 (k0_t21 : Fin k0_t21_loop.trips) : Fin 1 → Nat :=
  let c0_i32_13 : BitVec 32 := 0#32
  let c0_i32_7 : BitVec 32 := 0#32
  let c1_i32 : BitVec 32 := 1#32
  let arg26 : BitVec 32 := Scf.iv c0_i32_7 c1_i32 k0_t21
  let c1_i32_12 : BitVec 32 := 1#32
  let v20 : BitVec 32 := Scalar.muli arg26 c1_i32_12
  let v21 : BitVec 32 := Scalar.addi c0_i32_13 v20
  let v22 : Index := Scalar.indexCast v21
  ![v22.toNat]
def k0_off64 (k0_t21 : Fin k0_t21_loop.trips) : Fin 2 → Nat :=
  let c0_i32_13 : BitVec 32 := 0#32
  let c0_i32_7 : BitVec 32 := 0#32
  let c1_i32 : BitVec 32 := 1#32
  let arg26 : BitVec 32 := Scf.iv c0_i32_7 c1_i32 k0_t21
  let c1_i32_12 : BitVec 32 := 1#32
  let v20 : BitVec 32 := Scalar.muli arg26 c1_i32_12
  let v21 : BitVec 32 := Scalar.addi c0_i32_13 v20
  let v24 : Index := Scalar.indexCast v21
  let c0_14 : Index := 0#32
  ![v24.toNat, 0]
def k0_off65 (v23 : BitVec 32) : Fin 2 → Nat :=
  let v26 : Index := Scalar.indexCast v23
  let c0_15 : Index := 0#32
  ![v26.toNat, 0]

def k0_chk7 (i : grid0.Coords) (v23 : BitVec 32) : Prop :=
  (∀ (k0_h13 : k0_cond13 i = 1#1), ∀ a, (k0_off65 v23) a + S1x128.size a ≤ S128x128.size a)
theorem k0_off65_inb : ∀ (i : grid0.Coords) (v23 : BitVec 32) (k0_hw7 : k0_chk7 i v23), ∀ (k0_h13 : k0_cond13 i = 1#1), ∀ a, (k0_off65 v23) a + S1x128.size a ≤ S128x128.size a := fun i v23 k0_hw7 k0_h13 => k0_hw7 k0_h13

def cc0_transform_0 (i : grid0.Coords) : Fin 2 → Nat :=
  let arg0 : BitVec 32 := BitVec.ofNat 32 (i 0).val
  let c39_i32 : BitVec 32 := 39#32
  let v0 : BitVec 32 := Scalar.minsi arg0 c39_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c640_i32 : BitVec 32 := 640#32
  let c0_i32 : BitVec 32 := 0#32
  let c0_i32_0 : BitVec 32 := 0#32
  ![c640_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S352x240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S80x240 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S80x240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S80x240 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x80 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x640 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x80 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S82048x128 : Shape := ⟨2, ![82048, 128]⟩
abbrev S128 : Shape := ⟨1, ![128]⟩
abbrev S352x3x80 : Shape := ⟨3, ![352, 3, 80]⟩
abbrev S3x80 : Shape := ⟨2, ![3, 80]⟩
abbrev S80x3x80 : Shape := ⟨3, ![80, 3, 80]⟩
abbrev S80x352 : Shape := ⟨2, ![80, 352]⟩
abbrev S128x1 : Shape := ⟨2, ![128, 1]⟩
abbrev S1x128 : Shape := ⟨2, ![1, 128]⟩
abbrev S352x240 : Shape := ⟨2, ![352, 240]⟩
abbrev S1x240 : Shape := ⟨2, ![1, 240]⟩
abbrev S80x240 : Shape := ⟨2, ![80, 240]⟩
abbrev S128x80 : Shape := ⟨2, ![128, 80]⟩
abbrev S128x128 : Shape := ⟨2, ![128, 128]⟩
abbrev S1x1x4 : Shape := ⟨3, ![1, 1, 4]⟩
abbrev S128x88 : Shape := ⟨2, ![128, 88]⟩
abbrev S128x88x1 : Shape := ⟨3, ![128, 88, 1]⟩
abbrev S128x88x4 : Shape := ⟨3, ![128, 88, 4]⟩
abbrev S128x11x32 : Shape := ⟨3, ![128, 11, 32]⟩
abbrev S128x11 : Shape := ⟨2, ![128, 11]⟩
abbrev S128x11x1 : Shape := ⟨3, ![128, 11, 1]⟩
abbrev S128x352 : Shape := ⟨2, ![128, 352]⟩
abbrev S128x240 : Shape := ⟨2, ![128, 240]⟩
abbrev S128x3x80 : Shape := ⟨3, ![128, 3, 80]⟩
abbrev S128x1x80 : Shape := ⟨3, ![128, 1, 80]⟩
abbrev S128x128x1 : Shape := ⟨3, ![128, 128, 1]⟩
abbrev S1x128x80 : Shape := ⟨3, ![1, 128, 80]⟩
abbrev S128x128x80 : Shape := ⟨3, ![128, 128, 80]⟩

abbrev nBuf : Space → Nat
  | .hbm => 25
  | .vmem => 10
  | .smem => 0
  | _ => 0

abbrev bufTy : (tb : Table) → Fin (tcTables nBuf tb) → BufTy
  | .hbm, ⟨0, _⟩ => ⟨S82048x128, .i32⟩
  | .hbm, ⟨1, _⟩ => ⟨S128, .i32⟩
  | .hbm, ⟨2, _⟩ => ⟨S128, .i32⟩
  | .hbm, ⟨3, _⟩ => ⟨S352x3x80, .fp8e4m3⟩
  | .hbm, ⟨4, _⟩ => ⟨S3x80, .f32⟩
  | .hbm, ⟨5, _⟩ => ⟨S80x3x80, .fp8e4m3⟩
  | .hbm, ⟨6, _⟩ => ⟨S3x80, .f32⟩
  | .hbm, ⟨7, _⟩ => ⟨S3x80, .f32⟩
  | .hbm, ⟨8, _⟩ => ⟨S3x80, .f32⟩
  | .hbm, ⟨9, _⟩ => ⟨S80x352, .f32⟩
  | .hbm, ⟨10, _⟩ => ⟨S80x3x80, .fp8e4m3⟩
  | .hbm, ⟨11, _⟩ => ⟨S3x80, .f32⟩
  | .hbm, ⟨12, _⟩ => ⟨S80x3x80, .fp8e4m3⟩
  | .hbm, ⟨13, _⟩ => ⟨S3x80, .f32⟩
  | .hbm, ⟨14, _⟩ => ⟨S3x80, .f32⟩
  | .hbm, ⟨15, _⟩ => ⟨S3x80, .f32⟩
  | .hbm, ⟨16, _⟩ => ⟨S128x1, .i32⟩
  | .hbm, ⟨17, _⟩ => ⟨S1x128, .i32⟩
  | .hbm, ⟨18, _⟩ => ⟨S352x240, .fp8e4m3⟩
  | .hbm, ⟨19, _⟩ => ⟨S1x240, .f32⟩
  | .hbm, ⟨20, _⟩ => ⟨S80x240, .fp8e4m3⟩
  | .hbm, ⟨21, _⟩ => ⟨S1x240, .f32⟩
  | .hbm, ⟨22, _⟩ => ⟨S1x240, .f32⟩
  | .hbm, ⟨23, _⟩ => ⟨S1x240, .f32⟩
  | .hbm, ⟨24, _⟩ => ⟨S128x80, .f32⟩
  | .local _ .vmem, ⟨0, _⟩ => ⟨S82048x128, .i32⟩
  | .local _ .vmem, ⟨1, _⟩ => ⟨S128x1, .i32⟩
  | .local _ .vmem, ⟨2, _⟩ => ⟨S1x128, .i32⟩
  | .local _ .vmem, ⟨3, _⟩ => ⟨S352x240, .fp8e4m3⟩
  | .local _ .vmem, ⟨4, _⟩ => ⟨S1x240, .f32⟩
  | .local _ .vmem, ⟨5, _⟩ => ⟨S80x240, .fp8e4m3⟩
  | .local _ .vmem, ⟨6, _⟩ => ⟨S1x240, .f32⟩
  | .local _ .vmem, ⟨7, _⟩ => ⟨S1x240, .f32⟩
  | .local _ .vmem, ⟨8, _⟩ => ⟨S1x240, .f32⟩
  | .local _ .vmem, ⟨9, _⟩ => ⟨S128x80, .f32⟩
  | _, _ => ⟨S82048x128, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c640_i32 : BitVec 32 := 640#32
  let v11 : BitVec 32 := Scalar.addi c0_i32 c640_i32
  let c1_i32 : BitVec 32 := 1#32
  ⟨c0_i32, v11, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c128_i32 : BitVec 32 := 128#32
  let v28 : BitVec 32 := Scalar.muli arg10 c128_i32
  let v29 : Index := Scalar.indexCast v28
  let c0_12 : Index := 0#32
  ![v29.toNat, 0]
abbrev stage0_0 : Fin 1 → Memref sig .tc .vmem S82048x128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S352x240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S80x240 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x240 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x240 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x80 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelBlocks.lean ====
/- The kernel body cut at its branches: each branch's body as a definition that ends in the program `J` that follows it, so that a
   branch is proved once, whatever runs after it. The text of each is the printed body's (Gen/Kernel/Skeleton.lean). -/
module

public import proofs.«01_k».proof.Proof.Gen.Kernel.Loops

@[expose] public section

set_option maxRecDepth 65536
set_option maxHeartbeats 40000000

namespace Cert.Kernel.Hand

open Cert.Kernel Cert.Kernel.Gen
open Idealize.ShloMosaic Idealize.ShloMosaic.TcCoe
open Idealize.SL.Sem

variable {F : FTy → Type} [FloatOps F] (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole)

/-- The body of the first point's block: casts of the weights, the lengths broadcast, the query, the state cleared; then `J`. -/
noncomputable def initBlk (k0_h1 : Scalar.cmpi .ne (Scalar.extui (Scalar.cmpi .eq (BitVec.ofNat 32 (i 0).val) 0#32)) 0#32 = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v48 : FVec F S80x80 .bf16 ← k0_part1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25
  k0_part2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v48
  let v117 : IVec S128x1 32 ← k0_part3 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25
  let ⟨v123, v124, v160⟩ : Σ' (v123 : Vec F S128x128 .i32) (v124 : FVec F S128x128 .f32), IVec S128x128x1 32 ← k0_part4 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v117
  let ⟨v187, v189, v203, v205, c0_i32_86⟩ : Σ' (v187 : FVec F S128x128 .f32) (v189 : IVec S1x128 32) (v203 : IVec S1x128 1) (v205 : IVec S1x128 32), BitVec 32 ← k0_part5 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v160
  let ⟨v231, v233, v247, v251⟩ : Σ' (v231 : FVec F S128x128 .f32) (v233 : IVec S1x128 32) (v247 : IVec S1x128 1), IVec S1x128 1 ← k0_part6 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v124 v187 v189 v203 v205 c0_i32_86
  let ⟨v294, c32_i32_113, v296⟩ : Σ' (v294 : FVec F S128x128 .f32) (c32_i32_113 : BitVec 32), IVec S1x128 32 ← k0_part7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v233 v247 v251
  let ⟨v338, c4_i32_126, v340, v341⟩ : Σ' (v338 : FVec F S128x128 .f32) (c4_i32_126 : BitVec 32) (v340 : IVec S1x128 32), IVec S1x128 32 ← k0_part8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v231 v294 c32_i32_113 v296
  let ⟨v376, v378, v380, v382, v384, v386⟩ : Σ' (v376 : IVec S128x128 32) (v378 : BitVec 32) (v380 : IVec S1x128 32) (v382 : IVec S1x128 1) (v384 : IVec S1x128 1), IVec S1x128 1 ← k0_part9 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 c4_i32_126 v340 v341
  let ⟨v401, v430, v432, v433⟩ : Σ' (v401 : FVec F S128x128 .f32) (v430 : FVec F S128x128 .f32) (v432 : IVec S128x128 32), IVec S128x128 32 ← k0_part10 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v376 v378 v380 v382 v384 v386
  let v442 : Vec F S128x128 .f32 ← Prog.lift (.load a10 (Rect.unit (s := S384x128) ![256, 0] S128x128.size inb_S384x128_S128x128_256_0).toLoadRect (View.loadsAt_vmem h_S128x128))
  let v446 : Vec F S128x128 .f32 ← Prog.lift (.load a19 (Rect.unit (s := S128x128) ![0, 0] S128x128.size inb_S128x128_S128x128_0_0).toLoadRect (View.loadsAt_vmem h_S128x128))
  Prog.lift (.store a19 (Rect.unit (s := S128x128) ![0, 0] S128x128.size inb_S128x128_S128x128_0_0) (k0_pay1 v338 v401 v430 v432 v433 v442) Finset.univ (View.stores_vmem_bits_univ h_S128x128 rfl) (.inl rfl))
  let v450 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay2 (F := F)) Finset.univ (View.stores_vmem_bits_univ h_S128x128 rfl) (.inl rfl))
  J

/-- Phase 1 of a chunk, the branch over the first 16 rows; then `J`. -/
noncomputable def p1r16 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let ⟨v42, v44, v49, v54, v59, v64, v69⟩ : Σ' (v42 : BitVec 32) (v44 : BitVec 32) (v49 : Vec F S16x128 .i32) (v54 : Vec F S16x128 .i32) (v59 : Vec F S16x128 .i32) (v64 : Vec F S16x128 .i32), Vec F S16x128 .i32 ← k0_part12 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 k0_h2
  let ⟨v74, v79, v84, v89, v94, v99, v104, v106, c128_i32_55⟩ : Σ' (v74 : Vec F S16x128 .i32) (v79 : Vec F S16x128 .i32) (v84 : Vec F S16x128 .i32) (v89 : Vec F S16x128 .i32) (v94 : Vec F S16x128 .i32) (v99 : Vec F S16x128 .i32) (v104 : Vec F S16x128 .i32) (v106 : BitVec 32), BitVec 32 ← k0_part13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v44
  let ⟨v125, v127, v146, c1_i32_72⟩ : Σ' (v125 : IVec S256x128 32) (v127 : IVec S1x128 32) (v146 : IVec S1x128 1), BitVec 32 ← k0_part14 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v44 v49 v54 v59 v64 v69 v74 v79 v84 v89 v94 v99 v104 v106 c128_i32_55
  let ⟨v188, c32_i32, v190, v191⟩ : Σ' (v188 : FVec F S256x128 .f32) (c32_i32 : BitVec 32) (v190 : IVec S1x128 32), IVec S1x128 32 ← k0_part15 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v127 v146 c1_i32_72
  let ⟨v231, c4_i32_92, v233, v236, v239⟩ : Σ' (v231 : FVec F S256x128 .bf16) (c4_i32_92 : BitVec 32) (v233 : IVec S1x128 32) (v236 : IVec S1x128 32), IVec S1x128 32 ← k0_part16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v188 c32_i32 v190 v191
  let ⟨v269, v285⟩ : Σ' (v269 : IVec S256x128 32), IVec S1x128 32 ← k0_part17 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 c4_i32_92 v233 v236 v239
  let ⟨v294, v323, v331⟩ : Σ' (v294 : FVec F S256x128 .f32) (v323 : FVec F S256x128 .f32), IVec S256x128x1 32 ← k0_part18 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v269 v285
  let ⟨v337, v375, v377⟩ : Σ' (v337 : FVec F S256x128 .bf16) (v375 : IVec S256x128 32), BitVec 32 ← k0_part19 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v294 v323 v331
  let ⟨v400, v424⟩ : Σ' (v400 : FVec F S256x128 .f32), IVec S1x128 32 ← k0_part20 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v375 v377
  let ⟨v458, v460, v464, v465, c128_i32_162⟩ : Σ' (v458 : FVec F S256x384 .f32) (v460 : BitVec 32) (v464 : IVec S16x128 1) (v465 : FVec F S16x384 .f32), BitVec 32 ← k0_part21 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v42 v44 v125 v231 v337 v400 v424
  let ⟨v493, v494, v495, v505⟩ : Σ' (v493 : IVec S16x128 1) (v494 : FVec F S16x384 .f32) (v495 : BitVec 32), FVec F S16x128 .f32 ← k0_part22 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v460 v464 v465 c128_i32_162
  let ⟨v546, c3_i32_191⟩ : Σ' (v546 : BitVec 32), BitVec 32 ← k0_part23 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v493 v494 v495 v505
  let ⟨v580, v581, v582, v585, v587⟩ : Σ' (v580 : IVec S16x128 1) (v581 : FVec F S16x384 .f32) (v582 : BitVec 32) (v585 : FVec F S16x128 .f32), Vec F S16x128 .f32 ← k0_part24 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v546 c3_i32_191
  let ⟨v611, v628⟩ : Σ' (v611 : BitVec 32), FVec F S16x128 .f32 ← k0_part25 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v580 v581 v582 v585 v587
  let ⟨v663, v667, v668⟩ : Σ' (v663 : BitVec 32) (v667 : IVec S16x128 1), FVec F S16x384 .f32 ← k0_part26 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v611 v628
  let ⟨v696, v697, v698, v708⟩ : Σ' (v696 : IVec S16x128 1) (v697 : FVec F S16x384 .f32) (v698 : BitVec 32), FVec F S16x128 .f32 ← k0_part27 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v663 v667 v668
  let v749 : BitVec 32 ← k0_part28 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v696 v697 v698 v708
  let ⟨v783, v784, v785, v788⟩ : Σ' (v783 : IVec S16x128 1) (v784 : FVec F S16x384 .f32) (v785 : BitVec 32), FVec F S16x128 .f32 ← k0_part29 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v749
  let ⟨v812, v814, v829, v830⟩ : Σ' (v812 : IVec S16x128 1) (v814 : BitVec 32) (v829 : FVec F S16x128 .f32), FVec F S16x128 .f32 ← k0_part30 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v783 v784 v785 v788
  let ⟨v866, v870⟩ : Σ' (v866 : BitVec 32), IVec S16x128 1 ← k0_part31 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v812 v814 v829 v830
  let ⟨v899, v900, v901, v911⟩ : Σ' (v899 : IVec S16x128 1) (v900 : FVec F S16x384 .f32) (v901 : BitVec 32), FVec F S16x128 .f32 ← k0_part32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v866 v870
  let v947 : Vec F S16x128 .f32 ← k0_part33 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911
  let v948 : Vec F S16x128 .f32 ← Prog.lift (.load a23 (Rect.unit (s := S128x128) ![0, 0] S16x128.size inb_S128x128_S16x128_0_0).toLoadRect (View.loadsAt_vmem h_S16x128))
  Prog.lift (.store a23 (Rect.unit (s := S128x128) ![0, 0] S16x128.size inb_S128x128_S16x128_0_0) (k0_pay3 v947) Finset.univ (View.stores_vmem_bits_univ h_S16x128 rfl) (.inl rfl))
  J

/-- Phase 1 of a chunk, the branch over the first 32 rows; then `J`. -/
noncomputable def p1r32 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t2_loop (k0_t2_ok i k0_h2) ⟨⟩ (k0_t2_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S32x128 .f32 ← Prog.lift (.load a19 (Rect.unit (s := S128x128) ![0, 0] S32x128.size inb_S128x128_S32x128_0_0).toLoadRect (View.loadsAt_vmem h_S32x128))
  let v66 : Vec F S32x128 .f32 ← Prog.lift (.load a23 (Rect.unit (s := S128x128) ![0, 0] S32x128.size inb_S128x128_S32x128_0_0).toLoadRect (View.loadsAt_vmem h_S32x128))
  let v68 : Vec F S32x128 .f32 ← Scf.Loop.for k0_t3_loop (k0_t3_ok i k0_h2) v66 (k0_t3_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S32x128 .f32 ← Prog.lift (.load a23 (Rect.unit (s := S128x128) ![0, 0] S32x128.size inb_S128x128_S32x128_0_0).toLoadRect (View.loadsAt_vmem h_S32x128))
  Prog.lift (.store a23 (Rect.unit (s := S128x128) ![0, 0] S32x128.size inb_S128x128_S32x128_0_0) (k0_pay10 v68) Finset.univ (View.stores_vmem_bits_univ h_S32x128 rfl) (.inl rfl))
  J

/-- Phase 1 of a chunk, the branch over the first 64 rows; then `J`. -/
noncomputable def p1r64 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t4_loop (k0_t4_ok i k0_h2) ⟨⟩ (k0_t4_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S64x128 .f32 ← Prog.lift (.load a19 (Rect.unit (s := S128x128) ![0, 0] S64x128.size inb_S128x128_S64x128_0_0).toLoadRect (View.loadsAt_vmem h_S64x128))
  let v66 : Vec F S64x128 .f32 ← Prog.lift (.load a23 (Rect.unit (s := S128x128) ![0, 0] S64x128.size inb_S128x128_S64x128_0_0).toLoadRect (View.loadsAt_vmem h_S64x128))
  let v68 : Vec F S64x128 .f32 ← Scf.Loop.for k0_t5_loop (k0_t5_ok i k0_h2) v66 (k0_t5_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S64x128 .f32 ← Prog.lift (.load a23 (Rect.unit (s := S128x128) ![0, 0] S64x128.size inb_S128x128_S64x128_0_0).toLoadRect (View.loadsAt_vmem h_S64x128))
  Prog.lift (.store a23 (Rect.unit (s := S128x128) ![0, 0] S64x128.size inb_S128x128_S64x128_0_0) (k0_pay15 v68) Finset.univ (View.stores_vmem_bits_univ h_S64x128 rfl) (.inl rfl))
  J

/-- Phase 1 of a chunk, the branch over the first 128 rows; then `J`. -/
noncomputable def p1r128 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t6_loop (k0_t6_ok i k0_h2) ⟨⟩ (k0_t6_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S128x128 .f32 ← Prog.lift (.load a19 (Rect.unit (s := S128x128) ![0, 0] S128x128.size inb_S128x128_S128x128_0_0).toLoadRect (View.loadsAt_vmem h_S128x128))
  let v66 : Vec F S128x128 .f32 ← Prog.lift (.load a23 (Rect.unit (s := S128x128) ![0, 0] S128x128.size inb_S128x128_S128x128_0_0).toLoadRect (View.loadsAt_vmem h_S128x128))
  let v68 : Vec F S128x128 .f32 ← Scf.Loop.for k0_t7_loop (k0_t7_ok i k0_h2) v66 (k0_t7_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay21 v68) Finset.univ (View.stores_vmem_bits_univ h_S128x128 rfl) (.inl rfl))
  J

/-- Phase 1 of a chunk: the branches from 128 rows on; then `J`. -/
noncomputable def p1s128 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v38 : Elt F .i32 ← smemLoad a1 (Rect.unit (s := S128) ![64] S1.size inb_S128_S1_64) numel1_S1 rfl
  let v39 : BitVec 1 := Scalar.cmpi .sgt v38 v16
  let v40 : BitVec 32 := Scalar.extui v39
  let v41 : BitVec 1 := Scalar.cmpi .ne v40 0#32
  if v41 = 1#1 then p1r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J else J

/-- Phase 1 of a chunk: the branches from 64 rows on; then `J`. -/
noncomputable def p1s64 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v31 : Elt F .i32 ← smemLoad a1 (Rect.unit (s := S128) ![32] S1.size inb_S128_S1_32) numel1_S1 rfl
  let v32 : BitVec 1 := Scalar.cmpi .sgt v31 v16
  let v33 : Elt F .i32 ← smemLoad a1 (Rect.unit (s := S128) ![64] S1.size inb_S128_S1_64) numel1_S1 rfl
  let v34 : BitVec 1 := Scalar.cmpi .sle v33 v16
  let v35 : BitVec 1 := Scalar.andi v32 v34
  let v36 : BitVec 32 := Scalar.extui v35
  let v37 : BitVec 1 := Scalar.cmpi .ne v36 0#32
  if v37 = 1#1 then p1r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Phase 1 of a chunk: the branches from 32 rows on; then `J`. -/
noncomputable def p1s32 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v24 : Elt F .i32 ← smemLoad a1 (Rect.unit (s := S128) ![16] S1.size inb_S128_S1_16) numel1_S1 rfl
  let v25 : BitVec 1 := Scalar.cmpi .sgt v24 v16
  let v26 : Elt F .i32 ← smemLoad a1 (Rect.unit (s := S128) ![32] S1.size inb_S128_S1_32) numel1_S1 rfl
  let v27 : BitVec 1 := Scalar.cmpi .sle v26 v16
  let v28 : BitVec 1 := Scalar.andi v25 v27
  let v29 : BitVec 32 := Scalar.extui v28
  let v30 : BitVec 1 := Scalar.cmpi .ne v29 0#32
  if v30 = 1#1 then p1r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Phase 1 of a chunk: the branches from 16 rows on; then `J`. -/
noncomputable def p1s16 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v17 : Elt F .i32 ← smemLoad a1 (Rect.unit (s := S128) ![0] S1.size inb_S128_S1_0) numel1_S1 rfl
  let v18 : BitVec 1 := Scalar.cmpi .sgt v17 v16
  let v19 : Elt F .i32 ← smemLoad a1 (Rect.unit (s := S128) ![16] S1.size inb_S128_S1_16) numel1_S1 rfl
  let v20 : BitVec 1 := Scalar.cmpi .sle v19 v16
  let v21 : BitVec 1 := Scalar.andi v18 v20
  let v22 : BitVec 32 := Scalar.extui v21
  let v23 : BitVec 1 := Scalar.cmpi .ne v22 0#32
  if v23 = 1#1 then p1r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Between the phases: the last state and the attention weights put back into batch order, the state cleared; then `J`. -/
noncomputable def outBlk (k0_h7 : k0_cond7 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let ⟨v27, v38, v41, v46⟩ : Σ' (v27 : FVec F S128x128 .f32) (v38 : FVec F S128x128 .f32) (v41 : FVec F S128x1 .f32), IVec S128x128 1 ← k0_part71 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h7
  let ⟨v50, v62, v74, v77, v80, v82, v83⟩ : Σ' (v50 : FVec F S128x128 .f32) (v62 : FVec F S128x128 .f32) (v74 : FVec F S128x128 .f32) (v77 : FVec F S128x1 .f32) (v80 : FVec F S128x128 .f32) (v82 : FVec F S128x1 .f32), FVec F S128x1 .f32 ← k0_part72 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v27 v41 v46
  let ⟨v105, v108, v125⟩ : Σ' (v105 : FVec F S128x128 .f32) (v108 : FVec F S128x1 .f32), FVec F S128x128 .f32 ← k0_part73 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v38 v50 v62 v74 v77 v80 v82 v83
  k0_part74 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125
  let v144 : Vec F S128x128 .f32 ← Prog.lift (.load a25 (Rect.unit (s := S128x128) ![0, 0] S128x128.size inb_S128x128_S128x128_0_0).toLoadRect (View.loadsAt_vmem h_S128x128))
  let v145 : Vec F S128x128 .f32 ← Prog.lift (.load a13 (Rect.unit (s := S128x640) ![0, 384] S128x128.size inb_S128x640_S128x128_0_384).toLoadRect (View.loadsAt_vmem h_S128x128))
  Prog.lift (.store a13 (Rect.unit (s := S128x640) ![0, 384] S128x128.size inb_S128x640_S128x128_0_384) v144 Finset.univ (View.stores_vmem_bits_univ h_S128x128 rfl) (.inl rfl))
  Scf.Loop.for k0_t13_loop (k0_t13_ok i k0_h7) ⟨⟩ (k0_t13_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7)
  let v147 : Vec F S128x128 .f32 ← Prog.lift (.load a25 (Rect.unit (s := S128x128) ![0, 0] S128x128.size inb_S128x128_S128x128_0_0).toLoadRect (View.loadsAt_vmem h_S128x128))
  let v148 : Vec F S128x128 .f32 ← Prog.lift (.load a13 (Rect.unit (s := S128x640) ![0, 512] S128x128.size inb_S128x640_S128x128_0_512).toLoadRect (View.loadsAt_vmem h_S128x128))
  Prog.lift (.store a13 (Rect.unit (s := S128x640) ![0, 512] S128x128.size inb_S128x640_S128x128_0_512) v147 Finset.univ (View.stores_vmem_bits_univ h_S128x128 rfl) (.inl rfl))
  let v150 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay23 (F := F)) Finset.univ (View.stores_vmem_bits_univ h_S128x128 rfl) (.inl rfl))
  J

/-- Phase 2 of a chunk, the branch over the first 16 rows; then `J`. -/
noncomputable def p2r16 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let ⟨v43, v45, v51, v57, v63, v69, v75, v77⟩ : Σ' (v43 : BitVec 32) (v45 : BitVec 32) (v51 : FVec F S16x128 .bf16) (v57 : FVec F S16x128 .bf16) (v63 : FVec F S16x128 .bf16) (v69 : FVec F S16x128 .bf16) (v75 : FVec F S16x128 .bf16), BitVec 32 ← k0_part76 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v16
  let ⟨v81, v87, v93, v99, v105, v111, v113⟩ : Σ' (v81 : FVec F S16x128 .bf16) (v87 : FVec F S16x128 .bf16) (v93 : FVec F S16x128 .bf16) (v99 : FVec F S16x128 .bf16) (v105 : FVec F S16x128 .bf16) (v111 : FVec F S16x128 .bf16), BitVec 32 ← k0_part77 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v77
  let v148 : FVec F S256x384 .f32 ← k0_part78 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v51 v57 v63 v69 v75 v81 v87 v93 v99 v105 v111 v113
  let ⟨v152, v185, v186⟩ : Σ' (v152 : FVec F S256x384 .f32) (v185 : FVec F S16x384 .f32), BitVec 32 ← k0_part79 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v148
  let v217 : FVec F S16x384 .f32 ← k0_part80 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v152 v185 v186
  let ⟨v257, v259, c128_i32_125⟩ : Σ' (v257 : FVec F S16x384 .f32) (v259 : BitVec 32), BitVec 32 ← k0_part81 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v152 v217
  let ⟨v282, v285, c8_i32_138, v286, v297⟩ : Σ' (v282 : FVec F S1x384 .f32) (v285 : FVec F S1x128 .f32) (c8_i32_138 : BitVec 32) (v286 : BitVec 32), BitVec 1 ← k0_part82 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v16 v45 v152 v257 v259 c128_i32_125
  let v298 : BitVec 32 := Scalar.remsi v16 c8_i32_138
  let v299 : BitVec 1 := Scalar.cmpi .ne v298 0#32
  let v300 : BitVec 1 := Scalar.andi v297 v299
  let v301 : BitVec 32 := Scalar.subi v286 1#32
  let v302 : BitVec 32 := Scalar.select v300 v301 v286
  let v303 : Vec F S16x128 .f32 ← Prog.lift (.load a23 (Rect.unit (s := S128x128) ![0, 0] S16x128.size inb_S128x128_S16x128_0_0).toLoadRect (View.loadsAt_vmem h_S16x128))
  let v305 : Vec F S16x128 .f32 ← Scf.Loop.for k0_t14_loop (k0_t14_ok i k0_h8) v303 (k0_t14_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v282 v285 v302)
  let v306 : Vec F S16x128 .f32 ← Prog.lift (.load a23 (Rect.unit (s := S128x128) ![0, 0] S16x128.size inb_S128x128_S16x128_0_0).toLoadRect (View.loadsAt_vmem h_S16x128))
  Prog.lift (.store a23 (Rect.unit (s := S128x128) ![0, 0] S16x128.size inb_S128x128_S16x128_0_0) (k0_pay25 v305) Finset.univ (View.stores_vmem_bits_univ h_S16x128 rfl) (.inl rfl))
  J

/-- Phase 2 of a chunk, the branch over the first 32 rows; then `J`. -/
noncomputable def p2r32 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t15_loop (k0_t15_ok i k0_h8) ⟨⟩ (k0_t15_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S32x128 .f32 ← Prog.lift (.load a23 (Rect.unit (s := S128x128) ![0, 0] S32x128.size inb_S128x128_S32x128_0_0).toLoadRect (View.loadsAt_vmem h_S32x128))
  let v69 : Vec F S32x128 .f32 ← Scf.Loop.for k0_t16_loop (k0_t16_ok i k0_h8) v67 (k0_t16_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S32x128 .f32 ← Prog.lift (.load a23 (Rect.unit (s := S128x128) ![0, 0] S32x128.size inb_S128x128_S32x128_0_0).toLoadRect (View.loadsAt_vmem h_S32x128))
  Prog.lift (.store a23 (Rect.unit (s := S128x128) ![0, 0] S32x128.size inb_S128x128_S32x128_0_0) (k0_pay30 v69) Finset.univ (View.stores_vmem_bits_univ h_S32x128 rfl) (.inl rfl))
  J

/-- Phase 2 of a chunk, the branch over the first 64 rows; then `J`. -/
noncomputable def p2r64 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t17_loop (k0_t17_ok i k0_h8) ⟨⟩ (k0_t17_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S64x128 .f32 ← Prog.lift (.load a23 (Rect.unit (s := S128x128) ![0, 0] S64x128.size inb_S128x128_S64x128_0_0).toLoadRect (View.loadsAt_vmem h_S64x128))
  let v69 : Vec F S64x128 .f32 ← Scf.Loop.for k0_t18_loop (k0_t18_ok i k0_h8) v67 (k0_t18_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S64x128 .f32 ← Prog.lift (.load a23 (Rect.unit (s := S128x128) ![0, 0] S64x128.size inb_S128x128_S64x128_0_0).toLoadRect (View.loadsAt_vmem h_S64x128))
  Prog.lift (.store a23 (Rect.unit (s := S128x128) ![0, 0] S64x128.size inb_S128x128_S64x128_0_0) (k0_pay38 v69) Finset.univ (View.stores_vmem_bits_univ h_S64x128 rfl) (.inl rfl))
  J

/-- Phase 2 of a chunk, the branch over the first 128 rows; then `J`. -/
noncomputable def p2r128 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t19_loop (k0_t19_ok i k0_h8) ⟨⟩ (k0_t19_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S128x128 .f32 ← Prog.lift (.load a23 (Rect.unit (s := S128x128) ![0, 0] S128x128.size inb_S128x128_S128x128_0_0).toLoadRect (View.loadsAt_vmem h_S128x128))
  let v69 : Vec F S128x128 .f32 ← Scf.Loop.for k0_t20_loop (k0_t20_ok i k0_h8) v67 (k0_t20_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay42 v69) Finset.univ (View.stores_vmem_bits_univ h_S128x128 rfl) (.inl rfl))
  J

/-- Phase 2 of a chunk: the branches from 128 rows on; then `J`. -/
noncomputable def p2s128 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v39 : Elt F .i32 ← smemLoad a1 (Rect.unit (s := S128) ![64] S1.size inb_S128_S1_64) numel1_S1 rfl
  let v40 : BitVec 1 := Scalar.cmpi .sgt v39 v17
  let v41 : BitVec 32 := Scalar.extui v40
  let v42 : BitVec 1 := Scalar.cmpi .ne v41 0#32
  if v42 = 1#1 then p2r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J else J

/-- Phase 2 of a chunk: the branches from 64 rows on; then `J`. -/
noncomputable def p2s64 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v32 : Elt F .i32 ← smemLoad a1 (Rect.unit (s := S128) ![32] S1.size inb_S128_S1_32) numel1_S1 rfl
  let v33 : BitVec 1 := Scalar.cmpi .sgt v32 v17
  let v34 : Elt F .i32 ← smemLoad a1 (Rect.unit (s := S128) ![64] S1.size inb_S128_S1_64) numel1_S1 rfl
  let v35 : BitVec 1 := Scalar.cmpi .sle v34 v17
  let v36 : BitVec 1 := Scalar.andi v33 v35
  let v37 : BitVec 32 := Scalar.extui v36
  let v38 : BitVec 1 := Scalar.cmpi .ne v37 0#32
  if v38 = 1#1 then p2r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- Phase 2 of a chunk: the branches from 32 rows on; then `J`. -/
noncomputable def p2s32 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v25 : Elt F .i32 ← smemLoad a1 (Rect.unit (s := S128) ![16] S1.size inb_S128_S1_16) numel1_S1 rfl
  let v26 : BitVec 1 := Scalar.cmpi .sgt v25 v17
  let v27 : Elt F .i32 ← smemLoad a1 (Rect.unit (s := S128) ![32] S1.size inb_S128_S1_32) numel1_S1 rfl
  let v28 : BitVec 1 := Scalar.cmpi .sle v27 v17
  let v29 : BitVec 1 := Scalar.andi v26 v28
  let v30 : BitVec 32 := Scalar.extui v29
  let v31 : BitVec 1 := Scalar.cmpi .ne v30 0#32
  if v31 = 1#1 then p2r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- Phase 2 of a chunk: the branches from 16 rows on; then `J`. -/
noncomputable def p2s16 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v18 : Elt F .i32 ← smemLoad a1 (Rect.unit (s := S128) ![0] S1.size inb_S128_S1_0) numel1_S1 rfl
  let v19 : BitVec 1 := Scalar.cmpi .sgt v18 v17
  let v20 : Elt F .i32 ← smemLoad a1 (Rect.unit (s := S128) ![16] S1.size inb_S128_S1_16) numel1_S1 rfl
  let v21 : BitVec 1 := Scalar.cmpi .sle v20 v17
  let v22 : BitVec 1 := Scalar.andi v19 v21
  let v23 : BitVec 32 := Scalar.extui v22
  let v24 : BitVec 1 := Scalar.cmpi .ne v23 0#32
  if v24 = 1#1 then p2r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- The last point: the final state put back into batch order; then `J`. -/
noncomputable def endBlk (k0_h13 : k0_cond13 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  Scf.Loop.for k0_t21_loop (k0_t21_ok i k0_h13) ⟨⟩ (k0_t21_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13)
  let v17 : Vec F S128x80 .f32 ← Prog.lift (.load a25 (Rect.unit (s := S128x128) ![0, 0] S128x80.size inb_S128x128_S128x80_0_0).toLoadRect (View.loadsAt_vmem h_S128x80))
  let v19 : Vec F S128x80 .bf16 ← Prog.lift (.load a12 (Rect.unit (s := S128x80) ![0, 0] S128x80.size inb_S128x80_S128x80_0_0).toLoadRect (View.loadsAt_vmem h_S128x80))
  Prog.lift (.store a12 (Rect.unit (s := S128x80) ![0, 0] S128x80.size inb_S128x80_S128x80_0_0) (k0_pay44 v17) Finset.univ (View.stores_vmem h_S128x80 (m12.storeExact_slice rfl _ packedbf16_S128x80_S128x80_0_0) (fun _ => rfl)) (.inl rfl))
  J

/-- The body from the last point's block on. -/
noncomputable def tail13 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h13 : k0_cond13 i = 1#1 then endBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 (pure ⟨⟩) else (pure ⟨⟩)

/-- The body from phase 2 on. -/
noncomputable def tail8 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h8 : k0_cond8 i = 1#1 then p2s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The body from the block between the phases on. -/
noncomputable def tail7 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h7 : k0_cond7 i = 1#1 then outBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The body from phase 1 on. -/
noncomputable def tail2 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h2 : k0_cond2 i = 1#1 then p1s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The whole body. -/
noncomputable def tail1 :
    Prog (TpuEff nD τ sig (Elt F) Λ₀ .tc) PUnit := do
  let a0 : BitVec 32 := BitVec.ofNat 32 (i 0).val
  have v0 : IVec S1x128 32 := iota .tc S1x128 32 [1] iota_S1x128_d1_w32
  let v1 : BitVec 1 := Scalar.cmpi .eq a0 0#32
  let v2 : BitVec 32 := Scalar.extui v1
  let v3 : BitVec 1 := Scalar.cmpi .ne v2 0#32
  if k0_h1 : v3 = 1#1 then initBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h1 (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The printed body is its blocks in order. -/
theorem skel_eq :
    cc0_rnn_skel (F := F) i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 = tail1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 := rfl

end Cert.Kernel.Hand
-- ==== Proof.KernelLoops.lean ====
/- The loops that put rows back into batch order, each by its invariant: the order word of a trip names a row of the destination. -/
module

public import proofs.«01_k».proof.Proof.KernelBlocks

@[expose] public section

set_option warn.classDefReducibility false
set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's elements on core `c`, whole, at contents `f`. -/
abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f
/-- A memref's elements on core `c`, at the half share in which the body is handed the tables. -/
abbrev PtH (c : Dev nD) {sp : Space} {S : Shape} {e : EltTy} (M : Memref sig .tc sp S e) (f : BufTy.Contents (Elt F) M.view.ty) : sProp 𝕄 :=
  M.view.loc (c : Thread nD τ) ↦[M.view.set]{fullShare.right} f

/-- Every word of the order table names one of the 128 rows. -/
abbrev OrderOk (M : Memref sig .tc .smem S128 .i32) (O : BufTy.Contents (Elt F) M.view.ty) : Prop :=
  ∀ (r : Rect S128) (x : r.shape.Idx), (View.readAt (Elt F) M.view r.toLoadRect O x : BitVec 32).toNat < 128

/-- A word below 128 names a row inside the destination. -/
theorem chk1_of_lt (i : grid0.Coords) (v : BitVec 32) (h : v.toNat < 128) : k0_chk1 i v := by
  intro _ a
  have h1 : (Scalar.indexCast v : Index).toNat = v.toNat := rfl
  fin_cases a <;> simp [k0_off31, S1x128, S128x128] <;> omega

/-- Before trip `k` of loop 8: the order table and the source as found, the destination at something. -/
@[sl_loop] def loopInv_k0_t8 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (v0 : IVec S1x128 32) (k0_h7 : k0_cond7 i = 1#1) (O : BufTy.Contents (Elt F) a2.view.ty) (hO : OrderOk (F := F) a2 O)
    (X : BufTy.Contents (Elt F) a23.view.ty) :
    LoopInvTy_k0_t8 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h7 where
  inv _ _ := iprop(PtH c a2 O ∗ Pt c a23 X ∗ ∃ f, Pt c a25 f)
  step k acc := by
    iintro ⟨HO, HX, ⟨%f, HF⟩⟩
    unfold k0_t8_body
    sl_exec (disch := exact chk1_of_lt _ _ (hO _ _))
    sl_step
    sl_close

/-- A word below 128 names a row inside the destination. -/
theorem chk2_of_lt (i : grid0.Coords) (v : BitVec 32) (h : v.toNat < 128) : k0_chk2 i v := by
  intro _ a
  have h1 : (Scalar.indexCast v : Index).toNat = v.toNat := rfl
  fin_cases a <;> simp [k0_off34, S1x128, S128x128] <;> omega

/-- Before trip `k` of loop 9: the order table and the source as found, the destination at something. -/
@[sl_loop] def loopInv_k0_t9 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t9 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t9_body
    sl_exec (disch := exact chk2_of_lt _ _ (hO _ _))
    sl_step
    sl_close

/-- A word below 128 names a row inside the destination. -/
theorem chk3_of_lt (i : grid0.Coords) (v : BitVec 32) (h : v.toNat < 128) : k0_chk3 i v := by
  intro _ a
  have h1 : (Scalar.indexCast v : Index).toNat = v.toNat := rfl
  fin_cases a <;> simp [k0_off37, S1x128, S128x128] <;> omega

/-- Before trip `k` of loop 10: the order table and the source as found, the destination at something. -/
@[sl_loop] def loopInv_k0_t10 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t10 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t10_body
    sl_exec (disch := exact chk3_of_lt _ _ (hO _ _))
    sl_step
    sl_close

/-- A word below 128 names a row inside the destination. -/
theorem chk4_of_lt (i : grid0.Coords) (v : BitVec 32) (h : v.toNat < 128) : k0_chk4 i v := by
  intro _ a
  have h1 : (Scalar.indexCast v : Index).toNat = v.toNat := rfl
  fin_cases a <;> simp [k0_off40, S1x128, S128x128] <;> omega

/-- Before trip `k` of loop 11: the order table and the source as found, the destination at something. -/
@[sl_loop] def loopInv_k0_t11 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t11 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t11_body
    sl_exec (disch := exact chk4_of_lt _ _ (hO _ _))
    sl_step
    sl_close

/-- A word below 128 names a row inside the destination. -/
theorem chk5_of_lt (i : grid0.Coords) (v : BitVec 32) (h : v.toNat < 128) : k0_chk5 i v := by
  intro _ a
  have h1 : (Scalar.indexCast v : Index).toNat = v.toNat := rfl
  fin_cases a <;> simp [k0_off43, S1x128, S128x128] <;> omega

/-- Before trip `k` of loop 12: the order table and the source as found, the destination at something. -/
@[sl_loop] def loopInv_k0_t12 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t12 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t12_body
    sl_exec (disch := exact chk5_of_lt _ _ (hO _ _))
    sl_step
    sl_close

/-- A word below 128 names a row inside the destination. -/
theorem chk6_of_lt (i : grid0.Coords) (v : BitVec 32) (h : v.toNat < 128) : k0_chk6 i v := by
  intro _ a
  have h1 : (Scalar.indexCast v : Index).toNat = v.toNat := rfl
  fin_cases a <;> simp [k0_off46, S1x128, S128x128] <;> omega

/-- Before trip `k` of loop 13: the order table and the source as found, the destination at something. -/
@[sl_loop] def loopInv_k0_t13 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (O : BufTy.Contents (Elt F) a2.view.ty) (hO : OrderOk (F := F) a2 O)
    (X : BufTy.Contents (Elt F) a24.view.ty) :
    LoopInvTy_k0_t13 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 where
  inv _ _ := iprop(PtH c a2 O ∗ Pt c a24 X ∗ ∃ f, Pt c a25 f)
  step k acc := by
    iintro ⟨HO, HX, ⟨%f, HF⟩⟩
    unfold k0_t13_body
    sl_exec (disch := exact chk6_of_lt _ _ (hO _ _))
    sl_step
    sl_close

/-- A word below 128 names a row inside the destination. -/
theorem chk7_of_lt (i : grid0.Coords) (v : BitVec 32) (h : v.toNat < 128) : k0_chk7 i v := by
  intro _ a
  have h1 : (Scalar.indexCast v : Index).toNat = v.toNat := rfl
  fin_cases a <;> simp [k0_off65, S1x128, S128x128] <;> omega

/-- Before trip `k` of loop 21: the order table and the source as found, the destination at something. -/
@[sl_loop] def loopInv_k0_t21 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h13 : k0_cond13 i = 1#1) (O : BufTy.Contents (Elt F) a2.view.ty) (hO : OrderOk (F := F) a2 O)
    (X : BufTy.Contents (Elt F) a23.view.ty) :
    LoopInvTy_k0_t21 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 where
  inv _ _ := iprop(PtH c a2 O ∗ Pt c a23 X ∗ ∃ f, Pt c a25 f)
  step k acc := by
    iintro ⟨HO, HX, ⟨%f, HF⟩⟩
    unfold k0_t21_body
    sl_exec (disch := exact chk7_of_lt _ _ (hO _ _))
    sl_step
    sl_close

end Cert.Kernel.Hand
-- ==== Proof.KernelRun.lean ====
/- What a point of the kernel holds, and the run of each block of its body from it. -/
module

public import proofs.«01_k».proof.Proof.KernelLoops

@[expose] public section

set_option maxRecDepth 65536
set_option maxHeartbeats 0

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- All a point holds: the two tables at half share, the inputs, the outputs and the scratch, each at the named contents. -/
abbrev Held (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) : sProp 𝕄 :=
  iprop(PtH c a1 X1 ∗ PtH c a2 X2 ∗ Pt c a3 X3 ∗ Pt c a4 X4 ∗ Pt c a5 X5 ∗ Pt c a6 X6 ∗ Pt c a7 X7 ∗ Pt c a8 X8 ∗ Pt c a9 X9 ∗ Pt c a10 X10 ∗ Pt c a11 X11 ∗ Pt c a12 f12 ∗ Pt c a13 f13 ∗ Pt c a14 f14 ∗ Pt c a15 f15 ∗ Pt c a16 f16 ∗ Pt c a17 f17 ∗ Pt c a18 f18 ∗ Pt c a19 f19 ∗ Pt c a20 f20 ∗ Pt c a21 f21 ∗ Pt c a22 f22 ∗ Pt c a23 f23 ∗ Pt c a24 f24 ∗ Pt c a25 f25)

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (J : Prog (TpuEff nD τ sig (Elt F) Λ₀ .tc) PUnit) (Q : PUnit → sProp (MT nD τ sig Unit (Elt F) ℕ (UR sig nD τ) ℕ))

/-- The first block: the weights cast, the lengths broadcast, the query computed, the state cleared. -/
theorem initBlk_run (k0_h1 : Scalar.cmpi .ne (Scalar.extui (Scalar.cmpi .eq (BitVec.ofNat 32 (i 0).val) 0#32)) 0#32 = 1#1)
    (hJ : ∀ f15' f16' f17' f18' f19' f20' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (initBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h1 J) Q := by
  unfold initBlk
  iintro ⟨H1, H2, H3, H4, H5, H6, H7, H8, H9, H10, H11, H12, H13, H14, H15, H16, H17, H18, H19, H20, H21, H22, H23, H24, H25⟩
  sl_exec
  iapply (hJ _ _ _ _ _ _ _)
  sl_close

/-- Phase 1 over 16 rows. -/
theorem p1r16_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r16
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over 32 rows. -/
theorem p1r32_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r32
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over 64 rows. -/
theorem p1r64_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r64
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over all rows. -/
theorem p1r128_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r128
  iintro ⟨H1, H2, H3, H4, H5, H6, H7, H8, H9, H10, H11, H12, H13, H14, H15, H16, H17, H18, H19, H20, H21, H22, H23, H24, H25⟩
  sl_exec
  iapply (hJ _ _ _ _)
  sl_close

/-- Between the phases. -/
theorem outBlk_run (k0_h7 : k0_cond7 i = 1#1) (hO : OrderOk (F := F) a2 X2)
    (hJ : ∀ f13' f14' f23' f24' f25', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (outBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 J) Q := by
  unfold outBlk
  iintro ⟨H1, H2, H3, H4, H5, H6, H7, H8, H9, H10, H11, H12, H13, H14, H15, H16, H17, H18, H19, H20, H21, H22, H23, H24, H25⟩
  sl_exec
  iapply (hJ _ _ _ _ _)
  sl_close

/-- Phase 2 over 16 rows. -/
theorem p2r16_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r16
  iintro ⟨H1, H2, H3, H4, H5, H6, H7, H8, H9, H10, H11, H12, H13, H14, H15, H16, H17, H18, H19, H20, H21, H22, H23, H24, H25⟩
  sl_exec
  iapply (hJ _ _)
  sl_close

/-- Phase 2 over 32 rows. -/
theorem p2r32_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r32
  iintro ⟨H1, H2, H3, H4, H5, H6, H7, H8, H9, H10, H11, H12, H13, H14, H15, H16, H17, H18, H19, H20, H21, H22, H23, H24, H25⟩
  sl_exec
  iapply (hJ _ _)
  sl_close

/-- Phase 2 over 64 rows. -/
theorem p2r64_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r64
  iintro ⟨H1, H2, H3, H4, H5, H6, H7, H8, H9, H10, H11, H12, H13, H14, H15, H16, H17, H18, H19, H20, H21, H22, H23, H24, H25⟩
  sl_exec
  iapply (hJ _ _)
  sl_close

/-- Phase 2 over all rows. -/
theorem p2r128_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r128
  iintro ⟨H1, H2, H3, H4, H5, H6, H7, H8, H9, H10, H11, H12, H13, H14, H15, H16, H17, H18, H19, H20, H21, H22, H23, H24, H25⟩
  sl_exec
  iapply (hJ _ _)
  sl_close

/-- The last block. -/
theorem endBlk_run (k0_h13 : k0_cond13 i = 1#1) (hO : OrderOk (F := F) a2 X2)
    (hJ : ∀ f12' f25', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12' f13 f14 f15 f16 f17 f18 f19 f20 f21 f22 f23 f24 f25' ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (endBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 J) Q := by
  unfold endBlk
  iintro ⟨H1, H2, H3, H4, H5, H6, H7, H8, H9, H10, H11, H12, H13, H14, H15, H16, H17, H18, H19, H20, H21, H22, H23, H24, H25⟩
  sl_exec
  iapply (hJ _ _)
  sl_close

/-- The branches of a phase from 128 rows on. -/
theorem p1s128_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s128
  iintro ⟨H1, H2, H3, H4, H5, H6, H7, H8, H9, H10, H11, H12, H13, H14, H15, H16, H17, H18, H19, H20, H21, H22, H23, H24, H25⟩
  sl_exec
  split
  · iapply (p1r128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close
  · iapply (hJ _ _ _ _)
    sl_close

/-- The branches of a phase from 64 rows on. -/
theorem p1s64_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s64
  iintro ⟨H1, H2, H3, H4, H5, H6, H7, H8, H9, H10, H11, H12, H13, H14, H15, H16, H17, H18, H19, H20, H21, H22, H23, H24, H25⟩
  sl_exec
  split
  · iapply (p1r64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 32 rows on. -/
theorem p1s32_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s32
  iintro ⟨H1, H2, H3, H4, H5, H6, H7, H8, H9, H10, H11, H12, H13, H14, H15, H16, H17, H18, H19, H20, H21, H22, H23, H24, H25⟩
  sl_exec
  split
  · iapply (p1r32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 16 rows on. -/
theorem p1s16_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s16
  iintro ⟨H1, H2, H3, H4, H5, H6, H7, H8, H9, H10, H11, H12, H13, H14, H15, H16, H17, H18, H19, H20, H21, H22, H23, H24, H25⟩
  sl_exec
  split
  · iapply (p1r16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 128 rows on. -/
theorem p2s128_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s128
  iintro ⟨H1, H2, H3, H4, H5, H6, H7, H8, H9, H10, H11, H12, H13, H14, H15, H16, H17, H18, H19, H20, H21, H22, H23, H24, H25⟩
  sl_exec
  split
  · iapply (p2r128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close
  · iapply (hJ _ _)
    sl_close

/-- The branches of a phase from 64 rows on. -/
theorem p2s64_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s64
  iintro ⟨H1, H2, H3, H4, H5, H6, H7, H8, H9, H10, H11, H12, H13, H14, H15, H16, H17, H18, H19, H20, H21, H22, H23, H24, H25⟩
  sl_exec
  split
  · iapply (p2r64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- The branches of a phase from 32 rows on. -/
theorem p2s32_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s32
  iintro ⟨H1, H2, H3, H4, H5, H6, H7, H8, H9, H10, H11, H12, H13, H14, H15, H16, H17, H18, H19, H20, H21, H22, H23, H24, H25⟩
  sl_exec
  split
  · iapply (p2r32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- The branches of a phase from 16 rows on. -/
theorem p2s16_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s16
  iintro ⟨H1, H2, H3, H4, H5, H6, H7, H8, H9, H10, H11, H12, H13, H14, H15, H16, H17, H18, H19, H20, H21, H22, H23, H24, H25⟩
  sl_exec
  split
  · iapply (p2r16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- What a point leaves behind: all it holds, the outputs and the scratch at some contents. -/
abbrev Left (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) : sProp 𝕄 :=
  iprop(∃ f12 f13 f14 f15 f16 f17 f18 f19 f20 f21 f22 f23 f24 f25, Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25)

theorem done_run : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (pure ⟨⟩ : Prog (TpuEff nD τ sig (Elt F) Λ₀ .tc) PUnit) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  iintro ⟨H1, H2, H3, H4, H5, H6, H7, H8, H9, H10, H11, H12, H13, H14, H15, H16, H17, H18, H19, H20, H21, H22, H23, H24, H25⟩
  sl_step
  iexists f12, f13, f14, f15, f16, f17, f18, f19, f20, f21, f22, f23, f24, f25
  sl_close

/-- The body from there on. -/
theorem tail13_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail13
  dsimp only
  split
  · refine endBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ hO (fun f12' f25' => ?_)
    exact done_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12' f13 f14 f15 f16 f17 f18 f19 f20 f21 f22 f23 f24 f25'
  · exact done_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25

/-- The body from there on. -/
theorem tail8_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail8
  dsimp only
  split
  · refine p2s16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f21' f23' => ?_)
    exact tail13_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 hO
  · exact tail13_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail7_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail7
  dsimp only
  split
  · refine outBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ hO (fun f13' f14' f23' f24' f25' => ?_)
    exact tail8_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' hO
  · exact tail8_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail2_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail2
  dsimp only
  split
  · refine p1s16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f21' f22' f23' f24' => ?_)
    exact tail7_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 hO
  · exact tail7_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail1_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail1
  dsimp only
  split
  · refine initBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f15' f16' f17' f18' f19' f20' f23' => ?_)
    exact tail2_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 hO
  · exact tail2_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body of a point, whatever the outputs and the scratch hold. -/
theorem body_run (hO : OrderOk (F := F) a2 X2) : Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 ⊢ wp frame (wpE (defs₀ (F := F)) 𝒱₀ (c : Thread nD τ) none) Set.univ (cc0_rnn (F := F) i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  simp only [cc0_rnn_eq_skeleton]
  rw [skel_eq]
  iintro ⟨%f12, %f13, %f14, %f15, %f16, %f17, %f18, %f19, %f20, %f21, %f22, %f23, %f24, %f25, H⟩
  iapply (tail1_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO)
  iexact H

end Cert.Kernel.Hand
-- ==== Proof.KernelFrame.lean ====
/- The launch of the kernel: the invariant between grid points, the body obligation, and the run of the whole program from any memory whose
   order table is in range. -/
module

public import proofs.«01_k».proof.Proof.KernelRun
public import proofs.«01_k».proof.Proof.Gen.Kernel.Launch
public import Idealize.ShloMosaic.Lib.Pipeline.Frame
public import Idealize.ShloMosaic.Lib.Pipeline.DatRel

@[expose] public section

set_option maxRecDepth 65536
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- All host operations of the program, in order, in stretches. -/
abbrev hostAll : List (List (HloOp τ sig (Elt F))) := [hostOps0, hostOps0_1, hostOps0_2, hostOps0_3, hostOps0_4, hostOps0_5, hostOps0_6]

/-- What every buffer holds when the kernel starts: the launch memory after the host operations. -/
def V (c : Dev nD) (b : Ref sig .tc) : Buf (Elt F) ((c.tc : Thread nD τ).loc b) :=
  StableHlo.after (hostAll (F := F)).flatten (fun b => m (c, b)) b

/-- The tables' contents, admissible. -/
def adm : (p : Fin 1) → (pcfgs (F := F) p).Adm := fun _ => ⟨fun k => V m 0 (pre0.ref k), trivial⟩

/-- The pipeline at those contents. -/
abbrev cfgA : Pipeline.Cfg sig Λ₀ := Pipeline.pin (pcfgs (F := F)) (adm m) 0

abbrev wm0 (t : Fin (cfgA m).N) := spec0_0.stage ((cfgA m).slots t 0)
theorem wh0 (t : Fin (cfgA m).N) : (wm0 m t).IsWhole := hstage0_0 (((cfgA m).slots t 0).cast nbuf0_0)
abbrev wm1 (t : Fin (cfgA m).N) := spec0_1.stage ((cfgA m).slots t 1)
theorem wh1 (t : Fin (cfgA m).N) : (wm1 m t).IsWhole := hstage0_1 (((cfgA m).slots t 1).cast nbuf0_1)
abbrev wm2 (t : Fin (cfgA m).N) := spec0_2.stage ((cfgA m).slots t 2)
theorem wh2 (t : Fin (cfgA m).N) : (wm2 m t).IsWhole := hstage0_2 (((cfgA m).slots t 2).cast nbuf0_2)
abbrev wm3 (t : Fin (cfgA m).N) := spec0_3.stage ((cfgA m).slots t 3)
theorem wh3 (t : Fin (cfgA m).N) : (wm3 m t).IsWhole := hstage0_3 (((cfgA m).slots t 3).cast nbuf0_3)
abbrev wm4 (t : Fin (cfgA m).N) := spec0_4.stage ((cfgA m).slots t 4)
theorem wh4 (t : Fin (cfgA m).N) : (wm4 m t).IsWhole := hstage0_4 (((cfgA m).slots t 4).cast nbuf0_4)
abbrev wm5 (t : Fin (cfgA m).N) := spec0_5.stage ((cfgA m).slots t 5)
theorem wh5 (t : Fin (cfgA m).N) : (wm5 m t).IsWhole := hstage0_5 (((cfgA m).slots t 5).cast nbuf0_5)
abbrev wm6 (t : Fin (cfgA m).N) := spec0_6.stage ((cfgA m).slots t 6)
theorem wh6 (t : Fin (cfgA m).N) : (wm6 m t).IsWhole := hstage0_6 (((cfgA m).slots t 6).cast nbuf0_6)
abbrev wm7 (t : Fin (cfgA m).N) := spec0_7.stage ((cfgA m).slots t 7)
theorem wh7 (t : Fin (cfgA m).N) : (wm7 m t).IsWhole := hstage0_7 (((cfgA m).slots t 7).cast nbuf0_7)
abbrev wm8 (t : Fin (cfgA m).N) := spec0_8.stage ((cfgA m).slots t 8)
theorem wh8 (t : Fin (cfgA m).N) : (wm8 m t).IsWhole := hstage0_8 (((cfgA m).slots t 8).cast nbuf0_8)
abbrev wm9 (t : Fin (cfgA m).N) := spec0_9.stage ((cfgA m).slots t 9)
theorem wh9 (t : Fin (cfgA m).N) : (wm9 m t).IsWhole := hstage0_9 (((cfgA m).slots t 9).cast nbuf0_9)
abbrev wm10 (t : Fin (cfgA m).N) := spec0_10.stage ((cfgA m).slots t 10)
theorem wh10 (t : Fin (cfgA m).N) : (wm10 m t).IsWhole := hstage0_10 (((cfgA m).slots t 10).cast nbuf0_10)
abbrev wm11 (t : Fin (cfgA m).N) := spec0_11.stage ((cfgA m).slots t 11)
theorem wh11 (t : Fin (cfgA m).N) : (wm11 m t).IsWhole := hstage0_11 (((cfgA m).slots t 11).cast nbuf0_11)

/-- The body at a point, called with the tables, the staging buffers and the scratch. -/
abbrev bodyAt (t : Fin (cfgA m).N) : Prog (TpuEff nD τ sig (Elt F) Λ₀ .tc) PUnit :=
  cc0_rnn (F := F) (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

theorem defs₀_row (t : Fin (cfgA m).N) : defs₀ (F := F) .tc (cfgA m).body ((cfgA m).bodyArgs t ((cfgA m).slots t)) = bodyAt m t := by
  unfold defs₀; rw [Defs.onTc_tc]

/-- A claim about the scratch buffers' contents. -/
abbrev ScratchPred (F : FTy → Type) := BufTy.Contents (Elt F) (Memref.whole cc0_scratch0 : Memref sig .tc _ _ _).view.ty → BufTy.Contents (Elt F) (Memref.whole cc0_scratch1 : Memref sig .tc _ _ _).view.ty → BufTy.Contents (Elt F) (Memref.whole cc0_scratch2 : Memref sig .tc _ _ _).view.ty → BufTy.Contents (Elt F) (Memref.whole cc0_scratch3 : Memref sig .tc _ _ _).view.ty → BufTy.Contents (Elt F) (Memref.whole cc0_scratch4 : Memref sig .tc _ _ _).view.ty → BufTy.Contents (Elt F) (Memref.whole cc0_scratch5 : Memref sig .tc _ _ _).view.ty → BufTy.Contents (Elt F) (Memref.whole cc0_scratch6 : Memref sig .tc _ _ _).view.ty → BufTy.Contents (Elt F) (Memref.whole cc0_scratch7 : Memref sig .tc _ _ _).view.ty → BufTy.Contents (Elt F) (Memref.whole cc0_scratch8 : Memref sig .tc _ _ _).view.ty → BufTy.Contents (Elt F) (Memref.whole cc0_scratch9 : Memref sig .tc _ _ _).view.ty → BufTy.Contents (Elt F) (Memref.whole cc0_scratch10 : Memref sig .tc _ _ _).view.ty → Prop

/-- The scratch buffers at contents of which `I` holds. -/
def ScratchAt (I : ScratchPred F) (c : Dev nD) : sProp 𝕄 :=
  iprop(∃ s0 s1 s2 s3 s4 s5 s6 s7 s8 s9 s10, ⌜I s0 s1 s2 s3 s4 s5 s6 s7 s8 s9 s10⌝ ∗ Pt c (Memref.whole cc0_scratch0) s0 ∗ Pt c (Memref.whole cc0_scratch1) s1 ∗ Pt c (Memref.whole cc0_scratch2) s2 ∗ Pt c (Memref.whole cc0_scratch3) s3 ∗ Pt c (Memref.whole cc0_scratch4) s4 ∗ Pt c (Memref.whole cc0_scratch5) s5 ∗ Pt c (Memref.whole cc0_scratch6) s6 ∗ Pt c (Memref.whole cc0_scratch7) s7 ∗ Pt c (Memref.whole cc0_scratch8) s8 ∗ Pt c (Memref.whole cc0_scratch9) s9 ∗ Pt c (Memref.whole cc0_scratch10) s10)

/-- The two tables at the half share. -/
def Tables (c : Dev nD) : sProp 𝕄 := iprop(PtH c (Memref.whole main_arg1) (V m c main_arg1) ∗ PtH c (Memref.whole main_arg2) (V m c main_arg2))

variable (Inv : ℕ → ScratchPred F) (Rl : (w : Fin (cfgA m).W) → Fin (cfgA m).N → (((cfgA m).win w).block.Idx → Elt F ((cfgA m).win w).elt) → Prop)

/-- The proof data: each array as the region finds it, the scratch under the invariant, the generator register, the tables. -/
def dat (c : Dev nD) : Dat τ (Elt F) Unit ℕ (UR sig nD τ) ℕ (cfgA m) c where
  A w := V m c (Pipeline.arrRef (cfgA m).spec w)
  after w t := Pipeline.Dat.unnamed (cfg := cfgA m) w t
  Φ t := iprop(ScratchAt (Inv t.val) c ∗ (∃ r, prngReg c r) ∗ Tables m c)
  q w := Pipeline.shareOf (cfgA m).spec w
  owed _ := 0

/-- Every window held to the relation. -/
def allFgt : Fin (cfgA m).W → Bool := fun _ => true

/-- The relational data. -/
def rdat (c : Dev nD) : RDat τ (Elt F) Unit ℕ (UR sig nD τ) ℕ (cfgA m) c := (dat m Inv c).toRRel (allFgt m) Rl

/-- What a point leaves behind: everything held, the invariant of the next point, and the relation of every window. -/
def PointPost (c : Dev nD) (t : Fin (cfgA m).N) : sProp 𝕄 :=
  iprop(∃ y0 y1 y2 y3 y4 y5 y6 y7 y8 y9 y10 y11 r0 r1 r2 r3 r4 r5 r6 r7 r8 r9 r10, ⌜Inv (t.val + 1) r0 r1 r2 r3 r4 r5 r6 r7 r8 r9 r10⌝ ∗ ⌜Rl 0 t ((wm0 m t).view.read (Elt F) y0) ∧ Rl 1 t ((wm1 m t).view.read (Elt F) y1) ∧ Rl 2 t ((wm2 m t).view.read (Elt F) y2) ∧ Rl 3 t ((wm3 m t).view.read (Elt F) y3) ∧ Rl 4 t ((wm4 m t).view.read (Elt F) y4) ∧ Rl 5 t ((wm5 m t).view.read (Elt F) y5) ∧ Rl 6 t ((wm6 m t).view.read (Elt F) y6) ∧ Rl 7 t ((wm7 m t).view.read (Elt F) y7) ∧ Rl 8 t ((wm8 m t).view.read (Elt F) y8) ∧ Rl 9 t ((wm9 m t).view.read (Elt F) y9) ∧ Rl 10 t ((wm10 m t).view.read (Elt F) y10) ∧ Rl 11 t ((wm11 m t).view.read (Elt F) y11)⌝
          ∗ Held c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) y0 y1 y2 y3 y4 y5 y6 y7 y8 y9 y10 y11 r0 r1 r2 r3 r4 r5 r6 r7 r8 r9 r10)

/-- What has to be shown of one point: from the invariant and window contents that may be found there, the body re-establishes the
    invariant and leaves what the relation asks for. -/
def PointOk (c : Dev nD) : Prop :=
  ∀ (t : Fin (cfgA m).N) (x0 : BufTy.Contents (Elt F) (wm0 m t).view.ty) (x1 : BufTy.Contents (Elt F) (wm1 m t).view.ty) (x2 : BufTy.Contents (Elt F) (wm2 m t).view.ty) (x3 : BufTy.Contents (Elt F) (wm3 m t).view.ty) (x4 : BufTy.Contents (Elt F) (wm4 m t).view.ty) (x5 : BufTy.Contents (Elt F) (wm5 m t).view.ty) (x6 : BufTy.Contents (Elt F) (wm6 m t).view.ty) (x7 : BufTy.Contents (Elt F) (wm7 m t).view.ty) (x8 : BufTy.Contents (Elt F) (wm8 m t).view.ty) (x9 : BufTy.Contents (Elt F) (wm9 m t).view.ty) (x10 : BufTy.Contents (Elt F) (wm10 m t).view.ty) (x11 : BufTy.Contents (Elt F) (wm11 m t).view.ty) (s0 : BufTy.Contents (Elt F) (Memref.whole cc0_scratch0 : Memref sig .tc _ _ _).view.ty) (s1 : BufTy.Contents (Elt F) (Memref.whole cc0_scratch1 : Memref sig .tc _ _ _).view.ty) (s2 : BufTy.Contents (Elt F) (Memref.whole cc0_scratch2 : Memref sig .tc _ _ _).view.ty) (s3 : BufTy.Contents (Elt F) (Memref.whole cc0_scratch3 : Memref sig .tc _ _ _).view.ty) (s4 : BufTy.Contents (Elt F) (Memref.whole cc0_scratch4 : Memref sig .tc _ _ _).view.ty) (s5 : BufTy.Contents (Elt F) (Memref.whole cc0_scratch5 : Memref sig .tc _ _ _).view.ty) (s6 : BufTy.Contents (Elt F) (Memref.whole cc0_scratch6 : Memref sig .tc _ _ _).view.ty) (s7 : BufTy.Contents (Elt F) (Memref.whole cc0_scratch7 : Memref sig .tc _ _ _).view.ty) (s8 : BufTy.Contents (Elt F) (Memref.whole cc0_scratch8 : Memref sig .tc _ _ _).view.ty) (s9 : BufTy.Contents (Elt F) (Memref.whole cc0_scratch9 : Memref sig .tc _ _ _).view.ty) (s10 : BufTy.Contents (Elt F) (Memref.whole cc0_scratch10 : Memref sig .tc _ _ _).view.ty),
    Inv t.val s0 s1 s2 s3 s4 s5 s6 s7 s8 s9 s10 → (rdat m Inv Rl c).Finds 0 t ((wm0 m t).view.read (Elt F) x0) → (rdat m Inv Rl c).Finds 1 t ((wm1 m t).view.read (Elt F) x1) → (rdat m Inv Rl c).Finds 2 t ((wm2 m t).view.read (Elt F) x2) → (rdat m Inv Rl c).Finds 3 t ((wm3 m t).view.read (Elt F) x3) → (rdat m Inv Rl c).Finds 4 t ((wm4 m t).view.read (Elt F) x4) → (rdat m Inv Rl c).Finds 5 t ((wm5 m t).view.read (Elt F) x5) → (rdat m Inv Rl c).Finds 6 t ((wm6 m t).view.read (Elt F) x6) → (rdat m Inv Rl c).Finds 7 t ((wm7 m t).view.read (Elt F) x7) → (rdat m Inv Rl c).Finds 8 t ((wm8 m t).view.read (Elt F) x8) → (rdat m Inv Rl c).Finds 9 t ((wm9 m t).view.read (Elt F) x9) → (rdat m Inv Rl c).Finds 10 t ((wm10 m t).view.read (Elt F) x10) → (rdat m Inv Rl c).Finds 11 t ((wm11 m t).view.read (Elt F) x11) →
    Held c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) x0 x1 x2 x3 x4 x5 x6 x7 x8 x9 x10 x11 s0 s1 s2 s3 s4 s5 s6 s7 s8 s9 s10
      ⊢ wp frame (wpE (defs₀ (F := F)) Variants.none (c : Thread nD τ) none) Set.univ (bodyAt m t) (fun _ => PointPost m Inv Rl c t)

variable {m Inv Rl}

/-- The body obligation from the points. -/
theorem body_obligation (c : Dev nD) (h : PointOk m Inv Rl c) :
    BodyObligationRel (dat m Inv c) (defs₀ (F := F)) Variants.none () Set.univ (allFgt m) Rl := fun t => by
  rw [bigSep_W0, bigSep_W0, defs₀_row]
  dsimp only [allFgt]
  unfold owns
  rw [show (dat m Inv c).Φ t.castSucc = iprop(ScratchAt (Inv t.val) c ∗ (∃ r, prngReg c r) ∗ Tables m c) from rfl,
    show (dat m Inv c).Φ t.succ = iprop(ScratchAt (Inv (t.val + 1)) c ∗ (∃ r, prngReg c r) ∗ Tables m c) from rfl]
  unfold Dat.owesAt Pipeline.owesWithin ScratchAt Tables
  rw [show (dat m Inv c).owed t.castSucc = 0 from rfl, show (dat m Inv c).owed t.succ = 0 from rfl]
  iintro ⟨⟨⟨%s0, %s1, %s2, %s3, %s4, %s5, %s6, %s7, %s8, %s9, %s10, %hI, HS0, HS1, HS2, HS3, HS4, HS5, HS6, HS7, HS8, HS9, HS10⟩, Hg, ⟨HT1, HT2⟩⟩, ⟨%W, %hW, HO⟩, ⟨%Y0, %hY0, %x0, %hx0, HX0⟩, ⟨%Y1, %hY1, %x1, %hx1, HX1⟩, ⟨%Y2, %hY2, %x2, %hx2, HX2⟩, ⟨%Y3, %hY3, %x3, %hx3, HX3⟩, ⟨%Y4, %hY4, %x4, %hx4, HX4⟩, ⟨%Y5, %hY5, %x5, %hx5, HX5⟩, ⟨%Y6, %hY6, %x6, %hx6, HX6⟩, ⟨%Y7, %hY7, %x7, %hx7, HX7⟩, ⟨%Y8, %hY8, %x8, %hx8, HX8⟩, ⟨%Y9, %hY9, %x9, %hx9, HX9⟩, ⟨%Y10, %hY10, %x10, %hx10, HX10⟩, ⟨%Y11, %hY11, %x11, %hx11, HX11⟩⟩
  subst hx0 hx1 hx2 hx3 hx4 hx5 hx6 hx7 hx8 hx9 hx10 hx11
  iapply (wp_wand_r _ _ _ (Q := fun _ => PointPost m Inv Rl c t))
  isplitl [HT1 HT2 HX0 HX1 HX2 HX3 HX4 HX5 HX6 HX7 HX8 HX9 HX10 HX11 HS0 HS1 HS2 HS3 HS4 HS5 HS6 HS7 HS8 HS9 HS10]
  · iapply (h t x0 x1 x2 x3 x4 x5 x6 x7 x8 x9 x10 x11 s0 s1 s2 s3 s4 s5 s6 s7 s8 s9 s10 hI hY0 hY1 hY2 hY3 hY4 hY5 hY6 hY7 hY8 hY9 hY10 hY11)
    sl_close
  iintro %_ HP
  unfold PointPost
  icases HP with ⟨%y0, %y1, %y2, %y3, %y4, %y5, %y6, %y7, %y8, %y9, %y10, %y11, %r0, %r1, %r2, %r3, %r4, %r5, %r6, %r7, %r8, %r9, %r10, %hI2, %hR, HT1, HT2, HX0, HX1, HX2, HX3, HX4, HX5, HX6, HX7, HX8, HX9, HX10, HX11, HS0, HS1, HS2, HS3, HS4, HS5, HS6, HS7, HS8, HS9, HS10⟩
  obtain ⟨hr0, hr1, hr2, hr3, hr4, hr5, hr6, hr7, hr8, hr9, hr10, hr11⟩ := hR
  isplitl [HT1 HT2 Hg HS0 HS1 HS2 HS3 HS4 HS5 HS6 HS7 HS8 HS9 HS10]
  · isplitl [HS0 HS1 HS2 HS3 HS4 HS5 HS6 HS7 HS8 HS9 HS10]
    · iexists r0, r1, r2, r3, r4, r5, r6, r7, r8, r9, r10
      isplitr; · ipureintro; exact hI2
      sl_close
    isplitl [Hg]; · iexact Hg
    sl_close
  isplitl [HO]
  · iexists W; isplitr; · ipureintro; exact fun _ _ => Or.inl trivial
    iexact HO
  isplitl [HX0]
  · iexists _; isplitr; · ipureintro; exact hr0
    iexists y0; isplitr; · ipureintro; rfl
    iexact HX0
  isplitl [HX1]
  · iexists _; isplitr; · ipureintro; exact hr1
    iexists y1; isplitr; · ipureintro; rfl
    iexact HX1
  isplitl [HX2]
  · iexists _; isplitr; · ipureintro; exact hr2
    iexists y2; isplitr; · ipureintro; rfl
    iexact HX2
  isplitl [HX3]
  · iexists _; isplitr; · ipureintro; exact hr3
    iexists y3; isplitr; · ipureintro; rfl
    iexact HX3
  isplitl [HX4]
  · iexists _; isplitr; · ipureintro; exact hr4
    iexists y4; isplitr; · ipureintro; rfl
    iexact HX4
  isplitl [HX5]
  · iexists _; isplitr; · ipureintro; exact hr5
    iexists y5; isplitr; · ipureintro; rfl
    iexact HX5
  isplitl [HX6]
  · iexists _; isplitr; · ipureintro; exact hr6
    iexists y6; isplitr; · ipureintro; rfl
    iexact HX6
  isplitl [HX7]
  · iexists _; isplitr; · ipureintro; exact hr7
    iexists y7; isplitr; · ipureintro; rfl
    iexact HX7
  isplitl [HX8]
  · iexists _; isplitr; · ipureintro; exact hr8
    iexists y8; isplitr; · ipureintro; rfl
    iexact HX8
  isplitl [HX9]
  · iexists _; isplitr; · ipureintro; exact hr9
    iexists y9; isplitr; · ipureintro; rfl
    iexact HX9
  isplitl [HX10]
  · iexists _; isplitr; · ipureintro; exact hr10
    iexists y10; isplitr; · ipureintro; rfl
    iexact HX10
  iexists _; isplitr; · ipureintro; exact hr11
  iexists y11; isplitr; · ipureintro; rfl
  iexact HX11

/-- The tables as the region hands them over. -/
theorem tables_eq : (Pipeline.ΦT (Val := Elt F) (pcfgs (F := F) 0).pre (adm m 0).1 0 : sProp 𝕄) = Tables m 0 := by
  unfold Pipeline.ΦT Pipeline.prefHeld Tables
  rw [bigSep_univ_eq_bigSepL [(0 : Fin 2), (1 : Fin 2)] (by decide) (by decide)]
  dsimp only [PtH]
  simp only [Memref.view_whole, View.set_whole]
  rfl

/-- Before the first point: the scratch at whatever it holds, and the tables. -/
theorem start_inv (I0 : ∀ s0 s1 s2 s3 s4 s5 s6 s7 s8 s9 s10, Inv 0 s0 s1 s2 s3 s4 s5 s6 s7 s8 s9 s10) (c : Dev nD) :
    iprop(Pipeline.ΦA (U := UR sig nD τ) (Val := Elt F) (cfgA m).spec c ∗ Pipeline.ΦT (pcfgs (F := F) 0).pre (adm m 0).1 c) ⊢ (rdat m Inv Rl c).Φ 0 := by
  rw [show (rdat m Inv Rl c).Φ 0 = iprop(ScratchAt (Inv 0) c ∗ (∃ r, prngReg c r) ∗ Tables m c) from rfl]
  obtain rfl : (0 : Dev nD) = c := Subsingleton.elim _ _
  rw [tables_eq]
  unfold Pipeline.ΦA ScratchAt
  rw [show ((cfgA m).spec) = spec0 from rfl, scopedRest0_eq]
  dsimp only [Pt]
  simp only [Memref.view_whole, View.set_whole]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩⟩, Hg⟩, HT⟩
  isplitl [HS0 HS1 HS2 HS3 HS4 HS5 HS6 HS7 HS8 HS9 HS10]
  · iexists s0, s1, s2, s3, s4, s5, s6, s7, s8, s9, s10
    isplitr; · ipureintro; exact I0 _ _ _ _ _ _ _ _ _ _ _
    sl_close
  isplitl [Hg]; · iexact Hg
  iexact HT

/-- After the last point: the scratch forgotten. -/
theorem end_inv (c : Dev nD) : (rdat m Inv Rl c).Φ (Fin.last (cfgA m).N) ⊢ Pipeline.ΦA (U := UR sig nD τ) (Val := Elt F) (cfgA m).spec c := by
  rw [show (rdat m Inv Rl c).Φ (Fin.last (cfgA m).N) = iprop(ScratchAt (Inv (cfgA m).N) c ∗ (∃ r, prngReg c r) ∗ Tables m c) from rfl]
  unfold Pipeline.ΦA ScratchAt
  rw [show ((cfgA m).spec) = spec0 from rfl, scopedRest0_eq]
  dsimp only [Pt, PtH]
  simp only [Memref.view_whole, View.set_whole]
  iintro ⟨⟨%s0, %s1, %s2, %s3, %s4, %s5, %s6, %s7, %s8, %s9, %s10, -, HS0, HS1, HS2, HS3, HS4, HS5, HS6, HS7, HS8, HS9, HS10⟩, Hg, -⟩
  isplitr [Hg]
  · isplitl [HS0]; · iexists s0; iexact HS0
    isplitl [HS1]; · iexists s1; iexact HS1
    isplitl [HS2]; · iexists s2; iexact HS2
    isplitl [HS3]; · iexists s3; iexact HS3
    isplitl [HS4]; · iexists s4; iexact HS4
    isplitl [HS5]; · iexists s5; iexact HS5
    isplitl [HS6]; · iexists s6; iexact HS6
    isplitl [HS7]; · iexists s7; iexact HS7
    isplitl [HS8]; · iexists s8; iexact HS8
    isplitl [HS9]; · iexists s9; iexact HS9
    iexists s10; iexact HS10
  iexact Hg

set_option backward.isDefEq.respectTransparency.types false in
/-- The run of the whole program, when every point does its part. -/
theorem run_main (I0 : ∀ s0 s1 s2 s3 s4 s5 s6 s7 s8 s9 s10, Inv 0 s0 s1 s2 s3 s4 s5 s6 s7 s8 s9 s10) (h : ∀ c, PointOk m Inv Rl c) :
    θ_run defs (onTc (τ := τ) (main (F := F))) (s₀ m ρ)
      (fun r => RDat.FramePost (cfgA m) (rdat m Inv Rl) (V m) r ∧ r.2.sem = fun _ => 0) :=
  RDat.θ_run_frameP_track_shared (Q' := _) (pcfgs (F := F)) (adm m) 0 launch₀0 defs₀ Variants.none (rdat m Inv Rl) m ρ main
    (hbody := fun c => (body_obligation c (h c)).toRRel)
    (hq := fun _ _ _ => rfl) (howed := fun _ _ => rfl) (V := V m)
    (hmain := Pipeline.hmainP_prefixes (pcfgs (F := F)) 0 defs₀ Variants.none m main hostAll
      ⟨hostOps0_sub, hostOps0_1_sub, hostOps0_2_sub, hostOps0_3_sub, hostOps0_4_sub, hostOps0_5_sub, hostOps0_6_sub⟩
      (by simp [hostAll, List.Forall]; refine ⟨?_, ?_, ?_, ?_, ?_, ?_, ?_⟩ <;> trivial)
      main_chain)
    (hA := fun _ _ => rfl)
    (hpf := fun c k => by obtain rfl := Subsingleton.elim c 0; rfl)
    (hin := fun c => start_inv I0 c)
    (hout := fun c => end_inv c)
    (hQ' := fun _ h => h)

variable (m)

/-- The buffers the host operations write, in order. -/
abbrev hostWrites : List (Ref sig .tc) := [main_cst, main_cst_0, main_v0, main_v1, main_c, main_call0_v0, main_v2, main_v3, main_v4, main_v5, main_v6, main_v7, main_cst_1, main_v8, main_v9, main_cst_2, main_v10, main_v11, main_v12, main_cst_3, main_v13, main_v14, main_c_4, main_v15, main_v16, main_v17, main_v18, main_v19, main_v20, main_v21, main_call1_v0, main_v22, main_cst_5, main_v23, main_v24, main_v25, main_v26, main_v27, main_v28, main_v29, main_v30, main_v31, main_v32, main_v33, main_c_6, main_call2_v0, main_v34, main_v35, main_v36]
theorem hostWrites_eq : (hostAll (F := F)).flatten.map HloOp.writes = hostWrites.map fun r => {Proc.devRef (τ := τ) .tc r} := rfl
theorem V_keep (c : Dev nD) (b : Ref sig .tc) (hb : b ∉ hostWrites) : V m c b = m ((c : Thread nD τ).loc b) :=
  StableHlo.after_of_writes_sub _ _ (StableHlo.forall_writes_sub_of_map hostWrites_eq) hb

theorem V_arg0 (c : Dev nD) : V m c main_arg0 = m ((c : Thread nD τ).loc main_arg0) := V_keep m c main_arg0 (by decide)
theorem kept0 (c : Dev nD) {r : PUnit × MemSt nD τ sig (Elt F)} (h : RDat.FramePost (cfgA m) (rdat m Inv Rl) (V m) r) :
    r.2.mem ((c : Thread nD τ).loc main_arg0) = m ((c : Thread nD τ).loc main_arg0) :=
  (RDat.FramePost.arr_in h c 0 rfl).trans (V_arg0 m c)

theorem V_arg1 (c : Dev nD) : V m c main_arg1 = m ((c : Thread nD τ).loc main_arg1) := V_keep m c main_arg1 (by decide)
theorem kept1 (c : Dev nD) {r : PUnit × MemSt nD τ sig (Elt F)} (h : RDat.FramePost (cfgA m) (rdat m Inv Rl) (V m) r) :
    r.2.mem ((c : Thread nD τ).loc main_arg1) = m ((c : Thread nD τ).loc main_arg1) :=
  ((h c).2 main_arg1 (Pipeline.mem_restRefs_of (win := (cfgA m).spec) main_arg1 (by decide) (show ∀ w : Fin 12, (spec0 w).arr.view.ref ≠ main_arg1 by decide))).trans (V_arg1 m c)

theorem V_arg2 (c : Dev nD) : V m c main_arg2 = m ((c : Thread nD τ).loc main_arg2) := V_keep m c main_arg2 (by decide)
theorem kept2 (c : Dev nD) {r : PUnit × MemSt nD τ sig (Elt F)} (h : RDat.FramePost (cfgA m) (rdat m Inv Rl) (V m) r) :
    r.2.mem ((c : Thread nD τ).loc main_arg2) = m ((c : Thread nD τ).loc main_arg2) :=
  ((h c).2 main_arg2 (Pipeline.mem_restRefs_of (win := (cfgA m).spec) main_arg2 (by decide) (show ∀ w : Fin 12, (spec0 w).arr.view.ref ≠ main_arg2 by decide))).trans (V_arg2 m c)

theorem V_arg3 (c : Dev nD) : V m c main_arg3 = m ((c : Thread nD τ).loc main_arg3) := V_keep m c main_arg3 (by decide)
theorem kept3 (c : Dev nD) {r : PUnit × MemSt nD τ sig (Elt F)} (h : RDat.FramePost (cfgA m) (rdat m Inv Rl) (V m) r) :
    r.2.mem ((c : Thread nD τ).loc main_arg3) = m ((c : Thread nD τ).loc main_arg3) :=
  ((h c).2 main_arg3 (Pipeline.mem_restRefs_of (win := (cfgA m).spec) main_arg3 (by decide) (show ∀ w : Fin 12, (spec0 w).arr.view.ref ≠ main_arg3 by decide))).trans (V_arg3 m c)

theorem V_arg4 (c : Dev nD) : V m c main_arg4 = m ((c : Thread nD τ).loc main_arg4) := V_keep m c main_arg4 (by decide)
theorem kept4 (c : Dev nD) {r : PUnit × MemSt nD τ sig (Elt F)} (h : RDat.FramePost (cfgA m) (rdat m Inv Rl) (V m) r) :
    r.2.mem ((c : Thread nD τ).loc main_arg4) = m ((c : Thread nD τ).loc main_arg4) :=
  ((h c).2 main_arg4 (Pipeline.mem_restRefs_of (win := (cfgA m).spec) main_arg4 (by decide) (show ∀ w : Fin 12, (spec0 w).arr.view.ref ≠ main_arg4 by decide))).trans (V_arg4 m c)

theorem V_arg5 (c : Dev nD) : V m c main_arg5 = m ((c : Thread nD τ).loc main_arg5) := V_keep m c main_arg5 (by decide)
theorem kept5 (c : Dev nD) {r : PUnit × MemSt nD τ sig (Elt F)} (h : RDat.FramePost (cfgA m) (rdat m Inv Rl) (V m) r) :
    r.2.mem ((c : Thread nD τ).loc main_arg5) = m ((c : Thread nD τ).loc main_arg5) :=
  ((h c).2 main_arg5 (Pipeline.mem_restRefs_of (win := (cfgA m).spec) main_arg5 (by decide) (show ∀ w : Fin 12, (spec0 w).arr.view.ref ≠ main_arg5 by decide))).trans (V_arg5 m c)

theorem V_arg6 (c : Dev nD) : V m c main_arg6 = m ((c : Thread nD τ).loc main_arg6) := V_keep m c main_arg6 (by decide)
theorem kept6 (c : Dev nD) {r : PUnit × MemSt nD τ sig (Elt F)} (h : RDat.FramePost (cfgA m) (rdat m Inv Rl) (V m) r) :
    r.2.mem ((c : Thread nD τ).loc main_arg6) = m ((c : Thread nD τ).loc main_arg6) :=
  ((h c).2 main_arg6 (Pipeline.mem_restRefs_of (win := (cfgA m).spec) main_arg6 (by decide) (show ∀ w : Fin 12, (spec0 w).arr.view.ref ≠ main_arg6 by decide))).trans (V_arg6 m c)

theorem V_arg7 (c : Dev nD) : V m c main_arg7 = m ((c : Thread nD τ).loc main_arg7) := V_keep m c main_arg7 (by decide)
theorem kept7 (c : Dev nD) {r : PUnit × MemSt nD τ sig (Elt F)} (h : RDat.FramePost (cfgA m) (rdat m Inv Rl) (V m) r) :
    r.2.mem ((c : Thread nD τ).loc main_arg7) = m ((c : Thread nD τ).loc main_arg7) :=
  ((h c).2 main_arg7 (Pipeline.mem_restRefs_of (win := (cfgA m).spec) main_arg7 (by decide) (show ∀ w : Fin 12, (spec0 w).arr.view.ref ≠ main_arg7 by decide))).trans (V_arg7 m c)

theorem V_arg8 (c : Dev nD) : V m c main_arg8 = m ((c : Thread nD τ).loc main_arg8) := V_keep m c main_arg8 (by decide)
theorem kept8 (c : Dev nD) {r : PUnit × MemSt nD τ sig (Elt F)} (h : RDat.FramePost (cfgA m) (rdat m Inv Rl) (V m) r) :
    r.2.mem ((c : Thread nD τ).loc main_arg8) = m ((c : Thread nD τ).loc main_arg8) :=
  ((h c).2 main_arg8 (Pipeline.mem_restRefs_of (win := (cfgA m).spec) main_arg8 (by decide) (show ∀ w : Fin 12, (spec0 w).arr.view.ref ≠ main_arg8 by decide))).trans (V_arg8 m c)

theorem V_arg9 (c : Dev nD) : V m c main_arg9 = m ((c : Thread nD τ).loc main_arg9) := V_keep m c main_arg9 (by decide)
theorem kept9 (c : Dev nD) {r : PUnit × MemSt nD τ sig (Elt F)} (h : RDat.FramePost (cfgA m) (rdat m Inv Rl) (V m) r) :
    r.2.mem ((c : Thread nD τ).loc main_arg9) = m ((c : Thread nD τ).loc main_arg9) :=
  ((h c).2 main_arg9 (Pipeline.mem_restRefs_of (win := (cfgA m).spec) main_arg9 (by decide) (show ∀ w : Fin 12, (spec0 w).arr.view.ref ≠ main_arg9 by decide))).trans (V_arg9 m c)

theorem V_arg10 (c : Dev nD) : V m c main_arg10 = m ((c : Thread nD τ).loc main_arg10) := V_keep m c main_arg10 (by decide)
theorem kept10 (c : Dev nD) {r : PUnit × MemSt nD τ sig (Elt F)} (h : RDat.FramePost (cfgA m) (rdat m Inv Rl) (V m) r) :
    r.2.mem ((c : Thread nD τ).loc main_arg10) = m ((c : Thread nD τ).loc main_arg10) :=
  ((h c).2 main_arg10 (Pipeline.mem_restRefs_of (win := (cfgA m).spec) main_arg10 (by decide) (show ∀ w : Fin 12, (spec0 w).arr.view.ref ≠ main_arg10 by decide))).trans (V_arg10 m c)

theorem V_arg11 (c : Dev nD) : V m c main_arg11 = m ((c : Thread nD τ).loc main_arg11) := V_keep m c main_arg11 (by decide)
theorem kept11 (c : Dev nD) {r : PUnit × MemSt nD τ sig (Elt F)} (h : RDat.FramePost (cfgA m) (rdat m Inv Rl) (V m) r) :
    r.2.mem ((c : Thread nD τ).loc main_arg11) = m ((c : Thread nD τ).loc main_arg11) :=
  ((h c).2 main_arg11 (Pipeline.mem_restRefs_of (win := (cfgA m).spec) main_arg11 (by decide) (show ∀ w : Fin 12, (spec0 w).arr.view.ref ≠ main_arg11 by decide))).trans (V_arg11 m c)

theorem V_arg12 (c : Dev nD) : V m c main_arg12 = m ((c : Thread nD τ).loc main_arg12) := V_keep m c main_arg12 (by decide)
theorem kept12 (c : Dev nD) {r : PUnit × MemSt nD τ sig (Elt F)} (h : RDat.FramePost (cfgA m) (rdat m Inv Rl) (V m) r) :
    r.2.mem ((c : Thread nD τ).loc main_arg12) = m ((c : Thread nD τ).loc main_arg12) :=
  ((h c).2 main_arg12 (Pipeline.mem_restRefs_of (win := (cfgA m).spec) main_arg12 (by decide) (show ∀ w : Fin 12, (spec0 w).arr.view.ref ≠ main_arg12 by decide))).trans (V_arg12 m c)

theorem V_arg13 (c : Dev nD) : V m c main_arg13 = m ((c : Thread nD τ).loc main_arg13) := V_keep m c main_arg13 (by decide)
theorem kept13 (c : Dev nD) {r : PUnit × MemSt nD τ sig (Elt F)} (h : RDat.FramePost (cfgA m) (rdat m Inv Rl) (V m) r) :
    r.2.mem ((c : Thread nD τ).loc main_arg13) = m ((c : Thread nD τ).loc main_arg13) :=
  ((h c).2 main_arg13 (Pipeline.mem_restRefs_of (win := (cfgA m).spec) main_arg13 (by decide) (show ∀ w : Fin 12, (spec0 w).arr.view.ref ≠ main_arg13 by decide))).trans (V_arg13 m c)

theorem V_arg14 (c : Dev nD) : V m c main_arg14 = m ((c : Thread nD τ).loc main_arg14) := V_keep m c main_arg14 (by decide)
theorem kept14 (c : Dev nD) {r : PUnit × MemSt nD τ sig (Elt F)} (h : RDat.FramePost (cfgA m) (rdat m Inv Rl) (V m) r) :
    r.2.mem ((c : Thread nD τ).loc main_arg14) = m ((c : Thread nD τ).loc main_arg14) :=
  ((h c).2 main_arg14 (Pipeline.mem_restRefs_of (win := (cfgA m).spec) main_arg14 (by decide) (show ∀ w : Fin 12, (spec0 w).arr.view.ref ≠ main_arg14 by decide))).trans (V_arg14 m c)

theorem V_arg15 (c : Dev nD) : V m c main_arg15 = m ((c : Thread nD τ).loc main_arg15) := V_keep m c main_arg15 (by decide)
theorem kept15 (c : Dev nD) {r : PUnit × MemSt nD τ sig (Elt F)} (h : RDat.FramePost (cfgA m) (rdat m Inv Rl) (V m) r) :
    r.2.mem ((c : Thread nD τ).loc main_arg15) = m ((c : Thread nD τ).loc main_arg15) :=
  ((h c).2 main_arg15 (Pipeline.mem_restRefs_of (win := (cfgA m).spec) main_arg15 (by decide) (show ∀ w : Fin 12, (spec0 w).arr.view.ref ≠ main_arg15 by decide))).trans (V_arg15 m c)

variable {m}

/-- Nothing said of the scratch, nothing of the windows. -/
abbrev anyInv : ℕ → ScratchPred F := fun _ _ _ _ _ _ _ _ _ _ _ _ => True
abbrev anyRl : (w : Fin (cfgA m).W) → Fin (cfgA m).N → (((cfgA m).win w).block.Idx → Elt F ((cfgA m).win w).elt) → Prop := fun _ _ _ => True

/-- Every point does its part when the order table is in range. -/
theorem pointOk_any (c : Dev nD) (hO : OrderOk (F := F) (Memref.whole main_arg2) (V m c main_arg2)) : PointOk m anyInv (anyRl (m := m)) c := by
  intro t x0 x1 x2 x3 x4 x5 x6 x7 x8 x9 x10 x11 s0 s1 s2 s3 s4 s5 s6 s7 s8 s9 s10 _ _ _ _ _ _ _ _ _ _ _ _ _
  refine BIBase.Entails.trans ?_ ((body_run Variants.none c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) x0 x1 x2 x3 x4 x5 x6 x7 x8 hO).trans (wp_mono _ _ _ fun _ => ?_))
  · unfold Left
    iintro H
    iexists x9, x10, x11, s0, s1, s2, s3, s4, s5, s6, s7, s8, s9, s10
    iexact H
  · unfold Left PointPost
    iintro ⟨%r0, %r1, %r2, %r3, %r4, %r5, %r6, %r7, %r8, %r9, %r10, %r11, %r12, %r13, H⟩
    iexists x0, x1, x2, x3, x4, x5, x6, x7, x8, r0, r1, r2, r3, r4, r5, r6, r7, r8, r9, r10, r11, r12, r13
    isplitr; · ipureintro; trivial
    isplitr; · ipureintro; exact ⟨trivial, trivial, trivial, trivial, trivial, trivial, trivial, trivial, trivial, trivial, trivial, trivial⟩
    iexact H

variable (m)

/-- A table all of whose words are below 128 is in range however it is read. -/
theorem orderOk_of (c : Dev nD) (h : ∀ y : S128.Idx, (m ((c : Thread nD τ).loc main_arg2) y : BitVec 32).toNat < 128) :
    OrderOk (F := F) (Memref.whole main_arg2) (V m c main_arg2) := by
  rw [V_arg2]
  intro r x
  exact h _

/-- The frame: from an order table in range, the program ends, its arguments as they were and every semaphore at zero. -/
theorem frame_run (h : ∀ (c : Dev nD) (y : S128.Idx), (m ((c : Thread nD τ).loc main_arg2) y : BitVec 32).toNat < 128) :
    θ_run defs (onTc (τ := τ) (main (F := F))) (s₀ m ρ) (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) ∧ r.2.mem ((c : Thread nD τ).loc main_arg15) = m ((c : Thread nD τ).loc main_arg15)) ∧ r.2.sem = fun _ => 0) :=
  (θ_run defs _ _).mono (fun r h => ⟨fun c => ⟨kept0 m c h.1, kept1 m c h.1, kept2 m c h.1, kept3 m c h.1, kept4 m c h.1, kept5 m c h.1, kept6 m c h.1, kept7 m c h.1, kept8 m c h.1, kept9 m c h.1, kept10 m c h.1, kept11 m c h.1, kept12 m c h.1, kept13 m c h.1, kept14 m c h.1, kept15 m c h.1⟩, h.2⟩)
    (run_main (Inv := anyInv) (Rl := anyRl) ρ (fun _ _ _ _ _ _ _ _ _ _ _ => trivial) fun c => pointOk_any c (orderOk_of m c (h c)))

end Cert.Kernel.Hand

end
-- ==== Proof.KernelIdealBlocks.lean ====
/- The kernel body cut at its branches: each branch's body as a definition that ends in the program `J` that follows it, so that a
   branch is proved once, whatever runs after it. The text of each is the printed body's (Gen/KernelIdeal/Skeleton.lean). -/
module

public import proofs.«01_k».proof.Proof.Gen.KernelIdeal.Loops

@[expose] public section

set_option maxRecDepth 65536
set_option maxHeartbeats 40000000

namespace Cert.KernelIdeal.Hand

open Cert.KernelIdeal Cert.KernelIdeal.Gen
open Idealize.ShloMosaic Idealize.ShloMosaic.TcCoe
open Idealize.SL.Sem

variable {F : FTy → Type} [FloatOps F] (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole)

/-- The body of the first point's block: casts of the weights, the lengths broadcast, the query, the state cleared; then `J`. -/
noncomputable def initBlk (k0_h1 : Scalar.cmpi .ne (Scalar.extui (Scalar.cmpi .eq (BitVec.ofNat 32 (i 0).val) 0#32)) 0#32 = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v48 : FVec F S80x80 .bf16 ← k0_part1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25
  k0_part2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v48
  let v117 : IVec S128x1 32 ← k0_part3 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25
  let ⟨v123, v124, v160⟩ : Σ' (v123 : Vec F S128x128 .i32) (v124 : FVec F S128x128 .f32), IVec S128x128x1 32 ← k0_part4 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v117
  let ⟨v187, v189, v203, v205, c0_i32_86⟩ : Σ' (v187 : FVec F S128x128 .f32) (v189 : IVec S1x128 32) (v203 : IVec S1x128 1) (v205 : IVec S1x128 32), BitVec 32 ← k0_part5 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v160
  let ⟨v231, v233, v247, v251⟩ : Σ' (v231 : FVec F S128x128 .f32) (v233 : IVec S1x128 32) (v247 : IVec S1x128 1), IVec S1x128 1 ← k0_part6 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v124 v187 v189 v203 v205 c0_i32_86
  let ⟨v294, c32_i32_113, v296⟩ : Σ' (v294 : FVec F S128x128 .f32) (c32_i32_113 : BitVec 32), IVec S1x128 32 ← k0_part7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v233 v247 v251
  let ⟨v338, c4_i32_126, v340, v341⟩ : Σ' (v338 : FVec F S128x128 .f32) (c4_i32_126 : BitVec 32) (v340 : IVec S1x128 32), IVec S1x128 32 ← k0_part8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v231 v294 c32_i32_113 v296
  let ⟨v376, v378, v380, v382, v384, v386⟩ : Σ' (v376 : IVec S128x128 32) (v378 : BitVec 32) (v380 : IVec S1x128 32) (v382 : IVec S1x128 1) (v384 : IVec S1x128 1), IVec S1x128 1 ← k0_part9 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 c4_i32_126 v340 v341
  let ⟨v401, v430, v432, v433⟩ : Σ' (v401 : FVec F S128x128 .f32) (v430 : FVec F S128x128 .f32) (v432 : IVec S128x128 32), IVec S128x128 32 ← k0_part10 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v123 v376 v378 v380 v382 v384 v386
  let v442 : Vec F S128x128 .f32 ← Prog.lift (.load a10 (Rect.unit (s := S384x128) ![256, 0] S128x128.size inb_S384x128_S128x128_256_0).toLoadRect (View.loadsAt_vmem h_S128x128))
  let v446 : Vec F S128x128 .f32 ← Prog.lift (.load a19 (Rect.unit (s := S128x128) ![0, 0] S128x128.size inb_S128x128_S128x128_0_0).toLoadRect (View.loadsAt_vmem h_S128x128))
  Prog.lift (.store a19 (Rect.unit (s := S128x128) ![0, 0] S128x128.size inb_S128x128_S128x128_0_0) (k0_pay1 v338 v401 v430 v432 v433 v442) Finset.univ (View.stores_vmem_bits_univ h_S128x128 rfl) (.inl rfl))
  let v450 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay2 (F := F)) Finset.univ (View.stores_vmem_bits_univ h_S128x128 rfl) (.inl rfl))
  J

/-- Phase 1 of a chunk, the branch over the first 16 rows; then `J`. -/
noncomputable def p1r16 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let ⟨v42, v44, v49, v54, v59, v64, v69⟩ : Σ' (v42 : BitVec 32) (v44 : BitVec 32) (v49 : Vec F S16x128 .i32) (v54 : Vec F S16x128 .i32) (v59 : Vec F S16x128 .i32) (v64 : Vec F S16x128 .i32), Vec F S16x128 .i32 ← k0_part12 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 k0_h2
  let ⟨v74, v79, v84, v89, v94, v99, v104, v106, c128_i32_55⟩ : Σ' (v74 : Vec F S16x128 .i32) (v79 : Vec F S16x128 .i32) (v84 : Vec F S16x128 .i32) (v89 : Vec F S16x128 .i32) (v94 : Vec F S16x128 .i32) (v99 : Vec F S16x128 .i32) (v104 : Vec F S16x128 .i32) (v106 : BitVec 32), BitVec 32 ← k0_part13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v44
  let ⟨v125, v127, v146, c1_i32_72⟩ : Σ' (v125 : IVec S256x128 32) (v127 : IVec S1x128 32) (v146 : IVec S1x128 1), BitVec 32 ← k0_part14 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v44 v49 v54 v59 v64 v69 v74 v79 v84 v89 v94 v99 v104 v106 c128_i32_55
  let ⟨v188, c32_i32, v190, v191⟩ : Σ' (v188 : FVec F S256x128 .f32) (c32_i32 : BitVec 32) (v190 : IVec S1x128 32), IVec S1x128 32 ← k0_part15 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v127 v146 c1_i32_72
  let ⟨v231, c4_i32_92, v233, v236, v239⟩ : Σ' (v231 : FVec F S256x128 .bf16) (c4_i32_92 : BitVec 32) (v233 : IVec S1x128 32) (v236 : IVec S1x128 32), IVec S1x128 32 ← k0_part16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v188 c32_i32 v190 v191
  let ⟨v269, v285⟩ : Σ' (v269 : IVec S256x128 32), IVec S1x128 32 ← k0_part17 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 c4_i32_92 v233 v236 v239
  let ⟨v294, v323, v331⟩ : Σ' (v294 : FVec F S256x128 .f32) (v323 : FVec F S256x128 .f32), IVec S256x128x1 32 ← k0_part18 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v269 v285
  let ⟨v337, v375, v377⟩ : Σ' (v337 : FVec F S256x128 .bf16) (v375 : IVec S256x128 32), BitVec 32 ← k0_part19 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v125 v294 v323 v331
  let ⟨v400, v424⟩ : Σ' (v400 : FVec F S256x128 .f32), IVec S1x128 32 ← k0_part20 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v375 v377
  let ⟨v458, v460, v464, v465, c128_i32_162⟩ : Σ' (v458 : FVec F S256x384 .f32) (v460 : BitVec 32) (v464 : IVec S16x128 1) (v465 : FVec F S16x384 .f32), BitVec 32 ← k0_part21 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v42 v44 v125 v231 v337 v400 v424
  let ⟨v493, v494, v495, v505⟩ : Σ' (v493 : IVec S16x128 1) (v494 : FVec F S16x384 .f32) (v495 : BitVec 32), FVec F S16x128 .f32 ← k0_part22 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v460 v464 v465 c128_i32_162
  let ⟨v546, c3_i32_191⟩ : Σ' (v546 : BitVec 32), BitVec 32 ← k0_part23 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v493 v494 v495 v505
  let ⟨v580, v581, v582, v585, v587⟩ : Σ' (v580 : IVec S16x128 1) (v581 : FVec F S16x384 .f32) (v582 : BitVec 32) (v585 : FVec F S16x128 .f32), Vec F S16x128 .f32 ← k0_part24 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v546 c3_i32_191
  let ⟨v611, v628⟩ : Σ' (v611 : BitVec 32), FVec F S16x128 .f32 ← k0_part25 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v580 v581 v582 v585 v587
  let ⟨v663, v667, v668⟩ : Σ' (v663 : BitVec 32) (v667 : IVec S16x128 1), FVec F S16x384 .f32 ← k0_part26 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v611 v628
  let ⟨v696, v697, v698, v708⟩ : Σ' (v696 : IVec S16x128 1) (v697 : FVec F S16x384 .f32) (v698 : BitVec 32), FVec F S16x128 .f32 ← k0_part27 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v663 v667 v668
  let v749 : BitVec 32 ← k0_part28 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v696 v697 v698 v708
  let ⟨v783, v784, v785, v788⟩ : Σ' (v783 : IVec S16x128 1) (v784 : FVec F S16x384 .f32) (v785 : BitVec 32), FVec F S16x128 .f32 ← k0_part29 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v749
  let ⟨v812, v814, v829, v830⟩ : Σ' (v812 : IVec S16x128 1) (v814 : BitVec 32) (v829 : FVec F S16x128 .f32), FVec F S16x128 .f32 ← k0_part30 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v783 v784 v785 v788
  let ⟨v866, v870⟩ : Σ' (v866 : BitVec 32), IVec S16x128 1 ← k0_part31 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v812 v814 v829 v830
  let ⟨v899, v900, v901, v911⟩ : Σ' (v899 : IVec S16x128 1) (v900 : FVec F S16x384 .f32) (v901 : BitVec 32), FVec F S16x128 .f32 ← k0_part32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v458 v866 v870
  let v947 : Vec F S16x128 .f32 ← k0_part33 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911
  let v948 : Vec F S16x128 .f32 ← Prog.lift (.load a23 (Rect.unit (s := S128x128) ![0, 0] S16x128.size inb_S128x128_S16x128_0_0).toLoadRect (View.loadsAt_vmem h_S16x128))
  Prog.lift (.store a23 (Rect.unit (s := S128x128) ![0, 0] S16x128.size inb_S128x128_S16x128_0_0) (k0_pay3 v947) Finset.univ (View.stores_vmem_bits_univ h_S16x128 rfl) (.inl rfl))
  J

/-- Phase 1 of a chunk, the branch over the first 32 rows; then `J`. -/
noncomputable def p1r32 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t2_loop (k0_t2_ok i k0_h2) ⟨⟩ (k0_t2_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S32x128 .f32 ← Prog.lift (.load a19 (Rect.unit (s := S128x128) ![0, 0] S32x128.size inb_S128x128_S32x128_0_0).toLoadRect (View.loadsAt_vmem h_S32x128))
  let v66 : Vec F S32x128 .f32 ← Prog.lift (.load a23 (Rect.unit (s := S128x128) ![0, 0] S32x128.size inb_S128x128_S32x128_0_0).toLoadRect (View.loadsAt_vmem h_S32x128))
  let v68 : Vec F S32x128 .f32 ← Scf.Loop.for k0_t3_loop (k0_t3_ok i k0_h2) v66 (k0_t3_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S32x128 .f32 ← Prog.lift (.load a23 (Rect.unit (s := S128x128) ![0, 0] S32x128.size inb_S128x128_S32x128_0_0).toLoadRect (View.loadsAt_vmem h_S32x128))
  Prog.lift (.store a23 (Rect.unit (s := S128x128) ![0, 0] S32x128.size inb_S128x128_S32x128_0_0) (k0_pay10 v68) Finset.univ (View.stores_vmem_bits_univ h_S32x128 rfl) (.inl rfl))
  J

/-- Phase 1 of a chunk, the branch over the first 64 rows; then `J`. -/
noncomputable def p1r64 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t4_loop (k0_t4_ok i k0_h2) ⟨⟩ (k0_t4_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S64x128 .f32 ← Prog.lift (.load a19 (Rect.unit (s := S128x128) ![0, 0] S64x128.size inb_S128x128_S64x128_0_0).toLoadRect (View.loadsAt_vmem h_S64x128))
  let v66 : Vec F S64x128 .f32 ← Prog.lift (.load a23 (Rect.unit (s := S128x128) ![0, 0] S64x128.size inb_S128x128_S64x128_0_0).toLoadRect (View.loadsAt_vmem h_S64x128))
  let v68 : Vec F S64x128 .f32 ← Scf.Loop.for k0_t5_loop (k0_t5_ok i k0_h2) v66 (k0_t5_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S64x128 .f32 ← Prog.lift (.load a23 (Rect.unit (s := S128x128) ![0, 0] S64x128.size inb_S128x128_S64x128_0_0).toLoadRect (View.loadsAt_vmem h_S64x128))
  Prog.lift (.store a23 (Rect.unit (s := S128x128) ![0, 0] S64x128.size inb_S128x128_S64x128_0_0) (k0_pay15 v68) Finset.univ (View.stores_vmem_bits_univ h_S64x128 rfl) (.inl rfl))
  J

/-- Phase 1 of a chunk, the branch over the first 128 rows; then `J`. -/
noncomputable def p1r128 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v42 : BitVec 32 := Scalar.muli a0 16#32
  Scf.Loop.for k0_t6_loop (k0_t6_ok i k0_h2) ⟨⟩ (k0_t6_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42)
  let v44 : Vec F S1x384 .f32 ← Prog.lift (.load a11 (Rect.unit (s := S8x384) ![2, 0] S1x384.size inb_S8x384_S1x384_2_0).toLoadRect (View.loadsAt_vmem h_S1x384))
  let v46 : Vec F S1x384 .f32 ← Prog.lift (.load a11 (Rect.unit (s := S8x384) ![3, 0] S1x384.size inb_S8x384_S1x384_3_0).toLoadRect (View.loadsAt_vmem h_S1x384))
  let v65 : Vec F S128x128 .f32 ← Prog.lift (.load a19 (Rect.unit (s := S128x128) ![0, 0] S128x128.size inb_S128x128_S128x128_0_0).toLoadRect (View.loadsAt_vmem h_S128x128))
  let v66 : Vec F S128x128 .f32 ← Prog.lift (.load a23 (Rect.unit (s := S128x128) ![0, 0] S128x128.size inb_S128x128_S128x128_0_0).toLoadRect (View.loadsAt_vmem h_S128x128))
  let v68 : Vec F S128x128 .f32 ← Scf.Loop.for k0_t7_loop (k0_t7_ok i k0_h2) v66 (k0_t7_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65)
  let v69 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay21 v68) Finset.univ (View.stores_vmem_bits_univ h_S128x128 rfl) (.inl rfl))
  J

/-- Phase 1 of a chunk: the branches from 128 rows on; then `J`. -/
noncomputable def p1s128 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v38 : Elt F .i32 ← smemLoad a1 (Rect.unit (s := S128) ![64] S1.size inb_S128_S1_64) numel1_S1 rfl
  let v39 : BitVec 1 := Scalar.cmpi .sgt v38 v16
  let v40 : BitVec 32 := Scalar.extui v39
  let v41 : BitVec 1 := Scalar.cmpi .ne v40 0#32
  if v41 = 1#1 then p1r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J else J

/-- Phase 1 of a chunk: the branches from 64 rows on; then `J`. -/
noncomputable def p1s64 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v31 : Elt F .i32 ← smemLoad a1 (Rect.unit (s := S128) ![32] S1.size inb_S128_S1_32) numel1_S1 rfl
  let v32 : BitVec 1 := Scalar.cmpi .sgt v31 v16
  let v33 : Elt F .i32 ← smemLoad a1 (Rect.unit (s := S128) ![64] S1.size inb_S128_S1_64) numel1_S1 rfl
  let v34 : BitVec 1 := Scalar.cmpi .sle v33 v16
  let v35 : BitVec 1 := Scalar.andi v32 v34
  let v36 : BitVec 32 := Scalar.extui v35
  let v37 : BitVec 1 := Scalar.cmpi .ne v36 0#32
  if v37 = 1#1 then p1r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Phase 1 of a chunk: the branches from 32 rows on; then `J`. -/
noncomputable def p1s32 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v24 : Elt F .i32 ← smemLoad a1 (Rect.unit (s := S128) ![16] S1.size inb_S128_S1_16) numel1_S1 rfl
  let v25 : BitVec 1 := Scalar.cmpi .sgt v24 v16
  let v26 : Elt F .i32 ← smemLoad a1 (Rect.unit (s := S128) ![32] S1.size inb_S128_S1_32) numel1_S1 rfl
  let v27 : BitVec 1 := Scalar.cmpi .sle v26 v16
  let v28 : BitVec 1 := Scalar.andi v25 v27
  let v29 : BitVec 32 := Scalar.extui v28
  let v30 : BitVec 1 := Scalar.cmpi .ne v29 0#32
  if v30 = 1#1 then p1r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Phase 1 of a chunk: the branches from 16 rows on; then `J`. -/
noncomputable def p1s16 (k0_h2 : k0_cond2 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.muli a0 16#32
  let v17 : Elt F .i32 ← smemLoad a1 (Rect.unit (s := S128) ![0] S1.size inb_S128_S1_0) numel1_S1 rfl
  let v18 : BitVec 1 := Scalar.cmpi .sgt v17 v16
  let v19 : Elt F .i32 ← smemLoad a1 (Rect.unit (s := S128) ![16] S1.size inb_S128_S1_16) numel1_S1 rfl
  let v20 : BitVec 1 := Scalar.cmpi .sle v19 v16
  let v21 : BitVec 1 := Scalar.andi v18 v20
  let v22 : BitVec 32 := Scalar.extui v21
  let v23 : BitVec 1 := Scalar.cmpi .ne v22 0#32
  if v23 = 1#1 then p1r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) else (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J)

/-- Between the phases: the last state and the attention weights put back into batch order, the state cleared; then `J`. -/
noncomputable def outBlk (k0_h7 : k0_cond7 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let ⟨v27, v38, v41, v46⟩ : Σ' (v27 : FVec F S128x128 .f32) (v38 : FVec F S128x128 .f32) (v41 : FVec F S128x1 .f32), IVec S128x128 1 ← k0_part71 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h7
  let ⟨v50, v62, v74, v77, v80, v82, v83⟩ : Σ' (v50 : FVec F S128x128 .f32) (v62 : FVec F S128x128 .f32) (v74 : FVec F S128x128 .f32) (v77 : FVec F S128x1 .f32) (v80 : FVec F S128x128 .f32) (v82 : FVec F S128x1 .f32), FVec F S128x1 .f32 ← k0_part72 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 v27 v41 v46
  let ⟨v105, v108, v125⟩ : Σ' (v105 : FVec F S128x128 .f32) (v108 : FVec F S128x1 .f32), FVec F S128x128 .f32 ← k0_part73 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v38 v50 v62 v74 v77 v80 v82 v83
  k0_part74 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125
  let v144 : Vec F S128x128 .f32 ← Prog.lift (.load a25 (Rect.unit (s := S128x128) ![0, 0] S128x128.size inb_S128x128_S128x128_0_0).toLoadRect (View.loadsAt_vmem h_S128x128))
  let v145 : Vec F S128x128 .f32 ← Prog.lift (.load a13 (Rect.unit (s := S128x640) ![0, 384] S128x128.size inb_S128x640_S128x128_0_384).toLoadRect (View.loadsAt_vmem h_S128x128))
  Prog.lift (.store a13 (Rect.unit (s := S128x640) ![0, 384] S128x128.size inb_S128x640_S128x128_0_384) v144 Finset.univ (View.stores_vmem_bits_univ h_S128x128 rfl) (.inl rfl))
  Scf.Loop.for k0_t13_loop (k0_t13_ok i k0_h7) ⟨⟩ (k0_t13_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7)
  let v147 : Vec F S128x128 .f32 ← Prog.lift (.load a25 (Rect.unit (s := S128x128) ![0, 0] S128x128.size inb_S128x128_S128x128_0_0).toLoadRect (View.loadsAt_vmem h_S128x128))
  let v148 : Vec F S128x128 .f32 ← Prog.lift (.load a13 (Rect.unit (s := S128x640) ![0, 512] S128x128.size inb_S128x640_S128x128_0_512).toLoadRect (View.loadsAt_vmem h_S128x128))
  Prog.lift (.store a13 (Rect.unit (s := S128x640) ![0, 512] S128x128.size inb_S128x640_S128x128_0_512) v147 Finset.univ (View.stores_vmem_bits_univ h_S128x128 rfl) (.inl rfl))
  let v150 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay23 (F := F)) Finset.univ (View.stores_vmem_bits_univ h_S128x128 rfl) (.inl rfl))
  J

/-- Phase 2 of a chunk, the branch over the first 16 rows; then `J`. -/
noncomputable def p2r16 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let ⟨v43, v45, v51, v57, v63, v69, v75, v77⟩ : Σ' (v43 : BitVec 32) (v45 : BitVec 32) (v51 : FVec F S16x128 .bf16) (v57 : FVec F S16x128 .bf16) (v63 : FVec F S16x128 .bf16) (v69 : FVec F S16x128 .bf16) (v75 : FVec F S16x128 .bf16), BitVec 32 ← k0_part76 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v16
  let ⟨v81, v87, v93, v99, v105, v111, v113⟩ : Σ' (v81 : FVec F S16x128 .bf16) (v87 : FVec F S16x128 .bf16) (v93 : FVec F S16x128 .bf16) (v99 : FVec F S16x128 .bf16) (v105 : FVec F S16x128 .bf16) (v111 : FVec F S16x128 .bf16), BitVec 32 ← k0_part77 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v77
  let v148 : FVec F S256x384 .f32 ← k0_part78 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v51 v57 v63 v69 v75 v81 v87 v93 v99 v105 v111 v113
  let ⟨v152, v185, v186⟩ : Σ' (v152 : FVec F S256x384 .f32) (v185 : FVec F S16x384 .f32), BitVec 32 ← k0_part79 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v148
  let v217 : FVec F S16x384 .f32 ← k0_part80 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v152 v185 v186
  let ⟨v257, v259, c128_i32_125⟩ : Σ' (v257 : FVec F S16x384 .f32) (v259 : BitVec 32), BitVec 32 ← k0_part81 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v45 v152 v217
  let ⟨v282, v285, c8_i32_138, v286, v297⟩ : Σ' (v282 : FVec F S1x384 .f32) (v285 : FVec F S1x128 .f32) (c8_i32_138 : BitVec 32) (v286 : BitVec 32), BitVec 1 ← k0_part82 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v16 v45 v152 v257 v259 c128_i32_125
  let v298 : BitVec 32 := Scalar.remsi v16 c8_i32_138
  let v299 : BitVec 1 := Scalar.cmpi .ne v298 0#32
  let v300 : BitVec 1 := Scalar.andi v297 v299
  let v301 : BitVec 32 := Scalar.subi v286 1#32
  let v302 : BitVec 32 := Scalar.select v300 v301 v286
  let v303 : Vec F S16x128 .f32 ← Prog.lift (.load a23 (Rect.unit (s := S128x128) ![0, 0] S16x128.size inb_S128x128_S16x128_0_0).toLoadRect (View.loadsAt_vmem h_S16x128))
  let v305 : Vec F S16x128 .f32 ← Scf.Loop.for k0_t14_loop (k0_t14_ok i k0_h8) v303 (k0_t14_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v282 v285 v302)
  let v306 : Vec F S16x128 .f32 ← Prog.lift (.load a23 (Rect.unit (s := S128x128) ![0, 0] S16x128.size inb_S128x128_S16x128_0_0).toLoadRect (View.loadsAt_vmem h_S16x128))
  Prog.lift (.store a23 (Rect.unit (s := S128x128) ![0, 0] S16x128.size inb_S128x128_S16x128_0_0) (k0_pay25 v305) Finset.univ (View.stores_vmem_bits_univ h_S16x128 rfl) (.inl rfl))
  J

/-- Phase 2 of a chunk, the branch over the first 32 rows; then `J`. -/
noncomputable def p2r32 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t15_loop (k0_t15_ok i k0_h8) ⟨⟩ (k0_t15_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S32x128 .f32 ← Prog.lift (.load a23 (Rect.unit (s := S128x128) ![0, 0] S32x128.size inb_S128x128_S32x128_0_0).toLoadRect (View.loadsAt_vmem h_S32x128))
  let v69 : Vec F S32x128 .f32 ← Scf.Loop.for k0_t16_loop (k0_t16_ok i k0_h8) v67 (k0_t16_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S32x128 .f32 ← Prog.lift (.load a23 (Rect.unit (s := S128x128) ![0, 0] S32x128.size inb_S128x128_S32x128_0_0).toLoadRect (View.loadsAt_vmem h_S32x128))
  Prog.lift (.store a23 (Rect.unit (s := S128x128) ![0, 0] S32x128.size inb_S128x128_S32x128_0_0) (k0_pay30 v69) Finset.univ (View.stores_vmem_bits_univ h_S32x128 rfl) (.inl rfl))
  J

/-- Phase 2 of a chunk, the branch over the first 64 rows; then `J`. -/
noncomputable def p2r64 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t17_loop (k0_t17_ok i k0_h8) ⟨⟩ (k0_t17_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S64x128 .f32 ← Prog.lift (.load a23 (Rect.unit (s := S128x128) ![0, 0] S64x128.size inb_S128x128_S64x128_0_0).toLoadRect (View.loadsAt_vmem h_S64x128))
  let v69 : Vec F S64x128 .f32 ← Scf.Loop.for k0_t18_loop (k0_t18_ok i k0_h8) v67 (k0_t18_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S64x128 .f32 ← Prog.lift (.load a23 (Rect.unit (s := S128x128) ![0, 0] S64x128.size inb_S128x128_S64x128_0_0).toLoadRect (View.loadsAt_vmem h_S64x128))
  Prog.lift (.store a23 (Rect.unit (s := S128x128) ![0, 0] S64x128.size inb_S128x128_S64x128_0_0) (k0_pay38 v69) Finset.univ (View.stores_vmem_bits_univ h_S64x128 rfl) (.inl rfl))
  J

/-- Phase 2 of a chunk, the branch over the first 128 rows; then `J`. -/
noncomputable def p2r128 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v43 : BitVec 32 := Scalar.muli v16 16#32
  Scf.Loop.for k0_t19_loop (k0_t19_ok i k0_h8) ⟨⟩ (k0_t19_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43)
  let v45 : Vec F S1x384 .f32 ← Prog.lift (.load a11 (Rect.unit (s := S8x384) ![6, 0] S1x384.size inb_S8x384_S1x384_6_0).toLoadRect (View.loadsAt_vmem h_S1x384))
  let v47 : Vec F S1x384 .f32 ← Prog.lift (.load a11 (Rect.unit (s := S8x384) ![7, 0] S1x384.size inb_S8x384_S1x384_7_0).toLoadRect (View.loadsAt_vmem h_S1x384))
  let v50 : BitVec 32 := Scalar.divsi v16 8#32
  let v51 : BitVec 1 := Scalar.cmpi .sgt v16 0#32
  let v52 : BitVec 32 := Scalar.extui v51
  let v53 : BitVec 1 := Scalar.cmpi .slt v16 0#32
  let v54 : BitVec 32 := Scalar.extui v53
  let v55 : BitVec 32 := Scalar.subi v52 v54
  let v56 : BitVec 1 := Scalar.cmpi .sgt 8#32 0#32
  let v57 : BitVec 32 := Scalar.extui v56
  let v58 : BitVec 1 := Scalar.cmpi .slt 8#32 0#32
  let v59 : BitVec 32 := Scalar.extui v58
  let v60 : BitVec 32 := Scalar.subi v57 v59
  let v61 : BitVec 1 := Scalar.cmpi .ne v55 v60
  let v62 : BitVec 32 := Scalar.remsi v16 8#32
  let v63 : BitVec 1 := Scalar.cmpi .ne v62 0#32
  let v64 : BitVec 1 := Scalar.andi v61 v63
  let v65 : BitVec 32 := Scalar.subi v50 1#32
  let v66 : BitVec 32 := Scalar.select v64 v65 v50
  let v67 : Vec F S128x128 .f32 ← Prog.lift (.load a23 (Rect.unit (s := S128x128) ![0, 0] S128x128.size inb_S128x128_S128x128_0_0).toLoadRect (View.loadsAt_vmem h_S128x128))
  let v69 : Vec F S128x128 .f32 ← Scf.Loop.for k0_t20_loop (k0_t20_ok i k0_h8) v67 (k0_t20_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 v43 v45 v47 v66)
  let v70 : Vec F S128x128 .f32 ← Prog.lift (.load a23 (Rect.unit (s := S128x128) ![0, 0] S128x128.size inb_S128x128_S128x128_0_0).toLoadRect (View.loadsAt_vmem h_S128x128))
  Prog.lift (.store a23 (Rect.unit (s := S128x128) ![0, 0] S128x128.size inb_S128x128_S128x128_0_0) (k0_pay42 v69) Finset.univ (View.stores_vmem_bits_univ h_S128x128 rfl) (.inl rfl))
  J

/-- Phase 2 of a chunk: the branches from 128 rows on; then `J`. -/
noncomputable def p2s128 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v39 : Elt F .i32 ← smemLoad a1 (Rect.unit (s := S128) ![64] S1.size inb_S128_S1_64) numel1_S1 rfl
  let v40 : BitVec 1 := Scalar.cmpi .sgt v39 v17
  let v41 : BitVec 32 := Scalar.extui v40
  let v42 : BitVec 1 := Scalar.cmpi .ne v41 0#32
  if v42 = 1#1 then p2r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J else J

/-- Phase 2 of a chunk: the branches from 64 rows on; then `J`. -/
noncomputable def p2s64 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v32 : Elt F .i32 ← smemLoad a1 (Rect.unit (s := S128) ![32] S1.size inb_S128_S1_32) numel1_S1 rfl
  let v33 : BitVec 1 := Scalar.cmpi .sgt v32 v17
  let v34 : Elt F .i32 ← smemLoad a1 (Rect.unit (s := S128) ![64] S1.size inb_S128_S1_64) numel1_S1 rfl
  let v35 : BitVec 1 := Scalar.cmpi .sle v34 v17
  let v36 : BitVec 1 := Scalar.andi v33 v35
  let v37 : BitVec 32 := Scalar.extui v36
  let v38 : BitVec 1 := Scalar.cmpi .ne v37 0#32
  if v38 = 1#1 then p2r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- Phase 2 of a chunk: the branches from 32 rows on; then `J`. -/
noncomputable def p2s32 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v25 : Elt F .i32 ← smemLoad a1 (Rect.unit (s := S128) ![16] S1.size inb_S128_S1_16) numel1_S1 rfl
  let v26 : BitVec 1 := Scalar.cmpi .sgt v25 v17
  let v27 : Elt F .i32 ← smemLoad a1 (Rect.unit (s := S128) ![32] S1.size inb_S128_S1_32) numel1_S1 rfl
  let v28 : BitVec 1 := Scalar.cmpi .sle v27 v17
  let v29 : BitVec 1 := Scalar.andi v26 v28
  let v30 : BitVec 32 := Scalar.extui v29
  let v31 : BitVec 1 := Scalar.cmpi .ne v30 0#32
  if v31 = 1#1 then p2r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- Phase 2 of a chunk: the branches from 16 rows on; then `J`. -/
noncomputable def p2s16 (k0_h8 : k0_cond8 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  let v16 : BitVec 32 := Scalar.subi a0 40#32
  let v17 : BitVec 32 := Scalar.muli v16 16#32
  let v18 : Elt F .i32 ← smemLoad a1 (Rect.unit (s := S128) ![0] S1.size inb_S128_S1_0) numel1_S1 rfl
  let v19 : BitVec 1 := Scalar.cmpi .sgt v18 v17
  let v20 : Elt F .i32 ← smemLoad a1 (Rect.unit (s := S128) ![16] S1.size inb_S128_S1_16) numel1_S1 rfl
  let v21 : BitVec 1 := Scalar.cmpi .sle v20 v17
  let v22 : BitVec 1 := Scalar.andi v19 v21
  let v23 : BitVec 32 := Scalar.extui v22
  let v24 : BitVec 1 := Scalar.cmpi .ne v23 0#32
  if v24 = 1#1 then p2r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) else (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J)

/-- The last point: the final state put back into batch order; then `J`. -/
noncomputable def endBlk (k0_h13 : k0_cond13 i = 1#1) (J : Prog (TpuEff nD τ sig (Elt F) Λ₀ .tc) PUnit) :
    Prog (TpuEff nD τ sig (Elt F) Λ₀ .tc) PUnit := do
  let a0 : BitVec 32 := BitVec.ofNat 32 (i 0).val
  have v0 : IVec S1x128 32 := iota .tc S1x128 32 [1] iota_S1x128_d1_w32
  Scf.Loop.for k0_t21_loop (k0_t21_ok i k0_h13) ⟨⟩ (k0_t21_body i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13)
  let v17 : Vec F S128x80 .f32 ← Prog.lift (.load a25 (Rect.unit (s := S128x128) ![0, 0] S128x80.size inb_S128x128_S128x80_0_0).toLoadRect (View.loadsAt_vmem h_S128x80))
  let v19 : Vec F S128x80 .bf16 ← Prog.lift (.load a12 (Rect.unit (s := S128x80) ![0, 0] S128x80.size inb_S128x80_S128x80_0_0).toLoadRect (View.loadsAt_vmem h_S128x80))
  Prog.lift (.store a12 (Rect.unit (s := S128x80) ![0, 0] S128x80.size inb_S128x80_S128x80_0_0) (k0_pay44 v17) Finset.univ (View.stores_vmem h_S128x80 (m12.storeExact_slice rfl _ packedbf16_S128x80_S128x80_0_0) (fun _ => rfl)) (.inl rfl))
  J

/-- The body from the last point's block on. -/
noncomputable def tail13 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h13 : k0_cond13 i = 1#1 then endBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 (pure ⟨⟩) else (pure ⟨⟩)

/-- The body from phase 2 on. -/
noncomputable def tail8 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h8 : k0_cond8 i = 1#1 then p2s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The body from the block between the phases on. -/
noncomputable def tail7 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h7 : k0_cond7 i = 1#1 then outBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The body from phase 1 on. -/
noncomputable def tail2 :
    Prog (TpuEff nD τ sig (Elt F) Λ₀ .tc) PUnit := do
  let a0 : BitVec 32 := BitVec.ofNat 32 (i 0).val
  have v0 : IVec S1x128 32 := iota .tc S1x128 32 [1] iota_S1x128_d1_w32
  if k0_h2 : k0_cond2 i = 1#1 then p1s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The whole body. -/
noncomputable def tail1 :
    Prog (TpuEff nD τ sig (Elt F) Λ₀ .tc) PUnit := do
  let a0 : BitVec 32 := BitVec.ofNat 32 (i 0).val
  have v0 : IVec S1x128 32 := iota .tc S1x128 32 [1] iota_S1x128_d1_w32
  let v1 : BitVec 1 := Scalar.cmpi .eq a0 0#32
  let v2 : BitVec 32 := Scalar.extui v1
  let v3 : BitVec 1 := Scalar.cmpi .ne v2 0#32
  if k0_h1 : v3 = 1#1 then initBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h1 (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) else (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25)

/-- The printed body is its blocks in order. -/
theorem skel_eq :
    cc0_rnn_skel (F := F) i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 = tail1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 := rfl

end Cert.KernelIdeal.Hand
-- ==== Proof.KernelIdealLoops.lean ====
/- The loops that put rows back into batch order, each by its invariant: the order word of a trip names a row of the destination. -/
module

public import proofs.«01_k».proof.Proof.KernelIdealBlocks
public import Idealize.ShloMosaic.Lib.Pointwise.Index
public import Idealize.ShloMosaic.Lib.WritesUnit
public import Idealize.ShloMosaic.Lib.VecWindow
public import Idealize.ShloMosaic.Lib.Pipeline.Value

@[expose] public section

set_option warn.classDefReducibility false
set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- A memref's elements on core `c`, whole, at contents `f`. -/
abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f
/-- A memref's elements on core `c`, at the half share in which the body is handed the tables. -/
abbrev PtH (c : Dev nD) {sp : Space} {S : Shape} {e : EltTy} (M : Memref sig .tc sp S e) (f : BufTy.Contents (Elt F) M.view.ty) : sProp 𝕄 :=
  M.view.loc (c : Thread nD τ) ↦[M.view.set]{fullShare.right} f

/-- Every word of the order table names one of the 128 rows. -/
abbrev OrderOk (M : Memref sig .tc .smem S128 .i32) (O : BufTy.Contents (Elt F) M.view.ty) : Prop :=
  ∀ (r : Rect S128) (x : r.shape.Idx), (View.readAt (Elt F) M.view r.toLoadRect O x : BitVec 32).toNat < 128

/-- A word below 128 names a row inside the destination. -/
theorem chk1_of_lt (i : grid0.Coords) (v : BitVec 32) (h : v.toNat < 128) : k0_chk1 i v := by
  intro _ a
  have h1 : (Scalar.indexCast v : Index).toNat = v.toNat := rfl
  fin_cases a <;> simp [k0_off31, S1x128, S128x128] <;> omega

/-- The first `k` rows of `x` stand in `f` where the words `o` send them, each row whose word is its own. -/
def Placed {α : Type} (k : ℕ) (o : S128.Idx → BitVec 32) (x f : S128x128.Idx → α) : Prop :=
  ∀ r : Fin 128, r.val < k → (∀ s : Fin 128, o (ix1 s) = o (ix1 r) → s = r) → ∀ (q l : Fin 128), q.val = (o (ix1 r)).toNat → f (ix2 q l) = x (ix2 r l)

@[simp] theorem placed_zero {α : Type} (o : S128.Idx → BitVec 32) (x f : S128x128.Idx → α) : Placed 0 o x f :=
  fun _ h => absurd h (Nat.not_lt_zero _)

theorem off29_eq : ∀ k : Fin k0_t8_loop.trips, k0_off29 k = ![k.val] := by decide +kernel

theorem off30_eq : ∀ k : Fin k0_t8_loop.trips, k0_off30 k = ![k.val, 0] := by decide +kernel

theorem trips8 : k0_t8_loop.trips = 128 := by decide +kernel

/-- A word read out of a table. -/
theorem word_at {κ : Kind} {sp : Space} (v : View sig κ sp S128 .i32) (f : v.ty.Contents (Elt F)) (n : Fin 128) {off : Fin 1 → ℕ} (h : off = ![n.val]) (inb : ∀ a : Fin 1, off a + S1.size a ≤ S128.size a) (x : S1.Idx) :
    v.readAt (Elt F) (Rect.unit (s := S128) off S1.size inb).toLoadRect f x = v.read (Elt F) f (ix1 n) := by
  subst h
  show v.read (Elt F) f ((Rect.unit (s := S128) ![n.val] S1.size inb).emb x) = _
  refine congrArg (v.read (Elt F) f) (funext fun a => Fin.ext ?_)
  match a with
  | 0 =>
    show n.val + 1 * (x 0).val = n.val
    have : (x 0).val < 1 := (x 0).isLt
    omega

theorem placed_step {κ₁ κ₂ κ₃ : Kind} {sp₁ sp₂ sp₃ : Space} (v2 : View sig κ₁ sp₁ S128 .i32) (v23 : View sig κ₂ sp₂ S128x128 .f32) (v25 : View sig κ₃ sp₃ S128x128 .f32)
    (O : v2.ty.Contents (Elt F)) (X : v23.ty.Contents (Elt F)) (f : v25.ty.Contents (Elt F)) (k : Fin k0_t8_loop.trips) (w : BitVec 32) (inb29 : ∀ a : Fin 1, k0_off29 k a + S1.size a ≤ S128.size a) (x0 : S1.Idx)
    (hw : w = v2.readAt (Elt F) (Rect.unit (s := S128) (k0_off29 k) S1.size inb29).toLoadRect O x0)
    (inb30 : ∀ a : Fin 2, k0_off30 k a + S1x128.size a ≤ S128x128.size a) (inb31 : ∀ a : Fin 2, k0_off31 w a + S1x128.size a ≤ S128x128.size a)
    (h : Placed k.val (v2.read (Elt F) O) (v23.read (Elt F) X) (v25.read (Elt F) f)) :
    Placed (k.val + 1) (v2.read (Elt F) O) (v23.read (Elt F) X) (v25.read (Elt F) (v25.writes (Elt F) f
      [⟨Rect.unit (s := S128x128) (k0_off31 w) S1x128.size inb31, k0_pay351 (v23.readAt (Elt F) (Rect.unit (s := S128x128) (k0_off30 k) S1x128.size inb30).toLoadRect X)⟩])) := by
  have hk : k.val < 128 := lt_of_lt_of_eq k.isLt trips8
  rw [word_at v2 O ⟨k.val, hk⟩ (off29_eq k)] at hw
  intro r hr inj q l hq
  have ho : k0_off31 w = ![w.toNat, 0] := rfl
  by_cases e : r.val = k.val
  · have er : r = ⟨k.val, hk⟩ := Fin.ext e
    subst er
    rw [View.read_writes_cons_unit_of_mem (off' := ![w.toNat, 0]) (size := S1x128.size) v25 f inb31 _ [] (ix2 q l) (ix2 0 l) ho
      (Fin.forall_fin_two.mpr ⟨by show q.val = w.toNat + 0; rw [hq, hw, Nat.add_zero], (Nat.zero_add l.val).symm⟩)]
    unfold k0_pay351
    dsimp only
    rw [shapeCast_self, View.readAt_unit v23 X inb30 (off30_eq k) (fun a => off30_eq k ▸ inb30 a)]
    show v23.read (Elt F) X ((Rect.unit (s := S128x128) ![k.val, 0] S1x128.size _).emb (ix2 0 l)) = _
    refine congrArg (v23.read (Elt F) X) (funext fun a => Fin.ext ?_)
    revert a
    refine Fin.forall_fin_two.mpr ⟨?_, ?_⟩
    · show k.val + 1 * 0 = k.val
      omega
    · show 0 + 1 * l.val = l.val
      omega
  · have hne : q.val ≠ w.toNat := by
      intro hqw
      have e2 : v2.read (Elt F) O (ix1 ⟨k.val, hk⟩) = v2.read (Elt F) O (ix1 r) := by
        rw [← hw]; exact BitVec.eq_of_toNat_eq (hqw.symm.trans hq)
      exact e (congrArg Fin.val (inj _ e2)).symm
    rw [View.read_writes_cons_unit_of_not_mem (off' := ![w.toNat, 0]) (size := S1x128.size) v25 f inb31 _ [] (ix2 q l) ho 0
      (by show q.val < w.toNat ∨ w.toNat + 1 ≤ q.val; omega)]
    exact h r (by omega) inj q l hq

/-- Before trip `k` of loop 8: the order table and the source as found, the first `k` rows in place. -/
@[sl_loop] def loopInv_k0_t8 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (v0 : IVec S1x128 32) (k0_h7 : k0_cond7 i = 1#1) (O : BufTy.Contents (Elt F) a2.view.ty) (hO : OrderOk (F := F) a2 O)
    (X : BufTy.Contents (Elt F) a23.view.ty) :
    LoopInvTy_k0_t8 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h7 where
  inv k _ := iprop(PtH c a2 O ∗ Pt c a23 X ∗ ∃ f, Pt c a25 f ∗ ⌜Placed k (a2.view.read (Elt F) O) (a23.view.read (Elt F) X) (a25.view.read (Elt F) f)⌝)
  step k acc := by
    iintro ⟨HO, HX, ⟨%f, HF, %hP⟩⟩
    unfold k0_t8_body
    sl_exec (disch := exact chk1_of_lt _ _ (hO _ _))
    sl_step
    isplitl [HO]
    · iexact HO
    isplitl [HX]
    · iexact HX
    iexists _
    isplitl [HF]
    · iexact HF
    ipureintro
    exact placed_step a2.view a23.view a25.view O X f k _ _ _ rfl _ _ hP

/-- A word below 128 names a row inside the destination. -/
theorem chk2_of_lt (i : grid0.Coords) (v : BitVec 32) (h : v.toNat < 128) : k0_chk2 i v := by
  intro _ a
  have h1 : (Scalar.indexCast v : Index).toNat = v.toNat := rfl
  fin_cases a <;> simp [k0_off34, S1x128, S128x128] <;> omega

/-- Before trip `k` of loop 9: the order table and the source as found, the destination at something. -/
@[sl_loop] def loopInv_k0_t9 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t9 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t9_body
    sl_exec (disch := exact chk2_of_lt _ _ (hO _ _))
    sl_step
    sl_close

/-- A word below 128 names a row inside the destination. -/
theorem chk3_of_lt (i : grid0.Coords) (v : BitVec 32) (h : v.toNat < 128) : k0_chk3 i v := by
  intro _ a
  have h1 : (Scalar.indexCast v : Index).toNat = v.toNat := rfl
  fin_cases a <;> simp [k0_off37, S1x128, S128x128] <;> omega

/-- Before trip `k` of loop 10: the order table and the source as found, the destination at something. -/
@[sl_loop] def loopInv_k0_t10 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t10 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t10_body
    sl_exec (disch := exact chk3_of_lt _ _ (hO _ _))
    sl_step
    sl_close

/-- A word below 128 names a row inside the destination. -/
theorem chk4_of_lt (i : grid0.Coords) (v : BitVec 32) (h : v.toNat < 128) : k0_chk4 i v := by
  intro _ a
  have h1 : (Scalar.indexCast v : Index).toNat = v.toNat := rfl
  fin_cases a <;> simp [k0_off40, S1x128, S128x128] <;> omega

/-- Before trip `k` of loop 11: the order table and the source as found, the destination at something. -/
@[sl_loop] def loopInv_k0_t11 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t11 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t11_body
    sl_exec (disch := exact chk4_of_lt _ _ (hO _ _))
    sl_step
    sl_close

/-- A word below 128 names a row inside the destination. -/
theorem chk5_of_lt (i : grid0.Coords) (v : BitVec 32) (h : v.toNat < 128) : k0_chk5 i v := by
  intro _ a
  have h1 : (Scalar.indexCast v : Index).toNat = v.toNat := rfl
  fin_cases a <;> simp [k0_off43, S1x128, S128x128] <;> omega

/-- Before trip `k` of loop 12: the order table and the source as found, the destination at something. -/
@[sl_loop] def loopInv_k0_t12 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (v105 : FVec F S128x128 .f32) (v108 : FVec F S128x1 .f32) (v125 : FVec F S128x128 .f32) (O : BufTy.Contents (Elt F) a2.view.ty) (hO : OrderOk (F := F) a2 O)
    (X : BufTy.Contents (Elt F) a24.view.ty) :
    LoopInvTy_k0_t12 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 v105 v108 v125 where
  inv _ _ := iprop(PtH c a2 O ∗ Pt c a24 X ∗ ∃ f, Pt c a25 f)
  step k acc := by
    iintro ⟨HO, HX, ⟨%f, HF⟩⟩
    unfold k0_t12_body
    sl_exec (disch := exact chk5_of_lt _ _ (hO _ _))
    sl_step
    sl_close

/-- A word below 128 names a row inside the destination. -/
theorem chk6_of_lt (i : grid0.Coords) (v : BitVec 32) (h : v.toNat < 128) : k0_chk6 i v := by
  intro _ a
  have h1 : (Scalar.indexCast v : Index).toNat = v.toNat := rfl
  fin_cases a <;> simp [k0_off46, S1x128, S128x128] <;> omega

/-- Before trip `k` of loop 13: the order table and the source as found, the destination at something. -/
@[sl_loop] def loopInv_k0_t13 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h7 : k0_cond7 i = 1#1) (O : BufTy.Contents (Elt F) a2.view.ty) (hO : OrderOk (F := F) a2 O)
    (X : BufTy.Contents (Elt F) a24.view.ty) :
    LoopInvTy_k0_t13 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 where
  inv _ _ := iprop(PtH c a2 O ∗ Pt c a24 X ∗ ∃ f, Pt c a25 f)
  step k acc := by
    iintro ⟨HO, HX, ⟨%f, HF⟩⟩
    unfold k0_t13_body
    sl_exec (disch := exact chk6_of_lt _ _ (hO _ _))
    sl_step
    sl_close

/-- A word below 128 names a row inside the destination. -/
theorem chk7_of_lt (i : grid0.Coords) (v : BitVec 32) (h : v.toNat < 128) : k0_chk7 i v := by
  intro _ a
  have h1 : (Scalar.indexCast v : Index).toNat = v.toNat := rfl
  fin_cases a <;> simp [k0_off65, S1x128, S128x128] <;> omega

/-- Before trip `k` of loop 21: the order table and the source as found, the destination at something. -/
@[sl_loop] def loopInv_k0_t21 (𝒱 : Variants) (c : Dev nD) (bd : Option 𝒱.V) (E : Set ℕ) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (k0_h13 : k0_cond13 i = 1#1) (O : BufTy.Contents (Elt F) a2.view.ty) (hO : OrderOk (F := F) a2 O)
    (X : BufTy.Contents (Elt F) a23.view.ty) :
    LoopInvTy_k0_t21 (F := F) Unit ℕ (UR sig nD τ) ℕ 𝒱 c bd E i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 where
  inv _ _ := iprop(PtH c a2 O ∗ Pt c a23 X ∗ ∃ f, Pt c a25 f)
  step k acc := by
    iintro ⟨HO, HX, ⟨%f, HF⟩⟩
    unfold k0_t21_body
    sl_exec (disch := exact chk7_of_lt _ _ (hO _ _))
    sl_step
    sl_close

end Cert.KernelIdeal.Hand
-- ==== Proof.KernelIdealRun.lean ====
/- What a point of the kernel holds, and the run of each block of its body from it. -/
module

public import proofs.«01_k».proof.Proof.KernelIdealLoops

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- All a point holds: the two tables at half share, the inputs, the outputs and the scratch, each at the named contents. -/
abbrev Held (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) : sProp 𝕄 :=
  iprop(PtH c a1 X1 ∗ PtH c a2 X2 ∗ Pt c a3 X3 ∗ Pt c a4 X4 ∗ Pt c a5 X5 ∗ Pt c a6 X6 ∗ Pt c a7 X7 ∗ Pt c a8 X8 ∗ Pt c a9 X9 ∗ Pt c a10 X10 ∗ Pt c a11 X11 ∗ Pt c a12 f12 ∗ Pt c a13 f13 ∗ Pt c a14 f14 ∗ Pt c a15 f15 ∗ Pt c a16 f16 ∗ Pt c a17 f17 ∗ Pt c a18 f18 ∗ Pt c a19 f19 ∗ Pt c a20 f20 ∗ Pt c a21 f21 ∗ Pt c a22 f22 ∗ Pt c a23 f23 ∗ Pt c a24 f24 ∗ Pt c a25 f25)

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) (f12 : BufTy.Contents (Elt F) a12.view.ty) (f13 : BufTy.Contents (Elt F) a13.view.ty) (f14 : BufTy.Contents (Elt F) a14.view.ty) (f15 : BufTy.Contents (Elt F) a15.view.ty) (f16 : BufTy.Contents (Elt F) a16.view.ty) (f17 : BufTy.Contents (Elt F) a17.view.ty) (f18 : BufTy.Contents (Elt F) a18.view.ty) (f19 : BufTy.Contents (Elt F) a19.view.ty) (f20 : BufTy.Contents (Elt F) a20.view.ty) (f21 : BufTy.Contents (Elt F) a21.view.ty) (f22 : BufTy.Contents (Elt F) a22.view.ty) (f23 : BufTy.Contents (Elt F) a23.view.ty) (f24 : BufTy.Contents (Elt F) a24.view.ty) (f25 : BufTy.Contents (Elt F) a25.view.ty) (J : Prog (TpuEff nD τ sig (Elt F) Λ₀ .tc) PUnit) (Q : PUnit → sProp (MT nD τ sig Unit (Elt F) ℕ (UR sig nD τ) ℕ))

/-- The first block: the weights cast, the lengths broadcast, the query computed, the state cleared. -/
theorem initBlk_run (k0_h1 : Scalar.cmpi .ne (Scalar.extui (Scalar.cmpi .eq (BitVec.ofNat 32 (i 0).val) 0#32)) 0#32 = 1#1)
    (hJ : ∀ f15' f16' f17' f18' f19' f20' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (initBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h1 J) Q := by
  unfold initBlk
  iintro ⟨H1, H2, H3, H4, H5, H6, H7, H8, H9, H10, H11, H12, H13, H14, H15, H16, H17, H18, H19, H20, H21, H22, H23, H24, H25⟩
  sl_exec
  iapply (hJ _ _ _ _ _ _ _)
  sl_close

/-- Phase 1 over 16 rows. -/
theorem p1r16_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r16
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over 32 rows. -/
theorem p1r32_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r32
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over 64 rows. -/
theorem p1r64_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r64
  iintro ⟨H1, H2, H3, H4, H5, H6, H7, H8, H9, H10, H11, H12, H13, H14, H15, H16, H17, H18, H19, H20, H21, H22, H23, H24, H25⟩
  sl_exec
  iapply (hJ _ _ _ _)
  sl_close

/-- Phase 1 over all rows. -/
theorem p1r128_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r128
  iintro ⟨H1, H2, H3, H4, H5, H6, H7, H8, H9, H10, H11, H12, H13, H14, H15, H16, H17, H18, H19, H20, H21, H22, H23, H24, H25⟩
  sl_exec
  iapply (hJ _ _ _ _)
  sl_close

/-- Between the phases. -/
theorem outBlk_run (k0_h7 : k0_cond7 i = 1#1) (hO : OrderOk (F := F) a2 X2)
    (hJ : ∀ f13' f14' f23' f24' f25', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (outBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 J) Q := by
  unfold outBlk
  iintro ⟨H1, H2, H3, H4, H5, H6, H7, H8, H9, H10, H11, H12, H13, H14, H15, H16, H17, H18, H19, H20, H21, H22, H23, H24, H25⟩
  sl_exec
  iapply (hJ _ _ _ _ _)
  sl_close

/-- Phase 2 over 16 rows. -/
theorem p2r16_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r16
  iintro ⟨H1, H2, H3, H4, H5, H6, H7, H8, H9, H10, H11, H12, H13, H14, H15, H16, H17, H18, H19, H20, H21, H22, H23, H24, H25⟩
  sl_exec
  iapply (hJ _ _)
  sl_close

/-- Phase 2 over 32 rows. -/
theorem p2r32_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r32
  iintro ⟨H1, H2, H3, H4, H5, H6, H7, H8, H9, H10, H11, H12, H13, H14, H15, H16, H17, H18, H19, H20, H21, H22, H23, H24, H25⟩
  sl_exec
  iapply (hJ _ _)
  sl_close

/-- Phase 2 over 64 rows. -/
theorem p2r64_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r64
  iintro ⟨H1, H2, H3, H4, H5, H6, H7, H8, H9, H10, H11, H12, H13, H14, H15, H16, H17, H18, H19, H20, H21, H22, H23, H24, H25⟩
  sl_exec
  iapply (hJ _ _)
  sl_close

/-- Phase 2 over all rows. -/
theorem p2r128_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2r128
  iintro ⟨H1, H2, H3, H4, H5, H6, H7, H8, H9, H10, H11, H12, H13, H14, H15, H16, H17, H18, H19, H20, H21, H22, H23, H24, H25⟩
  sl_exec
  iapply (hJ _ _)
  sl_close

/-- The last block. -/
theorem endBlk_run (k0_h13 : k0_cond13 i = 1#1) (hO : OrderOk (F := F) a2 X2)
    (hJ : ∀ f12' f25', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12' f13 f14 f15 f16 f17 f18 f19 f20 f21 f22 f23 f24 f25' ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (endBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h13 J) Q := by
  unfold endBlk
  iintro ⟨H1, H2, H3, H4, H5, H6, H7, H8, H9, H10, H11, H12, H13, H14, H15, H16, H17, H18, H19, H20, H21, H22, H23, H24, H25⟩
  sl_exec
  iapply (hJ _ _)
  sl_close

/-- The branches of a phase from 128 rows on. -/
theorem p1s128_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s128
  iintro ⟨H1, H2, H3, H4, H5, H6, H7, H8, H9, H10, H11, H12, H13, H14, H15, H16, H17, H18, H19, H20, H21, H22, H23, H24, H25⟩
  sl_exec
  split
  · iapply (p1r128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close
  · iapply (hJ _ _ _ _)
    sl_close

/-- The branches of a phase from 64 rows on. -/
theorem p1s64_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s64
  iintro ⟨H1, H2, H3, H4, H5, H6, H7, H8, H9, H10, H11, H12, H13, H14, H15, H16, H17, H18, H19, H20, H21, H22, H23, H24, H25⟩
  sl_exec
  split
  · iapply (p1r64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 32 rows on. -/
theorem p1s32_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s32
  iintro ⟨H1, H2, H3, H4, H5, H6, H7, H8, H9, H10, H11, H12, H13, H14, H15, H16, H17, H18, H19, H20, H21, H22, H23, H24, H25⟩
  sl_exec
  split
  · iapply (p1r32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 16 rows on. -/
theorem p1s16_run (k0_h2 : k0_cond2 i = 1#1)
    (hJ : ∀ f21' f22' f23' f24', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p1s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1s16
  iintro ⟨H1, H2, H3, H4, H5, H6, H7, H8, H9, H10, H11, H12, H13, H14, H15, H16, H17, H18, H19, H20, H21, H22, H23, H24, H25⟩
  sl_exec
  split
  · iapply (p1r16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 fun f21' f22' f23' f24' => p1s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 _ _ k0_h2 hJ)
    sl_close
  · iapply (p1s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hJ)
    sl_close

/-- The branches of a phase from 128 rows on. -/
theorem p2s128_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s128
  iintro ⟨H1, H2, H3, H4, H5, H6, H7, H8, H9, H10, H11, H12, H13, H14, H15, H16, H17, H18, H19, H20, H21, H22, H23, H24, H25⟩
  sl_exec
  split
  · iapply (p2r128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close
  · iapply (hJ _ _)
    sl_close

/-- The branches of a phase from 64 rows on. -/
theorem p2s64_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s64
  iintro ⟨H1, H2, H3, H4, H5, H6, H7, H8, H9, H10, H11, H12, H13, H14, H15, H16, H17, H18, H19, H20, H21, H22, H23, H24, H25⟩
  sl_exec
  split
  · iapply (p2r64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- The branches of a phase from 32 rows on. -/
theorem p2s32_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s32
  iintro ⟨H1, H2, H3, H4, H5, H6, H7, H8, H9, H10, H11, H12, H13, H14, H15, H16, H17, H18, H19, H20, H21, H22, H23, H24, H25⟩
  sl_exec
  split
  · iapply (p2r32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- The branches of a phase from 16 rows on. -/
theorem p2s16_run (k0_h8 : k0_cond8 i = 1#1)
    (hJ : ∀ f21' f23', Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 ⊢ wp frame (wpE (defs₀ (F := F)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (p2s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h8 J) Q := by
  unfold p2s16
  iintro ⟨H1, H2, H3, H4, H5, H6, H7, H8, H9, H10, H11, H12, H13, H14, H15, H16, H17, H18, H19, H20, H21, H22, H23, H24, H25⟩
  sl_exec
  split
  · iapply (p2r16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 fun f21' f23' => p2s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 _ _ k0_h8 hJ)
    sl_close
  · iapply (p2s32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h8 hJ)
    sl_close

/-- What a point leaves behind: all it holds, the outputs and the scratch at some contents. -/
abbrev Left (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt F) a1.view.ty) (X2 : BufTy.Contents (Elt F) a2.view.ty) (X3 : BufTy.Contents (Elt F) a3.view.ty) (X4 : BufTy.Contents (Elt F) a4.view.ty) (X5 : BufTy.Contents (Elt F) a5.view.ty) (X6 : BufTy.Contents (Elt F) a6.view.ty) (X7 : BufTy.Contents (Elt F) a7.view.ty) (X8 : BufTy.Contents (Elt F) a8.view.ty) (X9 : BufTy.Contents (Elt F) a9.view.ty) (X10 : BufTy.Contents (Elt F) a10.view.ty) (X11 : BufTy.Contents (Elt F) a11.view.ty) : sProp 𝕄 :=
  iprop(∃ f12 f13 f14 f15 f16 f17 f18 f19 f20 f21 f22 f23 f24 f25, Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25)

theorem done_run : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (pure ⟨⟩ : Prog (TpuEff nD τ sig (Elt F) Λ₀ .tc) PUnit) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  iintro ⟨H1, H2, H3, H4, H5, H6, H7, H8, H9, H10, H11, H12, H13, H14, H15, H16, H17, H18, H19, H20, H21, H22, H23, H24, H25⟩
  sl_step
  iexists f12, f13, f14, f15, f16, f17, f18, f19, f20, f21, f22, f23, f24, f25
  sl_close

/-- The body from there on. -/
theorem tail13_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail13
  dsimp only
  split
  · refine endBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ hO (fun f12' f25' => ?_)
    exact done_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12' f13 f14 f15 f16 f17 f18 f19 f20 f21 f22 f23 f24 f25'
  · exact done_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25

/-- The body from there on. -/
theorem tail8_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail8
  dsimp only
  split
  · refine p2s16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f21' f23' => ?_)
    exact tail13_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 hO
  · exact tail13_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail7_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail7
  dsimp only
  split
  · refine outBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ hO (fun f13' f14' f23' f24' f25' => ?_)
    exact tail8_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' hO
  · exact tail8_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail2_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail2
  dsimp only
  split
  · refine p1s16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f21' f22' f23' f24' => ?_)
    exact tail7_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 hO
  · exact tail7_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body from there on. -/
theorem tail1_run (hO : OrderOk (F := F) a2 X2) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := F)) 𝒱₀ (c : Thread nD τ) none) Set.univ (tail1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  unfold tail1
  dsimp only
  split
  · refine initBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f15' f16' f17' f18' f19' f20' f23' => ?_)
    exact tail2_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 hO
  · exact tail2_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO

/-- The body of a point, whatever the outputs and the scratch hold. -/
theorem body_run (hO : OrderOk (F := F) a2 X2) : Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 ⊢ wp frame (wpE (defs₀ (F := F)) 𝒱₀ (c : Thread nD τ) none) Set.univ (cc0_rnn (F := F) i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Left c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11) := by
  simp only [cc0_rnn_eq_skeleton]
  rw [skel_eq]
  iintro ⟨%f12, %f13, %f14, %f15, %f16, %f17, %f18, %f19, %f20, %f21, %f22, %f23, %f24, %f25, H⟩
  iapply (tail1_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO)
  iexact H

end Cert.KernelIdeal.Hand
-- ==== Proof.KernelIdealFrame.lean ====
/- The launch of the kernel: the invariant between grid points, the body obligation, and the run of the whole program from any memory whose
   order table is in range. -/
module

public import proofs.«01_k».proof.Proof.KernelIdealRun
public import proofs.«01_k».proof.Proof.Gen.KernelIdeal.Launch
public import Idealize.ShloMosaic.Lib.Pipeline.Frame
public import Idealize.ShloMosaic.Lib.Pipeline.DatRel

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- All host operations of the program, in order, in stretches. -/
abbrev hostAll : List (List (HloOp τ sig (Elt F))) := [hostOps0, hostOps0_1, hostOps0_2, hostOps0_3, hostOps0_4, hostOps0_5, hostOps0_6]

/-- What every buffer holds when the kernel starts: the launch memory after the host operations. -/
def V (c : Dev nD) (b : Ref sig .tc) : Buf (Elt F) ((c.tc : Thread nD τ).loc b) :=
  StableHlo.after (hostAll (F := F)).flatten (fun b => m (c, b)) b

/-- The tables' contents, admissible. -/
def adm : (p : Fin 1) → (pcfgs (F := F) p).Adm := fun _ => ⟨fun k => V m 0 (pre0.ref k), trivial⟩

/-- The pipeline at those contents. -/
abbrev cfgA : Pipeline.Cfg sig Λ₀ := Pipeline.pin (pcfgs (F := F)) (adm m) 0

abbrev wm0 (t : Fin (cfgA m).N) := spec0_0.stage ((cfgA m).slots t 0)
theorem wh0 (t : Fin (cfgA m).N) : (wm0 m t).IsWhole := hstage0_0 (((cfgA m).slots t 0).cast nbuf0_0)
abbrev wm1 (t : Fin (cfgA m).N) := spec0_1.stage ((cfgA m).slots t 1)
theorem wh1 (t : Fin (cfgA m).N) : (wm1 m t).IsWhole := hstage0_1 (((cfgA m).slots t 1).cast nbuf0_1)
abbrev wm2 (t : Fin (cfgA m).N) := spec0_2.stage ((cfgA m).slots t 2)
theorem wh2 (t : Fin (cfgA m).N) : (wm2 m t).IsWhole := hstage0_2 (((cfgA m).slots t 2).cast nbuf0_2)
abbrev wm3 (t : Fin (cfgA m).N) := spec0_3.stage ((cfgA m).slots t 3)
theorem wh3 (t : Fin (cfgA m).N) : (wm3 m t).IsWhole := hstage0_3 (((cfgA m).slots t 3).cast nbuf0_3)
abbrev wm4 (t : Fin (cfgA m).N) := spec0_4.stage ((cfgA m).slots t 4)
theorem wh4 (t : Fin (cfgA m).N) : (wm4 m t).IsWhole := hstage0_4 (((cfgA m).slots t 4).cast nbuf0_4)
abbrev wm5 (t : Fin (cfgA m).N) := spec0_5.stage ((cfgA m).slots t 5)
theorem wh5 (t : Fin (cfgA m).N) : (wm5 m t).IsWhole := hstage0_5 (((cfgA m).slots t 5).cast nbuf0_5)
abbrev wm6 (t : Fin (cfgA m).N) := spec0_6.stage ((cfgA m).slots t 6)
theorem wh6 (t : Fin (cfgA m).N) : (wm6 m t).IsWhole := hstage0_6 (((cfgA m).slots t 6).cast nbuf0_6)
abbrev wm7 (t : Fin (cfgA m).N) := spec0_7.stage ((cfgA m).slots t 7)
theorem wh7 (t : Fin (cfgA m).N) : (wm7 m t).IsWhole := hstage0_7 (((cfgA m).slots t 7).cast nbuf0_7)
abbrev wm8 (t : Fin (cfgA m).N) := spec0_8.stage ((cfgA m).slots t 8)
theorem wh8 (t : Fin (cfgA m).N) : (wm8 m t).IsWhole := hstage0_8 (((cfgA m).slots t 8).cast nbuf0_8)
abbrev wm9 (t : Fin (cfgA m).N) := spec0_9.stage ((cfgA m).slots t 9)
theorem wh9 (t : Fin (cfgA m).N) : (wm9 m t).IsWhole := hstage0_9 (((cfgA m).slots t 9).cast nbuf0_9)
abbrev wm10 (t : Fin (cfgA m).N) := spec0_10.stage ((cfgA m).slots t 10)
theorem wh10 (t : Fin (cfgA m).N) : (wm10 m t).IsWhole := hstage0_10 (((cfgA m).slots t 10).cast nbuf0_10)
abbrev wm11 (t : Fin (cfgA m).N) := spec0_11.stage ((cfgA m).slots t 11)
theorem wh11 (t : Fin (cfgA m).N) : (wm11 m t).IsWhole := hstage0_11 (((cfgA m).slots t 11).cast nbuf0_11)

/-- The body at a point, called with the tables, the staging buffers and the scratch. -/
abbrev bodyAt (t : Fin (cfgA m).N) : Prog (TpuEff nD τ sig (Elt F) Λ₀ .tc) PUnit :=
  cc0_rnn (F := F) (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _)

theorem defs₀_row (t : Fin (cfgA m).N) : defs₀ (F := F) .tc (cfgA m).body ((cfgA m).bodyArgs t ((cfgA m).slots t)) = bodyAt m t := by
  unfold defs₀; rw [Defs.onTc_tc]

/-- A claim about the scratch buffers' contents. -/
abbrev ScratchPred (F : FTy → Type) := BufTy.Contents (Elt F) (Memref.whole cc0_scratch0 : Memref sig .tc _ _ _).view.ty → BufTy.Contents (Elt F) (Memref.whole cc0_scratch1 : Memref sig .tc _ _ _).view.ty → BufTy.Contents (Elt F) (Memref.whole cc0_scratch2 : Memref sig .tc _ _ _).view.ty → BufTy.Contents (Elt F) (Memref.whole cc0_scratch3 : Memref sig .tc _ _ _).view.ty → BufTy.Contents (Elt F) (Memref.whole cc0_scratch4 : Memref sig .tc _ _ _).view.ty → BufTy.Contents (Elt F) (Memref.whole cc0_scratch5 : Memref sig .tc _ _ _).view.ty → BufTy.Contents (Elt F) (Memref.whole cc0_scratch6 : Memref sig .tc _ _ _).view.ty → BufTy.Contents (Elt F) (Memref.whole cc0_scratch7 : Memref sig .tc _ _ _).view.ty → BufTy.Contents (Elt F) (Memref.whole cc0_scratch8 : Memref sig .tc _ _ _).view.ty → BufTy.Contents (Elt F) (Memref.whole cc0_scratch9 : Memref sig .tc _ _ _).view.ty → BufTy.Contents (Elt F) (Memref.whole cc0_scratch10 : Memref sig .tc _ _ _).view.ty → Prop

/-- The scratch buffers at contents of which `I` holds. -/
def ScratchAt (I : ScratchPred F) (c : Dev nD) : sProp 𝕄 :=
  iprop(∃ s0 s1 s2 s3 s4 s5 s6 s7 s8 s9 s10, ⌜I s0 s1 s2 s3 s4 s5 s6 s7 s8 s9 s10⌝ ∗ Pt c (Memref.whole cc0_scratch0) s0 ∗ Pt c (Memref.whole cc0_scratch1) s1 ∗ Pt c (Memref.whole cc0_scratch2) s2 ∗ Pt c (Memref.whole cc0_scratch3) s3 ∗ Pt c (Memref.whole cc0_scratch4) s4 ∗ Pt c (Memref.whole cc0_scratch5) s5 ∗ Pt c (Memref.whole cc0_scratch6) s6 ∗ Pt c (Memref.whole cc0_scratch7) s7 ∗ Pt c (Memref.whole cc0_scratch8) s8 ∗ Pt c (Memref.whole cc0_scratch9) s9 ∗ Pt c (Memref.whole cc0_scratch10) s10)

/-- The two tables at the half share. -/
def Tables (c : Dev nD) : sProp 𝕄 := iprop(PtH c (Memref.whole main_arg1) (V m c main_arg1) ∗ PtH c (Memref.whole main_arg2) (V m c main_arg2))

variable (Inv : ℕ → ScratchPred F) (Rl : (w : Fin (cfgA m).W) → Fin (cfgA m).N → (((cfgA m).win w).block.Idx → Elt F ((cfgA m).win w).elt) → Prop)

/-- The proof data: each array as the region finds it, the scratch under the invariant, the generator register, the tables. -/
def dat (c : Dev nD) : Dat τ (Elt F) Unit ℕ (UR sig nD τ) ℕ (cfgA m) c where
  A w := V m c (Pipeline.arrRef (cfgA m).spec w)
  after w t := Pipeline.Dat.unnamed (cfg := cfgA m) w t
  Φ t := iprop(ScratchAt (Inv t.val) c ∗ (∃ r, prngReg c r) ∗ Tables m c)
  q w := Pipeline.shareOf (cfgA m).spec w
  owed _ := 0

/-- Every window held to the relation. -/
def allFgt : Fin (cfgA m).W → Bool := fun _ => true

/-- The relational data. -/
def rdat (c : Dev nD) : RDat τ (Elt F) Unit ℕ (UR sig nD τ) ℕ (cfgA m) c := (dat m Inv c).toRRel (allFgt m) Rl

/-- What a point leaves behind: everything held, the invariant of the next point, and the relation of every window. -/
def PointPost (c : Dev nD) (t : Fin (cfgA m).N) : sProp 𝕄 :=
  iprop(∃ y0 y1 y2 y3 y4 y5 y6 y7 y8 y9 y10 y11 r0 r1 r2 r3 r4 r5 r6 r7 r8 r9 r10, ⌜Inv (t.val + 1) r0 r1 r2 r3 r4 r5 r6 r7 r8 r9 r10⌝ ∗ ⌜Rl 0 t ((wm0 m t).view.read (Elt F) y0) ∧ Rl 1 t ((wm1 m t).view.read (Elt F) y1) ∧ Rl 2 t ((wm2 m t).view.read (Elt F) y2) ∧ Rl 3 t ((wm3 m t).view.read (Elt F) y3) ∧ Rl 4 t ((wm4 m t).view.read (Elt F) y4) ∧ Rl 5 t ((wm5 m t).view.read (Elt F) y5) ∧ Rl 6 t ((wm6 m t).view.read (Elt F) y6) ∧ Rl 7 t ((wm7 m t).view.read (Elt F) y7) ∧ Rl 8 t ((wm8 m t).view.read (Elt F) y8) ∧ Rl 9 t ((wm9 m t).view.read (Elt F) y9) ∧ Rl 10 t ((wm10 m t).view.read (Elt F) y10) ∧ Rl 11 t ((wm11 m t).view.read (Elt F) y11)⌝
          ∗ Held c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) y0 y1 y2 y3 y4 y5 y6 y7 y8 y9 y10 y11 r0 r1 r2 r3 r4 r5 r6 r7 r8 r9 r10)

/-- What has to be shown of one point: from the invariant and window contents that may be found there, the body re-establishes the
    invariant and leaves what the relation asks for. -/
def PointOk (c : Dev nD) : Prop :=
  ∀ (t : Fin (cfgA m).N) (x0 : BufTy.Contents (Elt F) (wm0 m t).view.ty) (x1 : BufTy.Contents (Elt F) (wm1 m t).view.ty) (x2 : BufTy.Contents (Elt F) (wm2 m t).view.ty) (x3 : BufTy.Contents (Elt F) (wm3 m t).view.ty) (x4 : BufTy.Contents (Elt F) (wm4 m t).view.ty) (x5 : BufTy.Contents (Elt F) (wm5 m t).view.ty) (x6 : BufTy.Contents (Elt F) (wm6 m t).view.ty) (x7 : BufTy.Contents (Elt F) (wm7 m t).view.ty) (x8 : BufTy.Contents (Elt F) (wm8 m t).view.ty) (x9 : BufTy.Contents (Elt F) (wm9 m t).view.ty) (x10 : BufTy.Contents (Elt F) (wm10 m t).view.ty) (x11 : BufTy.Contents (Elt F) (wm11 m t).view.ty) (s0 : BufTy.Contents (Elt F) (Memref.whole cc0_scratch0 : Memref sig .tc _ _ _).view.ty) (s1 : BufTy.Contents (Elt F) (Memref.whole cc0_scratch1 : Memref sig .tc _ _ _).view.ty) (s2 : BufTy.Contents (Elt F) (Memref.whole cc0_scratch2 : Memref sig .tc _ _ _).view.ty) (s3 : BufTy.Contents (Elt F) (Memref.whole cc0_scratch3 : Memref sig .tc _ _ _).view.ty) (s4 : BufTy.Contents (Elt F) (Memref.whole cc0_scratch4 : Memref sig .tc _ _ _).view.ty) (s5 : BufTy.Contents (Elt F) (Memref.whole cc0_scratch5 : Memref sig .tc _ _ _).view.ty) (s6 : BufTy.Contents (Elt F) (Memref.whole cc0_scratch6 : Memref sig .tc _ _ _).view.ty) (s7 : BufTy.Contents (Elt F) (Memref.whole cc0_scratch7 : Memref sig .tc _ _ _).view.ty) (s8 : BufTy.Contents (Elt F) (Memref.whole cc0_scratch8 : Memref sig .tc _ _ _).view.ty) (s9 : BufTy.Contents (Elt F) (Memref.whole cc0_scratch9 : Memref sig .tc _ _ _).view.ty) (s10 : BufTy.Contents (Elt F) (Memref.whole cc0_scratch10 : Memref sig .tc _ _ _).view.ty),
    Inv t.val s0 s1 s2 s3 s4 s5 s6 s7 s8 s9 s10 → (rdat m Inv Rl c).Finds 0 t ((wm0 m t).view.read (Elt F) x0) → (rdat m Inv Rl c).Finds 1 t ((wm1 m t).view.read (Elt F) x1) → (rdat m Inv Rl c).Finds 2 t ((wm2 m t).view.read (Elt F) x2) → (rdat m Inv Rl c).Finds 3 t ((wm3 m t).view.read (Elt F) x3) → (rdat m Inv Rl c).Finds 4 t ((wm4 m t).view.read (Elt F) x4) → (rdat m Inv Rl c).Finds 5 t ((wm5 m t).view.read (Elt F) x5) → (rdat m Inv Rl c).Finds 6 t ((wm6 m t).view.read (Elt F) x6) → (rdat m Inv Rl c).Finds 7 t ((wm7 m t).view.read (Elt F) x7) → (rdat m Inv Rl c).Finds 8 t ((wm8 m t).view.read (Elt F) x8) → (rdat m Inv Rl c).Finds 9 t ((wm9 m t).view.read (Elt F) x9) → (rdat m Inv Rl c).Finds 10 t ((wm10 m t).view.read (Elt F) x10) → (rdat m Inv Rl c).Finds 11 t ((wm11 m t).view.read (Elt F) x11) →
    Held c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) x0 x1 x2 x3 x4 x5 x6 x7 x8 x9 x10 x11 s0 s1 s2 s3 s4 s5 s6 s7 s8 s9 s10
      ⊢ wp frame (wpE (defs₀ (F := F)) Variants.none (c : Thread nD τ) none) Set.univ (bodyAt m t) (fun _ => PointPost m Inv Rl c t)

variable {m Inv Rl}

/-- The body obligation from the points. -/
theorem body_obligation (c : Dev nD) (h : PointOk m Inv Rl c) :
    BodyObligationRel (dat m Inv c) (defs₀ (F := F)) Variants.none () Set.univ (allFgt m) Rl := fun t => by
  rw [bigSep_W0, bigSep_W0, defs₀_row]
  dsimp only [allFgt]
  unfold owns
  rw [show (dat m Inv c).Φ t.castSucc = iprop(ScratchAt (Inv t.val) c ∗ (∃ r, prngReg c r) ∗ Tables m c) from rfl,
    show (dat m Inv c).Φ t.succ = iprop(ScratchAt (Inv (t.val + 1)) c ∗ (∃ r, prngReg c r) ∗ Tables m c) from rfl]
  unfold Dat.owesAt Pipeline.owesWithin ScratchAt Tables
  rw [show (dat m Inv c).owed t.castSucc = 0 from rfl, show (dat m Inv c).owed t.succ = 0 from rfl]
  iintro ⟨⟨⟨%s0, %s1, %s2, %s3, %s4, %s5, %s6, %s7, %s8, %s9, %s10, %hI, HS0, HS1, HS2, HS3, HS4, HS5, HS6, HS7, HS8, HS9, HS10⟩, Hg, ⟨HT1, HT2⟩⟩, ⟨%W, %hW, HO⟩, ⟨%Y0, %hY0, %x0, %hx0, HX0⟩, ⟨%Y1, %hY1, %x1, %hx1, HX1⟩, ⟨%Y2, %hY2, %x2, %hx2, HX2⟩, ⟨%Y3, %hY3, %x3, %hx3, HX3⟩, ⟨%Y4, %hY4, %x4, %hx4, HX4⟩, ⟨%Y5, %hY5, %x5, %hx5, HX5⟩, ⟨%Y6, %hY6, %x6, %hx6, HX6⟩, ⟨%Y7, %hY7, %x7, %hx7, HX7⟩, ⟨%Y8, %hY8, %x8, %hx8, HX8⟩, ⟨%Y9, %hY9, %x9, %hx9, HX9⟩, ⟨%Y10, %hY10, %x10, %hx10, HX10⟩, ⟨%Y11, %hY11, %x11, %hx11, HX11⟩⟩
  subst hx0 hx1 hx2 hx3 hx4 hx5 hx6 hx7 hx8 hx9 hx10 hx11
  iapply (wp_wand_r _ _ _ (Q := fun _ => PointPost m Inv Rl c t))
  isplitl [HT1 HT2 HX0 HX1 HX2 HX3 HX4 HX5 HX6 HX7 HX8 HX9 HX10 HX11 HS0 HS1 HS2 HS3 HS4 HS5 HS6 HS7 HS8 HS9 HS10]
  · iapply (h t x0 x1 x2 x3 x4 x5 x6 x7 x8 x9 x10 x11 s0 s1 s2 s3 s4 s5 s6 s7 s8 s9 s10 hI hY0 hY1 hY2 hY3 hY4 hY5 hY6 hY7 hY8 hY9 hY10 hY11)
    sl_close
  iintro %_ HP
  unfold PointPost
  icases HP with ⟨%y0, %y1, %y2, %y3, %y4, %y5, %y6, %y7, %y8, %y9, %y10, %y11, %r0, %r1, %r2, %r3, %r4, %r5, %r6, %r7, %r8, %r9, %r10, %hI2, %hR, HT1, HT2, HX0, HX1, HX2, HX3, HX4, HX5, HX6, HX7, HX8, HX9, HX10, HX11, HS0, HS1, HS2, HS3, HS4, HS5, HS6, HS7, HS8, HS9, HS10⟩
  obtain ⟨hr0, hr1, hr2, hr3, hr4, hr5, hr6, hr7, hr8, hr9, hr10, hr11⟩ := hR
  isplitl [HT1 HT2 Hg HS0 HS1 HS2 HS3 HS4 HS5 HS6 HS7 HS8 HS9 HS10]
  · isplitl [HS0 HS1 HS2 HS3 HS4 HS5 HS6 HS7 HS8 HS9 HS10]
    · iexists r0, r1, r2, r3, r4, r5, r6, r7, r8, r9, r10
      isplitr; · ipureintro; exact hI2
      sl_close
    isplitl [Hg]; · iexact Hg
    sl_close
  isplitl [HO]
  · iexists W; isplitr; · ipureintro; exact fun _ _ => Or.inl trivial
    iexact HO
  isplitl [HX0]
  · iexists _; isplitr; · ipureintro; exact hr0
    iexists y0; isplitr; · ipureintro; rfl
    iexact HX0
  isplitl [HX1]
  · iexists _; isplitr; · ipureintro; exact hr1
    iexists y1; isplitr; · ipureintro; rfl
    iexact HX1
  isplitl [HX2]
  · iexists _; isplitr; · ipureintro; exact hr2
    iexists y2; isplitr; · ipureintro; rfl
    iexact HX2
  isplitl [HX3]
  · iexists _; isplitr; · ipureintro; exact hr3
    iexists y3; isplitr; · ipureintro; rfl
    iexact HX3
  isplitl [HX4]
  · iexists _; isplitr; · ipureintro; exact hr4
    iexists y4; isplitr; · ipureintro; rfl
    iexact HX4
  isplitl [HX5]
  · iexists _; isplitr; · ipureintro; exact hr5
    iexists y5; isplitr; · ipureintro; rfl
    iexact HX5
  isplitl [HX6]
  · iexists _; isplitr; · ipureintro; exact hr6
    iexists y6; isplitr; · ipureintro; rfl
    iexact HX6
  isplitl [HX7]
  · iexists _; isplitr; · ipureintro; exact hr7
    iexists y7; isplitr; · ipureintro; rfl
    iexact HX7
  isplitl [HX8]
  · iexists _; isplitr; · ipureintro; exact hr8
    iexists y8; isplitr; · ipureintro; rfl
    iexact HX8
  isplitl [HX9]
  · iexists _; isplitr; · ipureintro; exact hr9
    iexists y9; isplitr; · ipureintro; rfl
    iexact HX9
  isplitl [HX10]
  · iexists _; isplitr; · ipureintro; exact hr10
    iexists y10; isplitr; · ipureintro; rfl
    iexact HX10
  iexists _; isplitr; · ipureintro; exact hr11
  iexists y11; isplitr; · ipureintro; rfl
  iexact HX11

/-- The tables as the region hands them over. -/
theorem tables_eq : (Pipeline.ΦT (Val := Elt F) (pcfgs (F := F) 0).pre (adm m 0).1 0 : sProp 𝕄) = Tables m 0 := by
  unfold Pipeline.ΦT Pipeline.prefHeld Tables
  rw [bigSep_univ_eq_bigSepL [(0 : Fin 2), (1 : Fin 2)] (by decide) (by decide)]
  dsimp only [PtH]
  simp only [Memref.view_whole, View.set_whole]
  rfl

/-- Before the first point: the scratch at whatever it holds, and the tables. -/
theorem start_inv (I0 : ∀ s0 s1 s2 s3 s4 s5 s6 s7 s8 s9 s10, Inv 0 s0 s1 s2 s3 s4 s5 s6 s7 s8 s9 s10) (c : Dev nD) :
    iprop(Pipeline.ΦA (U := UR sig nD τ) (Val := Elt F) (cfgA m).spec c ∗ Pipeline.ΦT (pcfgs (F := F) 0).pre (adm m 0).1 c) ⊢ (rdat m Inv Rl c).Φ 0 := by
  rw [show (rdat m Inv Rl c).Φ 0 = iprop(ScratchAt (Inv 0) c ∗ (∃ r, prngReg c r) ∗ Tables m c) from rfl]
  obtain rfl : (0 : Dev nD) = c := Subsingleton.elim _ _
  rw [tables_eq]
  unfold Pipeline.ΦA ScratchAt
  rw [show ((cfgA m).spec) = spec0 from rfl, scopedRest0_eq]
  dsimp only [Pt]
  simp only [Memref.view_whole, View.set_whole]
  iintro ⟨⟨⟨⟨%s0, HS0⟩, ⟨%s1, HS1⟩, ⟨%s2, HS2⟩, ⟨%s3, HS3⟩, ⟨%s4, HS4⟩, ⟨%s5, HS5⟩, ⟨%s6, HS6⟩, ⟨%s7, HS7⟩, ⟨%s8, HS8⟩, ⟨%s9, HS9⟩, ⟨%s10, HS10⟩⟩, Hg⟩, HT⟩
  isplitl [HS0 HS1 HS2 HS3 HS4 HS5 HS6 HS7 HS8 HS9 HS10]
  · iexists s0, s1, s2, s3, s4, s5, s6, s7, s8, s9, s10
    isplitr; · ipureintro; exact I0 _ _ _ _ _ _ _ _ _ _ _
    sl_close
  isplitl [Hg]; · iexact Hg
  iexact HT

/-- After the last point: the scratch forgotten. -/
theorem end_inv (c : Dev nD) : (rdat m Inv Rl c).Φ (Fin.last (cfgA m).N) ⊢ Pipeline.ΦA (U := UR sig nD τ) (Val := Elt F) (cfgA m).spec c := by
  rw [show (rdat m Inv Rl c).Φ (Fin.last (cfgA m).N) = iprop(ScratchAt (Inv (cfgA m).N) c ∗ (∃ r, prngReg c r) ∗ Tables m c) from rfl]
  unfold Pipeline.ΦA ScratchAt
  rw [show ((cfgA m).spec) = spec0 from rfl, scopedRest0_eq]
  dsimp only [Pt, PtH]
  simp only [Memref.view_whole, View.set_whole]
  iintro ⟨⟨%s0, %s1, %s2, %s3, %s4, %s5, %s6, %s7, %s8, %s9, %s10, -, HS0, HS1, HS2, HS3, HS4, HS5, HS6, HS7, HS8, HS9, HS10⟩, Hg, -⟩
  isplitr [Hg]
  · isplitl [HS0]; · iexists s0; iexact HS0
    isplitl [HS1]; · iexists s1; iexact HS1
    isplitl [HS2]; · iexists s2; iexact HS2
    isplitl [HS3]; · iexists s3; iexact HS3
    isplitl [HS4]; · iexists s4; iexact HS4
    isplitl [HS5]; · iexists s5; iexact HS5
    isplitl [HS6]; · iexists s6; iexact HS6
    isplitl [HS7]; · iexists s7; iexact HS7
    isplitl [HS8]; · iexists s8; iexact HS8
    isplitl [HS9]; · iexists s9; iexact HS9
    iexists s10; iexact HS10
  iexact Hg

set_option backward.isDefEq.respectTransparency.types false in
/-- The run of the whole program, when every point does its part. -/
theorem run_main (I0 : ∀ s0 s1 s2 s3 s4 s5 s6 s7 s8 s9 s10, Inv 0 s0 s1 s2 s3 s4 s5 s6 s7 s8 s9 s10) (h : ∀ c, PointOk m Inv Rl c) :
    θ_run defs (onTc (τ := τ) (main (F := F))) (s₀ m ρ)
      (fun r => RDat.FramePost (cfgA m) (rdat m Inv Rl) (V m) r ∧ r.2.sem = fun _ => 0) :=
  RDat.θ_run_frameP_track_shared (Q' := _) (pcfgs (F := F)) (adm m) 0 launch₀0 defs₀ Variants.none (rdat m Inv Rl) m ρ main
    (hbody := fun c => (body_obligation c (h c)).toRRel)
    (hq := fun _ _ _ => rfl) (howed := fun _ _ => rfl) (V := V m)
    (hmain := Pipeline.hmainP_prefixes (pcfgs (F := F)) 0 defs₀ Variants.none m main hostAll
      ⟨hostOps0_sub, hostOps0_1_sub, hostOps0_2_sub, hostOps0_3_sub, hostOps0_4_sub, hostOps0_5_sub, hostOps0_6_sub⟩
      (by simp [hostAll, List.Forall]; refine ⟨?_, ?_, ?_, ?_, ?_, ?_, ?_⟩ <;> trivial)
      main_chain)
    (hA := fun _ _ => rfl)
    (hpf := fun c k => by obtain rfl := Subsingleton.elim c 0; rfl)
    (hin := fun c => start_inv I0 c)
    (hout := fun c => end_inv c)
    (hQ' := fun _ h => h)

variable (m)

/-- The buffers the host operations write, in order. -/
abbrev hostWrites : List (Ref sig .tc) := [main_cst, main_cst_0, main_v0, main_v1, main_c, main_call0_v0, main_v2, main_v3, main_v4, main_v5, main_v6, main_v7, main_cst_1, main_v8, main_v9, main_cst_2, main_v10, main_v11, main_v12, main_cst_3, main_v13, main_v14, main_c_4, main_v15, main_v16, main_v17, main_v18, main_v19, main_v20, main_v21, main_call1_v0, main_v22, main_cst_5, main_v23, main_v24, main_v25, main_v26, main_v27, main_v28, main_v29, main_v30, main_v31, main_v32, main_v33, main_c_6, main_call2_v0, main_v34, main_v35, main_v36]
theorem hostWrites_eq : (hostAll (F := F)).flatten.map HloOp.writes = hostWrites.map fun r => {Proc.devRef (τ := τ) .tc r} := rfl
theorem V_keep (c : Dev nD) (b : Ref sig .tc) (hb : b ∉ hostWrites) : V m c b = m ((c : Thread nD τ).loc b) :=
  StableHlo.after_of_writes_sub _ _ (StableHlo.forall_writes_sub_of_map hostWrites_eq) hb

theorem V_arg0 (c : Dev nD) : V m c main_arg0 = m ((c : Thread nD τ).loc main_arg0) := V_keep m c main_arg0 (by decide)
theorem kept0 (c : Dev nD) {r : PUnit × MemSt nD τ sig (Elt F)} (h : RDat.FramePost (cfgA m) (rdat m Inv Rl) (V m) r) :
    r.2.mem ((c : Thread nD τ).loc main_arg0) = m ((c : Thread nD τ).loc main_arg0) :=
  (RDat.FramePost.arr_in h c 0 rfl).trans (V_arg0 m c)

theorem V_arg1 (c : Dev nD) : V m c main_arg1 = m ((c : Thread nD τ).loc main_arg1) := V_keep m c main_arg1 (by decide)
theorem kept1 (c : Dev nD) {r : PUnit × MemSt nD τ sig (Elt F)} (h : RDat.FramePost (cfgA m) (rdat m Inv Rl) (V m) r) :
    r.2.mem ((c : Thread nD τ).loc main_arg1) = m ((c : Thread nD τ).loc main_arg1) :=
  ((h c).2 main_arg1 (Pipeline.mem_restRefs_of (win := (cfgA m).spec) main_arg1 (by decide) (show ∀ w : Fin 12, (spec0 w).arr.view.ref ≠ main_arg1 by decide))).trans (V_arg1 m c)

theorem V_arg2 (c : Dev nD) : V m c main_arg2 = m ((c : Thread nD τ).loc main_arg2) := V_keep m c main_arg2 (by decide)
theorem kept2 (c : Dev nD) {r : PUnit × MemSt nD τ sig (Elt F)} (h : RDat.FramePost (cfgA m) (rdat m Inv Rl) (V m) r) :
    r.2.mem ((c : Thread nD τ).loc main_arg2) = m ((c : Thread nD τ).loc main_arg2) :=
  ((h c).2 main_arg2 (Pipeline.mem_restRefs_of (win := (cfgA m).spec) main_arg2 (by decide) (show ∀ w : Fin 12, (spec0 w).arr.view.ref ≠ main_arg2 by decide))).trans (V_arg2 m c)

theorem V_arg3 (c : Dev nD) : V m c main_arg3 = m ((c : Thread nD τ).loc main_arg3) := V_keep m c main_arg3 (by decide)
theorem kept3 (c : Dev nD) {r : PUnit × MemSt nD τ sig (Elt F)} (h : RDat.FramePost (cfgA m) (rdat m Inv Rl) (V m) r) :
    r.2.mem ((c : Thread nD τ).loc main_arg3) = m ((c : Thread nD τ).loc main_arg3) :=
  ((h c).2 main_arg3 (Pipeline.mem_restRefs_of (win := (cfgA m).spec) main_arg3 (by decide) (show ∀ w : Fin 12, (spec0 w).arr.view.ref ≠ main_arg3 by decide))).trans (V_arg3 m c)

theorem V_arg4 (c : Dev nD) : V m c main_arg4 = m ((c : Thread nD τ).loc main_arg4) := V_keep m c main_arg4 (by decide)
theorem kept4 (c : Dev nD) {r : PUnit × MemSt nD τ sig (Elt F)} (h : RDat.FramePost (cfgA m) (rdat m Inv Rl) (V m) r) :
    r.2.mem ((c : Thread nD τ).loc main_arg4) = m ((c : Thread nD τ).loc main_arg4) :=
  ((h c).2 main_arg4 (Pipeline.mem_restRefs_of (win := (cfgA m).spec) main_arg4 (by decide) (show ∀ w : Fin 12, (spec0 w).arr.view.ref ≠ main_arg4 by decide))).trans (V_arg4 m c)

theorem V_arg5 (c : Dev nD) : V m c main_arg5 = m ((c : Thread nD τ).loc main_arg5) := V_keep m c main_arg5 (by decide)
theorem kept5 (c : Dev nD) {r : PUnit × MemSt nD τ sig (Elt F)} (h : RDat.FramePost (cfgA m) (rdat m Inv Rl) (V m) r) :
    r.2.mem ((c : Thread nD τ).loc main_arg5) = m ((c : Thread nD τ).loc main_arg5) :=
  ((h c).2 main_arg5 (Pipeline.mem_restRefs_of (win := (cfgA m).spec) main_arg5 (by decide) (show ∀ w : Fin 12, (spec0 w).arr.view.ref ≠ main_arg5 by decide))).trans (V_arg5 m c)

theorem V_arg6 (c : Dev nD) : V m c main_arg6 = m ((c : Thread nD τ).loc main_arg6) := V_keep m c main_arg6 (by decide)
theorem kept6 (c : Dev nD) {r : PUnit × MemSt nD τ sig (Elt F)} (h : RDat.FramePost (cfgA m) (rdat m Inv Rl) (V m) r) :
    r.2.mem ((c : Thread nD τ).loc main_arg6) = m ((c : Thread nD τ).loc main_arg6) :=
  ((h c).2 main_arg6 (Pipeline.mem_restRefs_of (win := (cfgA m).spec) main_arg6 (by decide) (show ∀ w : Fin 12, (spec0 w).arr.view.ref ≠ main_arg6 by decide))).trans (V_arg6 m c)

theorem V_arg7 (c : Dev nD) : V m c main_arg7 = m ((c : Thread nD τ).loc main_arg7) := V_keep m c main_arg7 (by decide)
theorem kept7 (c : Dev nD) {r : PUnit × MemSt nD τ sig (Elt F)} (h : RDat.FramePost (cfgA m) (rdat m Inv Rl) (V m) r) :
    r.2.mem ((c : Thread nD τ).loc main_arg7) = m ((c : Thread nD τ).loc main_arg7) :=
  ((h c).2 main_arg7 (Pipeline.mem_restRefs_of (win := (cfgA m).spec) main_arg7 (by decide) (show ∀ w : Fin 12, (spec0 w).arr.view.ref ≠ main_arg7 by decide))).trans (V_arg7 m c)

theorem V_arg8 (c : Dev nD) : V m c main_arg8 = m ((c : Thread nD τ).loc main_arg8) := V_keep m c main_arg8 (by decide)
theorem kept8 (c : Dev nD) {r : PUnit × MemSt nD τ sig (Elt F)} (h : RDat.FramePost (cfgA m) (rdat m Inv Rl) (V m) r) :
    r.2.mem ((c : Thread nD τ).loc main_arg8) = m ((c : Thread nD τ).loc main_arg8) :=
  ((h c).2 main_arg8 (Pipeline.mem_restRefs_of (win := (cfgA m).spec) main_arg8 (by decide) (show ∀ w : Fin 12, (spec0 w).arr.view.ref ≠ main_arg8 by decide))).trans (V_arg8 m c)

theorem V_arg9 (c : Dev nD) : V m c main_arg9 = m ((c : Thread nD τ).loc main_arg9) := V_keep m c main_arg9 (by decide)
theorem kept9 (c : Dev nD) {r : PUnit × MemSt nD τ sig (Elt F)} (h : RDat.FramePost (cfgA m) (rdat m Inv Rl) (V m) r) :
    r.2.mem ((c : Thread nD τ).loc main_arg9) = m ((c : Thread nD τ).loc main_arg9) :=
  ((h c).2 main_arg9 (Pipeline.mem_restRefs_of (win := (cfgA m).spec) main_arg9 (by decide) (show ∀ w : Fin 12, (spec0 w).arr.view.ref ≠ main_arg9 by decide))).trans (V_arg9 m c)

theorem V_arg10 (c : Dev nD) : V m c main_arg10 = m ((c : Thread nD τ).loc main_arg10) := V_keep m c main_arg10 (by decide)
theorem kept10 (c : Dev nD) {r : PUnit × MemSt nD τ sig (Elt F)} (h : RDat.FramePost (cfgA m) (rdat m Inv Rl) (V m) r) :
    r.2.mem ((c : Thread nD τ).loc main_arg10) = m ((c : Thread nD τ).loc main_arg10) :=
  ((h c).2 main_arg10 (Pipeline.mem_restRefs_of (win := (cfgA m).spec) main_arg10 (by decide) (show ∀ w : Fin 12, (spec0 w).arr.view.ref ≠ main_arg10 by decide))).trans (V_arg10 m c)

theorem V_arg11 (c : Dev nD) : V m c main_arg11 = m ((c : Thread nD τ).loc main_arg11) := V_keep m c main_arg11 (by decide)
theorem kept11 (c : Dev nD) {r : PUnit × MemSt nD τ sig (Elt F)} (h : RDat.FramePost (cfgA m) (rdat m Inv Rl) (V m) r) :
    r.2.mem ((c : Thread nD τ).loc main_arg11) = m ((c : Thread nD τ).loc main_arg11) :=
  ((h c).2 main_arg11 (Pipeline.mem_restRefs_of (win := (cfgA m).spec) main_arg11 (by decide) (show ∀ w : Fin 12, (spec0 w).arr.view.ref ≠ main_arg11 by decide))).trans (V_arg11 m c)

theorem V_arg12 (c : Dev nD) : V m c main_arg12 = m ((c : Thread nD τ).loc main_arg12) := V_keep m c main_arg12 (by decide)
theorem kept12 (c : Dev nD) {r : PUnit × MemSt nD τ sig (Elt F)} (h : RDat.FramePost (cfgA m) (rdat m Inv Rl) (V m) r) :
    r.2.mem ((c : Thread nD τ).loc main_arg12) = m ((c : Thread nD τ).loc main_arg12) :=
  ((h c).2 main_arg12 (Pipeline.mem_restRefs_of (win := (cfgA m).spec) main_arg12 (by decide) (show ∀ w : Fin 12, (spec0 w).arr.view.ref ≠ main_arg12 by decide))).trans (V_arg12 m c)

theorem V_arg13 (c : Dev nD) : V m c main_arg13 = m ((c : Thread nD τ).loc main_arg13) := V_keep m c main_arg13 (by decide)
theorem kept13 (c : Dev nD) {r : PUnit × MemSt nD τ sig (Elt F)} (h : RDat.FramePost (cfgA m) (rdat m Inv Rl) (V m) r) :
    r.2.mem ((c : Thread nD τ).loc main_arg13) = m ((c : Thread nD τ).loc main_arg13) :=
  ((h c).2 main_arg13 (Pipeline.mem_restRefs_of (win := (cfgA m).spec) main_arg13 (by decide) (show ∀ w : Fin 12, (spec0 w).arr.view.ref ≠ main_arg13 by decide))).trans (V_arg13 m c)

theorem V_arg14 (c : Dev nD) : V m c main_arg14 = m ((c : Thread nD τ).loc main_arg14) := V_keep m c main_arg14 (by decide)
theorem kept14 (c : Dev nD) {r : PUnit × MemSt nD τ sig (Elt F)} (h : RDat.FramePost (cfgA m) (rdat m Inv Rl) (V m) r) :
    r.2.mem ((c : Thread nD τ).loc main_arg14) = m ((c : Thread nD τ).loc main_arg14) :=
  ((h c).2 main_arg14 (Pipeline.mem_restRefs_of (win := (cfgA m).spec) main_arg14 (by decide) (show ∀ w : Fin 12, (spec0 w).arr.view.ref ≠ main_arg14 by decide))).trans (V_arg14 m c)

theorem V_arg15 (c : Dev nD) : V m c main_arg15 = m ((c : Thread nD τ).loc main_arg15) := V_keep m c main_arg15 (by decide)
theorem kept15 (c : Dev nD) {r : PUnit × MemSt nD τ sig (Elt F)} (h : RDat.FramePost (cfgA m) (rdat m Inv Rl) (V m) r) :
    r.2.mem ((c : Thread nD τ).loc main_arg15) = m ((c : Thread nD τ).loc main_arg15) :=
  ((h c).2 main_arg15 (Pipeline.mem_restRefs_of (win := (cfgA m).spec) main_arg15 (by decide) (show ∀ w : Fin 12, (spec0 w).arr.view.ref ≠ main_arg15 by decide))).trans (V_arg15 m c)

variable {m}

/-- Nothing said of the scratch, nothing of the windows. -/
abbrev anyInv : ℕ → ScratchPred F := fun _ _ _ _ _ _ _ _ _ _ _ _ => True
abbrev anyRl : (w : Fin (cfgA m).W) → Fin (cfgA m).N → (((cfgA m).win w).block.Idx → Elt F ((cfgA m).win w).elt) → Prop := fun _ _ _ => True

/-- Every point does its part when the order table is in range. -/
theorem pointOk_any (c : Dev nD) (hO : OrderOk (F := F) (Memref.whole main_arg2) (V m c main_arg2)) : PointOk m anyInv (anyRl (m := m)) c := by
  intro t x0 x1 x2 x3 x4 x5 x6 x7 x8 x9 x10 x11 s0 s1 s2 s3 s4 s5 s6 s7 s8 s9 s10 _ _ _ _ _ _ _ _ _ _ _ _ _
  refine BIBase.Entails.trans ?_ ((body_run Variants.none c (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m c main_arg1) (V m c main_arg2) x0 x1 x2 x3 x4 x5 x6 x7 x8 hO).trans (wp_mono _ _ _ fun _ => ?_))
  · unfold Left
    iintro H
    iexists x9, x10, x11, s0, s1, s2, s3, s4, s5, s6, s7, s8, s9, s10
    iexact H
  · unfold Left PointPost
    iintro ⟨%r0, %r1, %r2, %r3, %r4, %r5, %r6, %r7, %r8, %r9, %r10, %r11, %r12, %r13, H⟩
    iexists x0, x1, x2, x3, x4, x5, x6, x7, x8, r0, r1, r2, r3, r4, r5, r6, r7, r8, r9, r10, r11, r12, r13
    isplitr; · ipureintro; trivial
    isplitr; · ipureintro; exact ⟨trivial, trivial, trivial, trivial, trivial, trivial, trivial, trivial, trivial, trivial, trivial, trivial⟩
    iexact H

variable (m)

/-- A table all of whose words are below 128 is in range however it is read. -/
theorem orderOk_of (c : Dev nD) (h : ∀ y : S128.Idx, (m ((c : Thread nD τ).loc main_arg2) y : BitVec 32).toNat < 128) :
    OrderOk (F := F) (Memref.whole main_arg2) (V m c main_arg2) := by
  rw [V_arg2]
  intro r x
  exact h _

/-- The frame: from an order table in range, the program ends, its arguments as they were and every semaphore at zero. -/
theorem frame_run (h : ∀ (c : Dev nD) (y : S128.Idx), (m ((c : Thread nD τ).loc main_arg2) y : BitVec 32).toNat < 128) :
    θ_run defs (onTc (τ := τ) (main (F := F))) (s₀ m ρ) (fun r => (∀ c : Dev nD, r.2.mem ((c : Thread nD τ).loc main_arg0) = m ((c : Thread nD τ).loc main_arg0) ∧ r.2.mem ((c : Thread nD τ).loc main_arg1) = m ((c : Thread nD τ).loc main_arg1) ∧ r.2.mem ((c : Thread nD τ).loc main_arg2) = m ((c : Thread nD τ).loc main_arg2) ∧ r.2.mem ((c : Thread nD τ).loc main_arg3) = m ((c : Thread nD τ).loc main_arg3) ∧ r.2.mem ((c : Thread nD τ).loc main_arg4) = m ((c : Thread nD τ).loc main_arg4) ∧ r.2.mem ((c : Thread nD τ).loc main_arg5) = m ((c : Thread nD τ).loc main_arg5) ∧ r.2.mem ((c : Thread nD τ).loc main_arg6) = m ((c : Thread nD τ).loc main_arg6) ∧ r.2.mem ((c : Thread nD τ).loc main_arg7) = m ((c : Thread nD τ).loc main_arg7) ∧ r.2.mem ((c : Thread nD τ).loc main_arg8) = m ((c : Thread nD τ).loc main_arg8) ∧ r.2.mem ((c : Thread nD τ).loc main_arg9) = m ((c : Thread nD τ).loc main_arg9) ∧ r.2.mem ((c : Thread nD τ).loc main_arg10) = m ((c : Thread nD τ).loc main_arg10) ∧ r.2.mem ((c : Thread nD τ).loc main_arg11) = m ((c : Thread nD τ).loc main_arg11) ∧ r.2.mem ((c : Thread nD τ).loc main_arg12) = m ((c : Thread nD τ).loc main_arg12) ∧ r.2.mem ((c : Thread nD τ).loc main_arg13) = m ((c : Thread nD τ).loc main_arg13) ∧ r.2.mem ((c : Thread nD τ).loc main_arg14) = m ((c : Thread nD τ).loc main_arg14) ∧ r.2.mem ((c : Thread nD τ).loc main_arg15) = m ((c : Thread nD τ).loc main_arg15)) ∧ r.2.sem = fun _ => 0) :=
  (θ_run defs _ _).mono (fun r h => ⟨fun c => ⟨kept0 m c h.1, kept1 m c h.1, kept2 m c h.1, kept3 m c h.1, kept4 m c h.1, kept5 m c h.1, kept6 m c h.1, kept7 m c h.1, kept8 m c h.1, kept9 m c h.1, kept10 m c h.1, kept11 m c h.1, kept12 m c h.1, kept13 m c h.1, kept14 m c h.1, kept15 m c h.1⟩, h.2⟩)
    (run_main (Inv := anyInv) (Rl := anyRl) ρ (fun _ _ _ _ _ _ _ _ _ _ _ => trivial) fun c => pointOk_any c (orderOk_of m c (h c)))

end Cert.KernelIdeal.Hand

end
-- ==== Proof.Pre.lean ====
/- What the precondition says of the order table and of the lengths. -/
module

public import proofs.«01_k».proof.Pre_well_formed
public import Idealize.ShloMosaic.Lib.StableHlo.Predicate
public import Idealize.ShloMosaic.Lib.Pointwise.Index

@[expose] public section

namespace Cert.Pre_well_formed.Hand

open Idealize.ShloMosaic

variable {F : FTy → Type} [FloatOps F] [Cert.Pre_well_formed.Facts]

theorem andi_one (a b : BitVec 1) : IntOp.andi a b = 1#1 ↔ a = 1#1 ∧ b = 1#1 := by revert a b; decide
theorem ori_one (a b : BitVec 1) : IntOp.ori a b = 1#1 ↔ a = 1#1 ∨ b = 1#1 := by revert a b; decide
theorem ofBool_one (b : Bool) : BitVec.ofBool b = 1#1 ↔ b = true := by revert b; decide

section
variable {α : Type}
/-- A column spread along the rows, read at an element. -/
theorem row_apply (y : S128x1.Idx → α) (b1 : S128x1.BroadcastsInDim S128x128 ![0, 1]) (s t : Fin 128) :
    broadcastInDim S128x128 ![0, 1] b1 y (ix2 s t) = y (ix2 s 0) := by
  unfold broadcastInDim; refine congrArg y (funext fun a => ?_); fin_cases a <;> rfl
/-- A row spread along the columns, read at an element. -/
theorem col_apply (y : S1x128.Idx → α) (b1 : S1x128.BroadcastsInDim S128x128 ![0, 1]) (s t : Fin 128) :
    broadcastInDim S128x128 ![0, 1] b1 y (ix2 s t) = y (ix2 0 t) := by
  unfold broadcastInDim; refine congrArg y (funext fun a => ?_); fin_cases a <;> rfl
/-- A vector as a column. -/
theorem asCol (x : S128.Idx → α) (b : S128.BroadcastsInDim S128x1 ![0]) (s : Fin 128) : broadcastInDim S128x1 ![0] b x (ix2 s 0) = x (ix1 s) := by
  unfold broadcastInDim; refine congrArg x (funext fun a => ?_); fin_cases a; rfl
/-- A vector as a row. -/
theorem asRow (x : S128.Idx → α) (b : S128.BroadcastsInDim S1x128 ![1]) (t : Fin 128) : broadcastInDim S1x128 ![1] b x (ix2 0 t) = x (ix1 t) := by
  unfold broadcastInDim; refine congrArg x (funext fun a => ?_); fin_cases a; rfl
/-- One word everywhere. -/
theorem splat (v : BitVec 32) (b : S_.BroadcastsInDim S128x1 ![]) (j : S128x1.Idx) : broadcastInDim S128x1 ![] b (constantI S_ 32 v) j = v := rfl
/-- The conjunction at an element. -/
theorem and_at {sh : Shape} {w : Nat} (x y : sh.Idx → BitVec w) (j : sh.Idx) : andi x y j = IntOp.andi (x j) (y j) := rfl
/-- The disjunction at an element. -/
theorem or_at {sh : Shape} {w : Nat} (x y : sh.Idx → BitVec w) (j : sh.Idx) : ori x y j = IntOp.ori (x j) (y j) := rfl
/-- A comparison at an element. -/
theorem cmp_at {sh : Shape} {w : Nat} (p) (x y : sh.Idx → BitVec w) (j : sh.Idx) : cmpi p x y j = IntOp.cmpi p (x j) (y j) := rfl
end

/-- The three conditions: every order word is a row, two different places hold different rows, and the lengths descend. -/
theorem decode {a0 a1 a2 a3 a4 a5 a6 a7 a8 a9 a10 a11 a12 a13 a14 a15}
    (h : Pre_well_formed.fn (F := F) a0 a1 a2 a3 a4 a5 a6 a7 a8 a9 a10 a11 a12 a13 a14 a15 = fun _ => 1#1) (s t : Fin 128) :
    (a2 (ix1 s) : BitVec 32).toNat < 128 ∧ ((a2 (ix1 s) : BitVec 32) = a2 (ix1 t) → s = t)
      ∧ (s ≤ t → (a1 (ix1 t) : BitVec 32).toInt ≤ (a1 (ix1 s) : BitVec 32).toInt) := by
  have e := congrFun h (ix2 s t)
  simp only [Pre_well_formed.fn, Pre_well_formed.fn_part1, and_at, or_at, cmp_at, andi_one, ori_one] at e
  obtain ⟨⟨e1, e2⟩, e3⟩ := e
  rw [row_apply, and_at, cmp_at, cmp_at, asCol, splat, splat, andi_one] at e1
  rw [row_apply, col_apply, row_apply, col_apply, asCol, asRow, asCol, asRow] at e2
  rw [row_apply, col_apply, row_apply, col_apply, asCol, asRow, asCol, asRow] at e3
  simp only [iotaInDim, IntOp.cmpi, ofBool_one, BitVec.sle, BitVec.slt, decide_eq_true_eq, bne_iff_ne, beq_iff_eq] at e1 e2 e3
  replace e2 : a2 (ix1 s) ≠ a2 (ix1 t) ∨ BitVec.ofNat 32 s.val = BitVec.ofNat 32 t.val := e2
  replace e3 : (a1 (ix1 t)).toInt ≤ (a1 (ix1 s)).toInt ∨ (BitVec.ofNat 32 t.val).toInt < (BitVec.ofNat 32 s.val).toInt :=
    e3.imp id of_decide_eq_true
  have small (k : Fin 128) : (BitVec.ofNat 32 k.val).toInt = k.val := by
    rw [BitVec.toInt_eq_toNat_cond, BitVec.toNat_ofNat]; have := k.isLt; split <;> omega
  refine ⟨?_, fun q => ?_, fun q => ?_⟩
  · have h0 : (0#32).toInt = 0 := by decide
    have h1 : (128#32).toInt = 128 := by decide
    rw [h0, h1] at e1
    have := e1.1; have := e1.2
    rw [BitVec.toInt_eq_toNat_cond] at *
    split at * <;> omega
  · have e := congrArg BitVec.toInt (e2.resolve_left (fun n => n q))
    rw [small, small] at e
    exact Fin.ext (by omega)
  · refine e3.resolve_right fun n => ?_
    rw [small, small] at n
    have : s.val ≤ t.val := q
    omega

end Cert.Pre_well_formed.Hand
-- ==== Proof.Spec.lean ====
module

public import Idealize.ShloMosaic.Lib.Pointwise

@[expose] public section

noncomputable section

namespace Cert.Spec

open Idealize.ShloMosaic

/-- The logistic function as both programs compute it. -/
def sg (x : EReal) : EReal := Ideal.div 1 (1 + Ideal.exp (-x))

/-- One gated step: the input parts `p`, the hidden parts `a`, the old value `h`. -/
def gru (p a : Fin 3 → EReal) (h : EReal) : EReal :=
  (1 - sg (p 0 + a 0)) * h + sg (p 0 + a 0) * Ideal.tanh (p 2 + sg (p 1 + a 1) * a 2)

theorem sg_bot : sg ⊥ = 0 := by
  unfold sg
  have e : Ideal.exp (-⊥) = ⊤ := by rw [EReal.neg_bot]; rfl
  have t : (1 : EReal) + ⊤ = ⊤ := rfl
  rw [e, t, Ideal.div, if_neg (by simp), EReal.inv_top, mul_zero]

/-- A step whose update gate is shut keeps the value. -/
theorem gru_shut (p a : Fin 3 → EReal) (h : EReal) (hp : p 0 = ⊥) : gru p a h = h := by
  unfold gru
  rw [hp, EReal.bot_add, sg_bot]
  simp

/-- Column `j` of gate `g` among three gates of 128 columns. -/
def col (g : Fin 3) (j : Fin 128) : Fin 384 := ⟨g.val * 128 + j.val, by omega⟩

/-- Column `j` of gate `g` among three gates of 80 columns. -/
def col80 (g : Fin 3) (j : Fin 80) : Fin 240 := ⟨g.val * 80 + j.val, by omega⟩

/-- The hidden parts of a step. -/
def hid (Wh : Fin 80 → Fin 3 → Fin 80 → EReal) (sh bh : Fin 3 → Fin 80 → EReal) (h : Fin 80 → EReal) (j : Fin 80) (g : Fin 3) : EReal :=
  (∑ k : Fin 80, h k * Wh k g j) * sh g j + bh g j

/-- The hidden state after `n` steps: row `r` moves while `n` is below its length. -/
def H (P : ℕ → Fin 128 → Fin 80 → Fin 3 → EReal) (len : Fin 128 → ℤ) (Wh : Fin 80 → Fin 3 → Fin 80 → EReal) (sh bh : Fin 3 → Fin 80 → EReal) :
    ℕ → Fin 128 → Fin 80 → EReal
  | 0 => fun _ _ => 0
  | n + 1 => fun r j => if (n : ℤ) < len r then
      gru (P n r j) (hid Wh sh bh (H P len Wh sh bh n r) j) (H P len Wh sh bh n r j)
    else H P len Wh sh bh n r j

/-- Channel `k` of a row of words: its code times the scale of its group. -/
def chan (w : Fin 128 → BitVec 32) (k : ℕ) : EReal :=
  FloatOps.sitofp (F := Ideal) .f32 (IntOp.shrsi .vector (IntOp.shli .vector (w (Fin.ofNat 128 (k / 4))) (BitVec.ofNat 32 (24 - 8 * (k % 4)))) 24#32)
    * Ideal.ofBits .f32 (w (Fin.ofNat 128 (88 + k / 32)))

/-- The input part of a row of words under one column of weights. -/
def proj (w : Fin 128 → BitVec 32) (W : ℕ → EReal) (s b : EReal) : EReal :=
  (∑ k : Fin 352, chan w k.val * W k.val) * s + b

/-- The sum over the channels, cut in three tiles of 128 and padded by zeros. -/
theorem sum_tiles (f : ℕ → EReal) (h : ∀ k, 352 ≤ k → f k = 0) :
    ∑ x : Fin 128, f x.val + ∑ x : Fin 128, f (128 + x.val) + ∑ x : Fin 128, f (256 + x.val) = ∑ k : Fin 352, f k.val := by
  have e3 : ∑ k ∈ Finset.range 384, f k = ∑ k ∈ Finset.range 352, f k := by
    rw [show (384 : ℕ) = 352 + 32 from rfl, Finset.sum_range_add]
    rw [Finset.sum_eq_zero (s := Finset.range 32) (fun x _ => h _ (Nat.le_add_right _ _)), add_zero]
  rw [← Finset.sum_range (f := f), ← Finset.sum_range (f := f), ← e3, ← Finset.sum_range (f := fun x => f (128 + x)), ← Finset.sum_range (f := fun x => f (256 + x))]
  rw [show (384 : ℕ) = 128 + 128 + 128 from rfl, Finset.sum_range_add, Finset.sum_range_add]

/-- A sum over 128 of which the last 48 vanish. -/
theorem sum_head (f : Fin 128 → EReal) (g : Fin 80 → EReal) (h : ∀ k : Fin 80, f ⟨k.val, by omega⟩ = g k) (hz : ∀ k : Fin 128, 80 ≤ k.val → f k = 0) :
    ∑ k : Fin 128, f k = ∑ k : Fin 80, g k := by
  rw [show (∑ k : Fin 128, f k) = ∑ k : Fin (80 + 48), f k from rfl, Fin.sum_univ_add]
  rw [Finset.sum_eq_zero (s := (Finset.univ : Finset (Fin 48))) (fun x _ => hz _ (Nat.le_add_right _ _)), add_zero]
  exact Finset.sum_congr rfl fun k _ => h k

end Cert.Spec
-- ==== Proof.KernelIdealValue.lean ====
module

public import proofs.«01_k».proof.Proof.KernelIdealLoops
public import Idealize.ShloMosaic.Lib.Pointwise.Index
public import proofs.«01_k».proof.Proof.Spec
public import Idealize.ShloMosaic.Lib.Pointwise
public import Idealize.ShloMosaic.Lib.WritesUnit
public import Idealize.ShloMosaic.Lib.VecWindow

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable (𝒱 : Variants) (c : Dev nD) (bd : Option 𝒱.V) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole)

variable {F : FTy → Type} [FloatOps F]

/-- One step of the 16-row variant. -/
def step16 (h : FVec F S16x128 .f32) (wh : FVec F S128x384 .bf16) (p : FVec F S16x384 .f32) (sh bh : FVec F S1x384 .f32) : FVec F S16x128 .f32 :=
  have a : FVec F S16x384 .f32 := addf (mulf (matmul dot_S16x128_S128x384_S16x384_1_0_0_1_n_n none (truncf .bf16 h bitsLt_bf16_f32) wh (constant S16x384 .f32 0x00000000#32)) (broadcastTo S16x384 sh broadcasts_S1x384_S16x384)) (broadcastTo S16x384 bh broadcasts_S1x384_S16x384)
  have one : FVec F S16x128 .f32 := broadcast S16x128 (Scalar.ofBits .f32 0x3F800000#32)
  have zero : FVec F S16x128 .f32 := broadcast S16x128 (Scalar.ofBits .f32 0x00000000#32)
  have u : FVec F S16x128 .f32 := divf one (addf one (exp (subf zero (addf (extractStridedSlice S16x128 ![0, 0] p slices_S16x384_o0_0_S16x128) (extractStridedSlice S16x128 ![0, 0] a slices_S16x384_o0_0_S16x128)))))
  have r : FVec F S16x128 .f32 := divf one (addf one (exp (subf zero (addf (extractStridedSlice S16x128 ![0, 128] p slices_S16x384_o0_128_S16x128) (extractStridedSlice S16x128 ![0, 128] a slices_S16x384_o0_128_S16x128)))))
  have n : FVec F S16x128 .f32 := tanh (addf (extractStridedSlice S16x128 ![0, 256] p slices_S16x384_o0_256_S16x128) (mulf r (extractStridedSlice S16x128 ![0, 256] a slices_S16x384_o0_256_S16x128)))
  addf (mulf (subf one u) h) (mulf u n)

theorem trip16_eq (a0 : BitVec 32) (v0 : IVec S1x128 32) (k0_h2 : k0_cond2 i = 1#1) (v42 : BitVec 32) (v899 : IVec S16x128 1) (v900 : FVec F S16x384 .f32) (v901 : BitVec 32) (v911 : FVec F S16x128 .f32) (v923 : Vec F S1x384 .f32) (v925 : Vec F S1x384 .f32) (v944 : Vec F S16x128 .f32) (X_arg16 : BufTy.Contents (Elt F) a16.view.ty) (X_arg21 : BufTy.Contents (Elt F) a21.view.ty) (k : Fin k0_t1_loop.trips) (acc : Vec F S16x128 .f32) f22 f24 :
    (trip_k0_t1 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911 v923 v925 v944 X_arg16 X_arg21 k).1 acc f22 f24
      = step16 acc (a16.view.readAt (Elt F) (Rect.unit (s := S128x384) ![0, 0] S128x384.size inb_S128x384_S128x384_0_0).toLoadRect X_arg16)
          (a21.view.readAt (Elt F) (Rect.unit (s := S2048x384) (k0_off5 k) S16x384.size (k0_off5_inb i k k0_h2)).toLoadRect X_arg21)
          (shapeCast S1x384 v923 shapeCasts_S1x384_S1x384) (shapeCast S1x384 v925 shapeCasts_S1x384_S1x384) := by
  unfold trip_k0_t1
  dsimp only
  rfl

theorem step16_apply (h : FVec Ideal S16x128 .f32) (wh : FVec Ideal S128x384 .bf16) (p : FVec Ideal S16x384 .f32) (sh bh : FVec Ideal S1x384 .f32) (r : Fin 16) (j : Fin 128) :
    step16 h wh p sh bh (ix2 r j) = Spec.gru (fun g => p (ix2 r (Spec.col g j)))
      (fun g => (∑ k : Fin 128, h (ix2 r k) * wh (ix2 k (Spec.col g j))) * sh (ix2 0 (Spec.col g j)) + bh (ix2 0 (Spec.col g j))) (h (ix2 r j)) := by
  pointwise [step16, Spec.gru, Spec.sg]
  have e0 : Spec.col 0 j = ⟨j.val, by omega⟩ := by ext; simp [Spec.col]
  have e1 : Spec.col 1 j = ⟨128 + j.val, by omega⟩ := by ext; simp [Spec.col]
  have e2 : Spec.col 2 j = ⟨256 + j.val, by omega⟩ := by ext; simp [Spec.col]
  simp only [e0, e1, e2, sub_eq_add_neg, zero_add]

/-- One step of the 32-row variant. -/
def step32 (h : FVec F S32x128 .f32) (wh : FVec F S128x384 .bf16) (p : FVec F S32x384 .f32) (sh bh : FVec F S1x384 .f32) : FVec F S32x128 .f32 :=
  have a : FVec F S32x384 .f32 := addf (mulf (matmul dot_S32x128_S128x384_S32x384_1_0_0_1_n_n none (truncf .bf16 h bitsLt_bf16_f32) wh (constant S32x384 .f32 0x00000000#32)) (broadcastTo S32x384 sh broadcasts_S1x384_S32x384)) (broadcastTo S32x384 bh broadcasts_S1x384_S32x384)
  have one : FVec F S32x128 .f32 := broadcast S32x128 (Scalar.ofBits .f32 0x3F800000#32)
  have zero : FVec F S32x128 .f32 := broadcast S32x128 (Scalar.ofBits .f32 0x00000000#32)
  have u : FVec F S32x128 .f32 := divf one (addf one (exp (subf zero (addf (extractStridedSlice S32x128 ![0, 0] p slices_S32x384_o0_0_S32x128) (extractStridedSlice S32x128 ![0, 0] a slices_S32x384_o0_0_S32x128)))))
  have r : FVec F S32x128 .f32 := divf one (addf one (exp (subf zero (addf (extractStridedSlice S32x128 ![0, 128] p slices_S32x384_o0_128_S32x128) (extractStridedSlice S32x128 ![0, 128] a slices_S32x384_o0_128_S32x128)))))
  have n : FVec F S32x128 .f32 := tanh (addf (extractStridedSlice S32x128 ![0, 256] p slices_S32x384_o0_256_S32x128) (mulf r (extractStridedSlice S32x128 ![0, 256] a slices_S32x384_o0_256_S32x128)))
  addf (mulf (subf one u) h) (mulf u n)

theorem trip32_eq (k0_h2 : k0_cond2 i = 1#1) (v42 : BitVec 32) (v44 : Vec F S1x384 .f32) (v46 : Vec F S1x384 .f32) (v65 : Vec F S32x128 .f32) (X_arg16 : BufTy.Contents (Elt F) a16.view.ty) (X_arg21 : BufTy.Contents (Elt F) a21.view.ty) (k : Fin k0_t3_loop.trips) (acc : Vec F S32x128 .f32) f22 f24 :
    (trip_k0_t3 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 k).1 acc f22 f24
      = step32 acc (a16.view.readAt (Elt F) (Rect.unit (s := S128x384) ![0, 0] S128x384.size inb_S128x384_S128x384_0_0).toLoadRect X_arg16)
          (a21.view.readAt (Elt F) (Rect.unit (s := S2048x384) (k0_off12 k) S32x384.size (k0_off12_inb i k k0_h2)).toLoadRect X_arg21)
          (shapeCast S1x384 v44 shapeCasts_S1x384_S1x384) (shapeCast S1x384 v46 shapeCasts_S1x384_S1x384) := by
  unfold trip_k0_t3
  dsimp only
  rfl

theorem step32_apply (h : FVec Ideal S32x128 .f32) (wh : FVec Ideal S128x384 .bf16) (p : FVec Ideal S32x384 .f32) (sh bh : FVec Ideal S1x384 .f32) (r : Fin 32) (j : Fin 128) :
    step32 h wh p sh bh (ix2 r j) = Spec.gru (fun g => p (ix2 r (Spec.col g j)))
      (fun g => (∑ k : Fin 128, h (ix2 r k) * wh (ix2 k (Spec.col g j))) * sh (ix2 0 (Spec.col g j)) + bh (ix2 0 (Spec.col g j))) (h (ix2 r j)) := by
  pointwise [step32, Spec.gru, Spec.sg]
  have e0 : Spec.col 0 j = ⟨j.val, by omega⟩ := by ext; simp [Spec.col]
  have e1 : Spec.col 1 j = ⟨128 + j.val, by omega⟩ := by ext; simp [Spec.col]
  have e2 : Spec.col 2 j = ⟨256 + j.val, by omega⟩ := by ext; simp [Spec.col]
  simp only [e0, e1, e2, sub_eq_add_neg, zero_add]

/-- One step of the 64-row variant. -/
def step64 (h : FVec F S64x128 .f32) (wh : FVec F S128x384 .bf16) (p : FVec F S64x384 .f32) (sh bh : FVec F S1x384 .f32) : FVec F S64x128 .f32 :=
  have a : FVec F S64x384 .f32 := addf (mulf (matmul dot_S64x128_S128x384_S64x384_1_0_0_1_n_n none (truncf .bf16 h bitsLt_bf16_f32) wh (constant S64x384 .f32 0x00000000#32)) (broadcastTo S64x384 sh broadcasts_S1x384_S64x384)) (broadcastTo S64x384 bh broadcasts_S1x384_S64x384)
  have one : FVec F S64x128 .f32 := broadcast S64x128 (Scalar.ofBits .f32 0x3F800000#32)
  have zero : FVec F S64x128 .f32 := broadcast S64x128 (Scalar.ofBits .f32 0x00000000#32)
  have u : FVec F S64x128 .f32 := divf one (addf one (exp (subf zero (addf (extractStridedSlice S64x128 ![0, 0] p slices_S64x384_o0_0_S64x128) (extractStridedSlice S64x128 ![0, 0] a slices_S64x384_o0_0_S64x128)))))
  have r : FVec F S64x128 .f32 := divf one (addf one (exp (subf zero (addf (extractStridedSlice S64x128 ![0, 128] p slices_S64x384_o0_128_S64x128) (extractStridedSlice S64x128 ![0, 128] a slices_S64x384_o0_128_S64x128)))))
  have n : FVec F S64x128 .f32 := tanh (addf (extractStridedSlice S64x128 ![0, 256] p slices_S64x384_o0_256_S64x128) (mulf r (extractStridedSlice S64x128 ![0, 256] a slices_S64x384_o0_256_S64x128)))
  addf (mulf (subf one u) h) (mulf u n)

theorem trip64_eq (k0_h2 : k0_cond2 i = 1#1) (v42 : BitVec 32) (v44 : Vec F S1x384 .f32) (v46 : Vec F S1x384 .f32) (v65 : Vec F S64x128 .f32) (X_arg16 : BufTy.Contents (Elt F) a16.view.ty) (X_arg21 : BufTy.Contents (Elt F) a21.view.ty) (k : Fin k0_t5_loop.trips) (acc : Vec F S64x128 .f32) f22 f24 :
    (trip_k0_t5 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 k).1 acc f22 f24
      = step64 acc (a16.view.readAt (Elt F) (Rect.unit (s := S128x384) ![0, 0] S128x384.size inb_S128x384_S128x384_0_0).toLoadRect X_arg16)
          (a21.view.readAt (Elt F) (Rect.unit (s := S2048x384) (k0_off19 k) S64x384.size (k0_off19_inb i k k0_h2)).toLoadRect X_arg21)
          (shapeCast S1x384 v44 shapeCasts_S1x384_S1x384) (shapeCast S1x384 v46 shapeCasts_S1x384_S1x384) := by
  unfold trip_k0_t5
  dsimp only
  rfl

theorem step64_apply (h : FVec Ideal S64x128 .f32) (wh : FVec Ideal S128x384 .bf16) (p : FVec Ideal S64x384 .f32) (sh bh : FVec Ideal S1x384 .f32) (r : Fin 64) (j : Fin 128) :
    step64 h wh p sh bh (ix2 r j) = Spec.gru (fun g => p (ix2 r (Spec.col g j)))
      (fun g => (∑ k : Fin 128, h (ix2 r k) * wh (ix2 k (Spec.col g j))) * sh (ix2 0 (Spec.col g j)) + bh (ix2 0 (Spec.col g j))) (h (ix2 r j)) := by
  pointwise [step64, Spec.gru, Spec.sg]
  have e0 : Spec.col 0 j = ⟨j.val, by omega⟩ := by ext; simp [Spec.col]
  have e1 : Spec.col 1 j = ⟨128 + j.val, by omega⟩ := by ext; simp [Spec.col]
  have e2 : Spec.col 2 j = ⟨256 + j.val, by omega⟩ := by ext; simp [Spec.col]
  simp only [e0, e1, e2, sub_eq_add_neg, zero_add]

/-- One step of the 128-row variant. -/
def step128 (h : FVec F S128x128 .f32) (wh : FVec F S128x384 .bf16) (p : FVec F S128x384 .f32) (sh bh : FVec F S1x384 .f32) : FVec F S128x128 .f32 :=
  have a : FVec F S128x384 .f32 := addf (mulf (matmul dot_S128x128_S128x384_S128x384_1_0_0_1_n_n none (truncf .bf16 h bitsLt_bf16_f32) wh (constant S128x384 .f32 0x00000000#32)) (broadcastTo S128x384 sh broadcasts_S1x384_S128x384)) (broadcastTo S128x384 bh broadcasts_S1x384_S128x384)
  have one : FVec F S128x128 .f32 := broadcast S128x128 (Scalar.ofBits .f32 0x3F800000#32)
  have zero : FVec F S128x128 .f32 := broadcast S128x128 (Scalar.ofBits .f32 0x00000000#32)
  have u : FVec F S128x128 .f32 := divf one (addf one (exp (subf zero (addf (extractStridedSlice S128x128 ![0, 0] p slices_S128x384_o0_0_S128x128) (extractStridedSlice S128x128 ![0, 0] a slices_S128x384_o0_0_S128x128)))))
  have r : FVec F S128x128 .f32 := divf one (addf one (exp (subf zero (addf (extractStridedSlice S128x128 ![0, 128] p slices_S128x384_o0_128_S128x128) (extractStridedSlice S128x128 ![0, 128] a slices_S128x384_o0_128_S128x128)))))
  have n : FVec F S128x128 .f32 := tanh (addf (extractStridedSlice S128x128 ![0, 256] p slices_S128x384_o0_256_S128x128) (mulf r (extractStridedSlice S128x128 ![0, 256] a slices_S128x384_o0_256_S128x128)))
  addf (mulf (subf one u) h) (mulf u n)

theorem trip128_eq (k0_h2 : k0_cond2 i = 1#1) (v42 : BitVec 32) (v44 : Vec F S1x384 .f32) (v46 : Vec F S1x384 .f32) (v65 : Vec F S128x128 .f32) (X_arg16 : BufTy.Contents (Elt F) a16.view.ty) (X_arg21 : BufTy.Contents (Elt F) a21.view.ty) (k : Fin k0_t7_loop.trips) (acc : Vec F S128x128 .f32) f22 f24 :
    (trip_k0_t7 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 k).1 acc f22 f24
      = step128 acc (a16.view.readAt (Elt F) (Rect.unit (s := S128x384) ![0, 0] S128x384.size inb_S128x384_S128x384_0_0).toLoadRect X_arg16)
          (a21.view.readAt (Elt F) (Rect.unit (s := S2048x384) (k0_off26 k) S128x384.size (k0_off26_inb i k k0_h2)).toLoadRect X_arg21)
          (shapeCast S1x384 v44 shapeCasts_S1x384_S1x384) (shapeCast S1x384 v46 shapeCasts_S1x384_S1x384) := by
  unfold trip_k0_t7
  dsimp only
  rfl

theorem step128_apply (h : FVec Ideal S128x128 .f32) (wh : FVec Ideal S128x384 .bf16) (p : FVec Ideal S128x384 .f32) (sh bh : FVec Ideal S1x384 .f32) (r : Fin 128) (j : Fin 128) :
    step128 h wh p sh bh (ix2 r j) = Spec.gru (fun g => p (ix2 r (Spec.col g j)))
      (fun g => (∑ k : Fin 128, h (ix2 r k) * wh (ix2 k (Spec.col g j))) * sh (ix2 0 (Spec.col g j)) + bh (ix2 0 (Spec.col g j))) (h (ix2 r j)) := by
  pointwise [step128, Spec.gru, Spec.sg]
  have e0 : Spec.col 0 j = ⟨j.val, by omega⟩ := by ext; simp [Spec.col]
  have e1 : Spec.col 1 j = ⟨128 + j.val, by omega⟩ := by ext; simp [Spec.col]
  have e2 : Spec.col 2 j = ⟨256 + j.val, by omega⟩ := by ext; simp [Spec.col]
  simp only [e0, e1, e2, sub_eq_add_neg, zero_add]

/-- The words' lane of each channel of a tile. -/
def codeIdx (off : BitVec 32) (v0 : IVec S1x128 32) : IVec S1x128 32 :=
  let s : IVec S1x128 32 := subi (extui 32 (cmpi .sgt v0 (broadcast S1x128 0#32)) natLt_1_32) (extui 32 (cmpi .slt v0 (broadcast S1x128 0#32)) natLt_1_32)
  let q : IVec S1x128 32 := divsi v0 (broadcast S1x128 4#32)
  let t : BitVec 32 := Scalar.subi (Scalar.extui (Scalar.cmpi .sgt 4#32 0#32)) (Scalar.extui (Scalar.cmpi .slt 4#32 0#32))
  let m : IVec S1x128 1 := andi (cmpi .ne s (broadcast S1x128 t)) (cmpi .ne (remsi v0 (broadcast S1x128 4#32)) (broadcast S1x128 0#32))
  minsi (addi (broadcast S1x128 off) (select m (subi q (broadcast S1x128 1#32)) q)) (broadcast S1x128 87#32)

/-- The words' lane of the scale of each channel of a tile. -/
def scaleIdx (off : BitVec 32) (v0 : IVec S1x128 32) : IVec S1x128 32 :=
  let s : IVec S1x128 32 := subi (extui 32 (cmpi .sgt v0 (broadcast S1x128 0#32)) natLt_1_32) (extui 32 (cmpi .slt v0 (broadcast S1x128 0#32)) natLt_1_32)
  let q : IVec S1x128 32 := divsi v0 (broadcast S1x128 32#32)
  let t : BitVec 32 := Scalar.subi (Scalar.extui (Scalar.cmpi .sgt 32#32 0#32)) (Scalar.extui (Scalar.cmpi .slt 32#32 0#32))
  let m : IVec S1x128 1 := andi (cmpi .ne s (broadcast S1x128 t)) (cmpi .ne (remsi v0 (broadcast S1x128 32#32)) (broadcast S1x128 0#32))
  minsi (addi (broadcast S1x128 off) (select m (subi q (broadcast S1x128 1#32)) q)) (broadcast S1x128 98#32)

/-- How far each channel's byte is shifted up. -/
def shiftV (v0 : IVec S1x128 32) : IVec S1x128 32 :=
  let d : BitVec 32 := Scalar.select (Scalar.cmpi .eq 4#32 0#32) 1#32 4#32
  let m : IVec S1x128 32 := remsi v0 (broadcast S1x128 d)
  let n : IVec S1x128 1 := broadcastTo S1x128 (broadcast S1x128 (Scalar.cmpi .slt d 0#32)) broadcasts_S1x128_S1x128
  let e : IVec S1x128 1 := andi (xori (cmpi .slt m (broadcast S1x128 0#32)) n) (cmpi .ne m (broadcast S1x128 0#32))
  subi (broadcast S1x128 24#32) (muli (broadcast S1x128 8#32) (select e (addi m (broadcast S1x128 d)) m))

/-- A row of lanes for every row, as a gather takes them. -/
def lanesV (x : IVec S1x128 32) : IVec S256x128 32 :=
  let y : IVec S256x128 32 := broadcastTo S256x128 (shapeCast S1x128 x shapeCasts_S1x128_S1x128) broadcasts_S1x128_S256x128
  let z : IVec S256x128 32 := select (cmpi .slt y (broadcast S256x128 0#32)) (addi y (broadcast S256x128 128#32)) y
  shapeCast S256x128 (shapeCast S256x128x1 z shapeCasts_S256x128_S256x128x1) shapeCasts_S256x128x1_S256x128

/-- One tile of channels, each its code times its scale. -/
def tileV (co so : BitVec 32) (v0 : IVec S1x128 32) (xw : IVec S256x128 32) : FVec F S256x128 .bf16 :=
  truncf .bf16 (mulf
    (sitofp .f32 (shrsi (shli (dynamicGather 1 xw (lanesV (codeIdx co v0))) (broadcastTo S256x128 (shiftV v0) broadcasts_S1x128_S256x128)) (broadcast S256x128 24#32)))
    (extf .f32 (truncf .bf16 (dynamicGather 1 (bitcastToFloat (F := F) .f32 xw) (lanesV (scaleIdx so v0))) bitsLt_bf16_f32) bitsLt_bf16_f32)) bitsLt_bf16_f32

/-- The input parts of 256 rows. -/
def projV (v0 : IVec S1x128 32) (xw : IVec S256x128 32) (wA : FVec F S256x512 .bf16) (wB : FVec F S128x512 .bf16) (s0 s1 : FVec F S1x384 .f32) : FVec F S256x384 .f32 :=
  let c : FVec F S256x256 .bf16 := concatenate S256x256 1 [⟨S256x128, tileV 0#32 88#32 v0 xw⟩, ⟨S256x128, tileV 32#32 92#32 v0 xw⟩] concatenates_S256x128_S256x128_S256x256_d1
  let p : FVec F S256x512 .f32 := matmul dot_S256x256_S256x512_S256x512_1_0_0_1_n_n none c wA (constant S256x512 .f32 0x00000000#32)
  let q : FVec F S256x512 .f32 := matmul dot_S256x128_S128x512_S256x512_1_0_0_1_n_n none (tileV 64#32 96#32 v0 xw) wB (constant S256x512 .f32 0x00000000#32)
  addf (mulf (extractStridedSlice S256x384 ![0, 0] (addf p q) slices_S256x512_o0_0_S256x384) (broadcastTo S256x384 (shapeCast S1x384 s0 shapeCasts_S1x384_S1x384) broadcasts_S1x384_S256x384))
    (broadcastTo S256x384 (shapeCast S1x384 s1 shapeCasts_S1x384_S1x384) broadcasts_S1x384_S256x384)

/-- The lanes of a row. -/
abbrev lane0 : IVec S1x128 32 := iota .tc S1x128 32 [1] iota_S1x128_d1_w32

theorem codeIdx_val : ∀ t : Fin 3, ∀ l : Fin 128, (codeIdx (BitVec.ofNat 32 (32 * t.val)) lane0 (ix2 0 l)) = BitVec.ofNat 32 (min (32 * t.val + l.val / 4) 87) := by
  decide +kernel

theorem scaleIdx_val : ∀ t : Fin 3, ∀ l : Fin 128, (scaleIdx (BitVec.ofNat 32 (88 + 4 * t.val)) lane0 (ix2 0 l)) = BitVec.ofNat 32 (min (88 + 4 * t.val + l.val / 32) 98) := by
  decide +kernel

theorem shiftV_val : ∀ l : Fin 128, shiftV lane0 (ix2 0 l) = BitVec.ofNat 32 (24 - 8 * (l.val % 4)) := by
  decide +kernel

theorem wrap_small : ∀ n : Fin 128, Scalar.select (IntOp.cmpi CmpIPredicate.slt (BitVec.ofNat 32 n.val) 0#32) (IntOp.addi (BitVec.ofNat 32 n.val) 128#32) (BitVec.ofNat 32 n.val) = BitVec.ofNat 32 n.val := by
  decide +kernel

theorem lanesV_apply (x : IVec S1x128 32) (r : Fin 256) (l : Fin 128) (n : ℕ) (hn : n < 128) (h : x (ix2 0 l) = BitVec.ofNat 32 n) : lanesV x (ix2 r l) = BitVec.ofNat 32 n := by
  pointwise [lanesV]
  rw [h]
  exact wrap_small ⟨n, hn⟩

theorem lane_mod (q : BitVec 32) (n : ℕ) (hn : n < 128) (e : q = BitVec.ofNat 32 n) (h : q.toNat % 128 < 128) : (⟨q.toNat % 128, h⟩ : Fin 128) = Fin.ofNat 128 n := by
  subst e
  apply Fin.ext
  show (BitVec.ofNat 32 n).toNat % 128 = n % 128
  rw [BitVec.toNat_ofNat]
  omega

theorem tileV_apply (t : Fin 3) (xw : IVec S256x128 32) (r : Fin 256) (l : Fin 128) (hk : 128 * t.val + l.val < 352) :
    tileV (F := Ideal) (BitVec.ofNat 32 (32 * t.val)) (BitVec.ofNat 32 (88 + 4 * t.val)) lane0 xw (ix2 r l) = Spec.chan (fun a => xw (ix2 r a)) (128 * t.val + l.val) := by
  pointwise [tileV]
  refine Eq.trans (congrArg₂ (fun a b : Fin 128 => FloatOps.sitofp (F := Ideal) .f32 (IntOp.shrsi .vector (IntOp.shli .vector (xw (ix2 r a)) (shiftV lane0 (ix2 0 l))) 24#32) * Ideal.ofBits .f32 (xw (ix2 r b)))
    (lane_mod _ _ (by omega) (lanesV_apply _ r l _ (by omega) (codeIdx_val t l)) (Nat.mod_lt _ (by decide))) (lane_mod _ _ (by omega) (lanesV_apply _ r l _ (by omega) (scaleIdx_val t l)) (Nat.mod_lt _ (by decide)))) ?_
  rw [shiftV_val l]
  unfold Spec.chan
  have e1 : (128 * t.val + l.val) % 4 = l.val % 4 := by omega
  have e2 : (128 * t.val + l.val) / 4 = min (32 * t.val + l.val / 4) 87 := by omega
  have e3 : 88 + (128 * t.val + l.val) / 32 = min (88 + 4 * t.val + l.val / 32) 98 := by omega
  rw [e1, e2, e3]

theorem projV_apply (xw : IVec S256x128 32) (wA : FVec Ideal S256x512 .bf16) (wB : FVec Ideal S128x512 .bf16) (s0 s1 : FVec Ideal S1x384 .f32) (r : Fin 256) (l : Fin 384)
    (W : ℕ → EReal) (hA : ∀ k : Fin 256, wA (ix2 k ⟨l.val, by omega⟩) = W k.val) (hB : ∀ k : Fin 128, wB (ix2 k ⟨l.val, by omega⟩) = W (256 + k.val)) (hz : ∀ k, 352 ≤ k → W k = 0) :
    projV (F := Ideal) lane0 xw wA wB s0 s1 (ix2 r l) = Spec.proj (fun a => xw (ix2 r a)) W (s0 (ix2 0 l)) (s1 (ix2 0 l)) := by
  pointwise [projV]
  unfold Spec.proj
  rw [← Spec.sum_tiles (fun k => Spec.chan (fun a => xw (ix2 r a)) k * W k) (fun k hk => by rw [hz k hk, mul_zero])]
  have t0 := fun x : Fin 128 => tileV_apply 0 xw r x (by simp; omega)
  have t1 := fun x : Fin 128 => tileV_apply 1 xw r x (by simp; omega)
  have t2 := fun x : Fin 128 => tileV_apply 2 xw r x
  refine congrArg (· * s0 (ix2 0 l) + s1 (ix2 0 l)) (congrArg₂ (· + ·) (congrArg₂ (· + ·) ?_ ?_) ?_)
  · refine Finset.sum_congr rfl fun x _ => ?_
    rw [hA ⟨x.val, by omega⟩]
    have := t0 x
    simp only [Fin.val_zero, Nat.mul_zero, Nat.zero_add, Nat.add_zero] at this
    rw [this]
  · refine Finset.sum_congr rfl fun x _ => ?_
    rw [hA ⟨128 + x.val, by omega⟩]
    exact congrArg (· * _) (t1 x)
  · refine Finset.sum_congr rfl fun x _ => ?_
    rw [hB x]
    by_cases hx : x.val < 96
    · exact congrArg (· * _) (t2 x (by show 128 * 2 + x.val < 352; omega))
    · rw [hz _ (by omega), mul_zero, mul_zero]

end Cert.KernelIdeal.Hand
-- ==== Proof.KernelIdealCells.lean ====
module

public import proofs.«01_k».proof.Proof.KernelIdealLoops
public import Idealize.ShloMosaic.Lib.Pointwise.Index
public import proofs.«01_k».proof.Proof.KernelIdealValue
public import Idealize.ShloMosaic.Lib.Pointwise
public import Idealize.ShloMosaic.Lib.WritesUnit
public import Idealize.ShloMosaic.Lib.VecWindow

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable (𝒱 : Variants) (c : Dev nD) (bd : Option 𝒱.V) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole)

variable {F : FTy → Type} [FloatOps F]

theorem sel_sgt (a t : BitVec 32) (x y : EReal) : Scalar.select (IntOp.cmpi CmpIPredicate.sgt a t) x y = if t.toInt < a.toInt then x else y := by
  rw [show IntOp.cmpi CmpIPredicate.sgt a t = BitVec.ofBool (decide (t.toInt < a.toInt)) from rfl]
  by_cases h : t.toInt < a.toInt
  · rw [if_pos h, decide_eq_true h]; rfl
  · rw [if_neg h, decide_eq_false h]; rfl

theorem bot_bits : Ideal.ofBits FTy.f32 4286578688#32 = ⊥ := by
  simp [Ideal.ofBits, Ideal.ieee]

/-- The pieces of the first `j` row blocks of a trip, three gates each, the newest first. -/
def cells (R n : ℕ) (off : Fin n → Fin 3 → Fin 2 → ℕ) (inb : ∀ kk g (a : Fin 2), off kk g a + (![R, 128] : Fin 2 → ℕ) a ≤ S2048x384.size a)
    (w : Fin n → Fin 3 → FVec F ⟨2, ![R, 128]⟩ .f32) : (j : ℕ) → j ≤ n → List (View.Piece (Elt F) S2048x384 .f32)
  | 0, _ => []
  | j + 1, h => ⟨Rect.unit (off ⟨j, h⟩ 2) ![R, 128] (inb ⟨j, h⟩ 2), w ⟨j, h⟩ 2⟩ :: ⟨Rect.unit (off ⟨j, h⟩ 1) ![R, 128] (inb ⟨j, h⟩ 1), w ⟨j, h⟩ 1⟩
      :: ⟨Rect.unit (off ⟨j, h⟩ 0) ![R, 128] (inb ⟨j, h⟩ 0), w ⟨j, h⟩ 0⟩ :: cells R n off inb w j (Nat.le_of_succ_le h)

theorem read_cells_miss {R n : ℕ} {off : Fin n → Fin 3 → Fin 2 → ℕ} (inb : ∀ kk g (a : Fin 2), off kk g a + (![R, 128] : Fin 2 → ℕ) a ≤ S2048x384.size a)
    (w : Fin n → Fin 3 → FVec F ⟨2, ![R, 128]⟩ .f32) (b : ℕ) (hoff : ∀ kk g, off kk g = ![(b + kk.val) * 128, g.val * 128]) (hR : R ≤ 128)
    {κ : Kind} {sp : Space} (v : View sig κ sp S2048x384 .f32) (f : v.ty.Contents (Elt F)) (L : List (View.Piece (Elt F) S2048x384 .f32)) (y : S2048x384.Idx) :
    ∀ (j : ℕ) (hj : j ≤ n), ((y 0).val < b * 128 ∨ (b + j) * 128 ≤ (y 0).val) →
      v.read (Elt F) (v.writes (Elt F) f (cells R n off inb w j hj ++ L)) y = v.read (Elt F) (v.writes (Elt F) f L) y
  | 0, _, _ => rfl
  | j + 1, hj, h => by
    have m : ∀ g : Fin 3, ((y 0).val < (![(b + j) * 128, g.val * 128] : Fin 2 → ℕ) 0 ∨ (![(b + j) * 128, g.val * 128] : Fin 2 → ℕ) 0 + (![R, 128] : Fin 2 → ℕ) 0 ≤ (y 0).val) := by
      intro g
      show (y 0).val < (b + j) * 128 ∨ (b + j) * 128 + R ≤ (y 0).val
      omega
    unfold cells
    simp only [List.cons_append]
    rw [View.read_writes_cons_unit_of_not_mem v f _ _ _ y (hoff ⟨j, hj⟩ 2) 0 (m 2)]
    rw [View.read_writes_cons_unit_of_not_mem v f _ _ _ y (hoff ⟨j, hj⟩ 1) 0 (m 1)]
    rw [View.read_writes_cons_unit_of_not_mem v f _ _ _ y (hoff ⟨j, hj⟩ 0) 0 (m 0)]
    exact read_cells_miss inb w b hoff hR v f L y j (Nat.le_of_succ_le hj) (by omega)

theorem read_cells_mem {R n : ℕ} {off : Fin n → Fin 3 → Fin 2 → ℕ} (inb : ∀ kk g (a : Fin 2), off kk g a + (![R, 128] : Fin 2 → ℕ) a ≤ S2048x384.size a)
    (w : Fin n → Fin 3 → FVec F ⟨2, ![R, 128]⟩ .f32) (b : ℕ) (hoff : ∀ kk g, off kk g = ![(b + kk.val) * 128, g.val * 128]) (hR : R ≤ 128)
    {κ : Kind} {sp : Space} (v : View sig κ sp S2048x384 .f32) (f : v.ty.Contents (Elt F)) (L : List (View.Piece (Elt F) S2048x384 .f32))
    (kk : Fin n) (g : Fin 3) (r : Fin R) (c : Fin 128) (y : S2048x384.Idx) (hy0 : (y 0).val = (b + kk.val) * 128 + r.val) (hy1 : (y 1).val = g.val * 128 + c.val) :
    ∀ (j : ℕ) (hj : j ≤ n), kk.val < j →
      v.read (Elt F) (v.writes (Elt F) f (cells R n off inb w j hj ++ L)) y = w kk g (ix2 r c)
  | 0, _, h => absurd h (Nat.not_lt_zero _)
  | j + 1, hj, h => by
    unfold cells
    simp only [List.cons_append]
    by_cases e : kk.val = j
    · have ek : kk = ⟨j, hj⟩ := Fin.ext e
      subst ek
      have hit : ∀ a : Fin 2, (y a).val = (![(b + j) * 128, g.val * 128] : Fin 2 → ℕ) a + ((ix2 r c : (⟨2, ![R, 128]⟩ : Shape).Idx) a).val :=
        Fin.forall_fin_two.mpr ⟨hy0, hy1⟩
      have c2 := c.isLt
      have mis : ∀ g' : Fin 3, g' ≠ g → ((y 1).val < (![(b + j) * 128, g'.val * 128] : Fin 2 → ℕ) 1 ∨ (![(b + j) * 128, g'.val * 128] : Fin 2 → ℕ) 1 + (![R, 128] : Fin 2 → ℕ) 1 ≤ (y 1).val) := by
        intro g' hg
        show (y 1).val < g'.val * 128 ∨ g'.val * 128 + 128 ≤ (y 1).val
        have : g'.val ≠ g.val := fun q => hg (Fin.ext q)
        omega
      match g, hit, mis with
      | 2, hit, mis => exact View.read_writes_cons_unit_of_mem v f _ _ _ y (ix2 r c) (hoff ⟨j, hj⟩ 2) hit
      | 1, hit, mis =>
        rw [View.read_writes_cons_unit_of_not_mem v f _ _ _ y (hoff ⟨j, hj⟩ 2) 1 (mis 2 (by decide))]
        exact View.read_writes_cons_unit_of_mem v f _ _ _ y (ix2 r c) (hoff ⟨j, hj⟩ 1) hit
      | 0, hit, mis =>
        rw [View.read_writes_cons_unit_of_not_mem v f _ _ _ y (hoff ⟨j, hj⟩ 2) 1 (mis 2 (by decide))]
        rw [View.read_writes_cons_unit_of_not_mem v f _ _ _ y (hoff ⟨j, hj⟩ 1) 1 (mis 1 (by decide))]
        exact View.read_writes_cons_unit_of_mem v f _ _ _ y (ix2 r c) (hoff ⟨j, hj⟩ 0) hit
    · have hr := r.isLt
      have m : ∀ g : Fin 3, ((y 0).val < (![(b + j) * 128, g.val * 128] : Fin 2 → ℕ) 0 ∨ (![(b + j) * 128, g.val * 128] : Fin 2 → ℕ) 0 + (![R, 128] : Fin 2 → ℕ) 0 ≤ (y 0).val) := by
        intro g
        show (y 0).val < (b + j) * 128 ∨ (b + j) * 128 + R ≤ (y 0).val
        omega
      rw [View.read_writes_cons_unit_of_not_mem v f _ _ _ y (hoff ⟨j, hj⟩ 2) 0 (m 2)]
      rw [View.read_writes_cons_unit_of_not_mem v f _ _ _ y (hoff ⟨j, hj⟩ 1) 0 (m 1)]
      rw [View.read_writes_cons_unit_of_not_mem v f _ _ _ y (hoff ⟨j, hj⟩ 0) 0 (m 0)]
      exact read_cells_mem inb w b hoff hR v f L kk g r c y hy0 hy1 j (Nat.le_of_succ_le hj) (by omega)

theorem sl32 : ∀ kk : Fin 8, S256x384.Slices ![kk.val * 32, 0] S32x384 := by decide

/-- The pieces' values of the 32-row variant: the parts of the rows still running, the masks elsewhere. -/
def mask32 (lens : IVec S32x128 32) (t : BitVec 32) (p : FVec F S256x384 .f32) (kk : Fin 8) : Fin 3 → FVec F S32x128 .f32
  | 0 => shapeCast S32x128 (select (cmpi .sgt lens (broadcast S32x128 t)) (extractStridedSlice S32x128 ![0, 0] (extractStridedSlice S32x384 ![kk.val * 32, 0] p (sl32 kk)) slices_S32x384_o0_0_S32x128) (broadcast S32x128 (Scalar.ofBits .f32 0xFF800000#32))) shapeCasts_S32x128_S32x128
  | 1 => shapeCast S32x128 (select (cmpi .sgt lens (broadcast S32x128 t)) (extractStridedSlice S32x128 ![0, 128] (extractStridedSlice S32x384 ![kk.val * 32, 0] p (sl32 kk)) slices_S32x384_o0_128_S32x128) (broadcast S32x128 (Scalar.ofBits .f32 0x00000000#32))) shapeCasts_S32x128_S32x128
  | 2 => shapeCast S32x128 (select (cmpi .sgt lens (broadcast S32x128 t)) (extractStridedSlice S32x128 ![0, 256] (extractStridedSlice S32x384 ![kk.val * 32, 0] p (sl32 kk)) slices_S32x384_o0_256_S32x128) (broadcast S32x128 (Scalar.ofBits .f32 0x00000000#32))) shapeCasts_S32x128_S32x128

theorem mask32_apply (lens : IVec S32x128 32) (t : BitVec 32) (p : FVec Ideal S256x384 .f32) (kk : Fin 8) (g : Fin 3) (r : Fin 32) (c : Fin 128) :
    mask32 lens t p kk g (ix2 r c) = if t.toInt < (lens (ix2 r c)).toInt then p (ix2 ⟨kk.val * 32 + r.val, by omega⟩ (Spec.col g c)) else if g = 0 then ⊥ else 0 := by
  match g with
  | 0 =>
    pointwise [mask32]
    rw [sel_sgt, show Spec.col 0 c = ⟨c.val, by omega⟩ from by ext; simp [Spec.col]]
    rw [bot_bits]
  | 1 =>
    pointwise [mask32]
    rw [sel_sgt, show Spec.col 1 c = ⟨128 + c.val, by omega⟩ from by ext; simp [Spec.col]]
  | 2 =>
    pointwise [mask32]
    rw [sel_sgt, show Spec.col 2 c = ⟨256 + c.val, by omega⟩ from by ext; simp [Spec.col]]

def offs32 (k : Fin k0_t2_loop.trips) (kk : Fin 8) : Fin 3 → Fin 2 → ℕ
  | 0 => k0_off9 k (BitVec.ofNat 32 kk.val)
  | 1 => k0_off10 k (BitVec.ofNat 32 kk.val)
  | 2 => k0_off11 k (BitVec.ofNat 32 kk.val)

theorem offs32_eq : ∀ (k : Fin k0_t2_loop.trips) (kk : Fin 8) (g : Fin 3), offs32 k kk g = ![(8 * k.val + kk.val) * 128, g.val * 128] := by
  decide +kernel

theorem offs32_inb (k : Fin k0_t2_loop.trips) (kk : Fin 8) (g : Fin 3) (a : Fin 2) : offs32 k kk g a + (![32, 128] : Fin 2 → ℕ) a ≤ S2048x384.size a := by
  rw [offs32_eq]
  revert k kk g a
  decide +kernel

theorem offx32_eq : ∀ (k : Fin k0_t2_loop.trips) (kk : Fin 8), k0_off8 k (BitVec.ofNat 32 kk.val) = ![(8 * k.val + kk.val) * 128, 0] := by
  decide +kernel

theorem offx32_inb (k : Fin k0_t2_loop.trips) (kk : Fin 8) (a : Fin 2) : k0_off8 k (BitVec.ofNat 32 kk.val) a + (![32, 128] : Fin 2 → ℕ) a ≤ S2048x128.size a := by
  rw [offx32_eq]
  revert k kk a
  decide +kernel
theorem sl64 : ∀ kk : Fin 4, S256x384.Slices ![kk.val * 64, 0] S64x384 := by decide

/-- The pieces' values of the 64-row variant: the parts of the rows still running, the masks elsewhere. -/
def mask64 (lens : IVec S64x128 32) (t : BitVec 32) (p : FVec F S256x384 .f32) (kk : Fin 4) : Fin 3 → FVec F S64x128 .f32
  | 0 => shapeCast S64x128 (select (cmpi .sgt lens (broadcast S64x128 t)) (extractStridedSlice S64x128 ![0, 0] (extractStridedSlice S64x384 ![kk.val * 64, 0] p (sl64 kk)) slices_S64x384_o0_0_S64x128) (broadcast S64x128 (Scalar.ofBits .f32 0xFF800000#32))) shapeCasts_S64x128_S64x128
  | 1 => shapeCast S64x128 (select (cmpi .sgt lens (broadcast S64x128 t)) (extractStridedSlice S64x128 ![0, 128] (extractStridedSlice S64x384 ![kk.val * 64, 0] p (sl64 kk)) slices_S64x384_o0_128_S64x128) (broadcast S64x128 (Scalar.ofBits .f32 0x00000000#32))) shapeCasts_S64x128_S64x128
  | 2 => shapeCast S64x128 (select (cmpi .sgt lens (broadcast S64x128 t)) (extractStridedSlice S64x128 ![0, 256] (extractStridedSlice S64x384 ![kk.val * 64, 0] p (sl64 kk)) slices_S64x384_o0_256_S64x128) (broadcast S64x128 (Scalar.ofBits .f32 0x00000000#32))) shapeCasts_S64x128_S64x128

theorem mask64_apply (lens : IVec S64x128 32) (t : BitVec 32) (p : FVec Ideal S256x384 .f32) (kk : Fin 4) (g : Fin 3) (r : Fin 64) (c : Fin 128) :
    mask64 lens t p kk g (ix2 r c) = if t.toInt < (lens (ix2 r c)).toInt then p (ix2 ⟨kk.val * 64 + r.val, by omega⟩ (Spec.col g c)) else if g = 0 then ⊥ else 0 := by
  match g with
  | 0 =>
    pointwise [mask64]
    rw [sel_sgt, show Spec.col 0 c = ⟨c.val, by omega⟩ from by ext; simp [Spec.col]]
    rw [bot_bits]
  | 1 =>
    pointwise [mask64]
    rw [sel_sgt, show Spec.col 1 c = ⟨128 + c.val, by omega⟩ from by ext; simp [Spec.col]]
  | 2 =>
    pointwise [mask64]
    rw [sel_sgt, show Spec.col 2 c = ⟨256 + c.val, by omega⟩ from by ext; simp [Spec.col]]

def offs64 (k : Fin k0_t4_loop.trips) (kk : Fin 4) : Fin 3 → Fin 2 → ℕ
  | 0 => k0_off16 k (BitVec.ofNat 32 kk.val)
  | 1 => k0_off17 k (BitVec.ofNat 32 kk.val)
  | 2 => k0_off18 k (BitVec.ofNat 32 kk.val)

theorem offs64_eq : ∀ (k : Fin k0_t4_loop.trips) (kk : Fin 4) (g : Fin 3), offs64 k kk g = ![(4 * k.val + kk.val) * 128, g.val * 128] := by
  decide +kernel

theorem offs64_inb (k : Fin k0_t4_loop.trips) (kk : Fin 4) (g : Fin 3) (a : Fin 2) : offs64 k kk g a + (![64, 128] : Fin 2 → ℕ) a ≤ S2048x384.size a := by
  rw [offs64_eq]
  revert k kk g a
  decide +kernel

theorem offx64_eq : ∀ (k : Fin k0_t4_loop.trips) (kk : Fin 4), k0_off15 k (BitVec.ofNat 32 kk.val) = ![(4 * k.val + kk.val) * 128, 0] := by
  decide +kernel

theorem offx64_inb (k : Fin k0_t4_loop.trips) (kk : Fin 4) (a : Fin 2) : k0_off15 k (BitVec.ofNat 32 kk.val) a + (![64, 128] : Fin 2 → ℕ) a ≤ S2048x128.size a := by
  rw [offx64_eq]
  revert k kk a
  decide +kernel
theorem sl128 : ∀ kk : Fin 2, S256x384.Slices ![kk.val * 128, 0] S128x384 := by decide

/-- The pieces' values of the 128-row variant: the parts of the rows still running, the masks elsewhere. -/
def mask128 (lens : IVec S128x128 32) (t : BitVec 32) (p : FVec F S256x384 .f32) (kk : Fin 2) : Fin 3 → FVec F S128x128 .f32
  | 0 => shapeCast S128x128 (select (cmpi .sgt lens (broadcast S128x128 t)) (extractStridedSlice S128x128 ![0, 0] (extractStridedSlice S128x384 ![kk.val * 128, 0] p (sl128 kk)) slices_S128x384_o0_0_S128x128) (broadcast S128x128 (Scalar.ofBits .f32 0xFF800000#32))) shapeCasts_S128x128_S128x128
  | 1 => shapeCast S128x128 (select (cmpi .sgt lens (broadcast S128x128 t)) (extractStridedSlice S128x128 ![0, 128] (extractStridedSlice S128x384 ![kk.val * 128, 0] p (sl128 kk)) slices_S128x384_o0_128_S128x128) (broadcast S128x128 (Scalar.ofBits .f32 0x00000000#32))) shapeCasts_S128x128_S128x128
  | 2 => shapeCast S128x128 (select (cmpi .sgt lens (broadcast S128x128 t)) (extractStridedSlice S128x128 ![0, 256] (extractStridedSlice S128x384 ![kk.val * 128, 0] p (sl128 kk)) slices_S128x384_o0_256_S128x128) (broadcast S128x128 (Scalar.ofBits .f32 0x00000000#32))) shapeCasts_S128x128_S128x128

theorem mask128_apply (lens : IVec S128x128 32) (t : BitVec 32) (p : FVec Ideal S256x384 .f32) (kk : Fin 2) (g : Fin 3) (r : Fin 128) (c : Fin 128) :
    mask128 lens t p kk g (ix2 r c) = if t.toInt < (lens (ix2 r c)).toInt then p (ix2 ⟨kk.val * 128 + r.val, by omega⟩ (Spec.col g c)) else if g = 0 then ⊥ else 0 := by
  match g with
  | 0 =>
    pointwise [mask128]
    rw [sel_sgt, show Spec.col 0 c = ⟨c.val, by omega⟩ from by ext; simp [Spec.col]]
    rw [bot_bits]
  | 1 =>
    pointwise [mask128]
    rw [sel_sgt, show Spec.col 1 c = ⟨128 + c.val, by omega⟩ from by ext; simp [Spec.col]]
  | 2 =>
    pointwise [mask128]
    rw [sel_sgt, show Spec.col 2 c = ⟨256 + c.val, by omega⟩ from by ext; simp [Spec.col]]

def offs128 (k : Fin k0_t6_loop.trips) (kk : Fin 2) : Fin 3 → Fin 2 → ℕ
  | 0 => k0_off23 k (BitVec.ofNat 32 kk.val)
  | 1 => k0_off24 k (BitVec.ofNat 32 kk.val)
  | 2 => k0_off25 k (BitVec.ofNat 32 kk.val)

theorem offs128_eq : ∀ (k : Fin k0_t6_loop.trips) (kk : Fin 2) (g : Fin 3), offs128 k kk g = ![(2 * k.val + kk.val) * 128, g.val * 128] := by
  decide +kernel

theorem offs128_inb (k : Fin k0_t6_loop.trips) (kk : Fin 2) (g : Fin 3) (a : Fin 2) : offs128 k kk g a + (![128, 128] : Fin 2 → ℕ) a ≤ S2048x384.size a := by
  rw [offs128_eq]
  revert k kk g a
  decide +kernel

theorem offx128_eq : ∀ (k : Fin k0_t6_loop.trips) (kk : Fin 2), k0_off22 k (BitVec.ofNat 32 kk.val) = ![(2 * k.val + kk.val) * 128, 0] := by
  decide +kernel

theorem offx128_inb (k : Fin k0_t6_loop.trips) (kk : Fin 2) (a : Fin 2) : k0_off22 k (BitVec.ofNat 32 kk.val) a + (![128, 128] : Fin 2 → ℕ) a ≤ S2048x128.size a := by
  rw [offx128_eq]
  revert k kk a
  decide +kernel
theorem sl16 : ∀ kk : Fin 16, S256x384.Slices ![kk.val * 16, 0] S16x384 := by decide

/-- The pieces' values of the 16-row variant: the parts of the rows still running, the masks elsewhere. -/
def mask16 (lens : IVec S16x128 32) (t : BitVec 32) (p : FVec F S256x384 .f32) (kk : Fin 16) : Fin 3 → FVec F S16x128 .f32
  | 0 => shapeCast S16x128 (select (cmpi .sgt lens (broadcast S16x128 t)) (extractStridedSlice S16x128 ![0, 0] (extractStridedSlice S16x384 ![kk.val * 16, 0] p (sl16 kk)) slices_S16x384_o0_0_S16x128) (broadcast S16x128 (Scalar.ofBits .f32 0xFF800000#32))) shapeCasts_S16x128_S16x128
  | 1 => shapeCast S16x128 (select (cmpi .sgt lens (broadcast S16x128 t)) (extractStridedSlice S16x128 ![0, 128] (extractStridedSlice S16x384 ![kk.val * 16, 0] p (sl16 kk)) slices_S16x384_o0_128_S16x128) (broadcast S16x128 (Scalar.ofBits .f32 0x00000000#32))) shapeCasts_S16x128_S16x128
  | 2 => shapeCast S16x128 (select (cmpi .sgt lens (broadcast S16x128 t)) (extractStridedSlice S16x128 ![0, 256] (extractStridedSlice S16x384 ![kk.val * 16, 0] p (sl16 kk)) slices_S16x384_o0_256_S16x128) (broadcast S16x128 (Scalar.ofBits .f32 0x00000000#32))) shapeCasts_S16x128_S16x128

theorem mask16_apply (lens : IVec S16x128 32) (t : BitVec 32) (p : FVec Ideal S256x384 .f32) (kk : Fin 16) (g : Fin 3) (r : Fin 16) (c : Fin 128) :
    mask16 lens t p kk g (ix2 r c) = if t.toInt < (lens (ix2 r c)).toInt then p (ix2 ⟨kk.val * 16 + r.val, by omega⟩ (Spec.col g c)) else if g = 0 then ⊥ else 0 := by
  match g with
  | 0 =>
    pointwise [mask16]
    rw [sel_sgt, show Spec.col 0 c = ⟨c.val, by omega⟩ from by ext; simp [Spec.col]]
    rw [bot_bits]
  | 1 =>
    pointwise [mask16]
    rw [sel_sgt, show Spec.col 1 c = ⟨128 + c.val, by omega⟩ from by ext; simp [Spec.col]]
  | 2 =>
    pointwise [mask16]
    rw [sel_sgt, show Spec.col 2 c = ⟨256 + c.val, by omega⟩ from by ext; simp [Spec.col]]

def offs16 (kk : Fin 16) : Fin 3 → Fin 2 → ℕ
  | 0 => k0_off2 (BitVec.ofNat 32 kk.val)
  | 1 => k0_off3 (BitVec.ofNat 32 kk.val)
  | 2 => k0_off4 (BitVec.ofNat 32 kk.val)

theorem offs16_eq : ∀ (kk : Fin 16) (g : Fin 3), offs16 kk g = ![(kk.val) * 128, g.val * 128] := by
  decide +kernel

theorem offs16_inb (kk : Fin 16) (g : Fin 3) (a : Fin 2) : offs16 kk g a + (![16, 128] : Fin 2 → ℕ) a ≤ S2048x384.size a := by
  rw [offs16_eq]
  revert kk g a
  decide +kernel

theorem offx16_eq : ∀ (kk : Fin 16), k0_off1 (BitVec.ofNat 32 kk.val) = ![(kk.val) * 128, 0] := by
  decide +kernel

theorem offx16_inb (kk : Fin 16) (a : Fin 2) : k0_off1 (BitVec.ofNat 32 kk.val) a + (![16, 128] : Fin 2 → ℕ) a ≤ S2048x128.size a := by
  rw [offx16_eq]
  revert kk a
  decide +kernel

theorem trip2_eq (v0 : IVec S1x128 32) (k0_h2 : k0_cond2 i = 1#1) (v42 : BitVec 32) (X_arg3 : BufTy.Contents (Elt F) a3.view.ty) (X_arg11 : BufTy.Contents (Elt F) a11.view.ty) (X_arg15 : BufTy.Contents (Elt F) a15.view.ty) (X_arg20 : BufTy.Contents (Elt F) a20.view.ty) (k : Fin k0_t2_loop.trips) :
    tripL_k0_t2 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42 X_arg3 X_arg11 X_arg15 X_arg20 k
      = cells 32 8 (offs32 k) (offs32_inb k) (fun kk => mask32 (a20.view.readAt (Elt F) (Rect.unit (s := S128x128) ![0, 0] S32x128.size inb_S128x128_S32x128_0_0).toLoadRect X_arg20)
          (Scalar.addi v42 (Scalar.addi (Scalar.muli (Scalar.addi 0#32 (Scalar.muli (Scf.iv 0#32 1#32 k) 1#32)) 8#32) (BitVec.ofNat 32 kk.val)))
          (projV v0 (concatenate S256x128 0 (List.ofFn fun q : Fin 8 => (⟨S32x128, a3.view.readAt (Elt F) (Rect.unit (s := S2048x128) (k0_off8 k (BitVec.ofNat 32 q.val)) S32x128.size (offx32_inb k q)).toLoadRect X_arg3⟩ : (s : Shape) × (s.Idx → BitVec 32))) concatenates_S32x128_S32x128_S32x128_S32x128_S32x128_S32x128_S32x128_S32x128_S256x128_d0)
            (a15.view.readAt (Elt F) (Rect.unit (s := S384x512) ![0, 0] S256x512.size inb_S384x512_S256x512_0_0).toLoadRect X_arg15)
            (a15.view.readAt (Elt F) (Rect.unit (s := S384x512) ![256, 0] S128x512.size inb_S384x512_S128x512_256_0).toLoadRect X_arg15)
            (a11.view.readAt (Elt F) (Rect.unit (s := S8x384) ![0, 0] S1x384.size inb_S8x384_S1x384_0_0).toLoadRect X_arg11)
            (a11.view.readAt (Elt F) (Rect.unit (s := S8x384) ![1, 0] S1x384.size inb_S8x384_S1x384_1_0).toLoadRect X_arg11)) kk) 8 (Nat.le_refl _) := by
  unfold tripL_k0_t2 trip_k0_t2
  dsimp only
  rfl

theorem trip4_eq (v0 : IVec S1x128 32) (k0_h2 : k0_cond2 i = 1#1) (v42 : BitVec 32) (X_arg3 : BufTy.Contents (Elt F) a3.view.ty) (X_arg11 : BufTy.Contents (Elt F) a11.view.ty) (X_arg15 : BufTy.Contents (Elt F) a15.view.ty) (X_arg20 : BufTy.Contents (Elt F) a20.view.ty) (k : Fin k0_t4_loop.trips) :
    tripL_k0_t4 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42 X_arg3 X_arg11 X_arg15 X_arg20 k
      = cells 64 4 (offs64 k) (offs64_inb k) (fun kk => mask64 (a20.view.readAt (Elt F) (Rect.unit (s := S128x128) ![0, 0] S64x128.size inb_S128x128_S64x128_0_0).toLoadRect X_arg20)
          (Scalar.addi v42 (Scalar.addi (Scalar.muli (Scalar.addi 0#32 (Scalar.muli (Scf.iv 0#32 1#32 k) 1#32)) 4#32) (BitVec.ofNat 32 kk.val)))
          (projV v0 (concatenate S256x128 0 (List.ofFn fun q : Fin 4 => (⟨S64x128, a3.view.readAt (Elt F) (Rect.unit (s := S2048x128) (k0_off15 k (BitVec.ofNat 32 q.val)) S64x128.size (offx64_inb k q)).toLoadRect X_arg3⟩ : (s : Shape) × (s.Idx → BitVec 32))) concatenates_S64x128_S64x128_S64x128_S64x128_S256x128_d0)
            (a15.view.readAt (Elt F) (Rect.unit (s := S384x512) ![0, 0] S256x512.size inb_S384x512_S256x512_0_0).toLoadRect X_arg15)
            (a15.view.readAt (Elt F) (Rect.unit (s := S384x512) ![256, 0] S128x512.size inb_S384x512_S128x512_256_0).toLoadRect X_arg15)
            (a11.view.readAt (Elt F) (Rect.unit (s := S8x384) ![0, 0] S1x384.size inb_S8x384_S1x384_0_0).toLoadRect X_arg11)
            (a11.view.readAt (Elt F) (Rect.unit (s := S8x384) ![1, 0] S1x384.size inb_S8x384_S1x384_1_0).toLoadRect X_arg11)) kk) 4 (Nat.le_refl _) := by
  unfold tripL_k0_t4 trip_k0_t4
  dsimp only
  rfl

theorem trip6_eq (v0 : IVec S1x128 32) (k0_h2 : k0_cond2 i = 1#1) (v42 : BitVec 32) (X_arg3 : BufTy.Contents (Elt F) a3.view.ty) (X_arg11 : BufTy.Contents (Elt F) a11.view.ty) (X_arg15 : BufTy.Contents (Elt F) a15.view.ty) (X_arg20 : BufTy.Contents (Elt F) a20.view.ty) (k : Fin k0_t6_loop.trips) :
    tripL_k0_t6 (F := F) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 v0 k0_h2 v42 X_arg3 X_arg11 X_arg15 X_arg20 k
      = cells 128 2 (offs128 k) (offs128_inb k) (fun kk => mask128 (a20.view.readAt (Elt F) (Rect.unit (s := S128x128) ![0, 0] S128x128.size inb_S128x128_S128x128_0_0).toLoadRect X_arg20)
          (Scalar.addi v42 (Scalar.addi (Scalar.muli (Scalar.addi 0#32 (Scalar.muli (Scf.iv 0#32 1#32 k) 1#32)) 2#32) (BitVec.ofNat 32 kk.val)))
          (projV v0 (concatenate S256x128 0 (List.ofFn fun q : Fin 2 => (⟨S128x128, a3.view.readAt (Elt F) (Rect.unit (s := S2048x128) (k0_off22 k (BitVec.ofNat 32 q.val)) S128x128.size (offx128_inb k q)).toLoadRect X_arg3⟩ : (s : Shape) × (s.Idx → BitVec 32))) concatenates_S128x128_S128x128_S256x128_d0)
            (a15.view.readAt (Elt F) (Rect.unit (s := S384x512) ![0, 0] S256x512.size inb_S384x512_S256x512_0_0).toLoadRect X_arg15)
            (a15.view.readAt (Elt F) (Rect.unit (s := S384x512) ![256, 0] S128x512.size inb_S384x512_S128x512_256_0).toLoadRect X_arg15)
            (a11.view.readAt (Elt F) (Rect.unit (s := S8x384) ![0, 0] S1x384.size inb_S8x384_S1x384_0_0).toLoadRect X_arg11)
            (a11.view.readAt (Elt F) (Rect.unit (s := S8x384) ![1, 0] S1x384.size inb_S8x384_S1x384_1_0).toLoadRect X_arg11)) kk) 2 (Nat.le_refl _) := by
  unfold tripL_k0_t6 trip_k0_t6
  dsimp only
  rfl

end Cert.KernelIdeal.Hand
-- ==== Proof.KernelIdealGi.lean ====
module

public import proofs.«01_k».proof.Proof.KernelIdealCells
public import Idealize.ShloMosaic.Lib.Pointwise.Index
public import Idealize.ShloMosaic.Lib.WritesUnit
public import Idealize.ShloMosaic.Lib.VecWindow

@[expose] public section

set_option maxRecDepth 65536
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL.Sem

variable (𝒱 : Variants) (c : Dev nD) (bd : Option 𝒱.V) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole)

/-- A load at a rectangle of a rank-2 view, at an entry. -/
theorem readAt_at {κ : Kind} {sp : Space} {e : EltTy} {A B C D : ℕ} (v : View sig κ sp (⟨2, ![A, B]⟩ : Shape) e) (f : v.ty.Contents (Elt Ideal)) {off : Fin 2 → ℕ}
    (inb : ∀ a : Fin 2, off a + (![C, D] : Fin 2 → ℕ) a ≤ (⟨2, ![A, B]⟩ : Shape).size a) (o0 o1 : ℕ) (h : off = ![o0, o1]) (r : Fin C) (c : Fin D) (h0 : o0 + r.val < A) (h1 : o1 + c.val < B) :
    v.readAt (Elt Ideal) (Rect.unit (s := (⟨2, ![A, B]⟩ : Shape)) off ![C, D] inb).toLoadRect f (ix2 r c) = v.read (Elt Ideal) f (ix2 ⟨o0 + r.val, h0⟩ ⟨o1 + c.val, h1⟩) := by
  subst h
  rw [View.readAt_unit v f inb rfl inb]
  show v.read (Elt Ideal) f ((Rect.unit (s := (⟨2, ![A, B]⟩ : Shape)) ![o0, o1] ![C, D] inb).emb (ix2 r c)) = _
  refine congrArg (v.read (Elt Ideal) f) (funext fun a => Fin.ext ?_)
  revert a
  refine Fin.forall_fin_two.mpr ⟨?_, ?_⟩
  · show o0 + 1 * r.val = o0 + r.val
    omega
  · show o1 + 1 * c.val = o1 + c.val
    omega

/-- What the masked input part of row `r` at step `t` is to be. -/
def want (L : Fin 128 → ℤ) (P : ℕ → Fin 128 → Fin 80 → Fin 3 → EReal) (t : ℕ) (r : Fin 128) (g : Fin 3) (j : Fin 80) : EReal :=
  if (t : ℤ) < L r then P t r j g else if g = 0 then ⊥ else 0

/-- Lane `j` of the 128 lanes of a gate. -/
abbrev wide (j : Fin 80) : Fin 128 := ⟨j.val, by omega⟩

/-- What the chunk starting at step `t0` reads: words, scales, weights and lengths. -/
structure Src (t0 : ℕ) (L : Fin 128 → ℤ) (P : ℕ → Fin 128 → Fin 80 → Fin 3 → EReal) (Wp : Fin 3 → Fin 80 → ℕ → EReal)
    (x : S2048x128.Idx → BitVec 32) (sb : S8x384.Idx → EReal) (w : S384x512.Idx → EReal) (ln : S128x128.Idx → BitVec 32) : Prop where
  ht : t0 + 16 ≤ 100000
  hl : ∀ r c : Fin 128, (ln (ix2 r c)).toInt = L r
  hw : ∀ (k : Fin 384) (g : Fin 3) (j : Fin 80), w (ix2 k ⟨g.val * 128 + j.val, by omega⟩) = Wp g j k.val
  hz : ∀ g j k, 352 ≤ k → Wp g j k = 0
  hP : ∀ (tt : Fin 16) (r : Fin 128) (j : Fin 80) (g : Fin 3), P (t0 + tt.val) r j g
    = Spec.proj (fun a => x (ix2 ⟨tt.val * 128 + r.val, by omega⟩ a)) (Wp g j) (sb (ix2 0 (Spec.col g (wide j)))) (sb (ix2 1 (Spec.col g (wide j))))

theorem toInt_small (n : ℕ) (h : n ≤ 100000) : (BitVec.ofNat 32 n).toInt = (n : ℤ) := by
  rw [BitVec.toInt_eq_toNat_of_lt (by rw [BitVec.toNat_ofNat]; omega), BitVec.toNat_ofNat]
  omega

theorem rows16 (f : Fin 16 → (S16x128.Idx → BitVec 32)) (kk : Fin 16) (r : Fin 16) (a : Fin 128) :
    concatenate S256x128 0 (List.ofFn fun q : Fin 16 => (⟨S16x128, f q⟩ : (s : Shape) × (s.Idx → BitVec 32))) concatenates_S16x128_S16x128_S16x128_S16x128_S16x128_S16x128_S16x128_S16x128_S16x128_S16x128_S16x128_S16x128_S16x128_S16x128_S16x128_S16x128_S256x128_d0 (ix2 ⟨kk.val * 16 + r.val, by omega⟩ a) = f kk (ix2 r a) := by
  refine concatenate_ofFn_apply (t := S256x128) (s₁ := S16x128) 0 f _ rfl 16 rfl (ix2 ⟨kk.val * 16 + r.val, by omega⟩ a) kk ?_ (ix2 r a) ?_ ?_
  · show (kk.val * 16 + r.val) / 16 = kk.val
    omega
  · show r.val = (kk.val * 16 + r.val) % 16
    omega
  · refine Fin.forall_fin_two.mpr ⟨fun h => absurd rfl h, fun _ => rfl⟩

theorem cell16 {t0 : ℕ} {L : Fin 128 → ℤ} {P : ℕ → Fin 128 → Fin 80 → Fin 3 → EReal} {Wp : Fin 3 → Fin 80 → ℕ → EReal}
    {x : S2048x128.Idx → BitVec 32} {sb : S8x384.Idx → EReal} {w : S384x512.Idx → EReal} {ln : S128x128.Idx → BitVec 32} (hS : Src t0 L P Wp x sb w ln)
    (b : ℕ) (hb : b + 16 ≤ 16) (f : Fin 16 → (S16x128.Idx → BitVec 32)) (hf : ∀ kk r a, f kk (ix2 r a) = x (ix2 ⟨(b + kk.val) * 128 + r.val, by omega⟩ a))
    (wA : FVec Ideal S256x512 .bf16) (hA : ∀ (k : Fin 256) (c : Fin 512), wA (ix2 k c) = w (ix2 ⟨k.val, by omega⟩ c))
    (wB : FVec Ideal S128x512 .bf16) (hB : ∀ (k : Fin 128) (c : Fin 512), wB (ix2 k c) = w (ix2 ⟨256 + k.val, by omega⟩ c))
    (s0 s1 : FVec Ideal S1x384 .f32) (h0 : ∀ c, s0 (ix2 0 c) = sb (ix2 0 c)) (h1 : ∀ c, s1 (ix2 0 c) = sb (ix2 1 c))
    (lens : IVec S16x128 32) (hl : ∀ (r : Fin 16) c, lens (ix2 r c) = ln (ix2 ⟨r.val, by omega⟩ c))
    (kk : Fin 16) (t : BitVec 32) (ht : t = BitVec.ofNat 32 (t0 + (b + kk.val))) (g : Fin 3) (r : Fin 16) (j : Fin 80) :
    mask16 lens t (projV lane0 (concatenate S256x128 0 (List.ofFn fun q : Fin 16 => (⟨S16x128, f q⟩ : (s : Shape) × (s.Idx → BitVec 32))) concatenates_S16x128_S16x128_S16x128_S16x128_S16x128_S16x128_S16x128_S16x128_S16x128_S16x128_S16x128_S16x128_S16x128_S16x128_S16x128_S16x128_S256x128_d0) wA wB s0 s1) kk g (ix2 r (wide j))
      = want L P (t0 + (b + kk.val)) ⟨r.val, by omega⟩ g j := by
  have hht := hS.ht
  rw [mask16_apply, projV_apply _ wA wB s0 s1 _ _ (Wp g j) ?_ ?_ (hS.hz g j)]
  · rw [ht, toInt_small _ (by omega), hl, hS.hl, h0, h1]
    unfold want
    have e := hS.hP ⟨b + kk.val, by omega⟩ ⟨r.val, by omega⟩ j g
    dsimp only at e
    rw [e]
    have e2 : (fun a => concatenate S256x128 0 (List.ofFn fun q : Fin 16 => (⟨S16x128, f q⟩ : (s : Shape) × (s.Idx → BitVec 32))) concatenates_S16x128_S16x128_S16x128_S16x128_S16x128_S16x128_S16x128_S16x128_S16x128_S16x128_S16x128_S16x128_S16x128_S16x128_S16x128_S16x128_S256x128_d0 (ix2 ⟨kk.val * 16 + r.val, by omega⟩ a)) = fun a => x (ix2 ⟨(b + kk.val) * 128 + r.val, by omega⟩ a) :=
      funext fun a => (rows16 f kk r a).trans (hf kk r a)
    rw [e2]
  · intro k
    rw [hA]
    exact hS.hw ⟨k.val, by omega⟩ g j
  · intro k
    rw [hB]
    exact hS.hw ⟨256 + k.val, by omega⟩ g j

theorem rows32 (f : Fin 8 → (S32x128.Idx → BitVec 32)) (kk : Fin 8) (r : Fin 32) (a : Fin 128) :
    concatenate S256x128 0 (List.ofFn fun q : Fin 8 => (⟨S32x128, f q⟩ : (s : Shape) × (s.Idx → BitVec 32))) concatenates_S32x128_S32x128_S32x128_S32x128_S32x128_S32x128_S32x128_S32x128_S256x128_d0 (ix2 ⟨kk.val * 32 + r.val, by omega⟩ a) = f kk (ix2 r a) := by
  refine concatenate_ofFn_apply (t := S256x128) (s₁ := S32x128) 0 f _ rfl 32 rfl (ix2 ⟨kk.val * 32 + r.val, by omega⟩ a) kk ?_ (ix2 r a) ?_ ?_
  · show (kk.val * 32 + r.val) / 32 = kk.val
    omega
  · show r.val = (kk.val * 32 + r.val) % 32
    omega
  · refine Fin.forall_fin_two.mpr ⟨fun h => absurd rfl h, fun _ => rfl⟩

theorem cell32 {t0 : ℕ} {L : Fin 128 → ℤ} {P : ℕ → Fin 128 → Fin 80 → Fin 3 → EReal} {Wp : Fin 3 → Fin 80 → ℕ → EReal}
    {x : S2048x128.Idx → BitVec 32} {sb : S8x384.Idx → EReal} {w : S384x512.Idx → EReal} {ln : S128x128.Idx → BitVec 32} (hS : Src t0 L P Wp x sb w ln)
    (b : ℕ) (hb : b + 8 ≤ 16) (f : Fin 8 → (S32x128.Idx → BitVec 32)) (hf : ∀ kk r a, f kk (ix2 r a) = x (ix2 ⟨(b + kk.val) * 128 + r.val, by omega⟩ a))
    (wA : FVec Ideal S256x512 .bf16) (hA : ∀ (k : Fin 256) (c : Fin 512), wA (ix2 k c) = w (ix2 ⟨k.val, by omega⟩ c))
    (wB : FVec Ideal S128x512 .bf16) (hB : ∀ (k : Fin 128) (c : Fin 512), wB (ix2 k c) = w (ix2 ⟨256 + k.val, by omega⟩ c))
    (s0 s1 : FVec Ideal S1x384 .f32) (h0 : ∀ c, s0 (ix2 0 c) = sb (ix2 0 c)) (h1 : ∀ c, s1 (ix2 0 c) = sb (ix2 1 c))
    (lens : IVec S32x128 32) (hl : ∀ (r : Fin 32) c, lens (ix2 r c) = ln (ix2 ⟨r.val, by omega⟩ c))
    (kk : Fin 8) (t : BitVec 32) (ht : t = BitVec.ofNat 32 (t0 + (b + kk.val))) (g : Fin 3) (r : Fin 32) (j : Fin 80) :
    mask32 lens t (projV lane0 (concatenate S256x128 0 (List.ofFn fun q : Fin 8 => (⟨S32x128, f q⟩ : (s : Shape) × (s.Idx → BitVec 32))) concatenates_S32x128_S32x128_S32x128_S32x128_S32x128_S32x128_S32x128_S32x128_S256x128_d0) wA wB s0 s1) kk g (ix2 r (wide j))
      = want L P (t0 + (b + kk.val)) ⟨r.val, by omega⟩ g j := by
  have hht := hS.ht
  rw [mask32_apply, projV_apply _ wA wB s0 s1 _ _ (Wp g j) ?_ ?_ (hS.hz g j)]
  · rw [ht, toInt_small _ (by omega), hl, hS.hl, h0, h1]
    unfold want
    have e := hS.hP ⟨b + kk.val, by omega⟩ ⟨r.val, by omega⟩ j g
    dsimp only at e
    rw [e]
    have e2 : (fun a => concatenate S256x128 0 (List.ofFn fun q : Fin 8 => (⟨S32x128, f q⟩ : (s : Shape) × (s.Idx → BitVec 32))) concatenates_S32x128_S32x128_S32x128_S32x128_S32x128_S32x128_S32x128_S32x128_S256x128_d0 (ix2 ⟨kk.val * 32 + r.val, by omega⟩ a)) = fun a => x (ix2 ⟨(b + kk.val) * 128 + r.val, by omega⟩ a) :=
      funext fun a => (rows32 f kk r a).trans (hf kk r a)
    rw [e2]
  · intro k
    rw [hA]
    exact hS.hw ⟨k.val, by omega⟩ g j
  · intro k
    rw [hB]
    exact hS.hw ⟨256 + k.val, by omega⟩ g j

theorem rows64 (f : Fin 4 → (S64x128.Idx → BitVec 32)) (kk : Fin 4) (r : Fin 64) (a : Fin 128) :
    concatenate S256x128 0 (List.ofFn fun q : Fin 4 => (⟨S64x128, f q⟩ : (s : Shape) × (s.Idx → BitVec 32))) concatenates_S64x128_S64x128_S64x128_S64x128_S256x128_d0 (ix2 ⟨kk.val * 64 + r.val, by omega⟩ a) = f kk (ix2 r a) := by
  refine concatenate_ofFn_apply (t := S256x128) (s₁ := S64x128) 0 f _ rfl 64 rfl (ix2 ⟨kk.val * 64 + r.val, by omega⟩ a) kk ?_ (ix2 r a) ?_ ?_
  · show (kk.val * 64 + r.val) / 64 = kk.val
    omega
  · show r.val = (kk.val * 64 + r.val) % 64
    omega
  · refine Fin.forall_fin_two.mpr ⟨fun h => absurd rfl h, fun _ => rfl⟩

theorem cell64 {t0 : ℕ} {L : Fin 128 → ℤ} {P : ℕ → Fin 128 → Fin 80 → Fin 3 → EReal} {Wp : Fin 3 → Fin 80 → ℕ → EReal}
    {x : S2048x128.Idx → BitVec 32} {sb : S8x384.Idx → EReal} {w : S384x512.Idx → EReal} {ln : S128x128.Idx → BitVec 32} (hS : Src t0 L P Wp x sb w ln)
    (b : ℕ) (hb : b + 4 ≤ 16) (f : Fin 4 → (S64x128.Idx → BitVec 32)) (hf : ∀ kk r a, f kk (ix2 r a) = x (ix2 ⟨(b + kk.val) * 128 + r.val, by omega⟩ a))
    (wA : FVec Ideal S256x512 .bf16) (hA : ∀ (k : Fin 256) (c : Fin 512), wA (ix2 k c) = w (ix2 ⟨k.val, by omega⟩ c))
    (wB : FVec Ideal S128x512 .bf16) (hB : ∀ (k : Fin 128) (c : Fin 512), wB (ix2 k c) = w (ix2 ⟨256 + k.val, by omega⟩ c))
    (s0 s1 : FVec Ideal S1x384 .f32) (h0 : ∀ c, s0 (ix2 0 c) = sb (ix2 0 c)) (h1 : ∀ c, s1 (ix2 0 c) = sb (ix2 1 c))
    (lens : IVec S64x128 32) (hl : ∀ (r : Fin 64) c, lens (ix2 r c) = ln (ix2 ⟨r.val, by omega⟩ c))
    (kk : Fin 4) (t : BitVec 32) (ht : t = BitVec.ofNat 32 (t0 + (b + kk.val))) (g : Fin 3) (r : Fin 64) (j : Fin 80) :
    mask64 lens t (projV lane0 (concatenate S256x128 0 (List.ofFn fun q : Fin 4 => (⟨S64x128, f q⟩ : (s : Shape) × (s.Idx → BitVec 32))) concatenates_S64x128_S64x128_S64x128_S64x128_S256x128_d0) wA wB s0 s1) kk g (ix2 r (wide j))
      = want L P (t0 + (b + kk.val)) ⟨r.val, by omega⟩ g j := by
  have hht := hS.ht
  rw [mask64_apply, projV_apply _ wA wB s0 s1 _ _ (Wp g j) ?_ ?_ (hS.hz g j)]
  · rw [ht, toInt_small _ (by omega), hl, hS.hl, h0, h1]
    unfold want
    have e := hS.hP ⟨b + kk.val, by omega⟩ ⟨r.val, by omega⟩ j g
    dsimp only at e
    rw [e]
    have e2 : (fun a => concatenate S256x128 0 (List.ofFn fun q : Fin 4 => (⟨S64x128, f q⟩ : (s : Shape) × (s.Idx → BitVec 32))) concatenates_S64x128_S64x128_S64x128_S64x128_S256x128_d0 (ix2 ⟨kk.val * 64 + r.val, by omega⟩ a)) = fun a => x (ix2 ⟨(b + kk.val) * 128 + r.val, by omega⟩ a) :=
      funext fun a => (rows64 f kk r a).trans (hf kk r a)
    rw [e2]
  · intro k
    rw [hA]
    exact hS.hw ⟨k.val, by omega⟩ g j
  · intro k
    rw [hB]
    exact hS.hw ⟨256 + k.val, by omega⟩ g j

theorem rows128 (f : Fin 2 → (S128x128.Idx → BitVec 32)) (kk : Fin 2) (r : Fin 128) (a : Fin 128) :
    concatenate S256x128 0 (List.ofFn fun q : Fin 2 => (⟨S128x128, f q⟩ : (s : Shape) × (s.Idx → BitVec 32))) concatenates_S128x128_S128x128_S256x128_d0 (ix2 ⟨kk.val * 128 + r.val, by omega⟩ a) = f kk (ix2 r a) := by
  refine concatenate_ofFn_apply (t := S256x128) (s₁ := S128x128) 0 f _ rfl 128 rfl (ix2 ⟨kk.val * 128 + r.val, by omega⟩ a) kk ?_ (ix2 r a) ?_ ?_
  · show (kk.val * 128 + r.val) / 128 = kk.val
    omega
  · show r.val = (kk.val * 128 + r.val) % 128
    omega
  · refine Fin.forall_fin_two.mpr ⟨fun h => absurd rfl h, fun _ => rfl⟩

theorem cell128 {t0 : ℕ} {L : Fin 128 → ℤ} {P : ℕ → Fin 128 → Fin 80 → Fin 3 → EReal} {Wp : Fin 3 → Fin 80 → ℕ → EReal}
    {x : S2048x128.Idx → BitVec 32} {sb : S8x384.Idx → EReal} {w : S384x512.Idx → EReal} {ln : S128x128.Idx → BitVec 32} (hS : Src t0 L P Wp x sb w ln)
    (b : ℕ) (hb : b + 2 ≤ 16) (f : Fin 2 → (S128x128.Idx → BitVec 32)) (hf : ∀ kk r a, f kk (ix2 r a) = x (ix2 ⟨(b + kk.val) * 128 + r.val, by omega⟩ a))
    (wA : FVec Ideal S256x512 .bf16) (hA : ∀ (k : Fin 256) (c : Fin 512), wA (ix2 k c) = w (ix2 ⟨k.val, by omega⟩ c))
    (wB : FVec Ideal S128x512 .bf16) (hB : ∀ (k : Fin 128) (c : Fin 512), wB (ix2 k c) = w (ix2 ⟨256 + k.val, by omega⟩ c))
    (s0 s1 : FVec Ideal S1x384 .f32) (h0 : ∀ c, s0 (ix2 0 c) = sb (ix2 0 c)) (h1 : ∀ c, s1 (ix2 0 c) = sb (ix2 1 c))
    (lens : IVec S128x128 32) (hl : ∀ (r : Fin 128) c, lens (ix2 r c) = ln (ix2 ⟨r.val, by omega⟩ c))
    (kk : Fin 2) (t : BitVec 32) (ht : t = BitVec.ofNat 32 (t0 + (b + kk.val))) (g : Fin 3) (r : Fin 128) (j : Fin 80) :
    mask128 lens t (projV lane0 (concatenate S256x128 0 (List.ofFn fun q : Fin 2 => (⟨S128x128, f q⟩ : (s : Shape) × (s.Idx → BitVec 32))) concatenates_S128x128_S128x128_S256x128_d0) wA wB s0 s1) kk g (ix2 r (wide j))
      = want L P (t0 + (b + kk.val)) ⟨r.val, by omega⟩ g j := by
  have hht := hS.ht
  rw [mask128_apply, projV_apply _ wA wB s0 s1 _ _ (Wp g j) ?_ ?_ (hS.hz g j)]
  · rw [ht, toInt_small _ (by omega), hl, hS.hl, h0, h1]
    unfold want
    have e := hS.hP ⟨b + kk.val, by omega⟩ ⟨r.val, by omega⟩ j g
    dsimp only at e
    rw [e]
    have e2 : (fun a => concatenate S256x128 0 (List.ofFn fun q : Fin 2 => (⟨S128x128, f q⟩ : (s : Shape) × (s.Idx → BitVec 32))) concatenates_S128x128_S128x128_S256x128_d0 (ix2 ⟨kk.val * 128 + r.val, by omega⟩ a)) = fun a => x (ix2 ⟨(b + kk.val) * 128 + r.val, by omega⟩ a) :=
      funext fun a => (rows128 f kk r a).trans (hf kk r a)
    rw [e2]
  · intro k
    rw [hA]
    exact hS.hw ⟨k.val, by omega⟩ g j
  · intro k
    rw [hB]
    exact hS.hw ⟨256 + k.val, by omega⟩ g j

theorem word32 : ∀ (k : Fin k0_t2_loop.trips) (kk : Fin 8), Scalar.addi (Scalar.muli (Scalar.addi 0#32 (Scalar.muli (Scf.iv 0#32 1#32 k) 1#32)) 8#32) (BitVec.ofNat 32 kk.val) = BitVec.ofNat 32 (8 * k.val + kk.val) := by
  decide +kernel

theorem trips2 : k0_t2_loop.trips = 2 := by decide +kernel

/-- After the projection loop the masked input parts of the chunk's steps stand in place. -/
theorem gi32 {t0 : ℕ} {L : Fin 128 → ℤ} {P : ℕ → Fin 128 → Fin 80 → Fin 3 → EReal} {Wp : Fin 3 → Fin 80 → ℕ → EReal}
    (k0_h2 : k0_cond2 i = 1#1) (v42 : BitVec 32) (X3 : BufTy.Contents (Elt Ideal) a3.view.ty) (X11 : BufTy.Contents (Elt Ideal) a11.view.ty) (X15 : BufTy.Contents (Elt Ideal) a15.view.ty) (X20 : BufTy.Contents (Elt Ideal) a20.view.ty) (G : BufTy.Contents (Elt Ideal) a21.view.ty)
    (hS : Src t0 L P Wp (a3.view.read (Elt Ideal) X3) (a11.view.read (Elt Ideal) X11) (a15.view.read (Elt Ideal) X15) (a20.view.read (Elt Ideal) X20)) (hv : v42 = BitVec.ofNat 32 t0) (g : Fin 3) (r : Fin 32) (j : Fin 80) :
    ∀ n : ℕ, n ≤ 2 → ∀ tt : Fin 16, tt.val < 8 * n →
      a21.view.read (Elt Ideal) (a21.view.writes (Elt Ideal) G (pb_k0_t2 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 n)) (ix2 ⟨tt.val * 128 + r.val, by omega⟩ (Spec.col g (wide j)))
        = want L P (t0 + tt.val) ⟨r.val, by omega⟩ g j := by
  intro n
  induction n with
  | zero => intro _ tt h; exact absurd h (by omega)
  | succ n ih =>
    intro hn tt htt
    have hk : n < k0_t2_loop.trips := by rw [trips2]; omega
    have e := pb_k0_t2_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 ⟨n, hk⟩
    dsimp only at e
    rw [e, trip2_eq]
    by_cases hlt : tt.val < 8 * n
    · rw [read_cells_miss (offs32_inb ⟨n, hk⟩) _ (8 * n) (offs32_eq ⟨n, hk⟩) (by omega) a21.view _ _ _ 8 (Nat.le_refl _) (Or.inl (by show tt.val * 128 + r.val < 8 * n * 128; omega))]
      exact ih (by omega) tt hlt
    · obtain ⟨kk, hkk⟩ : ∃ kk : Fin 8, tt.val = 8 * n + kk.val := ⟨⟨tt.val - 8 * n, by omega⟩, by dsimp only; omega⟩
      rw [read_cells_mem (offs32_inb ⟨n, hk⟩) _ (8 * n) (offs32_eq ⟨n, hk⟩) (by omega) a21.view _ _ kk g r (wide j) _ (by show tt.val * 128 + r.val = (8 * n + kk.val) * 128 + r.val; rw [hkk]) rfl 8 (Nat.le_refl _) kk.isLt]
      have ex := fun q : Fin 8 => offx32_eq ⟨n, hk⟩ q
      have c2 := cell32 hS (8 * n) (by omega) (fun q => a3.view.readAt (Elt Ideal) (Rect.unit (s := S2048x128) (k0_off8 ⟨n, hk⟩ (BitVec.ofNat 32 q.val)) S32x128.size (offx32_inb ⟨n, hk⟩ q)).toLoadRect X3)
        (fun q r' a => by
          refine (readAt_at a3.view X3 (offx32_inb ⟨n, hk⟩ q) _ 0 (ex q) r' a (by dsimp only; omega) (by omega)).trans ?_
          refine congrArg (a3.view.read (Elt Ideal) X3) (congrArg (ix2 _) (Fin.ext (Nat.zero_add _))))
        (a15.view.readAt (Elt Ideal) (Rect.unit (s := S384x512) ![0, 0] S256x512.size inb_S384x512_S256x512_0_0).toLoadRect X15)
        (fun k c' => (readAt_at a15.view X15 _ 0 0 rfl k c' (by omega) (by omega)).trans (congrArg (a15.view.read (Elt Ideal) X15) (congrArg₂ ix2 (Fin.ext (Nat.zero_add _)) (Fin.ext (Nat.zero_add _)))))
        (a15.view.readAt (Elt Ideal) (Rect.unit (s := S384x512) ![256, 0] S128x512.size inb_S384x512_S128x512_256_0).toLoadRect X15)
        (fun k c' => (readAt_at a15.view X15 _ 256 0 rfl k c' (by omega) (by omega)).trans (congrArg (a15.view.read (Elt Ideal) X15) (congrArg (ix2 _) (Fin.ext (Nat.zero_add _)))))
        (a11.view.readAt (Elt Ideal) (Rect.unit (s := S8x384) ![0, 0] S1x384.size inb_S8x384_S1x384_0_0).toLoadRect X11)
        (a11.view.readAt (Elt Ideal) (Rect.unit (s := S8x384) ![1, 0] S1x384.size inb_S8x384_S1x384_1_0).toLoadRect X11)
        (fun c' => (readAt_at a11.view X11 _ 0 0 rfl 0 c' (by decide) (by omega)).trans (congrArg (a11.view.read (Elt Ideal) X11) (congrArg (ix2 _) (Fin.ext (Nat.zero_add _)))))
        (fun c' => (readAt_at a11.view X11 _ 1 0 rfl 0 c' (by decide) (by omega)).trans (congrArg (a11.view.read (Elt Ideal) X11) (congrArg (ix2 _) (Fin.ext (Nat.zero_add _)))))
        (a20.view.readAt (Elt Ideal) (Rect.unit (s := S128x128) ![0, 0] S32x128.size inb_S128x128_S32x128_0_0).toLoadRect X20)
        (fun r' c' => (readAt_at a20.view X20 _ 0 0 rfl r' c' (by omega) (by omega)).trans (congrArg (a20.view.read (Elt Ideal) X20) (congrArg₂ ix2 (Fin.ext (Nat.zero_add _)) (Fin.ext (Nat.zero_add _)))))
        kk (Scalar.addi v42 (Scalar.addi (Scalar.muli (Scalar.addi 0#32 (Scalar.muli (Scf.iv 0#32 1#32 (⟨n, hk⟩ : Fin k0_t2_loop.trips)) 1#32)) 8#32) (BitVec.ofNat 32 kk.val)))
        (by rw [word32, hv]; exact (BitVec.ofNat_add_ofNat _ _)) g r j
      have hq : t0 + tt.val = t0 + (8 * n + kk.val) := by rw [hkk]
      rw [hq]
      exact c2

theorem word64 : ∀ (k : Fin k0_t4_loop.trips) (kk : Fin 4), Scalar.addi (Scalar.muli (Scalar.addi 0#32 (Scalar.muli (Scf.iv 0#32 1#32 k) 1#32)) 4#32) (BitVec.ofNat 32 kk.val) = BitVec.ofNat 32 (4 * k.val + kk.val) := by
  decide +kernel

theorem trips4 : k0_t4_loop.trips = 4 := by decide +kernel

/-- After the projection loop the masked input parts of the chunk's steps stand in place. -/
theorem gi64 {t0 : ℕ} {L : Fin 128 → ℤ} {P : ℕ → Fin 128 → Fin 80 → Fin 3 → EReal} {Wp : Fin 3 → Fin 80 → ℕ → EReal}
    (k0_h2 : k0_cond2 i = 1#1) (v42 : BitVec 32) (X3 : BufTy.Contents (Elt Ideal) a3.view.ty) (X11 : BufTy.Contents (Elt Ideal) a11.view.ty) (X15 : BufTy.Contents (Elt Ideal) a15.view.ty) (X20 : BufTy.Contents (Elt Ideal) a20.view.ty) (G : BufTy.Contents (Elt Ideal) a21.view.ty)
    (hS : Src t0 L P Wp (a3.view.read (Elt Ideal) X3) (a11.view.read (Elt Ideal) X11) (a15.view.read (Elt Ideal) X15) (a20.view.read (Elt Ideal) X20)) (hv : v42 = BitVec.ofNat 32 t0) (g : Fin 3) (r : Fin 64) (j : Fin 80) :
    ∀ n : ℕ, n ≤ 4 → ∀ tt : Fin 16, tt.val < 4 * n →
      a21.view.read (Elt Ideal) (a21.view.writes (Elt Ideal) G (pb_k0_t4 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 n)) (ix2 ⟨tt.val * 128 + r.val, by omega⟩ (Spec.col g (wide j)))
        = want L P (t0 + tt.val) ⟨r.val, by omega⟩ g j := by
  intro n
  induction n with
  | zero => intro _ tt h; exact absurd h (by omega)
  | succ n ih =>
    intro hn tt htt
    have hk : n < k0_t4_loop.trips := by rw [trips4]; omega
    have e := pb_k0_t4_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 ⟨n, hk⟩
    dsimp only at e
    rw [e, trip4_eq]
    by_cases hlt : tt.val < 4 * n
    · rw [read_cells_miss (offs64_inb ⟨n, hk⟩) _ (4 * n) (offs64_eq ⟨n, hk⟩) (by omega) a21.view _ _ _ 4 (Nat.le_refl _) (Or.inl (by show tt.val * 128 + r.val < 4 * n * 128; omega))]
      exact ih (by omega) tt hlt
    · obtain ⟨kk, hkk⟩ : ∃ kk : Fin 4, tt.val = 4 * n + kk.val := ⟨⟨tt.val - 4 * n, by omega⟩, by dsimp only; omega⟩
      rw [read_cells_mem (offs64_inb ⟨n, hk⟩) _ (4 * n) (offs64_eq ⟨n, hk⟩) (by omega) a21.view _ _ kk g r (wide j) _ (by show tt.val * 128 + r.val = (4 * n + kk.val) * 128 + r.val; rw [hkk]) rfl 4 (Nat.le_refl _) kk.isLt]
      have ex := fun q : Fin 4 => offx64_eq ⟨n, hk⟩ q
      have c2 := cell64 hS (4 * n) (by omega) (fun q => a3.view.readAt (Elt Ideal) (Rect.unit (s := S2048x128) (k0_off15 ⟨n, hk⟩ (BitVec.ofNat 32 q.val)) S64x128.size (offx64_inb ⟨n, hk⟩ q)).toLoadRect X3)
        (fun q r' a => by
          refine (readAt_at a3.view X3 (offx64_inb ⟨n, hk⟩ q) _ 0 (ex q) r' a (by dsimp only; omega) (by omega)).trans ?_
          refine congrArg (a3.view.read (Elt Ideal) X3) (congrArg (ix2 _) (Fin.ext (Nat.zero_add _))))
        (a15.view.readAt (Elt Ideal) (Rect.unit (s := S384x512) ![0, 0] S256x512.size inb_S384x512_S256x512_0_0).toLoadRect X15)
        (fun k c' => (readAt_at a15.view X15 _ 0 0 rfl k c' (by omega) (by omega)).trans (congrArg (a15.view.read (Elt Ideal) X15) (congrArg₂ ix2 (Fin.ext (Nat.zero_add _)) (Fin.ext (Nat.zero_add _)))))
        (a15.view.readAt (Elt Ideal) (Rect.unit (s := S384x512) ![256, 0] S128x512.size inb_S384x512_S128x512_256_0).toLoadRect X15)
        (fun k c' => (readAt_at a15.view X15 _ 256 0 rfl k c' (by omega) (by omega)).trans (congrArg (a15.view.read (Elt Ideal) X15) (congrArg (ix2 _) (Fin.ext (Nat.zero_add _)))))
        (a11.view.readAt (Elt Ideal) (Rect.unit (s := S8x384) ![0, 0] S1x384.size inb_S8x384_S1x384_0_0).toLoadRect X11)
        (a11.view.readAt (Elt Ideal) (Rect.unit (s := S8x384) ![1, 0] S1x384.size inb_S8x384_S1x384_1_0).toLoadRect X11)
        (fun c' => (readAt_at a11.view X11 _ 0 0 rfl 0 c' (by decide) (by omega)).trans (congrArg (a11.view.read (Elt Ideal) X11) (congrArg (ix2 _) (Fin.ext (Nat.zero_add _)))))
        (fun c' => (readAt_at a11.view X11 _ 1 0 rfl 0 c' (by decide) (by omega)).trans (congrArg (a11.view.read (Elt Ideal) X11) (congrArg (ix2 _) (Fin.ext (Nat.zero_add _)))))
        (a20.view.readAt (Elt Ideal) (Rect.unit (s := S128x128) ![0, 0] S64x128.size inb_S128x128_S64x128_0_0).toLoadRect X20)
        (fun r' c' => (readAt_at a20.view X20 _ 0 0 rfl r' c' (by omega) (by omega)).trans (congrArg (a20.view.read (Elt Ideal) X20) (congrArg₂ ix2 (Fin.ext (Nat.zero_add _)) (Fin.ext (Nat.zero_add _)))))
        kk (Scalar.addi v42 (Scalar.addi (Scalar.muli (Scalar.addi 0#32 (Scalar.muli (Scf.iv 0#32 1#32 (⟨n, hk⟩ : Fin k0_t4_loop.trips)) 1#32)) 4#32) (BitVec.ofNat 32 kk.val)))
        (by rw [word64, hv]; exact (BitVec.ofNat_add_ofNat _ _)) g r j
      have hq : t0 + tt.val = t0 + (4 * n + kk.val) := by rw [hkk]
      rw [hq]
      exact c2

theorem word128 : ∀ (k : Fin k0_t6_loop.trips) (kk : Fin 2), Scalar.addi (Scalar.muli (Scalar.addi 0#32 (Scalar.muli (Scf.iv 0#32 1#32 k) 1#32)) 2#32) (BitVec.ofNat 32 kk.val) = BitVec.ofNat 32 (2 * k.val + kk.val) := by
  decide +kernel

theorem trips6 : k0_t6_loop.trips = 8 := by decide +kernel

/-- After the projection loop the masked input parts of the chunk's steps stand in place. -/
theorem gi128 {t0 : ℕ} {L : Fin 128 → ℤ} {P : ℕ → Fin 128 → Fin 80 → Fin 3 → EReal} {Wp : Fin 3 → Fin 80 → ℕ → EReal}
    (k0_h2 : k0_cond2 i = 1#1) (v42 : BitVec 32) (X3 : BufTy.Contents (Elt Ideal) a3.view.ty) (X11 : BufTy.Contents (Elt Ideal) a11.view.ty) (X15 : BufTy.Contents (Elt Ideal) a15.view.ty) (X20 : BufTy.Contents (Elt Ideal) a20.view.ty) (G : BufTy.Contents (Elt Ideal) a21.view.ty)
    (hS : Src t0 L P Wp (a3.view.read (Elt Ideal) X3) (a11.view.read (Elt Ideal) X11) (a15.view.read (Elt Ideal) X15) (a20.view.read (Elt Ideal) X20)) (hv : v42 = BitVec.ofNat 32 t0) (g : Fin 3) (r : Fin 128) (j : Fin 80) :
    ∀ n : ℕ, n ≤ 8 → ∀ tt : Fin 16, tt.val < 2 * n →
      a21.view.read (Elt Ideal) (a21.view.writes (Elt Ideal) G (pb_k0_t6 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 n)) (ix2 ⟨tt.val * 128 + r.val, by omega⟩ (Spec.col g (wide j)))
        = want L P (t0 + tt.val) ⟨r.val, by omega⟩ g j := by
  intro n
  induction n with
  | zero => intro _ tt h; exact absurd h (by omega)
  | succ n ih =>
    intro hn tt htt
    have hk : n < k0_t6_loop.trips := by rw [trips6]; omega
    have e := pb_k0_t6_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 lane0 k0_h2 v42 X3 X11 X15 X20 ⟨n, hk⟩
    dsimp only at e
    rw [e, trip6_eq]
    by_cases hlt : tt.val < 2 * n
    · rw [read_cells_miss (offs128_inb ⟨n, hk⟩) _ (2 * n) (offs128_eq ⟨n, hk⟩) (by omega) a21.view _ _ _ 2 (Nat.le_refl _) (Or.inl (by show tt.val * 128 + r.val < 2 * n * 128; omega))]
      exact ih (by omega) tt hlt
    · obtain ⟨kk, hkk⟩ : ∃ kk : Fin 2, tt.val = 2 * n + kk.val := ⟨⟨tt.val - 2 * n, by omega⟩, by dsimp only; omega⟩
      rw [read_cells_mem (offs128_inb ⟨n, hk⟩) _ (2 * n) (offs128_eq ⟨n, hk⟩) (by omega) a21.view _ _ kk g r (wide j) _ (by show tt.val * 128 + r.val = (2 * n + kk.val) * 128 + r.val; rw [hkk]) rfl 2 (Nat.le_refl _) kk.isLt]
      have ex := fun q : Fin 2 => offx128_eq ⟨n, hk⟩ q
      have c2 := cell128 hS (2 * n) (by omega) (fun q => a3.view.readAt (Elt Ideal) (Rect.unit (s := S2048x128) (k0_off22 ⟨n, hk⟩ (BitVec.ofNat 32 q.val)) S128x128.size (offx128_inb ⟨n, hk⟩ q)).toLoadRect X3)
        (fun q r' a => by
          refine (readAt_at a3.view X3 (offx128_inb ⟨n, hk⟩ q) _ 0 (ex q) r' a (by dsimp only; omega) (by omega)).trans ?_
          refine congrArg (a3.view.read (Elt Ideal) X3) (congrArg (ix2 _) (Fin.ext (Nat.zero_add _))))
        (a15.view.readAt (Elt Ideal) (Rect.unit (s := S384x512) ![0, 0] S256x512.size inb_S384x512_S256x512_0_0).toLoadRect X15)
        (fun k c' => (readAt_at a15.view X15 _ 0 0 rfl k c' (by omega) (by omega)).trans (congrArg (a15.view.read (Elt Ideal) X15) (congrArg₂ ix2 (Fin.ext (Nat.zero_add _)) (Fin.ext (Nat.zero_add _)))))
        (a15.view.readAt (Elt Ideal) (Rect.unit (s := S384x512) ![256, 0] S128x512.size inb_S384x512_S128x512_256_0).toLoadRect X15)
        (fun k c' => (readAt_at a15.view X15 _ 256 0 rfl k c' (by omega) (by omega)).trans (congrArg (a15.view.read (Elt Ideal) X15) (congrArg (ix2 _) (Fin.ext (Nat.zero_add _)))))
        (a11.view.readAt (Elt Ideal) (Rect.unit (s := S8x384) ![0, 0] S1x384.size inb_S8x384_S1x384_0_0).toLoadRect X11)
        (a11.view.readAt (Elt Ideal) (Rect.unit (s := S8x384) ![1, 0] S1x384.size inb_S8x384_S1x384_1_0).toLoadRect X11)
        (fun c' => (readAt_at a11.view X11 _ 0 0 rfl 0 c' (by decide) (by omega)).trans (congrArg (a11.view.read (Elt Ideal) X11) (congrArg (ix2 _) (Fin.ext (Nat.zero_add _)))))
        (fun c' => (readAt_at a11.view X11 _ 1 0 rfl 0 c' (by decide) (by omega)).trans (congrArg (a11.view.read (Elt Ideal) X11) (congrArg (ix2 _) (Fin.ext (Nat.zero_add _)))))
        (a20.view.readAt (Elt Ideal) (Rect.unit (s := S128x128) ![0, 0] S128x128.size inb_S128x128_S128x128_0_0).toLoadRect X20)
        (fun r' c' => (readAt_at a20.view X20 _ 0 0 rfl r' c' (by omega) (by omega)).trans (congrArg (a20.view.read (Elt Ideal) X20) (congrArg₂ ix2 (Fin.ext (Nat.zero_add _)) (Fin.ext (Nat.zero_add _)))))
        kk (Scalar.addi v42 (Scalar.addi (Scalar.muli (Scalar.addi 0#32 (Scalar.muli (Scf.iv 0#32 1#32 (⟨n, hk⟩ : Fin k0_t6_loop.trips)) 1#32)) 2#32) (BitVec.ofNat 32 kk.val)))
        (by rw [word128, hv]; exact (BitVec.ofNat_add_ofNat _ _)) g r j
      have hq : t0 + tt.val = t0 + (2 * n + kk.val) := by rw [hkk]
      rw [hq]
      exact c2

theorem trips1 : k0_t1_loop.trips = 16 := by decide +kernel

theorem offg16 : ∀ k : Fin k0_t1_loop.trips, k0_off5 k = ![k.val * 128, 0] := by
  decide +kernel

/-- The step loop carries the hidden state of the rows it holds. -/
theorem steps16 {t0 : ℕ} {L : Fin 128 → ℤ} {P : ℕ → Fin 128 → Fin 80 → Fin 3 → EReal} {Wh : Fin 80 → Fin 3 → Fin 80 → EReal} {sh bh : Fin 3 → Fin 80 → EReal}
     (a0 : BitVec 32) (v0 : IVec S1x128 32) (k0_h2 : k0_cond2 i = 1#1) (v42 : BitVec 32) (v899 : IVec S16x128 1) (v900 : FVec Ideal S16x384 .f32) (v901 : BitVec 32) (v911 : FVec Ideal S16x128 .f32) (v923 : Vec Ideal S1x384 .f32) (v925 : Vec Ideal S1x384 .f32) (v944 : Vec Ideal S16x128 .f32) (X_arg16 : BufTy.Contents (Elt Ideal) a16.view.ty) (X_arg21 : BufTy.Contents (Elt Ideal) a21.view.ty) (G_arg22 : BufTy.Contents (Elt Ideal) a22.view.ty) (G_arg24 : BufTy.Contents (Elt Ideal) a24.view.ty) (init : Vec Ideal S16x128 .f32)
    (hG : ∀ (tt : Fin 16) (g : Fin 3) (r : Fin 16) (j : Fin 80), a21.view.read (Elt Ideal) X_arg21 (ix2 ⟨tt.val * 128 + r.val, by omega⟩ (Spec.col g (wide j))) = want L P (t0 + tt.val) ⟨r.val, by omega⟩ g j)
    (hW : ∀ (k : Fin 80) (g : Fin 3) (j : Fin 80), a16.view.read (Elt Ideal) X_arg16 (ix2 (wide k) (Spec.col g (wide j))) = Wh k g j)
    (hW0 : ∀ (k : Fin 128) (g : Fin 3) (j : Fin 80), 80 ≤ k.val → a16.view.read (Elt Ideal) X_arg16 (ix2 k (Spec.col g (wide j))) = 0)
    (hs : ∀ (g : Fin 3) (j : Fin 80), v923 (ix2 0 (Spec.col g (wide j))) = sh g j) (hb : ∀ (g : Fin 3) (j : Fin 80), v925 (ix2 0 (Spec.col g (wide j))) = bh g j)
    (hi : ∀ (r : Fin 16) (j : Fin 80), init (ix2 r (wide j)) = Spec.H P L Wh sh bh t0 ⟨r.val, by omega⟩ j) :
    ∀ n : ℕ, n ≤ 16 → ∀ (r : Fin 16) (j : Fin 80),
      (st_k0_t1 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911 v923 v925 v944 X_arg16 X_arg21 G_arg22 G_arg24 init n).1 (ix2 r (wide j)) = Spec.H P L Wh sh bh (t0 + n) ⟨r.val, by omega⟩ j := by
  intro n
  induction n with
  | zero => intro _ r j; exact hi r j
  | succ n ih =>
    intro hn r j
    have hk : n < k0_t1_loop.trips := by rw [trips1]; omega
    have e := congrArg Prod.fst (st_k0_t1_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911 v923 v925 v944 X_arg16 X_arg21 G_arg22 G_arg24 init ⟨n, hk⟩)
    have ih' := ih (by omega)
    dsimp only at e
    rw [e]
    unfold tripR_k0_t1
    rw [trip16_eq]
    generalize (st_k0_t1 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 a0 v0 k0_h2 v42 v899 v900 v901 v911 v923 v925 v944 X_arg16 X_arg21 G_arg22 G_arg24 init n).1 = h at ih' ⊢
    rw [step16_apply]
    have hp : (fun g => a21.view.readAt (Elt Ideal) (Rect.unit (s := S2048x384) (k0_off5 ⟨n, hk⟩) S16x384.size (k0_off5_inb i ⟨n, hk⟩ k0_h2)).toLoadRect X_arg21 (ix2 r (Spec.col g (wide j))))
        = fun g => want L P (t0 + n) ⟨r.val, by omega⟩ g j := by
      funext g
      refine (readAt_at a21.view X_arg21 _ (n * 128) 0 (offg16 ⟨n, hk⟩) r _ (by omega) (by omega)).trans ?_
      refine Eq.trans ?_ (hG ⟨n, by omega⟩ g r j)
      refine congrArg (a21.view.read (Elt Ideal) X_arg21) (congrArg (ix2 _) (Fin.ext (Nat.zero_add _)))
    have ha : (fun g => (∑ k : Fin 128, h (ix2 r k) * a16.view.readAt (Elt Ideal) (Rect.unit (s := S128x384) ![0, 0] S128x384.size inb_S128x384_S128x384_0_0).toLoadRect X_arg16 (ix2 k (Spec.col g (wide j))))
          * shapeCast S1x384 v923 shapeCasts_S1x384_S1x384 (ix2 0 (Spec.col g (wide j))) + shapeCast S1x384 v925 shapeCasts_S1x384_S1x384 (ix2 0 (Spec.col g (wide j))))
        = Spec.hid Wh sh bh (Spec.H P L Wh sh bh (t0 + n) ⟨r.val, by omega⟩) j := by
      funext g
      unfold Spec.hid
      rw [shapeCast_self, shapeCast_self, hs, hb]
      refine congrArg (fun z => z * sh g j + bh g j) (Spec.sum_head _ _ ?_ ?_)
      · intro k
        rw [ih' r k]
        refine congrArg _ (Eq.trans ?_ (hW k g j))
        exact congrFun (View.readAt_full a16.view X_arg16 _) _
      · intro k hk80
        refine Eq.trans (congrArg (h (ix2 r k) * ·) (Eq.trans ?_ (hW0 k g j hk80))) (mul_zero _)
        exact congrFun (View.readAt_full a16.view X_arg16 _) _
    rw [hp, ha, ih' r j]
    show _ = Spec.H P L Wh sh bh (t0 + n + 1) ⟨r.val, by omega⟩ j
    rw [Spec.H]
    dsimp only
    by_cases hlt : ((t0 + n : ℕ) : ℤ) < L ⟨r.val, by omega⟩
    · rw [if_pos hlt]
      refine congrArg (fun p => Spec.gru p _ _) (funext fun g => ?_)
      unfold want
      rw [if_pos hlt]
    · rw [if_neg hlt]
      refine Spec.gru_shut _ _ _ ?_
      unfold want
      rw [if_neg hlt, if_pos rfl]

theorem trips3 : k0_t3_loop.trips = 16 := by decide +kernel

theorem offg32 : ∀ k : Fin k0_t3_loop.trips, k0_off12 k = ![k.val * 128, 0] := by
  decide +kernel

/-- The step loop carries the hidden state of the rows it holds. -/
theorem steps32 {t0 : ℕ} {L : Fin 128 → ℤ} {P : ℕ → Fin 128 → Fin 80 → Fin 3 → EReal} {Wh : Fin 80 → Fin 3 → Fin 80 → EReal} {sh bh : Fin 3 → Fin 80 → EReal}
     (k0_h2 : k0_cond2 i = 1#1) (v42 : BitVec 32) (v44 : Vec Ideal S1x384 .f32) (v46 : Vec Ideal S1x384 .f32) (v65 : Vec Ideal S32x128 .f32) (X_arg16 : BufTy.Contents (Elt Ideal) a16.view.ty) (X_arg21 : BufTy.Contents (Elt Ideal) a21.view.ty) (G_arg22 : BufTy.Contents (Elt Ideal) a22.view.ty) (G_arg24 : BufTy.Contents (Elt Ideal) a24.view.ty) (init : Vec Ideal S32x128 .f32)
    (hG : ∀ (tt : Fin 16) (g : Fin 3) (r : Fin 32) (j : Fin 80), a21.view.read (Elt Ideal) X_arg21 (ix2 ⟨tt.val * 128 + r.val, by omega⟩ (Spec.col g (wide j))) = want L P (t0 + tt.val) ⟨r.val, by omega⟩ g j)
    (hW : ∀ (k : Fin 80) (g : Fin 3) (j : Fin 80), a16.view.read (Elt Ideal) X_arg16 (ix2 (wide k) (Spec.col g (wide j))) = Wh k g j)
    (hW0 : ∀ (k : Fin 128) (g : Fin 3) (j : Fin 80), 80 ≤ k.val → a16.view.read (Elt Ideal) X_arg16 (ix2 k (Spec.col g (wide j))) = 0)
    (hs : ∀ (g : Fin 3) (j : Fin 80), v44 (ix2 0 (Spec.col g (wide j))) = sh g j) (hb : ∀ (g : Fin 3) (j : Fin 80), v46 (ix2 0 (Spec.col g (wide j))) = bh g j)
    (hi : ∀ (r : Fin 32) (j : Fin 80), init (ix2 r (wide j)) = Spec.H P L Wh sh bh t0 ⟨r.val, by omega⟩ j) :
    ∀ n : ℕ, n ≤ 16 → ∀ (r : Fin 32) (j : Fin 80),
      (st_k0_t3 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 (ix2 r (wide j)) = Spec.H P L Wh sh bh (t0 + n) ⟨r.val, by omega⟩ j := by
  intro n
  induction n with
  | zero => intro _ r j; exact hi r j
  | succ n ih =>
    intro hn r j
    have hk : n < k0_t3_loop.trips := by rw [trips3]; omega
    have e := congrArg Prod.fst (st_k0_t3_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init ⟨n, hk⟩)
    have ih' := ih (by omega)
    dsimp only at e
    rw [e]
    unfold tripR_k0_t3
    rw [trip32_eq]
    generalize (st_k0_t3 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 = h at ih' ⊢
    rw [step32_apply]
    have hp : (fun g => a21.view.readAt (Elt Ideal) (Rect.unit (s := S2048x384) (k0_off12 ⟨n, hk⟩) S32x384.size (k0_off12_inb i ⟨n, hk⟩ k0_h2)).toLoadRect X_arg21 (ix2 r (Spec.col g (wide j))))
        = fun g => want L P (t0 + n) ⟨r.val, by omega⟩ g j := by
      funext g
      refine (readAt_at a21.view X_arg21 _ (n * 128) 0 (offg32 ⟨n, hk⟩) r _ (by omega) (by omega)).trans ?_
      refine Eq.trans ?_ (hG ⟨n, by omega⟩ g r j)
      refine congrArg (a21.view.read (Elt Ideal) X_arg21) (congrArg (ix2 _) (Fin.ext (Nat.zero_add _)))
    have ha : (fun g => (∑ k : Fin 128, h (ix2 r k) * a16.view.readAt (Elt Ideal) (Rect.unit (s := S128x384) ![0, 0] S128x384.size inb_S128x384_S128x384_0_0).toLoadRect X_arg16 (ix2 k (Spec.col g (wide j))))
          * shapeCast S1x384 v44 shapeCasts_S1x384_S1x384 (ix2 0 (Spec.col g (wide j))) + shapeCast S1x384 v46 shapeCasts_S1x384_S1x384 (ix2 0 (Spec.col g (wide j))))
        = Spec.hid Wh sh bh (Spec.H P L Wh sh bh (t0 + n) ⟨r.val, by omega⟩) j := by
      funext g
      unfold Spec.hid
      rw [shapeCast_self, shapeCast_self, hs, hb]
      refine congrArg (fun z => z * sh g j + bh g j) (Spec.sum_head _ _ ?_ ?_)
      · intro k
        rw [ih' r k]
        refine congrArg _ (Eq.trans ?_ (hW k g j))
        exact congrFun (View.readAt_full a16.view X_arg16 _) _
      · intro k hk80
        refine Eq.trans (congrArg (h (ix2 r k) * ·) (Eq.trans ?_ (hW0 k g j hk80))) (mul_zero _)
        exact congrFun (View.readAt_full a16.view X_arg16 _) _
    rw [hp, ha, ih' r j]
    show _ = Spec.H P L Wh sh bh (t0 + n + 1) ⟨r.val, by omega⟩ j
    rw [Spec.H]
    dsimp only
    by_cases hlt : ((t0 + n : ℕ) : ℤ) < L ⟨r.val, by omega⟩
    · rw [if_pos hlt]
      refine congrArg (fun p => Spec.gru p _ _) (funext fun g => ?_)
      unfold want
      rw [if_pos hlt]
    · rw [if_neg hlt]
      refine Spec.gru_shut _ _ _ ?_
      unfold want
      rw [if_neg hlt, if_pos rfl]

theorem trips5 : k0_t5_loop.trips = 16 := by decide +kernel

theorem offg64 : ∀ k : Fin k0_t5_loop.trips, k0_off19 k = ![k.val * 128, 0] := by
  decide +kernel

/-- The step loop carries the hidden state of the rows it holds. -/
theorem steps64 {t0 : ℕ} {L : Fin 128 → ℤ} {P : ℕ → Fin 128 → Fin 80 → Fin 3 → EReal} {Wh : Fin 80 → Fin 3 → Fin 80 → EReal} {sh bh : Fin 3 → Fin 80 → EReal}
     (k0_h2 : k0_cond2 i = 1#1) (v42 : BitVec 32) (v44 : Vec Ideal S1x384 .f32) (v46 : Vec Ideal S1x384 .f32) (v65 : Vec Ideal S64x128 .f32) (X_arg16 : BufTy.Contents (Elt Ideal) a16.view.ty) (X_arg21 : BufTy.Contents (Elt Ideal) a21.view.ty) (G_arg22 : BufTy.Contents (Elt Ideal) a22.view.ty) (G_arg24 : BufTy.Contents (Elt Ideal) a24.view.ty) (init : Vec Ideal S64x128 .f32)
    (hG : ∀ (tt : Fin 16) (g : Fin 3) (r : Fin 64) (j : Fin 80), a21.view.read (Elt Ideal) X_arg21 (ix2 ⟨tt.val * 128 + r.val, by omega⟩ (Spec.col g (wide j))) = want L P (t0 + tt.val) ⟨r.val, by omega⟩ g j)
    (hW : ∀ (k : Fin 80) (g : Fin 3) (j : Fin 80), a16.view.read (Elt Ideal) X_arg16 (ix2 (wide k) (Spec.col g (wide j))) = Wh k g j)
    (hW0 : ∀ (k : Fin 128) (g : Fin 3) (j : Fin 80), 80 ≤ k.val → a16.view.read (Elt Ideal) X_arg16 (ix2 k (Spec.col g (wide j))) = 0)
    (hs : ∀ (g : Fin 3) (j : Fin 80), v44 (ix2 0 (Spec.col g (wide j))) = sh g j) (hb : ∀ (g : Fin 3) (j : Fin 80), v46 (ix2 0 (Spec.col g (wide j))) = bh g j)
    (hi : ∀ (r : Fin 64) (j : Fin 80), init (ix2 r (wide j)) = Spec.H P L Wh sh bh t0 ⟨r.val, by omega⟩ j) :
    ∀ n : ℕ, n ≤ 16 → ∀ (r : Fin 64) (j : Fin 80),
      (st_k0_t5 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 (ix2 r (wide j)) = Spec.H P L Wh sh bh (t0 + n) ⟨r.val, by omega⟩ j := by
  intro n
  induction n with
  | zero => intro _ r j; exact hi r j
  | succ n ih =>
    intro hn r j
    have hk : n < k0_t5_loop.trips := by rw [trips5]; omega
    have e := congrArg Prod.fst (st_k0_t5_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init ⟨n, hk⟩)
    have ih' := ih (by omega)
    dsimp only at e
    rw [e]
    unfold tripR_k0_t5
    rw [trip64_eq]
    generalize (st_k0_t5 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 = h at ih' ⊢
    rw [step64_apply]
    have hp : (fun g => a21.view.readAt (Elt Ideal) (Rect.unit (s := S2048x384) (k0_off19 ⟨n, hk⟩) S64x384.size (k0_off19_inb i ⟨n, hk⟩ k0_h2)).toLoadRect X_arg21 (ix2 r (Spec.col g (wide j))))
        = fun g => want L P (t0 + n) ⟨r.val, by omega⟩ g j := by
      funext g
      refine (readAt_at a21.view X_arg21 _ (n * 128) 0 (offg64 ⟨n, hk⟩) r _ (by omega) (by omega)).trans ?_
      refine Eq.trans ?_ (hG ⟨n, by omega⟩ g r j)
      refine congrArg (a21.view.read (Elt Ideal) X_arg21) (congrArg (ix2 _) (Fin.ext (Nat.zero_add _)))
    have ha : (fun g => (∑ k : Fin 128, h (ix2 r k) * a16.view.readAt (Elt Ideal) (Rect.unit (s := S128x384) ![0, 0] S128x384.size inb_S128x384_S128x384_0_0).toLoadRect X_arg16 (ix2 k (Spec.col g (wide j))))
          * shapeCast S1x384 v44 shapeCasts_S1x384_S1x384 (ix2 0 (Spec.col g (wide j))) + shapeCast S1x384 v46 shapeCasts_S1x384_S1x384 (ix2 0 (Spec.col g (wide j))))
        = Spec.hid Wh sh bh (Spec.H P L Wh sh bh (t0 + n) ⟨r.val, by omega⟩) j := by
      funext g
      unfold Spec.hid
      rw [shapeCast_self, shapeCast_self, hs, hb]
      refine congrArg (fun z => z * sh g j + bh g j) (Spec.sum_head _ _ ?_ ?_)
      · intro k
        rw [ih' r k]
        refine congrArg _ (Eq.trans ?_ (hW k g j))
        exact congrFun (View.readAt_full a16.view X_arg16 _) _
      · intro k hk80
        refine Eq.trans (congrArg (h (ix2 r k) * ·) (Eq.trans ?_ (hW0 k g j hk80))) (mul_zero _)
        exact congrFun (View.readAt_full a16.view X_arg16 _) _
    rw [hp, ha, ih' r j]
    show _ = Spec.H P L Wh sh bh (t0 + n + 1) ⟨r.val, by omega⟩ j
    rw [Spec.H]
    dsimp only
    by_cases hlt : ((t0 + n : ℕ) : ℤ) < L ⟨r.val, by omega⟩
    · rw [if_pos hlt]
      refine congrArg (fun p => Spec.gru p _ _) (funext fun g => ?_)
      unfold want
      rw [if_pos hlt]
    · rw [if_neg hlt]
      refine Spec.gru_shut _ _ _ ?_
      unfold want
      rw [if_neg hlt, if_pos rfl]

theorem trips7 : k0_t7_loop.trips = 16 := by decide +kernel

theorem offg128 : ∀ k : Fin k0_t7_loop.trips, k0_off26 k = ![k.val * 128, 0] := by
  decide +kernel

/-- The step loop carries the hidden state of the rows it holds. -/
theorem steps128 {t0 : ℕ} {L : Fin 128 → ℤ} {P : ℕ → Fin 128 → Fin 80 → Fin 3 → EReal} {Wh : Fin 80 → Fin 3 → Fin 80 → EReal} {sh bh : Fin 3 → Fin 80 → EReal}
     (k0_h2 : k0_cond2 i = 1#1) (v42 : BitVec 32) (v44 : Vec Ideal S1x384 .f32) (v46 : Vec Ideal S1x384 .f32) (v65 : Vec Ideal S128x128 .f32) (X_arg16 : BufTy.Contents (Elt Ideal) a16.view.ty) (X_arg21 : BufTy.Contents (Elt Ideal) a21.view.ty) (G_arg22 : BufTy.Contents (Elt Ideal) a22.view.ty) (G_arg24 : BufTy.Contents (Elt Ideal) a24.view.ty) (init : Vec Ideal S128x128 .f32)
    (hG : ∀ (tt : Fin 16) (g : Fin 3) (r : Fin 128) (j : Fin 80), a21.view.read (Elt Ideal) X_arg21 (ix2 ⟨tt.val * 128 + r.val, by omega⟩ (Spec.col g (wide j))) = want L P (t0 + tt.val) ⟨r.val, by omega⟩ g j)
    (hW : ∀ (k : Fin 80) (g : Fin 3) (j : Fin 80), a16.view.read (Elt Ideal) X_arg16 (ix2 (wide k) (Spec.col g (wide j))) = Wh k g j)
    (hW0 : ∀ (k : Fin 128) (g : Fin 3) (j : Fin 80), 80 ≤ k.val → a16.view.read (Elt Ideal) X_arg16 (ix2 k (Spec.col g (wide j))) = 0)
    (hs : ∀ (g : Fin 3) (j : Fin 80), v44 (ix2 0 (Spec.col g (wide j))) = sh g j) (hb : ∀ (g : Fin 3) (j : Fin 80), v46 (ix2 0 (Spec.col g (wide j))) = bh g j)
    (hi : ∀ (r : Fin 128) (j : Fin 80), init (ix2 r (wide j)) = Spec.H P L Wh sh bh t0 ⟨r.val, by omega⟩ j) :
    ∀ n : ℕ, n ≤ 16 → ∀ (r : Fin 128) (j : Fin 80),
      (st_k0_t7 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 (ix2 r (wide j)) = Spec.H P L Wh sh bh (t0 + n) ⟨r.val, by omega⟩ j := by
  intro n
  induction n with
  | zero => intro _ r j; exact hi r j
  | succ n ih =>
    intro hn r j
    have hk : n < k0_t7_loop.trips := by rw [trips7]; omega
    have e := congrArg Prod.fst (st_k0_t7_succ (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init ⟨n, hk⟩)
    have ih' := ih (by omega)
    dsimp only at e
    rw [e]
    unfold tripR_k0_t7
    rw [trip128_eq]
    generalize (st_k0_t7 (F := Ideal) 𝒱 c bd i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 v42 v44 v46 v65 X_arg16 X_arg21 G_arg22 G_arg24 init n).1 = h at ih' ⊢
    rw [step128_apply]
    have hp : (fun g => a21.view.readAt (Elt Ideal) (Rect.unit (s := S2048x384) (k0_off26 ⟨n, hk⟩) S128x384.size (k0_off26_inb i ⟨n, hk⟩ k0_h2)).toLoadRect X_arg21 (ix2 r (Spec.col g (wide j))))
        = fun g => want L P (t0 + n) ⟨r.val, by omega⟩ g j := by
      funext g
      refine (readAt_at a21.view X_arg21 _ (n * 128) 0 (offg128 ⟨n, hk⟩) r _ (by omega) (by omega)).trans ?_
      refine Eq.trans ?_ (hG ⟨n, by omega⟩ g r j)
      refine congrArg (a21.view.read (Elt Ideal) X_arg21) (congrArg (ix2 _) (Fin.ext (Nat.zero_add _)))
    have ha : (fun g => (∑ k : Fin 128, h (ix2 r k) * a16.view.readAt (Elt Ideal) (Rect.unit (s := S128x384) ![0, 0] S128x384.size inb_S128x384_S128x384_0_0).toLoadRect X_arg16 (ix2 k (Spec.col g (wide j))))
          * shapeCast S1x384 v44 shapeCasts_S1x384_S1x384 (ix2 0 (Spec.col g (wide j))) + shapeCast S1x384 v46 shapeCasts_S1x384_S1x384 (ix2 0 (Spec.col g (wide j))))
        = Spec.hid Wh sh bh (Spec.H P L Wh sh bh (t0 + n) ⟨r.val, by omega⟩) j := by
      funext g
      unfold Spec.hid
      rw [shapeCast_self, shapeCast_self, hs, hb]
      refine congrArg (fun z => z * sh g j + bh g j) (Spec.sum_head _ _ ?_ ?_)
      · intro k
        rw [ih' r k]
        refine congrArg _ (Eq.trans ?_ (hW k g j))
        exact congrFun (View.readAt_full a16.view X_arg16 _) _
      · intro k hk80
        refine Eq.trans (congrArg (h (ix2 r k) * ·) (Eq.trans ?_ (hW0 k g j hk80))) (mul_zero _)
        exact congrFun (View.readAt_full a16.view X_arg16 _) _
    rw [hp, ha, ih' r j]
    show _ = Spec.H P L Wh sh bh (t0 + n + 1) ⟨r.val, by omega⟩ j
    rw [Spec.H]
    dsimp only
    by_cases hlt : ((t0 + n : ℕ) : ℤ) < L ⟨r.val, by omega⟩
    · rw [if_pos hlt]
      refine congrArg (fun p => Spec.gru p _ _) (funext fun g => ?_)
      unfold want
      rw [if_pos hlt]
    · rw [if_neg hlt]
      refine Spec.gru_shut _ _ _ ?_
      unfold want
      rw [if_neg hlt, if_pos rfl]

end Cert.KernelIdeal.Hand
-- ==== Proof.KernelIdealMove.lean ====
module

public import proofs.«01_k».proof.Proof.KernelIdealRun
public import proofs.«01_k».proof.Proof.KernelIdealGi

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty) (X8 : BufTy.Contents (Elt Ideal) a8.view.ty) (X9 : BufTy.Contents (Elt Ideal) a9.view.ty) (X10 : BufTy.Contents (Elt Ideal) a10.view.ty) (X11 : BufTy.Contents (Elt Ideal) a11.view.ty) (f12 : BufTy.Contents (Elt Ideal) a12.view.ty) (f13 : BufTy.Contents (Elt Ideal) a13.view.ty) (f14 : BufTy.Contents (Elt Ideal) a14.view.ty) (f15 : BufTy.Contents (Elt Ideal) a15.view.ty) (f16 : BufTy.Contents (Elt Ideal) a16.view.ty) (f17 : BufTy.Contents (Elt Ideal) a17.view.ty) (f18 : BufTy.Contents (Elt Ideal) a18.view.ty) (f19 : BufTy.Contents (Elt Ideal) a19.view.ty) (f20 : BufTy.Contents (Elt Ideal) a20.view.ty) (f21 : BufTy.Contents (Elt Ideal) a21.view.ty) (f22 : BufTy.Contents (Elt Ideal) a22.view.ty) (f23 : BufTy.Contents (Elt Ideal) a23.view.ty) (f24 : BufTy.Contents (Elt Ideal) a24.view.ty) (f25 : BufTy.Contents (Elt Ideal) a25.view.ty) (J : Prog (TpuEff nD τ sig (Elt Ideal) Λ₀ .tc) PUnit) (Q : PUnit → sProp (MT nD τ sig Unit (Elt Ideal) ℕ (UR sig nD τ) ℕ))

/-- What the step loops read of the hidden weights, their scales and biases. -/
structure Fix (Wh : Fin 80 → Fin 3 → Fin 80 → EReal) (sh bh : Fin 3 → Fin 80 → EReal) (sb : S8x384.Idx → EReal) (w : S128x384.Idx → EReal) : Prop where
  hW : ∀ (k : Fin 80) (g : Fin 3) (j : Fin 80), w (ix2 (wide k) (Spec.col g (wide j))) = Wh k g j
  hW0 : ∀ (k : Fin 128) (g : Fin 3) (j : Fin 80), 80 ≤ k.val → w (ix2 k (Spec.col g (wide j))) = 0
  hs : ∀ (g : Fin 3) (j : Fin 80), sb (ix2 2 (Spec.col g (wide j))) = sh g j
  hb : ∀ (g : Fin 3) (j : Fin 80), sb (ix2 3 (Spec.col g (wide j))) = bh g j

/-- The first `R` rows moved from `h` to `a`, the others as they were. -/
def Adv (R : ℕ) (a : Fin 128 → Fin 80 → EReal) (h h' : S128x128.Idx → EReal) : Prop :=
  ∀ (r : Fin 128) (j : Fin 80), h' (ix2 r (wide j)) = if r.val < R then a r j else h (ix2 r (wide j))

theorem adv_store {κ : Kind} {sp : Space} (R : ℕ) (hR : R ≤ 128) (v : View sig κ sp S128x128 .f32) (f : v.ty.Contents (Elt Ideal)) (a : Fin 128 → Fin 80 → EReal)
    (w : FVec Ideal ⟨2, ![R, 128]⟩ .f32) (inb : ∀ x : Fin 2, (![0, 0] : Fin 2 → ℕ) x + (![R, 128] : Fin 2 → ℕ) x ≤ S128x128.size x)
    (hw : ∀ (r : Fin R) (j : Fin 80), w (ix2 r (wide j)) = a ⟨r.val, by omega⟩ j) :
    Adv R a (v.read (Elt Ideal) f) (v.read (Elt Ideal) (v.writes (Elt Ideal) f [⟨Rect.unit (s := S128x128) ![0, 0] ![R, 128] inb, w⟩])) := by
  intro r j
  by_cases h : r.val < R
  · rw [if_pos h, View.read_writes_cons_unit_of_mem (off' := ![0, 0]) (size := ![R, 128]) v f inb w [] (ix2 r (wide j)) (ix2 ⟨r.val, h⟩ (wide j)) rfl (Fin.forall_fin_two.mpr ⟨(Nat.zero_add r.val).symm, (Nat.zero_add j.val).symm⟩)]
    exact hw ⟨r.val, h⟩ j
  · rw [if_neg h, View.read_writes_cons_unit_of_not_mem v f _ _ _ _ rfl 0 (Or.inr (by show 0 + R ≤ r.val; omega))]
    rfl

/-- The offsets of the 16-row variant's pieces. -/
def offl16 (kk : Fin 16) : Fin 3 → Fin 2 → ℕ
  | 0 => ![kk.val * 128, 0]
  | 1 => ![kk.val * 128, 128]
  | 2 => ![kk.val * 128, 256]

theorem offl16_eq : ∀ (kk : Fin 16) (g : Fin 3), offl16 kk g = ![(0 + kk.val) * 128, g.val * 128] := by decide +kernel

theorem offl16_inb : ∀ (kk : Fin 16) (g : Fin 3) (a : Fin 2), offl16 kk g a + (![16, 128] : Fin 2 → ℕ) a ≤ S2048x384.size a := by decide +kernel

theorem word16 : ∀ kk : Fin 16, Scalar.addi (Scalar.muli 0#32 16#32) (BitVec.ofNat 32 kk.val) = BitVec.ofNat 32 (0 + kk.val) := by decide +kernel

/-- Phase 1 over 128 rows moves their hidden state on by a chunk. -/
theorem p1v128_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hi : ∀ (r : Fin 128) (j : Fin 80), a23.view.read (Elt Ideal) f23 (ix2 ⟨r.val, by omega⟩ (wide j)) = Spec.H P L Wh sh bh t0 ⟨r.val, by omega⟩ j)
    (hJ : ∀ f21' f22' f23' f24', Adv 128 (Spec.H P L Wh sh bh (t0 + 16)) (a23.view.read (Elt Ideal) f23) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1r128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r128
  iintro ⟨H1, H2, H3, H4, H5, H6, H7, H8, H9, H10, H11, H12, H13, H14, H15, H16, H17, H18, H19, H20, H21, H22, H23, H24, H25⟩
  sl_exec
  iapply (hJ _ _ _ _ ?h)
  rotate_left
  · sl_close
  · refine adv_store 128 (by decide) a23.view f23 _ _ _ (fun r j => ?_)
    show shapeCast S128x128 _ _ (ix2 r (wide j)) = _
    rw [shapeCast_self, show Scf.trips k0_t7_loop.lb k0_t7_loop.ub k0_t7_loop.st = 16 from trips7]
    refine steps128 (L := L) (P := P) (t0 := t0) 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 _ _ _ _ _ _ _ _ _ _ (fun tt g r j => ?_) hX.hW hX.hW0
      (fun g j => (readAt_at a11.view X11 _ 2 0 rfl 0 _ (by decide) (by omega)).trans (Eq.trans (congrArg (a11.view.read (Elt Ideal) X11) (congrArg (ix2 _) (Fin.ext (Nat.zero_add _)))) (hX.hs g j)))
      (fun g j => (readAt_at a11.view X11 _ 3 0 rfl 0 _ (by decide) (by omega)).trans (Eq.trans (congrArg (a11.view.read (Elt Ideal) X11) (congrArg (ix2 _) (Fin.ext (Nat.zero_add _)))) (hX.hb g j)))
      (fun r j => (readAt_at a23.view f23 _ 0 0 rfl r _ (by omega) (by omega)).trans (Eq.trans (congrArg (a23.view.read (Elt Ideal) f23) (congrArg₂ ix2 (Fin.ext (Nat.zero_add _)) (Fin.ext (Nat.zero_add _)))) (hi r j)))
      16 (Nat.le_refl _) r j
    rw [show Scf.trips k0_t6_loop.lb k0_t6_loop.ub k0_t6_loop.st = 8 from trips6]
    exact gi128 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 _ X3 X11 f15 f20 f21 hS hv g r j 8 (Nat.le_refl _) tt (by omega)

/-- Phase 1 over 64 rows moves their hidden state on by a chunk. -/
theorem p1v64_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hi : ∀ (r : Fin 64) (j : Fin 80), a23.view.read (Elt Ideal) f23 (ix2 ⟨r.val, by omega⟩ (wide j)) = Spec.H P L Wh sh bh t0 ⟨r.val, by omega⟩ j)
    (hJ : ∀ f21' f22' f23' f24', Adv 64 (Spec.H P L Wh sh bh (t0 + 16)) (a23.view.read (Elt Ideal) f23) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1r64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r64
  iintro ⟨H1, H2, H3, H4, H5, H6, H7, H8, H9, H10, H11, H12, H13, H14, H15, H16, H17, H18, H19, H20, H21, H22, H23, H24, H25⟩
  sl_exec
  iapply (hJ _ _ _ _ ?h)
  rotate_left
  · sl_close
  · refine adv_store 64 (by decide) a23.view f23 _ _ _ (fun r j => ?_)
    show shapeCast S64x128 _ _ (ix2 r (wide j)) = _
    rw [shapeCast_self, show Scf.trips k0_t5_loop.lb k0_t5_loop.ub k0_t5_loop.st = 16 from trips5]
    refine steps64 (L := L) (P := P) (t0 := t0) 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 _ _ _ _ _ _ _ _ _ _ (fun tt g r j => ?_) hX.hW hX.hW0
      (fun g j => (readAt_at a11.view X11 _ 2 0 rfl 0 _ (by decide) (by omega)).trans (Eq.trans (congrArg (a11.view.read (Elt Ideal) X11) (congrArg (ix2 _) (Fin.ext (Nat.zero_add _)))) (hX.hs g j)))
      (fun g j => (readAt_at a11.view X11 _ 3 0 rfl 0 _ (by decide) (by omega)).trans (Eq.trans (congrArg (a11.view.read (Elt Ideal) X11) (congrArg (ix2 _) (Fin.ext (Nat.zero_add _)))) (hX.hb g j)))
      (fun r j => (readAt_at a23.view f23 _ 0 0 rfl r _ (by omega) (by omega)).trans (Eq.trans (congrArg (a23.view.read (Elt Ideal) f23) (congrArg₂ ix2 (Fin.ext (Nat.zero_add _)) (Fin.ext (Nat.zero_add _)))) (hi r j)))
      16 (Nat.le_refl _) r j
    rw [show Scf.trips k0_t4_loop.lb k0_t4_loop.ub k0_t4_loop.st = 4 from trips4]
    exact gi64 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 _ X3 X11 f15 f20 f21 hS hv g r j 4 (Nat.le_refl _) tt (by omega)

/-- Phase 1 over 32 rows moves their hidden state on by a chunk. -/
theorem p1v32_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hi : ∀ (r : Fin 32) (j : Fin 80), a23.view.read (Elt Ideal) f23 (ix2 ⟨r.val, by omega⟩ (wide j)) = Spec.H P L Wh sh bh t0 ⟨r.val, by omega⟩ j)
    (hJ : ∀ f21' f22' f23' f24', Adv 32 (Spec.H P L Wh sh bh (t0 + 16)) (a23.view.read (Elt Ideal) f23) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1r32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r32
  iintro ⟨H1, H2, H3, H4, H5, H6, H7, H8, H9, H10, H11, H12, H13, H14, H15, H16, H17, H18, H19, H20, H21, H22, H23, H24, H25⟩
  sl_exec
  iapply (hJ _ _ _ _ ?h)
  rotate_left
  · sl_close
  · refine adv_store 32 (by decide) a23.view f23 _ _ _ (fun r j => ?_)
    show shapeCast S32x128 _ _ (ix2 r (wide j)) = _
    rw [shapeCast_self, show Scf.trips k0_t3_loop.lb k0_t3_loop.ub k0_t3_loop.st = 16 from trips3]
    refine steps32 (L := L) (P := P) (t0 := t0) 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 _ _ _ _ _ _ _ _ _ _ (fun tt g r j => ?_) hX.hW hX.hW0
      (fun g j => (readAt_at a11.view X11 _ 2 0 rfl 0 _ (by decide) (by omega)).trans (Eq.trans (congrArg (a11.view.read (Elt Ideal) X11) (congrArg (ix2 _) (Fin.ext (Nat.zero_add _)))) (hX.hs g j)))
      (fun g j => (readAt_at a11.view X11 _ 3 0 rfl 0 _ (by decide) (by omega)).trans (Eq.trans (congrArg (a11.view.read (Elt Ideal) X11) (congrArg (ix2 _) (Fin.ext (Nat.zero_add _)))) (hX.hb g j)))
      (fun r j => (readAt_at a23.view f23 _ 0 0 rfl r _ (by omega) (by omega)).trans (Eq.trans (congrArg (a23.view.read (Elt Ideal) f23) (congrArg₂ ix2 (Fin.ext (Nat.zero_add _)) (Fin.ext (Nat.zero_add _)))) (hi r j)))
      16 (Nat.le_refl _) r j
    rw [show Scf.trips k0_t2_loop.lb k0_t2_loop.ub k0_t2_loop.st = 2 from trips2]
    exact gi32 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 _ X3 X11 f15 f20 f21 hS hv g r j 2 (Nat.le_refl _) tt (by omega)

/-- Phase 1 over 16 rows moves their hidden state on by a chunk. -/
theorem p1v16_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hi : ∀ (r : Fin 16) (j : Fin 80), a23.view.read (Elt Ideal) f23 (ix2 ⟨r.val, by omega⟩ (wide j)) = Spec.H P L Wh sh bh t0 ⟨r.val, by omega⟩ j)
    (hJ : ∀ f21' f22' f23' f24', Adv 16 (Spec.H P L Wh sh bh (t0 + 16)) (a23.view.read (Elt Ideal) f23) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1r16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  unfold p1r16
  iintro ⟨H1, H2, H3, H4, H5, H6, H7, H8, H9, H10, H11, H12, H13, H14, H15, H16, H17, H18, H19, H20, H21, H22, H23, H24, H25⟩
  sl_exec
  iapply (hJ _ _ _ _ ?h)
  rotate_left
  · sl_close
  · refine adv_store 16 (by decide) a23.view f23 _ _ _ (fun r j => ?_)
    show shapeCast S16x128 _ _ (ix2 r (wide j)) = _
    rw [shapeCast_self, show Scf.trips k0_t1_loop.lb k0_t1_loop.ub k0_t1_loop.st = 16 from trips1]
    refine steps16 (L := L) (P := P) (t0 := t0) 𝒱₀ c none i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 _ _ _ _ _ _ _ _ _ _ _ _ _ _ _ _ (fun tt g r j => ?_) hX.hW hX.hW0
      (fun g j => (readAt_at a11.view X11 _ 2 0 rfl 0 _ (by decide) (by omega)).trans (Eq.trans (congrArg (a11.view.read (Elt Ideal) X11) (congrArg (ix2 _) (Fin.ext (Nat.zero_add _)))) (hX.hs g j)))
      (fun g j => (readAt_at a11.view X11 _ 3 0 rfl 0 _ (by decide) (by omega)).trans (Eq.trans (congrArg (a11.view.read (Elt Ideal) X11) (congrArg (ix2 _) (Fin.ext (Nat.zero_add _)))) (hX.hb g j)))
      (fun r j => (readAt_at a23.view f23 _ 0 0 rfl r _ (by omega) (by omega)).trans (Eq.trans (congrArg (a23.view.read (Elt Ideal) f23) (congrArg₂ ix2 (Fin.ext (Nat.zero_add _)) (Fin.ext (Nat.zero_add _)))) (hi r j)))
      16 (Nat.le_refl _) r j
    show a21.view.read (Elt Ideal) (a21.view.writes (Elt Ideal) f21 (cells 16 16 offl16 offl16_inb (fun kk => mask16 (a20.view.readAt (Elt Ideal) (Rect.unit (s := S128x128) ![0, 0] S16x128.size inb_S128x128_S16x128_0_0).toLoadRect f20)
          (Scalar.addi (Scalar.muli (BitVec.ofNat 32 (i 0).val) 16#32) (Scalar.addi (Scalar.muli 0#32 16#32) (BitVec.ofNat 32 kk.val)))
          (projV lane0 (concatenate S256x128 0 (List.ofFn fun q : Fin 16 => (⟨S16x128, a3.view.readAt (Elt Ideal) (Rect.unit (s := S2048x128) (k0_off1 (BitVec.ofNat 32 q.val)) S16x128.size (offx16_inb q)).toLoadRect X3⟩ : (s : Shape) × (s.Idx → BitVec 32))) concatenates_S16x128_S16x128_S16x128_S16x128_S16x128_S16x128_S16x128_S16x128_S16x128_S16x128_S16x128_S16x128_S16x128_S16x128_S16x128_S16x128_S256x128_d0)
            (a15.view.readAt (Elt Ideal) (Rect.unit (s := S384x512) ![0, 0] S256x512.size inb_S384x512_S256x512_0_0).toLoadRect f15)
            (a15.view.readAt (Elt Ideal) (Rect.unit (s := S384x512) ![256, 0] S128x512.size inb_S384x512_S128x512_256_0).toLoadRect f15)
            (a11.view.readAt (Elt Ideal) (Rect.unit (s := S8x384) ![0, 0] S1x384.size inb_S8x384_S1x384_0_0).toLoadRect X11)
            (a11.view.readAt (Elt Ideal) (Rect.unit (s := S8x384) ![1, 0] S1x384.size inb_S8x384_S1x384_1_0).toLoadRect X11)) kk) 16 (Nat.le_refl _) ++ [])) _ = _
    rw [read_cells_mem offl16_inb _ 0 offl16_eq (by omega) a21.view _ _ tt g r (wide j) _ (by show tt.val * 128 + r.val = (0 + tt.val) * 128 + r.val; rw [Nat.zero_add]) rfl 16 (Nat.le_refl _) tt.isLt]
    have ex := fun q : Fin 16 => offx16_eq q
    have c2 := cell16 hS 0 (by omega) (fun q => a3.view.readAt (Elt Ideal) (Rect.unit (s := S2048x128) (k0_off1 (BitVec.ofNat 32 q.val)) S16x128.size (offx16_inb q)).toLoadRect X3)
        (fun q r' a => by
          refine (readAt_at a3.view X3 (offx16_inb q) _ 0 (ex q) r' a (by omega) (by omega)).trans ?_
          refine congrArg (a3.view.read (Elt Ideal) X3) (congrArg₂ ix2 (Fin.ext (by show q.val * 128 + r'.val = (0 + q.val) * 128 + r'.val; rw [Nat.zero_add])) (Fin.ext (Nat.zero_add _))))
        (a15.view.readAt (Elt Ideal) (Rect.unit (s := S384x512) ![0, 0] S256x512.size inb_S384x512_S256x512_0_0).toLoadRect f15)
        (fun k c' => (readAt_at a15.view f15 _ 0 0 rfl k c' (by omega) (by omega)).trans (congrArg (a15.view.read (Elt Ideal) f15) (congrArg₂ ix2 (Fin.ext (Nat.zero_add _)) (Fin.ext (Nat.zero_add _)))))
        (a15.view.readAt (Elt Ideal) (Rect.unit (s := S384x512) ![256, 0] S128x512.size inb_S384x512_S128x512_256_0).toLoadRect f15)
        (fun k c' => (readAt_at a15.view f15 _ 256 0 rfl k c' (by omega) (by omega)).trans (congrArg (a15.view.read (Elt Ideal) f15) (congrArg (ix2 _) (Fin.ext (Nat.zero_add _)))))
        (a11.view.readAt (Elt Ideal) (Rect.unit (s := S8x384) ![0, 0] S1x384.size inb_S8x384_S1x384_0_0).toLoadRect X11)
        (a11.view.readAt (Elt Ideal) (Rect.unit (s := S8x384) ![1, 0] S1x384.size inb_S8x384_S1x384_1_0).toLoadRect X11)
        (fun c' => (readAt_at a11.view X11 _ 0 0 rfl 0 c' (by decide) (by omega)).trans (congrArg (a11.view.read (Elt Ideal) X11) (congrArg (ix2 _) (Fin.ext (Nat.zero_add _)))))
        (fun c' => (readAt_at a11.view X11 _ 1 0 rfl 0 c' (by decide) (by omega)).trans (congrArg (a11.view.read (Elt Ideal) X11) (congrArg (ix2 _) (Fin.ext (Nat.zero_add _)))))
        (a20.view.readAt (Elt Ideal) (Rect.unit (s := S128x128) ![0, 0] S16x128.size inb_S128x128_S16x128_0_0).toLoadRect f20)
        (fun r' c' => (readAt_at a20.view f20 _ 0 0 rfl r' c' (by omega) (by omega)).trans (congrArg (a20.view.read (Elt Ideal) f20) (congrArg₂ ix2 (Fin.ext (Nat.zero_add _)) (Fin.ext (Nat.zero_add _)))))
        tt (Scalar.addi (Scalar.muli (BitVec.ofNat 32 (i 0).val) 16#32) (Scalar.addi (Scalar.muli 0#32 16#32) (BitVec.ofNat 32 tt.val)))
        (by rw [word16, hv]; exact (BitVec.ofNat_add_ofNat _ _)) g r j
    have hq : t0 + tt.val = t0 + (0 + tt.val) := by rw [Nat.zero_add]
    rw [hq]
    exact c2

end Cert.KernelIdeal.Hand
-- ==== Proof.KernelIdealChunk.lean ====
module

public import proofs.«01_k».proof.Proof.KernelIdealMove

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty) (X8 : BufTy.Contents (Elt Ideal) a8.view.ty) (X9 : BufTy.Contents (Elt Ideal) a9.view.ty) (X10 : BufTy.Contents (Elt Ideal) a10.view.ty) (X11 : BufTy.Contents (Elt Ideal) a11.view.ty) (f12 : BufTy.Contents (Elt Ideal) a12.view.ty) (f13 : BufTy.Contents (Elt Ideal) a13.view.ty) (f14 : BufTy.Contents (Elt Ideal) a14.view.ty) (f15 : BufTy.Contents (Elt Ideal) a15.view.ty) (f16 : BufTy.Contents (Elt Ideal) a16.view.ty) (f17 : BufTy.Contents (Elt Ideal) a17.view.ty) (f18 : BufTy.Contents (Elt Ideal) a18.view.ty) (f19 : BufTy.Contents (Elt Ideal) a19.view.ty) (f20 : BufTy.Contents (Elt Ideal) a20.view.ty) (f21 : BufTy.Contents (Elt Ideal) a21.view.ty) (f22 : BufTy.Contents (Elt Ideal) a22.view.ty) (f23 : BufTy.Contents (Elt Ideal) a23.view.ty) (f24 : BufTy.Contents (Elt Ideal) a24.view.ty) (f25 : BufTy.Contents (Elt Ideal) a25.view.ty) (J : Prog (TpuEff nD τ sig (Elt Ideal) Λ₀ .tc) PUnit) (Q : PUnit → sProp (MT nD τ sig Unit (Elt Ideal) ℕ (UR sig nD τ) ℕ))

theorem gate1 (a v : BitVec 32) : Scalar.cmpi .ne (Scalar.extui (Scalar.cmpi .sgt a v) : BitVec 32) 0#32 = 1#1 ↔ v.toInt < a.toInt := by
  rw [show Scalar.cmpi CmpIPredicate.sgt a v = BitVec.ofBool (decide (v.toInt < a.toInt)) from rfl]
  by_cases h : v.toInt < a.toInt
  · rw [decide_eq_true h]; exact ⟨fun _ => h, fun _ => by decide⟩
  · rw [decide_eq_false h]; exact ⟨fun q => absurd q (by decide), fun q => absurd q h⟩

theorem gate2 (a b v : BitVec 32) : Scalar.cmpi .ne (Scalar.extui (Scalar.andi (Scalar.cmpi .sgt a v) (Scalar.cmpi .sle b v)) : BitVec 32) 0#32 = 1#1 ↔ v.toInt < a.toInt ∧ b.toInt ≤ v.toInt := by
  rw [show Scalar.cmpi CmpIPredicate.sgt a v = BitVec.ofBool (decide (v.toInt < a.toInt)) from rfl, show Scalar.cmpi CmpIPredicate.sle b v = BitVec.ofBool (decide (b.toInt ≤ v.toInt)) from rfl]
  by_cases h : v.toInt < a.toInt
  · by_cases h2 : b.toInt ≤ v.toInt
    · rw [decide_eq_true h, decide_eq_true h2]; exact ⟨fun _ => ⟨h, h2⟩, fun _ => by decide⟩
    · rw [decide_eq_true h, decide_eq_false h2]; exact ⟨fun q => absurd q (by decide), fun q => absurd q.2 h2⟩
  · by_cases h2 : b.toInt ≤ v.toInt
    · rw [decide_eq_false h, decide_eq_true h2]; exact ⟨fun q => absurd q (by decide), fun q => absurd q.1 h⟩
    · rw [decide_eq_false h, decide_eq_false h2]; exact ⟨fun q => absurd q (by decide), fun q => absurd q.2 h2⟩

/-- A row past its length keeps its state. -/
theorem frozen (P : ℕ → Fin 128 → Fin 80 → Fin 3 → EReal) (L : Fin 128 → ℤ) (Wh : Fin 80 → Fin 3 → Fin 80 → EReal) (sh bh : Fin 3 → Fin 80 → EReal) (t0 : ℕ) (r : Fin 128) (h : L r ≤ t0) (j : Fin 80) :
    ∀ n, Spec.H P L Wh sh bh (t0 + n) r j = Spec.H P L Wh sh bh t0 r j
  | 0 => rfl
  | n + 1 => by
    rw [← Nat.add_assoc, Spec.H]
    dsimp only
    rw [if_neg (by push_cast; omega)]
    exact frozen P L Wh sh bh t0 r h j n

/-- The state holds `a`. -/
def Is (a : Fin 128 → Fin 80 → EReal) (h : S128x128.Idx → EReal) : Prop := ∀ (r : Fin 128) (j : Fin 80), h (ix2 r (wide j)) = a r j

/-- Within a chunk, before the branch that starts at row `lo`: the chunk is done if row `lo` has run out. -/
def Mid (P : ℕ → Fin 128 → Fin 80 → Fin 3 → EReal) (L : Fin 128 → ℤ) (Wh : Fin 80 → Fin 3 → Fin 80 → EReal) (sh bh : Fin 3 → Fin 80 → EReal) (t0 : ℕ) (lo : Fin 128) (h : S128x128.Idx → EReal) : Prop :=
  Is (Spec.H P L Wh sh bh (if L lo ≤ t0 then t0 + 16 else t0)) h

theorem mid_skip {P : ℕ → Fin 128 → Fin 80 → Fin 3 → EReal} {L : Fin 128 → ℤ} {Wh : Fin 80 → Fin 3 → Fin 80 → EReal} {sh bh : Fin 3 → Fin 80 → EReal} {t0 : ℕ} {h : S128x128.Idx → EReal}
    (hL : ∀ a b, a ≤ b → L b ≤ L a) (lo hi : Fin 128) (hlh : lo ≤ hi) (n : ¬((t0 : ℤ) < L lo ∧ L hi ≤ t0)) (m : Mid P L Wh sh bh t0 lo h) : Mid P L Wh sh bh t0 hi h := by
  unfold Mid at m ⊢
  have := hL lo hi hlh
  by_cases q : L lo ≤ t0
  · rw [if_pos (by omega)]; rw [if_pos q] at m; exact m
  · rw [if_neg (by omega)]; rw [if_neg q] at m; exact m

theorem mid_move {P : ℕ → Fin 128 → Fin 80 → Fin 3 → EReal} {L : Fin 128 → ℤ} {Wh : Fin 80 → Fin 3 → Fin 80 → EReal} {sh bh : Fin 3 → Fin 80 → EReal} {t0 : ℕ} {h h' : S128x128.Idx → EReal}
    (hL : ∀ a b, a ≤ b → L b ≤ L a) (lo hi : Fin 128) (y : (t0 : ℤ) < L lo ∧ L hi ≤ t0) (m : Mid P L Wh sh bh t0 lo h) (v : Adv hi.val (Spec.H P L Wh sh bh (t0 + 16)) h h') : Mid P L Wh sh bh t0 hi h' := by
  unfold Mid at m ⊢
  rw [if_pos y.2]
  rw [if_neg (by omega)] at m
  intro r j
  rw [v r j]
  by_cases q : r.val < hi.val
  · rw [if_pos q]
  · rw [if_neg q, m r j]
    have := hL hi r (Fin.le_def.mpr (by omega))
    exact (frozen P L Wh sh bh t0 r (by omega) j 16).symm

theorem mid_in {P : ℕ → Fin 128 → Fin 80 → Fin 3 → EReal} {L : Fin 128 → ℤ} {Wh : Fin 80 → Fin 3 → Fin 80 → EReal} {sh bh : Fin 3 → Fin 80 → EReal} {t0 : ℕ} {h : S128x128.Idx → EReal}
    (lo : Fin 128) (y : (t0 : ℤ) < L lo) (m : Mid P L Wh sh bh t0 lo h) : Is (Spec.H P L Wh sh bh t0) h := by
  unfold Mid at m
  rw [if_neg (by omega)] at m
  exact m

theorem mid_first {P : ℕ → Fin 128 → Fin 80 → Fin 3 → EReal} {L : Fin 128 → ℤ} {Wh : Fin 80 → Fin 3 → Fin 80 → EReal} {sh bh : Fin 3 → Fin 80 → EReal} {t0 : ℕ} {h : S128x128.Idx → EReal}
    (hL : ∀ a b, a ≤ b → L b ≤ L a) (m : Is (Spec.H P L Wh sh bh t0) h) : Mid P L Wh sh bh t0 0 h := by
  unfold Mid
  by_cases q : L 0 ≤ t0
  · rw [if_pos q]
    intro r j
    rw [m r j]
    have := hL 0 r (Fin.zero_le r)
    exact (frozen P L Wh sh bh t0 r (by omega) j 16).symm
  · rw [if_neg q]; exact m

/-- The branches of phase 1 from 128 rows on finish the chunk. -/
theorem p1w128_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hL : ∀ a b, a ≤ b → L b ≤ L a) (hl : ∀ n : Fin 128, (a1.view.read (Elt Ideal) X1 (ix1 n) : BitVec 32).toInt = L n)
    (hm : Mid P L Wh sh bh t0 64 (a23.view.read (Elt Ideal) f23))
    (hJ : ∀ f21' f22' f23' f24', Is (Spec.H P L Wh sh bh (t0 + 16)) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1s128 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  have hvi : (Scalar.muli (BitVec.ofNat 32 (i 0).val) 16#32).toInt = (t0 : ℤ) := by rw [hv]; exact toInt_small _ (by have := hS.ht; omega)
  unfold p1s128
  iintro ⟨H1, H2, H3, H4, H5, H6, H7, H8, H9, H10, H11, H12, H13, H14, H15, H16, H17, H18, H19, H20, H21, H22, H23, H24, H25⟩
  sl_exec
  split
  · rename_i hc
    have y : (t0 : ℤ) < L 64 := by
      rw [← hl 64, ← word_at a1.view X1 64 rfl inb_S128_S1_64 (Shape.Idx.first (by decide)), ← hvi]
      exact (gate1 _ _).mp hc
    iapply (p1v128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv (fun r j => mid_in 64 y hm _ j) (fun g21 g22 g23 g24 hA => hJ g21 g22 g23 g24 (fun r j => by rw [hA r j, if_pos r.isLt])))
    sl_close
  · rename_i hc
    have y : ¬ (t0 : ℤ) < L 64 := by
      rw [← hl 64, ← word_at a1.view X1 64 rfl inb_S128_S1_64 (Shape.Idx.first (by decide)), ← hvi]
      exact fun q => hc ((gate1 _ _).mpr q)
    iapply (hJ _ _ _ _ ?h)
    rotate_left
    · sl_close
    · unfold Mid at hm
      rw [if_pos (by omega)] at hm
      exact hm

/-- The branches of phase 1 from 64 rows on finish the chunk. -/
theorem p1w64_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hL : ∀ a b, a ≤ b → L b ≤ L a) (hl : ∀ n : Fin 128, (a1.view.read (Elt Ideal) X1 (ix1 n) : BitVec 32).toInt = L n)
    (hm : Mid P L Wh sh bh t0 32 (a23.view.read (Elt Ideal) f23))
    (hJ : ∀ f21' f22' f23' f24', Is (Spec.H P L Wh sh bh (t0 + 16)) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1s64 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  have hvi : (Scalar.muli (BitVec.ofNat 32 (i 0).val) 16#32).toInt = (t0 : ℤ) := by rw [hv]; exact toInt_small _ (by have := hS.ht; omega)
  unfold p1s64
  iintro ⟨H1, H2, H3, H4, H5, H6, H7, H8, H9, H10, H11, H12, H13, H14, H15, H16, H17, H18, H19, H20, H21, H22, H23, H24, H25⟩
  sl_exec
  split
  · rename_i hc
    have y : (t0 : ℤ) < L 32 ∧ L 64 ≤ t0 := by
      rw [← hl 32, ← word_at a1.view X1 32 rfl inb_S128_S1_32 (Shape.Idx.first (by decide)), ← hl 64, ← word_at a1.view X1 64 rfl inb_S128_S1_64 (Shape.Idx.first (by decide)), ← hvi]
      exact (gate2 _ _ _).mp hc
    iapply (p1v64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv (fun r j => mid_in 32 y.1 hm _ j)
      (fun g21 g22 g23 g24 hA => p1w128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 g21 g22 g23 g24 f25 _ _ k0_h2 hS hX hv hL hl (mid_move hL 32 64 y hm hA) hJ))
    sl_close
  · rename_i hc
    have y : ¬ ((t0 : ℤ) < L 32 ∧ L 64 ≤ t0) := by
      rw [← hl 32, ← word_at a1.view X1 32 rfl inb_S128_S1_32 (Shape.Idx.first (by decide)), ← hl 64, ← word_at a1.view X1 64 rfl inb_S128_S1_64 (Shape.Idx.first (by decide)), ← hvi]
      exact fun q => hc ((gate2 _ _ _).mpr q)
    iapply (p1w128_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv hL hl (mid_skip hL 32 64 (by decide) y hm) hJ)
    sl_close

/-- The branches of phase 1 from 32 rows on finish the chunk. -/
theorem p1w32_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hL : ∀ a b, a ≤ b → L b ≤ L a) (hl : ∀ n : Fin 128, (a1.view.read (Elt Ideal) X1 (ix1 n) : BitVec 32).toInt = L n)
    (hm : Mid P L Wh sh bh t0 16 (a23.view.read (Elt Ideal) f23))
    (hJ : ∀ f21' f22' f23' f24', Is (Spec.H P L Wh sh bh (t0 + 16)) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1s32 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  have hvi : (Scalar.muli (BitVec.ofNat 32 (i 0).val) 16#32).toInt = (t0 : ℤ) := by rw [hv]; exact toInt_small _ (by have := hS.ht; omega)
  unfold p1s32
  iintro ⟨H1, H2, H3, H4, H5, H6, H7, H8, H9, H10, H11, H12, H13, H14, H15, H16, H17, H18, H19, H20, H21, H22, H23, H24, H25⟩
  sl_exec
  split
  · rename_i hc
    have y : (t0 : ℤ) < L 16 ∧ L 32 ≤ t0 := by
      rw [← hl 16, ← word_at a1.view X1 16 rfl inb_S128_S1_16 (Shape.Idx.first (by decide)), ← hl 32, ← word_at a1.view X1 32 rfl inb_S128_S1_32 (Shape.Idx.first (by decide)), ← hvi]
      exact (gate2 _ _ _).mp hc
    iapply (p1v32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv (fun r j => mid_in 16 y.1 hm _ j)
      (fun g21 g22 g23 g24 hA => p1w64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 g21 g22 g23 g24 f25 _ _ k0_h2 hS hX hv hL hl (mid_move hL 16 32 y hm hA) hJ))
    sl_close
  · rename_i hc
    have y : ¬ ((t0 : ℤ) < L 16 ∧ L 32 ≤ t0) := by
      rw [← hl 16, ← word_at a1.view X1 16 rfl inb_S128_S1_16 (Shape.Idx.first (by decide)), ← hl 32, ← word_at a1.view X1 32 rfl inb_S128_S1_32 (Shape.Idx.first (by decide)), ← hvi]
      exact fun q => hc ((gate2 _ _ _).mpr q)
    iapply (p1w64_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv hL hl (mid_skip hL 16 32 (by decide) y hm) hJ)
    sl_close

/-- The branches of phase 1 from 16 rows on finish the chunk. -/
theorem p1w16_run {t0 : ℕ} {L : Fin 128 → ℤ} {P : ℕ → Fin 128 → Fin 80 → Fin 3 → EReal} {Wp : Fin 3 → Fin 80 → ℕ → EReal} {Wh : Fin 80 → Fin 3 → Fin 80 → EReal} {sh bh : Fin 3 → Fin 80 → EReal}
    (k0_h2 : k0_cond2 i = 1#1)
    (hS : Src t0 L P Wp (a3.view.read (Elt Ideal) X3) (a11.view.read (Elt Ideal) X11) (a15.view.read (Elt Ideal) f15) (a20.view.read (Elt Ideal) f20))
    (hX : Fix Wh sh bh (a11.view.read (Elt Ideal) X11) (a16.view.read (Elt Ideal) f16)) (hv : Scalar.muli (BitVec.ofNat 32 (i 0).val) 16#32 = BitVec.ofNat 32 t0)
    (hL : ∀ a b, a ≤ b → L b ≤ L a) (hl : ∀ n : Fin 128, (a1.view.read (Elt Ideal) X1 (ix1 n) : BitVec 32).toInt = L n)
    (hm : Mid P L Wh sh bh t0 0 (a23.view.read (Elt Ideal) f23))
    (hJ : ∀ f21' f22' f23' f24', Is (Spec.H P L Wh sh bh (t0 + 16)) (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (p1s16 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h2 J) Q := by
  have hvi : (Scalar.muli (BitVec.ofNat 32 (i 0).val) 16#32).toInt = (t0 : ℤ) := by rw [hv]; exact toInt_small _ (by have := hS.ht; omega)
  unfold p1s16
  iintro ⟨H1, H2, H3, H4, H5, H6, H7, H8, H9, H10, H11, H12, H13, H14, H15, H16, H17, H18, H19, H20, H21, H22, H23, H24, H25⟩
  sl_exec
  split
  · rename_i hc
    have y : (t0 : ℤ) < L 0 ∧ L 16 ≤ t0 := by
      rw [← hl 0, ← word_at a1.view X1 0 rfl inb_S128_S1_0 (Shape.Idx.first (by decide)), ← hl 16, ← word_at a1.view X1 16 rfl inb_S128_S1_16 (Shape.Idx.first (by decide)), ← hvi]
      exact (gate2 _ _ _).mp hc
    iapply (p1v16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv (fun r j => mid_in 0 y.1 hm _ j)
      (fun g21 g22 g23 g24 hA => p1w32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 g21 g22 g23 g24 f25 _ _ k0_h2 hS hX hv hL hl (mid_move hL 0 16 y hm hA) hJ))
    sl_close
  · rename_i hc
    have y : ¬ ((t0 : ℤ) < L 0 ∧ L 16 ≤ t0) := by
      rw [← hl 0, ← word_at a1.view X1 0 rfl inb_S128_S1_0 (Shape.Idx.first (by decide)), ← hl 16, ← word_at a1.view X1 16 rfl inb_S128_S1_16 (Shape.Idx.first (by decide)), ← hvi]
      exact fun q => hc ((gate2 _ _ _).mpr q)
    iapply (p1w32_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ k0_h2 hS hX hv hL hl (mid_skip hL 0 16 (by decide) y hm) hJ)
    sl_close

end Cert.KernelIdeal.Hand
-- ==== Proof.KernelIdealEnds.lean ====
module

public import proofs.«01_k».proof.Proof.KernelIdealChunk

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty) (X8 : BufTy.Contents (Elt Ideal) a8.view.ty) (X9 : BufTy.Contents (Elt Ideal) a9.view.ty) (X10 : BufTy.Contents (Elt Ideal) a10.view.ty) (X11 : BufTy.Contents (Elt Ideal) a11.view.ty) (f12 : BufTy.Contents (Elt Ideal) a12.view.ty) (f13 : BufTy.Contents (Elt Ideal) a13.view.ty) (f14 : BufTy.Contents (Elt Ideal) a14.view.ty) (f15 : BufTy.Contents (Elt Ideal) a15.view.ty) (f16 : BufTy.Contents (Elt Ideal) a16.view.ty) (f17 : BufTy.Contents (Elt Ideal) a17.view.ty) (f18 : BufTy.Contents (Elt Ideal) a18.view.ty) (f19 : BufTy.Contents (Elt Ideal) a19.view.ty) (f20 : BufTy.Contents (Elt Ideal) a20.view.ty) (f21 : BufTy.Contents (Elt Ideal) a21.view.ty) (f22 : BufTy.Contents (Elt Ideal) a22.view.ty) (f23 : BufTy.Contents (Elt Ideal) a23.view.ty) (f24 : BufTy.Contents (Elt Ideal) a24.view.ty) (f25 : BufTy.Contents (Elt Ideal) a25.view.ty) (J : Prog (TpuEff nD τ sig (Elt Ideal) Λ₀ .tc) PUnit) (Q : PUnit → sProp (MT nD τ sig Unit (Elt Ideal) ℕ (UR sig nD τ) ℕ))

/-- Three stripes of 80 columns, one per gate, over a background. -/
theorem stripes {κ : Kind} {sp : Space} {e : EltTy} {A B R : ℕ} (v : View sig κ sp (⟨2, ![A, B]⟩ : Shape) e) (f : v.ty.Contents (Elt Ideal))
    (i0 : ∀ a : Fin 2, (![0, 0] : Fin 2 → ℕ) a + (![R, 80] : Fin 2 → ℕ) a ≤ (⟨2, ![A, B]⟩ : Shape).size a)
    (i1 : ∀ a : Fin 2, (![0, 128] : Fin 2 → ℕ) a + (![R, 80] : Fin 2 → ℕ) a ≤ (⟨2, ![A, B]⟩ : Shape).size a)
    (i2 : ∀ a : Fin 2, (![0, 256] : Fin 2 → ℕ) a + (![R, 80] : Fin 2 → ℕ) a ≤ (⟨2, ![A, B]⟩ : Shape).size a)
    (iz : ∀ a : Fin 2, (![0, 0] : Fin 2 → ℕ) a + (⟨2, ![A, B]⟩ : Shape).size a ≤ (⟨2, ![A, B]⟩ : Shape).size a)
    (w0 w1 w2 : (⟨2, ![R, 80]⟩ : Shape).Idx → Elt Ideal e) (z : (⟨2, ![A, B]⟩ : Shape).Idx → Elt Ideal e) (k : Fin A) (g : Fin 3) (j : Fin 80) (y : (⟨2, ![A, B]⟩ : Shape).Idx)
    (hy0 : (y 0).val = k.val) (hy1 : (y 1).val = g.val * 128 + j.val) :
    v.read (Elt Ideal) (v.writes (Elt Ideal) f [⟨Rect.unit (s := (⟨2, ![A, B]⟩ : Shape)) ![0, 256] ![R, 80] i2, w2⟩, ⟨Rect.unit (s := (⟨2, ![A, B]⟩ : Shape)) ![0, 128] ![R, 80] i1, w1⟩,
      ⟨Rect.unit (s := (⟨2, ![A, B]⟩ : Shape)) ![0, 0] ![R, 80] i0, w0⟩, ⟨Rect.unit (s := (⟨2, ![A, B]⟩ : Shape)) ![0, 0] (⟨2, ![A, B]⟩ : Shape).size iz, z⟩]) y
      = if hk : k.val < R then (![w0, w1, w2] : Fin 3 → _) g (ix2 ⟨k.val, hk⟩ j) else z y := by
  have hz : v.read (Elt Ideal) (v.writes (Elt Ideal) f [⟨Rect.unit (s := (⟨2, ![A, B]⟩ : Shape)) ![0, 0] (⟨2, ![A, B]⟩ : Shape).size iz, z⟩]) y = z y :=
    View.read_writes_cons_unit_of_mem (off' := ![0, 0]) (size := (⟨2, ![A, B]⟩ : Shape).size) v f iz z [] y y rfl (Fin.forall_fin_two.mpr ⟨(Nat.zero_add _).symm, (Nat.zero_add _).symm⟩)
  by_cases hk : k.val < R
  · rw [dif_pos hk]
    have hit : ∀ o : ℕ, (y 1).val = o + j.val → ∀ a : Fin 2, (y a).val = (![0, o] : Fin 2 → ℕ) a + ((ix2 ⟨k.val, hk⟩ j : (⟨2, ![R, 80]⟩ : Shape).Idx) a).val :=
      fun o ho => Fin.forall_fin_two.mpr ⟨by show (y 0).val = 0 + k.val; omega, ho⟩
    match g, hy1 with
    | 2, hy1 => exact View.read_writes_cons_unit_of_mem (off' := ![0, 256]) (size := ![R, 80]) v f i2 w2 _ y (ix2 ⟨k.val, hk⟩ j) rfl (hit 256 hy1)
    | 1, hy1 =>
      rw [View.read_writes_cons_unit_of_not_mem (off' := ![0, 256]) (size := ![R, 80]) v f i2 w2 _ y rfl 1 (Or.inl (by show (y 1).val < 256; rw [hy1]; show 1 * 128 + j.val < 256; omega))]
      exact View.read_writes_cons_unit_of_mem (off' := ![0, 128]) (size := ![R, 80]) v f i1 w1 _ y (ix2 ⟨k.val, hk⟩ j) rfl (hit 128 hy1)
    | 0, hy1 =>
      have hlt : (y 1).val < 128 := by rw [hy1]; show 0 * 128 + j.val < 128; omega
      rw [View.read_writes_cons_unit_of_not_mem (off' := ![0, 256]) (size := ![R, 80]) v f i2 w2 _ y rfl 1 (Or.inl (by show (y 1).val < 256; omega))]
      rw [View.read_writes_cons_unit_of_not_mem (off' := ![0, 128]) (size := ![R, 80]) v f i1 w1 _ y rfl 1 (Or.inl hlt)]
      exact View.read_writes_cons_unit_of_mem (off' := ![0, 0]) (size := ![R, 80]) v f i0 w0 _ y (ix2 ⟨k.val, hk⟩ j) rfl (hit 0 (by rw [hy1]; rfl))
  · rw [dif_neg hk]
    rw [View.read_writes_cons_unit_of_not_mem (off' := ![0, 256]) (size := ![R, 80]) v f i2 w2 _ y rfl 0 (Or.inr (by show 0 + R ≤ (y 0).val; omega))]
    rw [View.read_writes_cons_unit_of_not_mem (off' := ![0, 128]) (size := ![R, 80]) v f i1 w1 _ y rfl 0 (Or.inr (by show 0 + R ≤ (y 0).val; omega))]
    rw [View.read_writes_cons_unit_of_not_mem (off' := ![0, 0]) (size := ![R, 80]) v f i0 w0 _ y rfl 0 (Or.inr (by show 0 + R ≤ (y 0).val; omega))]
    exact hz

/-- What the chunks find in the scratch: the input weights, the hidden weights, the lengths and the state `a`. -/
structure Good (Wp : Fin 3 → Fin 80 → ℕ → EReal) (Wh : Fin 80 → Fin 3 → Fin 80 → EReal) (L : Fin 128 → ℤ) (a : Fin 128 → Fin 80 → EReal)
    (w : S384x512.Idx → EReal) (wh : S128x384.Idx → EReal) (ln : S128x128.Idx → BitVec 32) (h : S128x128.Idx → EReal) : Prop where
  hw : ∀ (k : Fin 384) (g : Fin 3) (j : Fin 80), w (ix2 k ⟨g.val * 128 + j.val, by omega⟩) = Wp g j k.val
  hW : ∀ (k : Fin 80) (g : Fin 3) (j : Fin 80), wh (ix2 (wide k) (Spec.col g (wide j))) = Wh k g j
  hW0 : ∀ (k : Fin 128) (g : Fin 3) (j : Fin 80), 80 ≤ k.val → wh (ix2 k (Spec.col g (wide j))) = 0
  hl : ∀ r c : Fin 128, (ln (ix2 r c)).toInt = L r
  hh : Is a h

/-- The first block makes the scratch good at the zero state. -/
theorem initv_run {Wp : Fin 3 → Fin 80 → ℕ → EReal} {Wh : Fin 80 → Fin 3 → Fin 80 → EReal} {L : Fin 128 → ℤ}
    (k0_h1 : Scalar.cmpi .ne (Scalar.extui (Scalar.cmpi .eq (BitVec.ofNat 32 (i 0).val) 0#32)) 0#32 = 1#1)
    (h6 : ∀ (k : Fin 384) g j, Wp g j k.val = if hk : k.val < 352 then a6.view.read (Elt Ideal) X6 (ix2 ⟨k.val, hk⟩ (Spec.col80 g j)) else 0)
    (h7 : ∀ k g j, Wh k g j = a7.view.read (Elt Ideal) X7 (ix2 k (Spec.col80 g j)))
    (h5 : ∀ r : Fin 128, (a5.view.read (Elt Ideal) X5 (ix2 r 0) : BitVec 32).toInt = L r)
    (hJ : ∀ f15' f16' f17' f18' f19' f20' f23', Good Wp Wh L (fun _ _ => 0) (a15.view.read (Elt Ideal) f15') (a16.view.read (Elt Ideal) f16') (a20.view.read (Elt Ideal) f20') (a23.view.read (Elt Ideal) f23') →
      Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (initBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h1 J) Q := by
  unfold initBlk
  iintro ⟨H1, H2, H3, H4, H5, H6, H7, H8, H9, H10, H11, H12, H13, H14, H15, H16, H17, H18, H19, H20, H21, H22, H23, H24, H25⟩
  sl_exec
  iapply (hJ _ _ _ _ _ _ _ ?h)
  rotate_left
  · sl_close
  · have z45 : ∀ y, k0_pay45 (F := Ideal) y = 0 := by
      intro y; pointwise [k0_pay45]
    have z49 : ∀ y, k0_pay49 (F := Ideal) y = 0 := by
      intro y; pointwise [k0_pay49]
    refine ⟨?_, ?_, ?_, ?_, ?_⟩
    · intro k g j
      refine (stripes a15.view f15 _ _ _ _ _ _ _ _ k g j _ rfl rfl).trans ?_
      rw [h6]
      by_cases hk : k.val < 352
      · rw [dif_pos hk, dif_pos hk]
        match g with
        | 0 =>
          show k0_pay46 _ (ix2 ⟨k.val, hk⟩ j) = _
          pointwise [k0_pay46]
          exact (readAt_at a6.view X6 _ 0 0 rfl ⟨k.val, hk⟩ j (by dsimp only; omega) (by omega)).trans (congrArg (a6.view.read (Elt Ideal) X6) (congrArg₂ ix2 (Fin.ext (Nat.zero_add _)) (Fin.ext rfl)))
        | 1 =>
          show k0_pay47 _ (ix2 ⟨k.val, hk⟩ j) = _
          pointwise [k0_pay47]
          exact (readAt_at a6.view X6 _ 0 80 rfl ⟨k.val, hk⟩ j (by dsimp only; omega) (by omega)).trans (congrArg (a6.view.read (Elt Ideal) X6) (congrArg₂ ix2 (Fin.ext (Nat.zero_add _)) (Fin.ext rfl)))
        | 2 =>
          show k0_pay48 _ (ix2 ⟨k.val, hk⟩ j) = _
          pointwise [k0_pay48]
          exact (readAt_at a6.view X6 _ 0 160 rfl ⟨k.val, hk⟩ j (by dsimp only; omega) (by omega)).trans (congrArg (a6.view.read (Elt Ideal) X6) (congrArg₂ ix2 (Fin.ext (Nat.zero_add _)) (Fin.ext rfl)))
      · rw [dif_neg hk, dif_neg hk]; exact z45 _
    · intro k g j
      refine (stripes a16.view f16 _ _ _ _ _ _ _ _ (wide k) g j _ rfl rfl).trans ?_
      rw [h7, dif_pos k.isLt]
      match g with
      | 0 =>
        show k0_pay51 (k0_pay50 (a7.view.readAt (Elt Ideal) (Rect.unit (s := S80x240) ![0, 0] S80x80.size inb_S80x240_S80x80_0_0).toLoadRect X7)) (ix2 k j) = _
        pointwise [k0_pay51, k0_pay50]
        exact (readAt_at a7.view X7 _ 0 0 rfl k j (by omega) (by omega)).trans (congrArg (a7.view.read (Elt Ideal) X7) (congrArg₂ ix2 (Fin.ext (Nat.zero_add _)) (Fin.ext rfl)))
      | 1 =>
        show k0_pay52 _ (ix2 k j) = _
        pointwise [k0_pay52]
        exact (readAt_at a7.view X7 _ 0 80 rfl k j (by omega) (by omega)).trans (congrArg (a7.view.read (Elt Ideal) X7) (congrArg₂ ix2 (Fin.ext (Nat.zero_add _)) (Fin.ext rfl)))
      | 2 =>
        show k0_pay53 _ (ix2 k j) = _
        pointwise [k0_pay53]
        exact (readAt_at a7.view X7 _ 0 160 rfl k j (by omega) (by omega)).trans (congrArg (a7.view.read (Elt Ideal) X7) (congrArg₂ ix2 (Fin.ext (Nat.zero_add _)) (Fin.ext rfl)))
    · intro k g j hk
      refine (stripes a16.view f16 _ _ _ _ _ _ _ _ k g j _ rfl rfl).trans ?_
      rw [dif_neg (by omega)]; exact z49 _
    · intro r l
      rw [← h5]
      refine congrArg BitVec.toInt ?_
      refine (View.read_writes_cons_unit_of_mem (off' := ![0, 0]) (size := S128x128.size) a20.view f20 _ _ [] (ix2 r l) (ix2 r l) rfl (Fin.forall_fin_two.mpr ⟨(Nat.zero_add _).symm, (Nat.zero_add _).symm⟩)).trans ?_
      have h63 : ∀ y : IVec S128x1 32, k0_pay63 y (ix2 r l) = y (ix2 r (0 : Fin 1)) := by intro y; pointwise [k0_pay63]
      refine (h63 _).trans ?_
      show k0_pay62 (a5.view.readAt (Elt Ideal) (Rect.unit (s := S128x1) ![0, 0] S128x1.size inb_S128x1_S128x1_0_0).toLoadRect X5) (ix2 r (0 : Fin 1)) = _
      unfold k0_pay62; dsimp only; rw [shapeCast_self]
      exact (readAt_at a5.view X5 _ 0 0 rfl r (0 : Fin 1) (by omega) (by omega)).trans (congrArg (a5.view.read (Elt Ideal) X5) (congrArg₂ ix2 (Fin.ext (Nat.zero_add _)) (Fin.ext rfl)))
    · intro r j
      refine (View.read_writes_cons_unit_of_mem (off' := ![0, 0]) (size := S128x128.size) a23.view f23 _ _ [] (ix2 r (wide j)) (ix2 r (wide j)) rfl (Fin.forall_fin_two.mpr ⟨(Nat.zero_add _).symm, (Nat.zero_add _).symm⟩)).trans ?_
      pointwise [k0_pay2]

/-- The rows of `a` stand in `f` where the words `o` send them. -/
def Out (o : S128.Idx → BitVec 32) (a : Fin 128 → Fin 80 → EReal) (f : S128x80.Idx → EReal) : Prop :=
  ∀ (r q : Fin 128) (j : Fin 80), q.val = (o (ix1 r)).toNat → f (ix2 q j) = a r j

/-- Between the phases the final state goes out in batch order. -/
theorem outv_run {a : Fin 128 → Fin 80 → EReal} (k0_h7 : k0_cond7 i = 1#1) (hO : OrderOk (F := Ideal) a2 X2)
    (inj : ∀ r s : Fin 128, a2.view.read (Elt Ideal) X2 (ix1 s) = a2.view.read (Elt Ideal) X2 (ix1 r) → s = r) (hh : Is a (a23.view.read (Elt Ideal) f23))
    (hJ : ∀ f13' f14' f23' f24' f25', Out (a2.view.read (Elt Ideal) X2) a (a14.view.read (Elt Ideal) f14') → Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' ⊢ wp frame (wpE (defs₀ (F := Ideal)) 𝒱₀ (c : Thread nD τ) none) Set.univ J Q) :
    Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (outBlk i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 k0_h7 J) Q := by
  unfold outBlk
  iintro ⟨H1, H2, H3, H4, H5, H6, H7, H8, H9, H10, H11, H12, H13, H14, H15, H16, H17, H18, H19, H20, H21, H22, H23, H24, H25⟩
  sl_exec
  iapply (hJ _ _ _ _ _ ?h)
  rotate_left
  · sl_close
  · intro r q j hq
    refine (View.read_writes_cons_unit_of_mem (off' := ![0, 0]) (size := S128x80.size) a14.view _ _ _ [] (ix2 q j) (ix2 q j) rfl (Fin.forall_fin_two.mpr ⟨(Nat.zero_add _).symm, (Nat.zero_add _).symm⟩)).trans ?_
    refine (readAt_at a25.view _ _ 0 0 rfl q j (by omega) (by omega)).trans ?_
    refine Eq.trans ?_ (hh r j)
    rw [show Scf.trips k0_t8_loop.lb k0_t8_loop.ub k0_t8_loop.st = 128 from trips8] at hL3
    exact (hL3 r r.isLt (fun s hs => inj r s hs) _ _ ((Nat.zero_add _).trans hq)).trans (congrArg (a23.view.read (Elt Ideal) f23) (congrArg₂ ix2 rfl (Fin.ext (Nat.zero_add _))))

end Cert.KernelIdeal.Hand
-- ==== Proof.KernelIdealTails.lean ====
module

public import proofs.«01_k».proof.Proof.KernelIdealEnds

@[expose] public section

set_option maxRecDepth 65536
set_option maxHeartbeats 0

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

variable (𝒱₀ : Variants) (c : Dev nD) (i : grid0.Coords) (a1 : Memref sig .tc .smem S128 .i32) (m1 : a1.IsWhole) (a2 : Memref sig .tc .smem S128 .i32) (m2 : a2.IsWhole) (a3 : Memref sig .tc .vmem S2048x128 .i32) (m3 : a3.IsWhole) (a4 : Memref sig .tc .vmem S128x128 .i32) (m4 : a4.IsWhole) (a5 : Memref sig .tc .vmem S128x1 .i32) (m5 : a5.IsWhole) (a6 : Memref sig .tc .vmem S352x240 .fp8e4m3) (m6 : a6.IsWhole) (a7 : Memref sig .tc .vmem S80x240 .fp8e4m3) (m7 : a7.IsWhole) (a8 : Memref sig .tc .vmem S80x240 .fp8e4m3) (m8 : a8.IsWhole) (a9 : Memref sig .tc .vmem S80x240 .fp8e4m3) (m9 : a9.IsWhole) (a10 : Memref sig .tc .vmem S384x128 .f32) (m10 : a10.IsWhole) (a11 : Memref sig .tc .vmem S8x384 .f32) (m11 : a11.IsWhole) (a12 : Memref sig .tc .vmem S128x80 .bf16) (m12 : a12.IsWhole) (a13 : Memref sig .tc .vmem S128x640 .f32) (m13 : a13.IsWhole) (a14 : Memref sig .tc .vmem S128x80 .f32) (m14 : a14.IsWhole) (a15 : Memref sig .tc .vmem S384x512 .bf16) (m15 : a15.IsWhole) (a16 : Memref sig .tc .vmem S128x384 .bf16) (m16 : a16.IsWhole) (a17 : Memref sig .tc .vmem S128x384 .bf16) (m17 : a17.IsWhole) (a18 : Memref sig .tc .vmem S128x384 .bf16) (m18 : a18.IsWhole) (a19 : Memref sig .tc .vmem S128x128 .f32) (m19 : a19.IsWhole) (a20 : Memref sig .tc .vmem S128x128 .i32) (m20 : a20.IsWhole) (a21 : Memref sig .tc .vmem S2048x384 .f32) (m21 : a21.IsWhole) (a22 : Memref sig .tc .vmem S640x128x128 .bf16) (m22 : a22.IsWhole) (a23 : Memref sig .tc .vmem S128x128 .f32) (m23 : a23.IsWhole) (a24 : Memref sig .tc .vmem S5x128x128 .f32) (m24 : a24.IsWhole) (a25 : Memref sig .tc .vmem S128x128 .f32) (m25 : a25.IsWhole) (X1 : BufTy.Contents (Elt Ideal) a1.view.ty) (X2 : BufTy.Contents (Elt Ideal) a2.view.ty) (X3 : BufTy.Contents (Elt Ideal) a3.view.ty) (X4 : BufTy.Contents (Elt Ideal) a4.view.ty) (X5 : BufTy.Contents (Elt Ideal) a5.view.ty) (X6 : BufTy.Contents (Elt Ideal) a6.view.ty) (X7 : BufTy.Contents (Elt Ideal) a7.view.ty) (X8 : BufTy.Contents (Elt Ideal) a8.view.ty) (X9 : BufTy.Contents (Elt Ideal) a9.view.ty) (X10 : BufTy.Contents (Elt Ideal) a10.view.ty) (X11 : BufTy.Contents (Elt Ideal) a11.view.ty) (f12 : BufTy.Contents (Elt Ideal) a12.view.ty) (f13 : BufTy.Contents (Elt Ideal) a13.view.ty) (f14 : BufTy.Contents (Elt Ideal) a14.view.ty) (f15 : BufTy.Contents (Elt Ideal) a15.view.ty) (f16 : BufTy.Contents (Elt Ideal) a16.view.ty) (f17 : BufTy.Contents (Elt Ideal) a17.view.ty) (f18 : BufTy.Contents (Elt Ideal) a18.view.ty) (f19 : BufTy.Contents (Elt Ideal) a19.view.ty) (f20 : BufTy.Contents (Elt Ideal) a20.view.ty) (f21 : BufTy.Contents (Elt Ideal) a21.view.ty) (f22 : BufTy.Contents (Elt Ideal) a22.view.ty) (f23 : BufTy.Contents (Elt Ideal) a23.view.ty) (f24 : BufTy.Contents (Elt Ideal) a24.view.ty) (f25 : BufTy.Contents (Elt Ideal) a25.view.ty) (J : Prog (TpuEff nD τ sig (Elt Ideal) Λ₀ .tc) PUnit) (Q : PUnit → sProp (MT nD τ sig Unit (Elt Ideal) ℕ (UR sig nD τ) ℕ))

theorem at_init : ∀ t : Fin 80, Scalar.cmpi .ne (Scalar.extui (Scalar.cmpi .eq (BitVec.ofNat 32 t.val) 0#32) : BitVec 32) 0#32 = 1#1 ↔ t.val = 0 := by decide +kernel
theorem at_phase1 : ∀ t : Fin 80, Scalar.cmpi .ne (Scalar.extui (Scalar.cmpi .slt (BitVec.ofNat 32 t.val) 40#32) : BitVec 32) 0#32 = 1#1 ↔ t.val < 40 := by decide +kernel
theorem in_phase1 (i : grid0.Coords) : k0_cond2 i = 1#1 ↔ (i 0).val < 40 := at_phase1 (i 0)
theorem at_turn : ∀ t : Fin 80, Scalar.cmpi .ne (Scalar.extui (Scalar.cmpi .eq (BitVec.ofNat 32 t.val) 40#32) : BitVec 32) 0#32 = 1#1 ↔ t.val = 40 := by decide +kernel
theorem in_turn (i : grid0.Coords) : k0_cond7 i = 1#1 ↔ (i 0).val = 40 := at_turn (i 0)
theorem at_phase2 : ∀ t : Fin 80, Scalar.cmpi .ne (Scalar.extui (Scalar.cmpi .sge (BitVec.ofNat 32 t.val) 40#32) : BitVec 32) 0#32 = 1#1 ↔ 40 ≤ t.val := by decide +kernel
theorem in_phase2 (i : grid0.Coords) : k0_cond8 i = 1#1 ↔ 40 ≤ (i 0).val := at_phase2 (i 0)

variable (Ψ : BufTy.Contents (Elt Ideal) a14.view.ty → BufTy.Contents (Elt Ideal) a15.view.ty → BufTy.Contents (Elt Ideal) a16.view.ty → BufTy.Contents (Elt Ideal) a20.view.ty → BufTy.Contents (Elt Ideal) a23.view.ty → Prop)

/-- What a point leaves behind: all it holds, with `Ψ` of the one output and the scratch that carry the state. -/
abbrev Leftv : sProp (MT nD τ sig Unit (Elt Ideal) ℕ (UR sig nD τ) ℕ) :=
  iprop(∃ f12 f13 f14 f15 f16 f17 f18 f19 f20 f21 f22 f23 f24 f25, Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ∗ ⌜Ψ f14 f15 f16 f20 f23⌝)

variable {Ψ}

theorem donev_run (h : Ψ f14 f15 f16 f20 f23) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ ((pure ⟨⟩ : Prog (TpuEff nD τ sig (Elt Ideal) Λ₀ .tc) PUnit)) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 Ψ) := by
  iintro ⟨H1, H2, H3, H4, H5, H6, H7, H8, H9, H10, H11, H12, H13, H14, H15, H16, H17, H18, H19, H20, H21, H22, H23, H24, H25⟩
  sl_step
  iexists f12, f13, f14, f15, f16, f17, f18, f19, f20, f21, f22, f23, f24, f25
  isplitl [H1 H2 H3 H4 H5 H6 H7 H8 H9 H10 H11 H12 H13 H14 H15 H16 H17 H18 H19 H20 H21 H22 H23 H24 H25]
  · sl_close
  ipureintro; exact h

theorem tail13v_run (hO : OrderOk (F := Ideal) a2 X2) (h : Ψ f14 f15 f16 f20 f23) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (tail13 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 Ψ) := by
  unfold tail13
  dsimp only
  split
  · refine endBlk_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ hO (fun f12' f25' => ?_)
    exact donev_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12' f13 f14 f15 f16 f17 f18 f19 f20 f21 f22 f23 f24 f25' h
  · exact donev_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 h

theorem tail8v_run (hO : OrderOk (F := Ideal) a2 X2) (h : ∀ f23', (k0_cond8 i ≠ 1#1 → f23' = f23) → Ψ f14 f15 f16 f20 f23') : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (tail8 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 Ψ) := by
  unfold tail8
  dsimp only
  split
  · rename_i hc
    refine p2s16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ _ (fun f21' f23' => ?_)
    exact tail13v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22 f23' f24 f25 hO (h _ fun q => absurd hc q)
  · exact tail13v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO (h _ fun _ => rfl)

variable {P : ℕ → Fin 128 → Fin 80 → Fin 3 → EReal} {Wp : Fin 3 → Fin 80 → ℕ → EReal} {Wh : Fin 80 → Fin 3 → Fin 80 → EReal} {sh bh : Fin 3 → Fin 80 → EReal} {L : Fin 128 → ℤ}

/-- What holds after point `n`: the scratch carries the state while phase 1 runs, the output has it when the phases change and keeps it. -/
def Post (P : ℕ → Fin 128 → Fin 80 → Fin 3 → EReal) (Wp : Fin 3 → Fin 80 → ℕ → EReal) (Wh : Fin 80 → Fin 3 → Fin 80 → EReal) (sh bh : Fin 3 → Fin 80 → EReal) (L : Fin 128 → ℤ)
    (n : ℕ) (o : S128.Idx → BitVec 32) (p14 y14 : S128x80.Idx → EReal) (w : S384x512.Idx → EReal) (wh : S128x384.Idx → EReal) (ln : S128x128.Idx → BitVec 32) (h : S128x128.Idx → EReal) : Prop :=
  (n < 40 → Good Wp Wh L (Spec.H P L Wh sh bh (16 * (n + 1))) w wh ln h) ∧ (n = 40 → Out o (Spec.H P L Wh sh bh 640) y14) ∧ (40 < n → y14 = p14)

theorem tail7v_run (hO : OrderOk (F := Ideal) a2 X2) (inj : ∀ r s : Fin 128, a2.view.read (Elt Ideal) X2 (ix1 s) = a2.view.read (Elt Ideal) X2 (ix1 r) → s = r)
    (hG : (i 0).val < 40 → Good Wp Wh L (Spec.H P L Wh sh bh (16 * ((i 0).val + 1))) (a15.view.read (Elt Ideal) f15) (a16.view.read (Elt Ideal) f16) (a20.view.read (Elt Ideal) f20) (a23.view.read (Elt Ideal) f23))
    (h40 : (i 0).val = 40 → Is (Spec.H P L Wh sh bh 640) (a23.view.read (Elt Ideal) f23)) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (tail7 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 (fun f14' f15' f16' f20' f23' => Post P Wp Wh sh bh L (i 0).val (a2.view.read (Elt Ideal) X2) (a14.view.read (Elt Ideal) f14) (a14.view.read (Elt Ideal) f14') (a15.view.read (Elt Ideal) f15') (a16.view.read (Elt Ideal) f16') (a20.view.read (Elt Ideal) f20') (a23.view.read (Elt Ideal) f23'))) := by
  unfold tail7
  dsimp only
  split
  · rename_i hc
    have hi := (in_turn i).mp hc
    refine outv_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ hc hO inj (h40 hi) (fun f13' f14' f23' f24' f25' ho => ?_)
    exact tail8v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13' f14' f15 f16 f17 f18 f19 f20 f21 f22 f23' f24' f25' hO fun f _ => ⟨fun q => absurd q (by omega), fun _ => ho, fun q => absurd q (by omega)⟩
  · rename_i hc
    have hi : ¬(i 0).val = 40 := fun q => hc ((in_turn i).mpr q)
    refine tail8v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO fun f hf => ⟨fun q => ?_, fun q => absurd q hi, fun _ => rfl⟩
    rw [hf fun q2 => absurd ((in_phase2 i).mp q2) (by omega)]
    exact hG q

/-- What the chunk of point `n` finds in the windows. -/
structure Wins (P : ℕ → Fin 128 → Fin 80 → Fin 3 → EReal) (Wp : Fin 3 → Fin 80 → ℕ → EReal) (Wh : Fin 80 → Fin 3 → Fin 80 → EReal) (sh bh : Fin 3 → Fin 80 → EReal) (L : Fin 128 → ℤ)
    (n : ℕ) (ls : S128.Idx → BitVec 32) (x : S2048x128.Idx → BitVec 32) (lc : S128x1.Idx → BitVec 32) (wi : S352x240.Idx → EReal) (wh : S80x240.Idx → EReal) (sb : S8x384.Idx → EReal) : Prop where
  hL : ∀ a b, a ≤ b → L b ≤ L a
  hl : ∀ k : Fin 128, (ls (ix1 k)).toInt = L k
  h5 : ∀ r : Fin 128, (lc (ix2 r (0 : Fin 1))).toInt = L r
  h6 : ∀ (k : ℕ) (g : Fin 3) (j : Fin 80), Wp g j k = if hk : k < 352 then wi (ix2 ⟨k, hk⟩ (Spec.col80 g j)) else 0
  h7 : ∀ (k : Fin 80) (g : Fin 3) (j : Fin 80), Wh k g j = wh (ix2 k (Spec.col80 g j))
  hs : ∀ (g : Fin 3) (j : Fin 80), sb (ix2 2 (Spec.col g (wide j))) = sh g j
  hb : ∀ (g : Fin 3) (j : Fin 80), sb (ix2 3 (Spec.col g (wide j))) = bh g j
  hP : n < 40 → ∀ (tt : Fin 16) (r : Fin 128) (j : Fin 80) (g : Fin 3), P (16 * n + tt.val) r j g = Spec.proj (fun a => x (ix2 ⟨tt.val * 128 + r.val, by omega⟩ a)) (Wp g j) (sb (ix2 0 (Spec.col g (wide j)))) (sb (ix2 1 (Spec.col g (wide j))))

theorem tail2v_run (hO : OrderOk (F := Ideal) a2 X2) (inj : ∀ r s : Fin 128, a2.view.read (Elt Ideal) X2 (ix1 s) = a2.view.read (Elt Ideal) X2 (ix1 r) → s = r)
    (hW : Wins P Wp Wh sh bh L (i 0).val (a1.view.read (Elt Ideal) X1) (a3.view.read (Elt Ideal) X3) (a5.view.read (Elt Ideal) X5) (a6.view.read (Elt Ideal) X6) (a7.view.read (Elt Ideal) X7) (a11.view.read (Elt Ideal) X11))
    (hG : (i 0).val ≤ 40 → Good Wp Wh L (Spec.H P L Wh sh bh (16 * (i 0).val)) (a15.view.read (Elt Ideal) f15) (a16.view.read (Elt Ideal) f16) (a20.view.read (Elt Ideal) f20) (a23.view.read (Elt Ideal) f23)) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (tail2 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 (fun f14' f15' f16' f20' f23' => Post P Wp Wh sh bh L (i 0).val (a2.view.read (Elt Ideal) X2) (a14.view.read (Elt Ideal) f14) (a14.view.read (Elt Ideal) f14') (a15.view.read (Elt Ideal) f15') (a16.view.read (Elt Ideal) f16') (a20.view.read (Elt Ideal) f20') (a23.view.read (Elt Ideal) f23'))) := by
  unfold tail2
  dsimp only
  split
  · rename_i hc
    have hi := (in_phase1 i).mp hc
    obtain ⟨g1, g2, g3, g4, g5⟩ := hG (by omega)
    refine p1w16_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ (t0 := 16 * (i 0).val) (L := L) (P := P) (Wp := Wp) (Wh := Wh) (sh := sh) (bh := bh) hc ⟨by omega, g4, g1, ?_, hW.hP hi⟩ ⟨g2, g3, hW.hs, hW.hb⟩ ?_ hW.hL hW.hl (mid_first hW.hL g5) (fun f21' f22' f23' f24' h => ?_)
    · intro g j k hk; rw [hW.h6, dif_neg (by omega)]
    · rw [Nat.mul_comm]; exact (BitVec.ofNat_mul _ _).symm
    exact tail7v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21' f22' f23' f24' f25 hO inj (fun _ => ⟨g1, g2, g3, g4, h⟩) (fun q => absurd q (by omega))
  · rename_i hc
    have hi : ¬(i 0).val < 40 := fun q => hc ((in_phase1 i).mpr q)
    exact tail7v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO inj (fun q => absurd q hi) (fun q => by have := (hG (by omega)).hh; rwa [q] at this)

theorem tail1v_run (hO : OrderOk (F := Ideal) a2 X2) (inj : ∀ r s : Fin 128, a2.view.read (Elt Ideal) X2 (ix1 s) = a2.view.read (Elt Ideal) X2 (ix1 r) → s = r)
    (hW : Wins P Wp Wh sh bh L (i 0).val (a1.view.read (Elt Ideal) X1) (a3.view.read (Elt Ideal) X3) (a5.view.read (Elt Ideal) X5) (a6.view.read (Elt Ideal) X6) (a7.view.read (Elt Ideal) X7) (a11.view.read (Elt Ideal) X11))
    (hG : (i 0).val ≠ 0 → (i 0).val ≤ 40 → Good Wp Wh L (Spec.H P L Wh sh bh (16 * (i 0).val)) (a15.view.read (Elt Ideal) f15) (a16.view.read (Elt Ideal) f16) (a20.view.read (Elt Ideal) f20) (a23.view.read (Elt Ideal) f23)) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (tail1 i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 (fun f14' f15' f16' f20' f23' => Post P Wp Wh sh bh L (i 0).val (a2.view.read (Elt Ideal) X2) (a14.view.read (Elt Ideal) f14) (a14.view.read (Elt Ideal) f14') (a15.view.read (Elt Ideal) f15') (a16.view.read (Elt Ideal) f16') (a20.view.read (Elt Ideal) f20') (a23.view.read (Elt Ideal) f23'))) := by
  unfold tail1
  dsimp only
  split
  · rename_i hc
    have hi : (i 0).val = 0 := (at_init (i 0)).mp hc
    refine initv_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 _ _ hc (fun k g j => hW.h6 k.val g j) hW.h7 hW.h5 (fun f15' f16' f17' f18' f19' f20' f23' h => ?_)
    exact tail2v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15' f16' f17' f18' f19' f20' f21 f22 f23' f24 f25 hO inj hW (fun _ => by rw [hi]; exact h)
  · rename_i hc
    have hi : (i 0).val ≠ 0 := fun q => hc ((at_init (i 0)).mpr q)
    exact tail2v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO inj hW (hG hi)

/-- The body of a point, with what it leaves in the scratch and the output. -/
theorem bodyv_run (hO : OrderOk (F := Ideal) a2 X2) (inj : ∀ r s : Fin 128, a2.view.read (Elt Ideal) X2 (ix1 s) = a2.view.read (Elt Ideal) X2 (ix1 r) → s = r)
    (hW : Wins P Wp Wh sh bh L (i 0).val (a1.view.read (Elt Ideal) X1) (a3.view.read (Elt Ideal) X3) (a5.view.read (Elt Ideal) X5) (a6.view.read (Elt Ideal) X6) (a7.view.read (Elt Ideal) X7) (a11.view.read (Elt Ideal) X11))
    (hG : (i 0).val ≠ 0 → (i 0).val ≤ 40 → Good Wp Wh L (Spec.H P L Wh sh bh (16 * (i 0).val)) (a15.view.read (Elt Ideal) f15) (a16.view.read (Elt Ideal) f16) (a20.view.read (Elt Ideal) f20) (a23.view.read (Elt Ideal) f23)) : Held c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 ⊢ wp frame (wpE (defs₀ (F := Ideal)) 𝒱₀ (c : Thread nD τ) none) Set.univ (cc0_rnn (F := Ideal) i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25) (fun _ => Leftv c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 (fun f14' f15' f16' f20' f23' => Post P Wp Wh sh bh L (i 0).val (a2.view.read (Elt Ideal) X2) (a14.view.read (Elt Ideal) f14) (a14.view.read (Elt Ideal) f14') (a15.view.read (Elt Ideal) f15') (a16.view.read (Elt Ideal) f16') (a20.view.read (Elt Ideal) f20') (a23.view.read (Elt Ideal) f23'))) := by
  simp only [cc0_rnn_eq_skeleton]
  rw [skel_eq]
  exact tail1v_run 𝒱₀ c i a1 m1 a2 m2 a3 m3 a4 m4 a5 m5 a6 m6 a7 m7 a8 m8 a9 m9 a10 m10 a11 m11 a12 m12 a13 m13 a14 m14 a15 m15 a16 m16 a17 m17 a18 m18 a19 m19 a20 m20 a21 m21 a22 m22 a23 m23 a24 m24 a25 m25 X1 X2 X3 X4 X5 X6 X7 X8 X9 X10 X11 f12 f13 f14 f15 f16 f17 f18 f19 f20 f21 f22 f23 f24 f25 hO inj hW hG

end Cert.KernelIdeal.Hand
-- ==== Proof.KernelIdealPoint.lean ====
/- One point of the launch with the values: what the windows hold there, what the scratch holds between points, and the output array. -/
module

public import proofs.«01_k».proof.Proof.KernelIdealTails
public import proofs.«01_k».proof.Proof.KernelIdealFrame
public import Idealize.ShloMosaic.Lib.Pipeline.FrameBody
public import Idealize.ShloMosaic.Lib.Pipeline.ValueKit.Geometry
public import Idealize.ShloMosaic.Lib.Pipeline.ArrRel

@[expose] public section

set_option maxRecDepth 65536
set_option maxHeartbeats 1000000

noncomputable section

namespace Cert.KernelIdeal.Hand

open Cert Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat BodyObligationRel)

variable (m : (ℓ : Loc nD τ sig) → Buf (Elt Ideal) ℓ) (ρ : Dev nD → PrngReg)
variable {Inv : ℕ → ScratchPred Ideal} {Rl : (w : Fin (cfgA m).W) → Fin (cfgA m).N → (((cfgA m).win w).block.Idx → Elt Ideal ((cfgA m).win w).elt) → Prop}

theorem N_eq : (cfgA m).N = 80 := rfl

theorem coord_val (t : Fin (cfgA m).N) : (grid0.coords t 0).val = t.val :=
  (by decide +kernel : ∀ t : Fin grid0.N, (grid0.coords t 0).val = t.val) t

theorem chunk_of : ∀ t : Fin 80, (Scalar.minsi (BitVec.ofNat 32 t.val) 39#32).toNat = min t.val 39 := by decide +kernel

/-- No transfer of window 0 is cut: its last block ends inside the array. -/
theorem clip0_none (i : grid0.Coords) (a : Fin 2) : clip0_0 i a = none := by
  unfold clip0_0 Pipeline.Clip.of
  refine if_pos ?_
  match a with
  | 0 =>
    show ((Scalar.minsi (BitVec.ofNat 32 (i 0).val) 39#32).toNat + 1) * 2048 ≤ 82048
    rw [chunk_of (i 0)]; omega
  | 1 => show (0 + 1) * 128 ≤ 128; decide

theorem clip_none (w : Fin 12) (i : grid0.Coords) (a) : ((cfgA m).win w).clip i a = none := by
  match w with
  | 0 => exact clip0_none i a
  | 1 => rfl
  | 2 => rfl
  | 3 => rfl
  | 4 => rfl
  | 5 => rfl
  | 6 => rfl
  | 7 => rfl
  | 8 => rfl
  | 9 => rfl
  | 10 => rfl
  | 11 => rfl

/-- A window's buffer after a fetch over the contents `d`. -/
def fet (w : Fin (cfgA m).W) (t : Fin (cfgA m).N) (d : ((cfgA m).win w).block.Idx → Elt Ideal ((cfgA m).win w).elt) : ((cfgA m).win w).block.Idx → Elt Ideal ((cfgA m).win w).elt :=
  ((cfgA m).win w).fill (grid0.coords t) d ((((cfgA m).win w).blk t).view.read (Elt Ideal) (V m 0 (Pipeline.arrRef (cfgA m).spec w)))

theorem fet_eq (w : Fin (cfgA m).W) (t : Fin (cfgA m).N) (d) : (dat m Inv 0).fetched w t d = fet m w t d := rfl

/-- An input window holds the array's block, fetched at this point or before. -/
theorem finds_fetched (hR : ∀ w t X, ((cfgA m).win w).isOut = false → Rl w t X → ∃ d, X = fet m w t d)
    (w : Fin (cfgA m).W) (hw : ((cfgA m).win w).isOut = false) (t : Fin (cfgA m).N) (X) (h : (rdat m Inv Rl 0).Finds w t X) : ∃ d, X = fet m w t d := by
  by_cases hf : ((cfgA m).win w).fetch t = true
  · exact ((rdat m Inv Rl 0).finds_of_fetch hf X).mp h
  · rw [Bool.not_eq_true] at hf
    obtain ⟨ht, hix⟩ := ((cfgA m).win w).index_eq_of_fetch hw t hf
    rcases ((rdat m Inv Rl 0).finds_of_pos hf ht X).mp h with hfl | ⟨Y, -, hY⟩
    · rw [((cfgA m).win w).flush_in hw] at hfl; exact absurd hfl Bool.false_ne_true
    · obtain ⟨d, hd⟩ := hR w _ X hw hY
      exact ⟨d, hd.trans ((dat m Inv 0).fetched_congr w hix.symm (by funext a; rw [clip_none, clip_none]) d)⟩

theorem fetched2 (t : Fin (cfgA m).N) (d) (y : S128x1.Idx) : fet m 2 t d y = V m 0 main_v36 y := by
  refine congrArg (V m 0 main_v36) (funext ?_)
  exact Fin.forall_fin_two.mpr ⟨Fin.ext (by show 0 * 128 + 1 * (y 0).val = (y 0).val; omega), Fin.ext (by show 0 * 1 + 1 * (y 1).val = (y 1).val; omega)⟩

theorem fetched3 (t : Fin (cfgA m).N) (d) (y : S352x240.Idx) : fet m 3 t d y = V m 0 main_v0 y := by
  refine congrArg (V m 0 main_v0) (funext ?_)
  exact Fin.forall_fin_two.mpr ⟨Fin.ext (by show 0 * 352 + 1 * (y 0).val = (y 0).val; omega), Fin.ext (by show 0 * 240 + 1 * (y 1).val = (y 1).val; omega)⟩

theorem fetched4 (t : Fin (cfgA m).N) (d) (y : S80x240.Idx) : fet m 4 t d y = V m 0 main_v3 y := by
  refine congrArg (V m 0 main_v3) (funext ?_)
  exact Fin.forall_fin_two.mpr ⟨Fin.ext (by show 0 * 80 + 1 * (y 0).val = (y 0).val; omega), Fin.ext (by show 0 * 240 + 1 * (y 1).val = (y 1).val; omega)⟩

theorem fetched8 (t : Fin (cfgA m).N) (d) (y : S8x384.Idx) : fet m 8 t d y = V m 0 main_v35 y := by
  refine congrArg (V m 0 main_v35) (funext ?_)
  exact Fin.forall_fin_two.mpr ⟨Fin.ext (by show 0 * 8 + 1 * (y 0).val = (y 0).val; omega), Fin.ext (by show 0 * 384 + 1 * (y 1).val = (y 1).val; omega)⟩

theorem fetched0 (t : Fin (cfgA m).N) (ht : t.val < 40) (d) (k : Fin 2048) (l : Fin 128) :
    fet m 0 t d (ix2 k l) = V m 0 main_arg0 (ix2 ⟨t.val * 2048 + k.val, by omega⟩ l) := by
  unfold fet Pipeline.Window.fill
  refine (dif_pos ((((cfgA m).win 0).moved_iff _ _).mpr fun a => ?_)).trans ?_
  · have e := clip_none m 0 (grid0.coords t) a
    exact Nat.lt_of_lt_of_eq ((ix2 k l : S2048x128.Idx) a).isLt (congrArg (fun q => Pipeline.Clip.extent q (((cfgA m).win 0).size a)) e).symm
  refine congrArg (V m 0 main_arg0) (funext ?_)
  refine Fin.forall_fin_two.mpr ⟨Fin.ext ?_, Fin.ext ?_⟩
  · show (Scalar.minsi (BitVec.ofNat 32 (grid0.coords t 0).val) 39#32).toNat * 2048 + 1 * k.val = t.val * 2048 + k.val
    rw [chunk_of (grid0.coords t 0), coord_val m t, Nat.min_eq_left (by omega), Nat.one_mul]
  · show 0 * 128 + 1 * l.val = l.val; omega

attribute [irreducible] fet

theorem flush11 (t : Fin (cfgA m).N) (h : ((cfgA m).win 11).flush t = true) : t.val = 79 := by
  have hix : ∀ a b : Fin (cfgA m).N, ((cfgA m).win 11).index a = ((cfgA m).win 11).index b := fun _ _ => rfl
  unfold Pipeline.Window.flush at h
  rw [show ((cfgA m).win 11).isOut = true from rfl, Bool.true_and, Bool.or_eq_true] at h
  rcases h with h | h
  · have := of_decide_eq_true h
    have e : t.val + 1 = 80 := this
    omega
  · obtain ⟨hl, hn⟩ := of_decide_eq_true h
    exact absurd (hix _ _) hn

theorem whole11 : ((cfgA m).win 11).WholeAt (⟨79, by decide⟩ : Fin 80) :=
  ⟨rfl, fun t h => Fin.ext (flush11 m t h), Fin.forall_fin_two.mpr ⟨⟨rfl, rfl⟩, ⟨rfl, rfl⟩⟩⟩

/-- The lengths, the weights, the scales and shifts, and the input projections as the launch finds them. -/
def Ls (r : Fin 128) : ℤ := (V m 0 main_arg1 (ix1 r) : BitVec 32).toInt
def WpV (g : Fin 3) (j : Fin 80) (k : ℕ) : EReal := if hk : k < 352 then V m 0 main_v0 (ix2 ⟨k, hk⟩ (Spec.col80 g j)) else 0
def WhV (k : Fin 80) (g : Fin 3) (j : Fin 80) : EReal := V m 0 main_v3 (ix2 k (Spec.col80 g j))
def sbV (q : Fin 8) (g : Fin 3) (j : Fin 80) : EReal := V m 0 main_v35 (ix2 q (Spec.col g (wide j)))
def PV (t : ℕ) (r : Fin 128) (j : Fin 80) (g : Fin 3) : EReal :=
  if ht : t < 640 then Spec.proj (fun a => V m 0 main_arg0 (ix2 ⟨t * 128 + r.val, by omega⟩ a)) (WpV m g j) (sbV m 0 g j) (sbV m 1 g j) else 0
/-- The state after `n` steps. -/
def HV (n : ℕ) : Fin 128 → Fin 80 → EReal := Spec.H (PV m) (Ls m) (WhV m) (sbV m 2) (sbV m 3) n

/-- Between points the scratch carries the state while phase 1 runs. -/
def InvV : ℕ → ScratchPred Ideal := fun n s0 s1 s2 s3 s4 s5 s6 s7 s8 s9 s10 => n ≠ 0 → n ≤ 40 →
  Good (WpV m) (WhV m) (Ls m) (HV m (16 * n)) ((Memref.whole cc0_scratch0 : Memref sig .tc _ _ _).view.read (Elt Ideal) s0) ((Memref.whole cc0_scratch1 : Memref sig .tc _ _ _).view.read (Elt Ideal) s1) ((Memref.whole cc0_scratch5 : Memref sig .tc _ _ _).view.read (Elt Ideal) s5) ((Memref.whole cc0_scratch8 : Memref sig .tc _ _ _).view.read (Elt Ideal) s8)

/-- Contents of window 11. -/
def at11 {w : Fin (cfgA m).W} (h : w = (11 : Fin 12)) (X : ((cfgA m).win w).block.Idx → Elt Ideal ((cfgA m).win w).elt) : S128x80.Idx → EReal := by
  subst h; exact X

/-- What each window holds after a point: an input its block, the output of the first phase its rows once the phases have changed. -/
def RlV : (w : Fin (cfgA m).W) → Fin (cfgA m).N → (((cfgA m).win w).block.Idx → Elt Ideal ((cfgA m).win w).elt) → Prop := fun w t X =>
  (((cfgA m).win w).isOut = false → ∃ d, X = fet m w t d) ∧
    ∀ h : w = (11 : Fin 12), 40 ≤ t.val → Out (V m 0 main_arg2) (HV m 640) (at11 m h X)

theorem findsV (w : Fin (cfgA m).W) (hw : ((cfgA m).win w).isOut = false) (t : Fin (cfgA m).N) (X) (h : (rdat m (InvV m) (RlV m) 0).Finds w t X) :
    ∃ d, X = fet m w t d :=
  finds_fetched m (fun w t X hw h => h.1 hw) w hw t X h

/-- An input window keeps its block over a point. -/
theorem keepV (w : Fin (cfgA m).W) (hw : ((cfgA m).win w).isOut = false) (hne : w ≠ (11 : Fin 12)) (t : Fin (cfgA m).N) (X) (h : (rdat m (InvV m) (RlV m) 0).Finds w t X) : RlV m w t X :=
  ⟨fun _ => findsV m w hw t X h, fun q => absurd q hne⟩

theorem findsV11 (t : Fin (cfgA m).N) (ht : 40 < t.val) (X) (h : (rdat m (InvV m) (RlV m) 0).Finds 11 t X) : Out (V m 0 main_arg2) (HV m 640) X := by
  rcases ((rdat m (InvV m) (RlV m) 0).finds_of_pos (w := (11 : Fin 12)) (t := t) rfl (by omega) X).mp h with hfl | ⟨Y, -, hY⟩
  · have := flush11 m _ hfl
    have h2 : t.val < 80 := t.isLt
    dsimp only at this; omega
  · exact hY.2 rfl (by show 40 ≤ t.val - 1; omega)

/-- What the precondition gives: lengths fall along the batch, the order table lists every row once, the length column holds the lengths. -/
structure Fit : Prop where
  hL : ∀ a b, a ≤ b → Ls m b ≤ Ls m a
  hO : OrderOk (F := Ideal) (Memref.whole main_arg2) (V m 0 main_arg2)
  inj : ∀ r s : Fin 128, (V m 0 main_arg2 (ix1 s) : BitVec 32) = V m 0 main_arg2 (ix1 r) → s = r
  h5 : ∀ r : Fin 128, (V m 0 main_v36 (ix2 r (0 : Fin 1)) : BitVec 32).toInt = Ls m r

theorem dite_eq_of {α : Type} {p : Prop} [Decidable p] {f g : p → α} {z : α} (h : ∀ q, f q = g q) : (if q : p then f q else z) = if q : p then g q else z := by
  split
  · exact h _
  · rfl

theorem winsV (hF : Fit m) (t : Fin (cfgA m).N) (d0 d2 d3 d4 d8) : Wins (PV m) (WpV m) (WhV m) (sbV m 2) (sbV m 3) (Ls m) (grid0.coords t 0).val (V m 0 main_arg1) (fet m 0 t d0) (fet m 2 t d2) (fet m 3 t d3) (fet m 4 t d4) (fet m 8 t d8) := by
  have hc : (grid0.coords t 0).val = t.val := coord_val m t
  refine ⟨hF.hL, fun _ => rfl, fun r => ?_, fun k g j => ?_, fun k g j => ?_, fun g j => ?_, fun g j => ?_, fun hn tt r j g => ?_⟩
  · exact (congrArg BitVec.toInt (fetched2 m t d2 _)).trans (hF.h5 r)
  · exact dite_eq_of (α := EReal) fun hk => (fetched3 m t d3 _).symm
  · exact (fetched4 m t d4 _).symm
  · exact fetched8 m t d8 _
  · exact fetched8 m t d8 _
  · rw [hc] at hn ⊢
    unfold PV
    rw [dif_pos (by omega)]
    congr 1
    · funext a
      refine Eq.trans ?_ (fetched0 m t hn d0 _ a).symm
      refine congrArg (V m 0 main_arg0) (congrArg₂ ix2 (Fin.ext ?_) rfl)
      show (16 * t.val + tt.val) * 128 + r.val = t.val * 2048 + (tt.val * 128 + r.val)
      omega
    · exact (fetched8 m t d8 _).symm
    · exact (fetched8 m t d8 _).symm

theorem pointV (hF : Fit m) : PointOk m (InvV m) (RlV m) 0 := by
  intro t x0 x1 x2 x3 x4 x5 x6 x7 x8 x9 x10 x11 s0 s1 s2 s3 s4 s5 s6 s7 s8 s9 s10 hI h0 h1 h2 h3 h4 h5 h6 h7 h8 h9 h10 h11
  obtain ⟨d0, e0⟩ := findsV m 0 rfl t _ h0
  obtain ⟨d2, e2⟩ := findsV m 2 rfl t _ h2
  obtain ⟨d3, e3⟩ := findsV m 3 rfl t _ h3
  obtain ⟨d4, e4⟩ := findsV m 4 rfl t _ h4
  obtain ⟨d8, e8⟩ := findsV m 8 rfl t _ h8
  have hc : (grid0.coords t 0).val = t.val := coord_val m t
  have hW : Wins (PV m) (WpV m) (WhV m) (sbV m 2) (sbV m 3) (Ls m) (grid0.coords t 0).val (V m 0 main_arg1) ((wm0 m t).view.read (Elt Ideal) x0) ((wm2 m t).view.read (Elt Ideal) x2) ((wm3 m t).view.read (Elt Ideal) x3) ((wm4 m t).view.read (Elt Ideal) x4) ((wm8 m t).view.read (Elt Ideal) x8) := by
    rw [e0, e2, e3, e4, e8]
    exact winsV m hF t d0 d2 d3 d4 d8
  refine BIBase.Entails.trans (bodyv_run Variants.none 0 (grid0.coords t) (Memref.whole main_arg1) (Memref.isWhole_whole _) (Memref.whole main_arg2) (Memref.isWhole_whole _) (wm0 m t) (wh0 m t) (wm1 m t) (wh1 m t) (wm2 m t) (wh2 m t) (wm3 m t) (wh3 m t) (wm4 m t) (wh4 m t) (wm5 m t) (wh5 m t) (wm6 m t) (wh6 m t) (wm7 m t) (wh7 m t) (wm8 m t) (wh8 m t) (wm9 m t) (wh9 m t) (wm10 m t) (wh10 m t) (wm11 m t) (wh11 m t) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (V m 0 main_arg1) (V m 0 main_arg2) x0 x1 x2 x3 x4 x5 x6 x7 x8 x9 x10 x11 s0 s1 s2 s3 s4 s5 s6 s7 s8 s9 s10 hF.hO hF.inj hW (fun q q2 => ?_)) (wp_mono _ _ _ fun _ => ?_)
  · rw [hc] at q q2 ⊢; exact hI q q2
  · unfold Leftv PointPost
    iintro ⟨%r0, %r1, %r2, %r3, %r4, %r5, %r6, %r7, %r8, %r9, %r10, %r11, %r12, %r13, H, %hp⟩
    rw [hc] at hp
    iexists x0, x1, x2, x3, x4, x5, x6, x7, x8, r0, r1, r2, r3, r4, r5, r6, r7, r8, r9, r10, r11, r12, r13
    isplitr; · ipureintro; exact fun _ q => hp.1 (by omega)
    isplitr
    · ipureintro
      refine ⟨keepV m 0 rfl (Fin.ne_of_val_ne (show 0 ≠ 11 by decide)) t _ h0, keepV m 1 rfl (Fin.ne_of_val_ne (show 1 ≠ 11 by decide)) t _ h1, keepV m 2 rfl (Fin.ne_of_val_ne (show 2 ≠ 11 by decide)) t _ h2, keepV m 3 rfl (Fin.ne_of_val_ne (show 3 ≠ 11 by decide)) t _ h3, keepV m 4 rfl (Fin.ne_of_val_ne (show 4 ≠ 11 by decide)) t _ h4, keepV m 5 rfl (Fin.ne_of_val_ne (show 5 ≠ 11 by decide)) t _ h5, keepV m 6 rfl (Fin.ne_of_val_ne (show 6 ≠ 11 by decide)) t _ h6, keepV m 7 rfl (Fin.ne_of_val_ne (show 7 ≠ 11 by decide)) t _ h7, keepV m 8 rfl (Fin.ne_of_val_ne (show 8 ≠ 11 by decide)) t _ h8,
        ⟨fun q => absurd (show true = false from q) (by decide), fun q => absurd q (Fin.ne_of_val_ne (show 9 ≠ 11 by decide))⟩, ⟨fun q => absurd (show true = false from q) (by decide), fun q => absurd q (Fin.ne_of_val_ne (show 10 ≠ 11 by decide))⟩, ⟨fun q => absurd (show true = false from q) (by decide), fun _ q => ?_⟩⟩
      by_cases h40 : t.val = 40
      · exact hp.2.1 h40
      · have e := hp.2.2 (by omega)
        show Out (V m 0 main_arg2) (HV m 640) ((wm11 m t).view.read (Elt Ideal) r2)
        rw [e]
        exact findsV11 m t (by omega) _ h11
    iexact H

/-- After the run the output array holds the final state in batch order. -/
theorem outV {r : PUnit × MemSt nD τ sig (Elt Ideal)} (h : RDat.FramePost (cfgA m) (rdat m (InvV m) (RlV m)) (V m) r) :
    Out (V m 0 main_arg2) (HV m 640) (r.2.mem (((0 : Dev nD) : Thread nD τ).loc main_v37_2)) := by
  obtain ⟨X, ⟨Y, -, hX⟩, hG⟩ := ((h 0).1 (11 : Fin 12)).emb_eq_of_wholeAt (whole11 m)
  have ho : Out (V m 0 main_arg2) (HV m 640) X := hX.2 rfl (show 40 ≤ 79 by decide)
  intro a q j hq
  exact (hG (ix2 q j)).trans (ho a q j hq)

theorem run_value (hF : Fit m) : θ_run defs (onTc (τ := τ) (main (F := Ideal))) (s₀ m ρ)
    (fun r => RDat.FramePost (cfgA m) (rdat m (InvV m) (RlV m)) (V m) r ∧ r.2.sem = fun _ => 0) :=
  run_main (Inv := InvV m) (Rl := RlV m) ρ (fun _ _ _ _ _ _ _ _ _ _ _ q => absurd rfl q) fun c => by
    obtain rfl : c = 0 := Subsingleton.elim _ _
    exact pointV m hF

end Cert.KernelIdeal.Hand
-- ==== Proof.KernelIdealHost.lean ====
module

public import proofs.«01_k».proof.Proof.KernelIdealPoint
public import proofs.«01_k».proof.Proof.Pre
public import Idealize.ShloMosaic.Lib.KernelVsHost

@[expose] public section

set_option maxRecDepth 65536
set_option maxHeartbeats 400000

noncomputable section

namespace Cert.KernelIdeal.Hand

open Cert.KernelIdeal Cert.KernelIdeal.Gen
open Idealize.ShloMosaic Idealize.ShloMosaic.TcCoe Idealize.ShloMosaic.StableHlo
open Idealize.SL.Sem

variable (m : (ℓ : Loc nD τ sig) → Buf (Elt Ideal) ℓ)

theorem host_v36 : V m 0 main_v36 = shapeCast S128x1 (V m 0 main_arg1) shapeCasts_S128_S128x1 := by
  rw [V_arg1]
  show StableHlo.after (hostAll (F := Ideal)).flatten (fun b => m (0, b)) (Proc.devRef .tc main_v36) = _
  simp only [hostAll, hostOps0, hostOps0_1, hostOps0_2, hostOps0_3, hostOps0_4, hostOps0_5, hostOps0_6, List.flatten_cons, List.flatten_nil, List.append_nil, List.cons_append, List.nil_append]
  after_results_simp
  rfl

theorem host_v0 : V m 0 main_v0 = shapeCast S352x240 (V m 0 main_arg3) shapeCasts_S352x3x80_S352x240 := by
  rw [V_arg3]
  show StableHlo.after (hostAll (F := Ideal)).flatten (fun b => m (0, b)) (Proc.devRef .tc main_v0) = _
  simp only [hostAll, hostOps0, hostOps0_1, hostOps0_2, hostOps0_3, hostOps0_4, hostOps0_5, hostOps0_6, List.flatten_cons, List.flatten_nil, List.append_nil, List.cons_append, List.nil_append]
  after_results_simp
  rfl

theorem host_v3 : V m 0 main_v3 = shapeCast S80x240 (V m 0 main_arg5) shapeCasts_S80x3x80_S80x240 := by
  rw [V_arg5]
  show StableHlo.after (hostAll (F := Ideal)).flatten (fun b => m (0, b)) (Proc.devRef .tc main_v3) = _
  simp only [hostAll, hostOps0, hostOps0_1, hostOps0_2, hostOps0_3, hostOps0_4, hostOps0_5, hostOps0_6, List.flatten_cons, List.flatten_nil, List.append_nil, List.cons_append, List.nil_append]
  after_results_simp
  rfl

theorem cast3 {α : Type} {A B C D : ℕ} (x : (⟨3, ![A, B, C]⟩ : Shape).Idx → α) (h : (⟨3, ![A, B, C]⟩ : Shape).ShapeCasts (⟨2, ![A, D]⟩ : Shape)) (hD : D = B * C)
    (q : Fin A) (c : Fin D) (g : Fin B) (j : Fin C) (hc : c.val = g.val * C + j.val) :
    shapeCast (⟨2, ![A, D]⟩ : Shape) x h (ix2 q c) = x (ix3 q g j) := by
  refine congrArg x (Shape.reshapeEquiv_eq_of_vals h (ix2 q c) (ix3 q g j) _ _ (rowMajor_val3 _ (B * C) C rfl rfl) (rowMajor_val2 _ D rfl) ?_)
  show q.val * (B * C) + g.val * C + j.val = q.val * D + c.val
  subst hD
  rw [hc, Nat.add_assoc]

theorem sb_read (f : Fin 8 → (S1x3x80.Idx → EReal)) (z : S_.Idx → EReal) (hc) (hp) (hs) (q : Fin 8) (g : Fin 3) (j : Fin 80) :
    shapeCast S8x384 (pad S8x3x128 ![0, 0, 0] ![0, 0, 48] ![0, 0, 0] (concatenate S8x3x80 0 (List.ofFn fun n : Fin 8 => (⟨S1x3x80, f n⟩ : (s : Shape) × (s.Idx → EReal))) hc) z hp h_S_) hs (ix2 q (Spec.col g (wide j))) = f q (ix3 0 g j) := by
  rw [cast3 _ hs rfl q (Spec.col g (wide j)) g (wide j) rfl]
  rw [pad_apply_of_inside _ _ _ _ _ hp h_S_ (ix3 q g (wide j)) (ix3 q g j) ?_]
  · refine concatenate_ofFn_unit_apply (t := S8x3x80) (s₁ := S1x3x80) 0 f hc rfl rfl (ix3 q g j) q rfl (ix3 0 g j) ?_
    intro b hb
    fin_cases b
    · exact absurd rfl hb
    · rfl
    · rfl
  · intro a
    fin_cases a
    · show q.val = 0 + q.val * 1
      omega
    · show g.val = 0 + g.val * 1
      omega
    · show j.val = 0 + j.val * 1
      omega

theorem sb_read8 (c0 c1 c2 c3 c4 c5 c6 c7 : S1x3x80.Idx → EReal) (z : S_.Idx → EReal) (q : Fin 8) (g : Fin 3) (j : Fin 80) :
    shapeCast S8x384 (pad S8x3x128 ![0, 0, 0] ![0, 0, 48] ![0, 0, 0] (concatenate S8x3x80 0 [⟨S1x3x80, c0⟩, ⟨S1x3x80, c1⟩, ⟨S1x3x80, c2⟩, ⟨S1x3x80, c3⟩, ⟨S1x3x80, c4⟩, ⟨S1x3x80, c5⟩, ⟨S1x3x80, c6⟩, ⟨S1x3x80, c7⟩]
      concatenates_S1x3x80_S1x3x80_S1x3x80_S1x3x80_S1x3x80_S1x3x80_S1x3x80_S1x3x80_S8x3x80_d0) z pads_S8x3x80_S8x3x128_000_000_0480 h_S_) shapeCasts_S8x3x128_S8x384 (ix2 q (Spec.col g (wide j)))
      = (![c0, c1, c2, c3, c4, c5, c6, c7] : Fin 8 → (S1x3x80.Idx → EReal)) q (ix3 0 g j) :=
  sb_read ![c0, c1, c2, c3, c4, c5, c6, c7] z concatenates_S1x3x80_S1x3x80_S1x3x80_S1x3x80_S1x3x80_S1x3x80_S1x3x80_S1x3x80_S8x3x80_d0 pads_S8x3x80_S8x3x128_000_000_0480 shapeCasts_S8x3x128_S8x384 q g j

/-- The argument holding row `q` of the scales and biases. -/
def argOf (q : Fin 4) : S3x80.Idx → EReal :=
  match q with | 0 => V m 0 main_arg4 | 1 => V m 0 main_arg7 | 2 => V m 0 main_arg6 | 3 => V m 0 main_arg8

theorem host_sb (q : Fin 4) (g : Fin 3) (j : Fin 80) : sbV m ⟨q.val, by omega⟩ g j = argOf m q (ix2 g j) := by
  unfold argOf
  rw [V_arg4, V_arg7, V_arg6, V_arg8]
  unfold sbV
  show StableHlo.after (hostAll (F := Ideal)).flatten (fun b => m (0, b)) (Proc.devRef .tc main_v35) _ = _
  simp only [hostAll, hostOps0, hostOps0_1, hostOps0_2, hostOps0_3, hostOps0_4, hostOps0_5, hostOps0_6, List.flatten_cons, List.flatten_nil, List.append_nil, List.cons_append, List.nil_append]
  after_results_simp
  refine (sb_read8 _ _ _ _ _ _ _ _ _ ⟨q.val, by omega⟩ g j).trans ?_
  fin_cases q
  · refine Eq.trans (congrFun ?_ _) (b := broadcastInDim S1x3x80 ![1, 2] bcast_S3x80_S1x3x80_1_2 (m (0, Proc.devRef .tc main_arg4) : S3x80.Idx → EReal) (ix3 0 g j)) ?_
    · after_results_simp
      rfl
    · pointwise
  · refine Eq.trans (congrFun ?_ _) (b := broadcastInDim S1x3x80 ![1, 2] bcast_S3x80_S1x3x80_1_2 (m (0, Proc.devRef .tc main_arg7) : S3x80.Idx → EReal) (ix3 0 g j)) ?_
    · after_results_simp
      rfl
    · pointwise
  · refine Eq.trans (congrFun ?_ _) (b := broadcastInDim S1x3x80 ![1, 2] bcast_S3x80_S1x3x80_1_2 (m (0, Proc.devRef .tc main_arg6) : S3x80.Idx → EReal) (ix3 0 g j)) ?_
    · after_results_simp
      rfl
    · pointwise
  · refine Eq.trans (congrFun ?_ _) (b := broadcastInDim S1x3x80 ![1, 2] bcast_S3x80_S1x3x80_1_2 (m (0, Proc.devRef .tc main_arg8) : S3x80.Idx → EReal) (ix3 0 g j)) ?_
    · after_results_simp
      rfl
    · pointwise

end Cert.KernelIdeal.Hand
-- ==== Proof.ReferenceIdealCells.lean ====
module

public import proofs.«01_k».proof.Proof.Spec
public import proofs.«01_k».proof.Proof.Gen.ReferenceIdeal.Skeleton
public import Idealize.ShloMosaic.Lib.Pointwise
public import Idealize.ShloMosaic.Lib.Pointwise.Index

@[expose] public section

set_option maxRecDepth 65536
set_option maxHeartbeats 400000

noncomputable section

namespace Cert.ReferenceIdeal.Hand

open Cert.ReferenceIdeal Cert.ReferenceIdeal.Gen
open Idealize.ShloMosaic

/-- The weights of one output column, zero beyond the last channel. -/
def colW (w : S352x240.Idx → EReal) (q : Fin 240) (k : ℕ) : EReal := if h : k < 352 then w (ix2 ⟨k, h⟩ q) else 0

theorem sel_slt (a t : BitVec 32) (x y : EReal) : Scalar.select (IntOp.cmpi CmpIPredicate.slt t a) x y = if t.toInt < a.toInt then x else y := by
  rw [show IntOp.cmpi CmpIPredicate.slt t a = BitVec.ofBool (decide (t.toInt < a.toInt)) from rfl]
  by_cases h : t.toInt < a.toInt
  · rw [if_pos h, decide_eq_true h]; rfl
  · rw [if_neg h, decide_eq_false h]; rfl

theorem sel_eq (a t : BitVec 32) (x y : EReal) : Scalar.select (IntOp.cmpi CmpIPredicate.eq a t) x y = if a = t then x else y := by
  by_cases h : a = t
  · subst h
    rw [if_pos rfl, show IntOp.cmpi CmpIPredicate.eq a a = BitVec.ofBool (a == a) from rfl, beq_self_eq_true]; rfl
  · rw [if_neg h, show IntOp.cmpi CmpIPredicate.eq a t = BitVec.ofBool (a == t) from rfl, beq_eq_false_iff_ne.mpr h]; rfl

theorem sh_amt : ∀ n : Fin 4, IntOp.subi (24#32) (IntOp.muli (8#32) (BitVec.ofNat 32 n.val)) = BitVec.ofNat 32 (24 - 8 * n.val) := by decide

theorem pay1_apply (w : Vec Ideal S352x240 .fp8e4m3) (k : Fin 352) (q : Fin 240) : k0_pay1 (F := Ideal) w (ix2 k q) = w (ix2 k q) := by
  pointwise [k0_pay1]

theorem pay2_apply (w : Vec Ideal S80x240 .fp8e4m3) (k : Fin 80) (q : Fin 240) : k0_pay2 (F := Ideal) w (ix2 k q) = w (ix2 k q) := by
  pointwise [k0_pay2]

theorem pay3_apply (r : Fin 128) (j : Fin 80) : k0_pay3 (F := Ideal) (ix2 r j) = 0 := by
  pointwise [k0_pay3]

theorem pay7_apply (w : FVec Ideal S80x240 .bf16) (h : FVec Ideal S128x80 .f32) (s b : Vec Ideal S1x240 .f32) (r : Fin 128) (q : Fin 240) :
    k0_pay7 (F := Ideal) w h s b (ix2 r q) = (∑ k : Fin 80, h (ix2 r k) * w (ix2 k q)) * s (ix2 0 q) + b (ix2 0 q) := by
  pointwise [k0_pay7]

theorem pay6_apply (w : FVec Ideal S352x240 .bf16) (x : Vec Ideal S128x128 .i32) (s b : Vec Ideal S1x240 .f32) (r : Fin 128) (q : Fin 240) :
    k0_pay6 (F := Ideal) w x s b (ix2 r q) = Spec.proj (fun a => x (ix2 r a)) (colW w q) (s (ix2 0 q)) (b (ix2 0 q)) := by
  pointwise [k0_pay6]
  unfold Spec.proj
  refine congrArg (· * s (ix2 0 q) + b (ix2 0 q)) (Finset.sum_congr rfl fun k _ => ?_)
  have e1 : colW w q k.val = w (ix2 k q) := dif_pos k.isLt
  rw [e1]
  refine congrArg (· * w (ix2 k q)) ?_
  unfold Spec.chan
  have i1 : (⟨k.val / 32 * 8 + k.val % 32 / 4, by omega⟩ : Fin 128) = Fin.ofNat 128 (k.val / 4) := Fin.ext (by show _ = k.val / 4 % 128; simp only []; omega)
  have i2 : (⟨88 + k.val / 32, by omega⟩ : Fin 128) = Fin.ofNat 128 (88 + k.val / 32) := Fin.ext (by show _ = (88 + k.val / 32) % 128; simp only []; omega)
  have i3 : IntOp.subi (24#32) (IntOp.muli (8#32) (BitVec.ofNat 32 (k.val % 32 % 4))) = BitVec.ofNat 32 (24 - 8 * (k.val % 4)) := by
    rw [show k.val % 32 % 4 = k.val % 4 by omega]
    exact sh_amt ⟨k.val % 4, by omega⟩
  rw [i3]
  exact congrArg₂ (· * ·) (congrArg (fun z => FloatOps.sitofp (F := Ideal) FTy.f32 (IntOp.shrsi ArithUnit.vector (IntOp.shli ArithUnit.vector (x (ix2 r z)) (BitVec.ofNat 32 (24 - 8 * (k.val % 4)))) 24#32)) i1) (congrArg (fun z => Ideal.ofBits FTy.f32 (x (ix2 r z))) i2)

theorem pay4_apply (lens : Vec Ideal S128x1 .i32) (h : FVec Ideal S128x80 .f32) (t : BitVec 32) (p a : FVec Ideal S128x240 .f32) (r : Fin 128) (j : Fin 80) :
    k0_pay4 (F := Ideal) lens h t p a (ix2 r j) = if t.toInt < (lens (ix2 r 0) : BitVec 32).toInt then
      Spec.gru (fun g => p (ix2 r (Spec.col80 g j))) (fun g => a (ix2 r (Spec.col80 g j))) (h (ix2 r j)) else h (ix2 r j) := by
  pointwise [k0_pay4]
  rw [sel_slt]
  have i0 : Spec.col80 0 j = ⟨j.val, by omega⟩ := Fin.ext (by show 0 * 80 + j.val = j.val; omega)
  have i1 : Spec.col80 1 j = ⟨80 + j.val, by omega⟩ := Fin.ext (by show 1 * 80 + j.val = 80 + j.val; omega)
  have i2 : Spec.col80 2 j = ⟨160 + j.val, by omega⟩ := Fin.ext (by show 2 * 80 + j.val = 160 + j.val; omega)
  unfold Spec.gru
  dsimp only
  rw [i0, i1, i2]
  rfl

theorem pay5_apply (h : FVec Ideal S128x80 .f32) (od : Vec Ideal S1x128 .i32) (q : Fin 128) (j : Fin 80) :
    k0_pay5 (F := Ideal) h od (ix2 q j) = ∑ r : Fin 128, if od (ix2 0 r) = BitVec.ofNat 32 q.val then h (ix2 r j) else 0 := by
  pointwise [k0_pay5]
  exact Finset.sum_congr rfl fun x _ => sel_eq _ _ _ _

end Cert.ReferenceIdeal.Hand
-- ==== Proof.ReferenceIdealValue.lean ====
module

public import proofs.«01_k».proof.Proof.ReferenceIdealCells
public import proofs.«01_k».proof.Proof.Gen.ReferenceIdeal.Value
public import Idealize.ShloMosaic.Lib.WritesUnit
public import Idealize.ShloMosaic.Lib.VecWindow

@[expose] public section

set_option maxRecDepth 65536
set_option maxHeartbeats 400000

noncomputable section

namespace Cert.ReferenceIdeal.Hand

open Cert.ReferenceIdeal Cert.ReferenceIdeal.Gen
open Idealize.ShloMosaic Idealize.ShloMosaic.TcCoe
open Idealize.SL.Sem

/-- A load at a rectangle of a rank-2 view, at an entry. -/
theorem readAt_at {κ : Kind} {sp : Space} {e : EltTy} {A B C D : ℕ} (v : View sig κ sp (⟨2, ![A, B]⟩ : Shape) e) (f : v.ty.Contents (Elt Ideal)) {off : Fin 2 → ℕ}
    (inb : ∀ a : Fin 2, off a + (![C, D] : Fin 2 → ℕ) a ≤ (⟨2, ![A, B]⟩ : Shape).size a) (o0 o1 : ℕ) (h : off = ![o0, o1]) (r : Fin C) (c : Fin D) (h0 : o0 + r.val < A) (h1 : o1 + c.val < B) :
    v.readAt (Elt Ideal) (Rect.unit (s := (⟨2, ![A, B]⟩ : Shape)) off ![C, D] inb).toLoadRect f (ix2 r c) = v.read (Elt Ideal) f (ix2 ⟨o0 + r.val, h0⟩ ⟨o1 + c.val, h1⟩) := by
  subst h
  rw [View.readAt_unit v f inb rfl inb]
  show v.read (Elt Ideal) f ((Rect.unit (s := (⟨2, ![A, B]⟩ : Shape)) ![o0, o1] ![C, D] inb).emb (ix2 r c)) = _
  refine congrArg (v.read (Elt Ideal) f) (funext fun a => Fin.ext ?_)
  revert a
  refine Fin.forall_fin_two.mpr ⟨?_, ?_⟩
  · show o0 + 1 * r.val = o0 + r.val
    omega
  · show o1 + 1 * c.val = o1 + c.val
    omega

/-- A load of a whole rank-2 view, at an entry. -/
theorem readAll {κ : Kind} {sp : Space} {e : EltTy} {A B : ℕ} (v : View sig κ sp (⟨2, ![A, B]⟩ : Shape) e) (f : v.ty.Contents (Elt Ideal))
    (inb : ∀ a : Fin 2, (![0, 0] : Fin 2 → ℕ) a + (![A, B] : Fin 2 → ℕ) a ≤ (⟨2, ![A, B]⟩ : Shape).size a) (r : Fin A) (c : Fin B) :
    v.readAt (Elt Ideal) (Rect.unit (s := (⟨2, ![A, B]⟩ : Shape)) ![0, 0] ![A, B] inb).toLoadRect f (ix2 r c) = v.read (Elt Ideal) f (ix2 r c) := by
  rw [readAt_at v f inb 0 0 rfl r c (by omega) (by omega)]
  rw [show (⟨0 + r.val, by omega⟩ : Fin A) = r from Fin.ext (Nat.zero_add _), show (⟨0 + c.val, by omega⟩ : Fin B) = c from Fin.ext (Nat.zero_add _)]

theorem trips : k0_t1_loop.trips = 640 := by decide

theorem off_at : ∀ k : Fin k0_t1_loop.trips, k0_off1 k = ![k.val * 128, 0] := by decide +kernel

theorem iv_at : ∀ k : Fin k0_t1_loop.trips, (Scf.iv 0#32 1#32 k.val).toInt = (k.val : ℤ) := by decide +kernel

section
variable (𝒱 : Variants) (c : Dev nD) (bd : Option 𝒱.V) (a0 : Memref sig .tc .vmem S82048x128 .i32) (m0 : a0.IsWhole) (a1 : Memref sig .tc .vmem S128x1 .i32) (m1 : a1.IsWhole) (a2 : Memref sig .tc .vmem S1x128 .i32) (m2 : a2.IsWhole) (a3 : Memref sig .tc .vmem S352x240 .fp8e4m3) (m3 : a3.IsWhole) (a4 : Memref sig .tc .vmem S1x240 .f32) (m4 : a4.IsWhole) (a5 : Memref sig .tc .vmem S80x240 .fp8e4m3) (m5 : a5.IsWhole) (a6 : Memref sig .tc .vmem S1x240 .f32) (m6 : a6.IsWhole) (a7 : Memref sig .tc .vmem S1x240 .f32) (m7 : a7.IsWhole) (a8 : Memref sig .tc .vmem S1x240 .f32) (m8 : a8.IsWhole) (a9 : Memref sig .tc .vmem S128x80 .f32) (m9 : a9.IsWhole)
  (v0 : Vec Ideal S352x240 .fp8e4m3) (v4 : Vec Ideal S80x240 .fp8e4m3) (v8 : Vec Ideal S128x1 .i32)
  (X_arg0 : BufTy.Contents (Elt Ideal) a0.view.ty) (X_arg4 : BufTy.Contents (Elt Ideal) a4.view.ty) (X_arg6 : BufTy.Contents (Elt Ideal) a6.view.ty) (X_arg7 : BufTy.Contents (Elt Ideal) a7.view.ty) (X_arg8 : BufTy.Contents (Elt Ideal) a8.view.ty)

theorem trip_eq (k : Fin k0_t1_loop.trips) (acc : FVec Ideal S128x80 .f32) :
    tripR_k0_t1 (F := Ideal) 𝒱 c bd a0 m0 a1 m1 a2 m2 a3 m3 a4 m4 a5 m5 a6 m6 a7 m7 a8 m8 a9 m9 v0 v4 v8 X_arg0 X_arg4 X_arg6 X_arg7 X_arg8 k acc
      = k0_pay4 v8 acc (Scf.iv 0#32 1#32 k.val)
          (k0_pay6 (k0_pay1 v0) (a0.view.readAt (Elt Ideal) (Rect.unit (s := S82048x128) (k0_off1 k) S128x128.size (k0_off1_inb k)).toLoadRect X_arg0) (a4.view.readAt (Elt Ideal) (Rect.unit (s := S1x240) ![0, 0] S1x240.size inb_S1x240_S1x240_0_0).toLoadRect X_arg4) (a7.view.readAt (Elt Ideal) (Rect.unit (s := S1x240) ![0, 0] S1x240.size inb_S1x240_S1x240_0_0).toLoadRect X_arg7))
          (k0_pay7 (k0_pay2 v4) acc (a6.view.readAt (Elt Ideal) (Rect.unit (s := S1x240) ![0, 0] S1x240.size inb_S1x240_S1x240_0_0).toLoadRect X_arg6) (a8.view.readAt (Elt Ideal) (Rect.unit (s := S1x240) ![0, 0] S1x240.size inb_S1x240_S1x240_0_0).toLoadRect X_arg8)) := by
  unfold tripR_k0_t1 trip_k0_t1
  dsimp only
  rfl

/-- The input parts of the steps, off the rows of words. -/
def PR (X : S82048x128.Idx → BitVec 32) (w : S352x240.Idx → EReal) (s b : S1x240.Idx → EReal) (t : ℕ) (r : Fin 128) (j : Fin 80) (g : Fin 3) : EReal :=
  if h : t * 128 + r.val < 82048 then Spec.proj (fun a => X (ix2 ⟨t * 128 + r.val, h⟩ a)) (colW w (Spec.col80 g j)) (s (ix2 0 (Spec.col80 g j))) (b (ix2 0 (Spec.col80 g j))) else 0

/-- The hidden states, off the arrays of the reference. -/
def HR (X : S82048x128.Idx → BitVec 32) (l : S128x1.Idx → BitVec 32) (w : S352x240.Idx → EReal) (s : S1x240.Idx → EReal) (wh : S80x240.Idx → EReal) (sh b bh : S1x240.Idx → EReal) : ℕ → Fin 128 → Fin 80 → EReal :=
  Spec.H (PR X w s b) (fun r => (l (ix2 r 0)).toInt) (fun k g j => wh (ix2 k (Spec.col80 g j))) (fun g j => sh (ix2 0 (Spec.col80 g j))) (fun g j => bh (ix2 0 (Spec.col80 g j)))

theorem st_at (n : ℕ) (hn : n ≤ 640) (r : Fin 128) (j : Fin 80) :
    st_k0_t1 (F := Ideal) 𝒱 c bd a0 m0 a1 m1 a2 m2 a3 m3 a4 m4 a5 m5 a6 m6 a7 m7 a8 m8 a9 m9 v0 v4 v8 X_arg0 X_arg4 X_arg6 X_arg7 X_arg8 k0_pay3 n (ix2 r j)
      = HR (a0.view.read (Elt Ideal) X_arg0) v8 v0 (a4.view.read (Elt Ideal) X_arg4) v4 (a6.view.read (Elt Ideal) X_arg6) (a7.view.read (Elt Ideal) X_arg7) (a8.view.read (Elt Ideal) X_arg8) n r j := by
  induction n generalizing r j with
  | zero =>
    rw [st_k0_t1_zero]
    exact pay3_apply r j
  | succ n ih =>
    have hk : n < k0_t1_loop.trips := by rw [trips]; omega
    have e := st_k0_t1_succ (F := Ideal) 𝒱 c bd a0 m0 a1 m1 a2 m2 a3 m3 a4 m4 a5 m5 a6 m6 a7 m7 a8 m8 a9 m9 v0 v4 v8 X_arg0 X_arg4 X_arg6 X_arg7 X_arg8 k0_pay3 ⟨n, hk⟩
    rw [show n + 1 = (⟨n, hk⟩ : Fin k0_t1_loop.trips).val + 1 from rfl, e, trip_eq, pay4_apply, iv_at ⟨n, hk⟩]
    have hb : n * 128 + r.val < 82048 := by omega
    have i := ih (by omega)
    have ep : (fun g => k0_pay6 (F := Ideal) (k0_pay1 v0) (a0.view.readAt (Elt Ideal) (Rect.unit (s := S82048x128) (k0_off1 ⟨n, hk⟩) S128x128.size (k0_off1_inb ⟨n, hk⟩)).toLoadRect X_arg0) (a4.view.readAt (Elt Ideal) (Rect.unit (s := S1x240) ![0, 0] S1x240.size inb_S1x240_S1x240_0_0).toLoadRect X_arg4) (a7.view.readAt (Elt Ideal) (Rect.unit (s := S1x240) ![0, 0] S1x240.size inb_S1x240_S1x240_0_0).toLoadRect X_arg7) (ix2 r (Spec.col80 g j)))
        = PR (a0.view.read (Elt Ideal) X_arg0) v0 (a4.view.read (Elt Ideal) X_arg4) (a7.view.read (Elt Ideal) X_arg7) n r j := by
      funext g
      rw [pay6_apply, readAll, readAll, PR, dif_pos hb]
      congr 1
      · funext a
        rw [readAt_at a0.view X_arg0 _ (n * 128) 0 (off_at ⟨n, hk⟩) r a hb (by omega)]
        rw [show (⟨0 + a.val, by omega⟩ : Fin 128) = a from Fin.ext (Nat.zero_add _)]
      · funext k
        unfold colW
        split
        · exact pay1_apply v0 _ _
        · rfl
    have eh : (fun g => k0_pay7 (F := Ideal) (k0_pay2 v4) (st_k0_t1 (F := Ideal) 𝒱 c bd a0 m0 a1 m1 a2 m2 a3 m3 a4 m4 a5 m5 a6 m6 a7 m7 a8 m8 a9 m9 v0 v4 v8 X_arg0 X_arg4 X_arg6 X_arg7 X_arg8 k0_pay3 n) (a6.view.readAt (Elt Ideal) (Rect.unit (s := S1x240) ![0, 0] S1x240.size inb_S1x240_S1x240_0_0).toLoadRect X_arg6) (a8.view.readAt (Elt Ideal) (Rect.unit (s := S1x240) ![0, 0] S1x240.size inb_S1x240_S1x240_0_0).toLoadRect X_arg8) (ix2 r (Spec.col80 g j)))
        = Spec.hid (fun k g j => v4 (ix2 k (Spec.col80 g j))) (fun g j => (a6.view.read (Elt Ideal) X_arg6) (ix2 0 (Spec.col80 g j))) (fun g j => (a8.view.read (Elt Ideal) X_arg8) (ix2 0 (Spec.col80 g j)))
          (HR (a0.view.read (Elt Ideal) X_arg0) v8 v0 (a4.view.read (Elt Ideal) X_arg4) v4 (a6.view.read (Elt Ideal) X_arg6) (a7.view.read (Elt Ideal) X_arg7) (a8.view.read (Elt Ideal) X_arg8) n r) j := by
      funext g
      rw [pay7_apply, readAll, readAll, Spec.hid]
      refine congrArg (fun z => z * _ + _) (Finset.sum_congr rfl fun k _ => ?_)
      rw [i r k, pay2_apply]
    rw [ep, eh, i r j]
    rfl

end

theorem run_eq (c : Dev nD) (a0 : Memref sig .tc .vmem S82048x128 .i32) (m0 : a0.IsWhole) (a1 : Memref sig .tc .vmem S128x1 .i32) (m1 : a1.IsWhole) (a2 : Memref sig .tc .vmem S1x128 .i32) (m2 : a2.IsWhole) (a3 : Memref sig .tc .vmem S352x240 .fp8e4m3) (m3 : a3.IsWhole) (a4 : Memref sig .tc .vmem S1x240 .f32) (m4 : a4.IsWhole) (a5 : Memref sig .tc .vmem S80x240 .fp8e4m3) (m5 : a5.IsWhole) (a6 : Memref sig .tc .vmem S1x240 .f32) (m6 : a6.IsWhole) (a7 : Memref sig .tc .vmem S1x240 .f32) (m7 : a7.IsWhole) (a8 : Memref sig .tc .vmem S1x240 .f32) (m8 : a8.IsWhole) (a9 : Memref sig .tc .vmem S128x80 .f32) (m9 : a9.IsWhole) (x0 : Vec Ideal S82048x128 .i32) (x1 : Vec Ideal S128x1 .i32) (x2 : Vec Ideal S1x128 .i32) (x3 : Vec Ideal S352x240 .fp8e4m3) (x4 : Vec Ideal S1x240 .f32) (x5 : Vec Ideal S80x240 .fp8e4m3) (x6 : Vec Ideal S1x240 .f32) (x7 : Vec Ideal S1x240 .f32) (x8 : Vec Ideal S1x240 .f32) :
    (kernelRun0_A (F := Ideal) c a0 m0 a1 m1 a2 m2 a3 m3 a4 m4 a5 m5 a6 m6 a7 m7 a8 m8 a9 m9 x0 x1 x2 x3 x4 x5 x6 x7 x8).1 = [⟨Rect.unit (s := S128x80) ![0, 0] S128x80.size inb_S128x80_S128x80_0_0,
      k0_pay5 (st_k0_t1 (F := Ideal) Variants.none c none a0 m0 a1 m1 a2 m2 a3 m3 a4 m4 a5 m5 a6 m6 a7 m7 a8 m8 a9 m9
        (a3.view.readAt (Elt Ideal) (Rect.unit (s := S352x240) ![0, 0] S352x240.size inb_S352x240_S352x240_0_0).toLoadRect (m3.unread x3))
        (a5.view.readAt (Elt Ideal) (Rect.unit (s := S80x240) ![0, 0] S80x240.size inb_S80x240_S80x240_0_0).toLoadRect (m5.unread x5))
        (a1.view.readAt (Elt Ideal) (Rect.unit (s := S128x1) ![0, 0] S128x1.size inb_S128x1_S128x1_0_0).toLoadRect (m1.unread x1))
        (m0.unread x0) (m4.unread x4) (m6.unread x6) (m7.unread x7) (m8.unread x8) k0_pay3 k0_t1_loop.trips)
        (a2.view.readAt (Elt Ideal) (Rect.unit (s := S1x128) ![0, 0] S1x128.size inb_S1x128_S1x128_0_0).toLoadRect (m2.unread x2))⟩] := by
  unfold kernelRun0_A
  dsimp only

theorem out_at (c : Dev nD) (a0 : Memref sig .tc .vmem S82048x128 .i32) (m0 : a0.IsWhole) (a1 : Memref sig .tc .vmem S128x1 .i32) (m1 : a1.IsWhole) (a2 : Memref sig .tc .vmem S1x128 .i32) (m2 : a2.IsWhole) (a3 : Memref sig .tc .vmem S352x240 .fp8e4m3) (m3 : a3.IsWhole) (a4 : Memref sig .tc .vmem S1x240 .f32) (m4 : a4.IsWhole) (a5 : Memref sig .tc .vmem S80x240 .fp8e4m3) (m5 : a5.IsWhole) (a6 : Memref sig .tc .vmem S1x240 .f32) (m6 : a6.IsWhole) (a7 : Memref sig .tc .vmem S1x240 .f32) (m7 : a7.IsWhole) (a8 : Memref sig .tc .vmem S1x240 .f32) (m8 : a8.IsWhole) (a9 : Memref sig .tc .vmem S128x80 .f32) (m9 : a9.IsWhole) (x0 : Vec Ideal S82048x128 .i32) (x1 : Vec Ideal S128x1 .i32) (x2 : Vec Ideal S1x128 .i32) (x3 : Vec Ideal S352x240 .fp8e4m3) (x4 : Vec Ideal S1x240 .f32) (x5 : Vec Ideal S80x240 .fp8e4m3) (x6 : Vec Ideal S1x240 .f32) (x7 : Vec Ideal S1x240 .f32) (x8 : Vec Ideal S1x240 .f32) (q : Fin 128) (j : Fin 80) :
    out0_A_9 (F := Ideal) c a0 m0 a1 m1 a2 m2 a3 m3 a4 m4 a5 m5 a6 m6 a7 m7 a8 m8 a9 m9 x0 x1 x2 x3 x4 x5 x6 x7 x8 (ix2 q j) = ∑ r : Fin 128, if x2 (ix2 0 r) = BitVec.ofNat 32 q.val then HR x0 x1 x3 x4 x5 x6 x7 x8 640 r j else 0 := by
  unfold out0_A_9
  rw [run_eq]
  refine (View.read_writes_cons_unit_of_mem (off := ![0, 0]) (off' := ![0, 0]) (size := S128x80.size) VO0_9 _ inb_S128x80_S128x80_0_0 _ [] (ix2 q j) (ix2 q j) rfl (Fin.forall_fin_two.mpr ⟨(Nat.zero_add _).symm, (Nat.zero_add _).symm⟩)).trans ?_
  rw [pay5_apply]
  refine Finset.sum_congr rfl fun r _ => ?_
  rw [readAll, m2.read_unread, trips, st_at _ _ _ a0 m0 a1 m1 a2 m2 a3 m3 a4 m4 a5 m5 a6 m6 a7 m7 a8 m8 a9 m9 _ _ _ _ _ _ _ _ 640 (le_refl _)]
  rw [m0.read_unread, m4.read_unread, m6.read_unread, m7.read_unread, m8.read_unread]
  have e3 : (a3.view.readAt (Elt Ideal) (Rect.unit (s := S352x240) ![0, 0] S352x240.size inb_S352x240_S352x240_0_0).toLoadRect (m3.unread x3)) = x3 := by
    funext i
    rw [show i = ix2 (i 0) (i 1) from (by funext a; revert a; exact Fin.forall_fin_two.mpr ⟨rfl, rfl⟩)]
    exact (readAll _ _ _ _ _).trans (congrFun (m3.read_unread x3) _)
  have e5 : (a5.view.readAt (Elt Ideal) (Rect.unit (s := S80x240) ![0, 0] S80x240.size inb_S80x240_S80x240_0_0).toLoadRect (m5.unread x5)) = x5 := by
    funext i
    rw [show i = ix2 (i 0) (i 1) from (by funext a; revert a; exact Fin.forall_fin_two.mpr ⟨rfl, rfl⟩)]
    exact (readAll _ _ _ _ _).trans (congrFun (m5.read_unread x5) _)
  have e1 : (a1.view.readAt (Elt Ideal) (Rect.unit (s := S128x1) ![0, 0] S128x1.size inb_S128x1_S128x1_0_0).toLoadRect (m1.unread x1)) = x1 := by
    funext i
    rw [show i = ix2 (i 0) (i 1) from (by funext a; revert a; exact Fin.forall_fin_two.mpr ⟨rfl, rfl⟩)]
    exact (readAll _ _ _ _ _).trans (congrFun (m1.read_unread x1) _)
  rw [e3, e5, e1]

end Cert.ReferenceIdeal.Hand
-- ==== Proof.ReferenceIdealHost.lean ====
module

public import proofs.«01_k».proof.Proof.ReferenceIdealValue
public import Idealize.ShloMosaic.Lib.KernelVsHost
public import Idealize.ShloMosaic.Lib.Pipeline.ValueKit

@[expose] public section

set_option maxRecDepth 65536
set_option maxHeartbeats 400000

noncomputable section

namespace Cert.ReferenceIdeal.Hand

open Cert.ReferenceIdeal Cert.ReferenceIdeal.Gen
open Idealize.ShloMosaic Idealize.ShloMosaic.TcCoe Idealize.ShloMosaic.StableHlo
open Idealize.SL.Sem

variable (m : (ℓ : Loc nD τ sig) → Buf (Elt Ideal) ℓ)

/-- The one point of the run. -/
abbrev t0 : Fin cfg0.N := (⟨0, by decide⟩ : Fin grid0.N)

theorem blk0 (t : Fin cfg0.N) : iblk (F := Ideal) m 0 0 t = V m 0 main_arg0 := by
  funext i
  show V m 0 main_arg0 (((cfg0.win 0).blk t).view.emb i) = V m 0 main_arg0 i
  refine congrArg (V m 0 main_arg0) (funext fun a => Fin.ext ?_)
  blk_simp
  show 0 * _ + (i a).val = (i a).val
  rw [Nat.zero_mul, Nat.zero_add]

theorem blk1 (t : Fin cfg0.N) : iblk (F := Ideal) m 0 1 t = V m 0 main_v0 := by
  funext i
  show V m 0 main_v0 (((cfg0.win 1).blk t).view.emb i) = V m 0 main_v0 i
  refine congrArg (V m 0 main_v0) (funext fun a => Fin.ext ?_)
  blk_simp
  show 0 * _ + (i a).val = (i a).val
  rw [Nat.zero_mul, Nat.zero_add]

theorem blk2 (t : Fin cfg0.N) : iblk (F := Ideal) m 0 2 t = V m 0 main_v1 := by
  funext i
  show V m 0 main_v1 (((cfg0.win 2).blk t).view.emb i) = V m 0 main_v1 i
  refine congrArg (V m 0 main_v1) (funext fun a => Fin.ext ?_)
  blk_simp
  show 0 * _ + (i a).val = (i a).val
  rw [Nat.zero_mul, Nat.zero_add]

theorem blk3 (t : Fin cfg0.N) : iblk (F := Ideal) m 0 3 t = V m 0 main_v2 := by
  funext i
  show V m 0 main_v2 (((cfg0.win 3).blk t).view.emb i) = V m 0 main_v2 i
  refine congrArg (V m 0 main_v2) (funext fun a => Fin.ext ?_)
  blk_simp
  show 0 * _ + (i a).val = (i a).val
  rw [Nat.zero_mul, Nat.zero_add]

theorem blk4 (t : Fin cfg0.N) : iblk (F := Ideal) m 0 4 t = V m 0 main_v3 := by
  funext i
  show V m 0 main_v3 (((cfg0.win 4).blk t).view.emb i) = V m 0 main_v3 i
  refine congrArg (V m 0 main_v3) (funext fun a => Fin.ext ?_)
  blk_simp
  show 0 * _ + (i a).val = (i a).val
  rw [Nat.zero_mul, Nat.zero_add]

theorem blk5 (t : Fin cfg0.N) : iblk (F := Ideal) m 0 5 t = V m 0 main_v4 := by
  funext i
  show V m 0 main_v4 (((cfg0.win 5).blk t).view.emb i) = V m 0 main_v4 i
  refine congrArg (V m 0 main_v4) (funext fun a => Fin.ext ?_)
  blk_simp
  show 0 * _ + (i a).val = (i a).val
  rw [Nat.zero_mul, Nat.zero_add]

theorem blk6 (t : Fin cfg0.N) : iblk (F := Ideal) m 0 6 t = V m 0 main_v5 := by
  funext i
  show V m 0 main_v5 (((cfg0.win 6).blk t).view.emb i) = V m 0 main_v5 i
  refine congrArg (V m 0 main_v5) (funext fun a => Fin.ext ?_)
  blk_simp
  show 0 * _ + (i a).val = (i a).val
  rw [Nat.zero_mul, Nat.zero_add]

theorem blk7 (t : Fin cfg0.N) : iblk (F := Ideal) m 0 7 t = V m 0 main_v6 := by
  funext i
  show V m 0 main_v6 (((cfg0.win 7).blk t).view.emb i) = V m 0 main_v6 i
  refine congrArg (V m 0 main_v6) (funext fun a => Fin.ext ?_)
  blk_simp
  show 0 * _ + (i a).val = (i a).val
  rw [Nat.zero_mul, Nat.zero_add]

theorem blk8 (t : Fin cfg0.N) : iblk (F := Ideal) m 0 8 t = V m 0 main_v7 := by
  funext i
  show V m 0 main_v7 (((cfg0.win 8).blk t).view.emb i) = V m 0 main_v7 i
  refine congrArg (V m 0 main_v7) (funext fun a => Fin.ext ?_)
  blk_simp
  show 0 * _ + (i a).val = (i a).val
  rw [Nat.zero_mul, Nat.zero_add]

theorem arr_at (q : Fin 128) (j : Fin 80) :
    (dats (F := Ideal) m 0 0).arrAt 9 cfg0.N (ix2 q j) = ∑ r : Fin 128, if (V m 0 main_v1 : S1x128.Idx → BitVec 32) (ix2 0 r) = BitVec.ofNat 32 q.val then
      HR (V m 0 main_arg0) (V m 0 main_v0) (V m 0 main_v2) (V m 0 main_v3) (V m 0 main_v4) (V m 0 main_v5) (V m 0 main_v6) (V m 0 main_v7) 640 r j else 0 := by
  have hw : (cfg0.win 9).WholeAt t0 := (by decide +kernel : win0_9.WholeAt (⟨0, by decide⟩ : Fin grid0.N))
  refine ((dats (F := Ideal) m 0 0).arrAt_emb_eq_after_last 9 t0 hw (ix2 q j)).trans ?_
  rw [after0_9]
  unfold outsAt0
  refine Eq.trans ?_ ((out_at 0 _ (hs0_0 t0) _ (hs0_1 t0) _ (hs0_2 t0) _ (hs0_3 t0) _ (hs0_4 t0) _ (hs0_5 t0) _ (hs0_6 t0) _ (hs0_7 t0) _ (hs0_8 t0) _ (hs0_9 t0) (iblk m 0 0 t0) (iblk m 0 1 t0) (iblk m 0 2 t0) (iblk m 0 3 t0) (iblk m 0 4 t0) (iblk m 0 5 t0) (iblk m 0 6 t0) (iblk m 0 7 t0) (iblk m 0 8 t0) q j).trans ?_)
  · rfl
  · rw [blk0, blk1, blk2, blk3, blk4, blk5, blk6, blk7, blk8]

theorem host_v0 : V (F := Ideal) m 0 main_v0 = shapeCast S128x1 (V m 0 main_arg1) shapeCasts_S128_S128x1 := by
  rw [V_main_arg1]
  show StableHlo.after hostOps0 (fun b => m (0, b)) (Proc.devRef .tc main_v0) = _
  simp only [hostOps0]
  after_results_simp
  rfl

theorem host_v1 : V (F := Ideal) m 0 main_v1 = shapeCast S1x128 (V m 0 main_arg2) shapeCasts_S128_S1x128 := by
  rw [V_main_arg2]
  show StableHlo.after hostOps0 (fun b => m (0, b)) (Proc.devRef .tc main_v1) = _
  simp only [hostOps0]
  after_results_simp
  rfl

theorem host_v2 : V (F := Ideal) m 0 main_v2 = shapeCast S352x240 (V m 0 main_arg3) shapeCasts_S352x3x80_S352x240 := by
  rw [V_main_arg3]
  show StableHlo.after hostOps0 (fun b => m (0, b)) (Proc.devRef .tc main_v2) = _
  simp only [hostOps0]
  after_results_simp
  rfl

theorem host_v3 : V (F := Ideal) m 0 main_v3 = shapeCast S1x240 (V m 0 main_arg4) shapeCasts_S3x80_S1x240 := by
  rw [V_main_arg4]
  show StableHlo.after hostOps0 (fun b => m (0, b)) (Proc.devRef .tc main_v3) = _
  simp only [hostOps0]
  after_results_simp
  rfl

theorem host_v4 : V (F := Ideal) m 0 main_v4 = shapeCast S80x240 (V m 0 main_arg5) shapeCasts_S80x3x80_S80x240 := by
  rw [V_main_arg5]
  show StableHlo.after hostOps0 (fun b => m (0, b)) (Proc.devRef .tc main_v4) = _
  simp only [hostOps0]
  after_results_simp
  rfl

theorem host_v5 : V (F := Ideal) m 0 main_v5 = shapeCast S1x240 (V m 0 main_arg6) shapeCasts_S3x80_S1x240 := by
  rw [V_main_arg6]
  show StableHlo.after hostOps0 (fun b => m (0, b)) (Proc.devRef .tc main_v5) = _
  simp only [hostOps0]
  after_results_simp
  rfl

theorem host_v6 : V (F := Ideal) m 0 main_v6 = shapeCast S1x240 (V m 0 main_arg7) shapeCasts_S3x80_S1x240 := by
  rw [V_main_arg7]
  show StableHlo.after hostOps0 (fun b => m (0, b)) (Proc.devRef .tc main_v6) = _
  simp only [hostOps0]
  after_results_simp
  rfl

theorem host_v7 : V (F := Ideal) m 0 main_v7 = shapeCast S1x240 (V m 0 main_arg8) shapeCasts_S3x80_S1x240 := by
  rw [V_main_arg8]
  show StableHlo.after hostOps0 (fun b => m (0, b)) (Proc.devRef .tc main_v7) = _
  simp only [hostOps0]
  after_results_simp
  rfl

theorem len_at (r : Fin 128) : (V m 0 main_v0 : S128x1.Idx → BitVec 32) (ix2 r 0) = (V m 0 main_arg1 : S128.Idx → BitVec 32) (ix1 r) := by
  rw [host_v0]
  refine congrArg (V m 0 main_arg1 : S128.Idx → BitVec 32) (Shape.reshapeEquiv_eq_of_vals shapeCasts_S128_S128x1 (ix2 r 0) (ix1 r) _ _ (rowMajor_val1 _) (rowMajor_val2 _ 1 rfl) ?_)
  show r.val = r.val * 1 + 0
  omega

theorem ord_at (r : Fin 128) : (V m 0 main_v1 : S1x128.Idx → BitVec 32) (ix2 0 r) = (V m 0 main_arg2 : S128.Idx → BitVec 32) (ix1 r) := by
  rw [host_v1]
  refine congrArg (V m 0 main_arg2 : S128.Idx → BitVec 32) (Shape.reshapeEquiv_eq_of_vals shapeCasts_S128_S1x128 (ix2 0 r) (ix1 r) _ _ (rowMajor_val1 _) (rowMajor_val2 _ 128 rfl) ?_)
  show r.val = 0 * 128 + r.val
  omega

theorem row_at (x : S3x80.Idx → EReal) (g : Fin 3) (j : Fin 80) : shapeCast S1x240 x shapeCasts_S3x80_S1x240 (ix2 0 (Spec.col80 g j)) = x (ix2 g j) := by
  refine congrArg x (Shape.reshapeEquiv_eq_of_vals shapeCasts_S3x80_S1x240 (ix2 0 (Spec.col80 g j)) (ix2 g j) _ _ (rowMajor_val2 _ 80 rfl) (rowMajor_val2 _ 240 rfl) ?_)
  show g.val * 80 + j.val = 0 * 240 + (g.val * 80 + j.val)
  omega

end Cert.ReferenceIdeal.Hand
-- ==== Proof.Algebra.lean ====
module

public import proofs.«01_k».proof.Defs
public import proofs.«01_k».proof.Proof.Gen.Pre_well_formed
public import proofs.«01_k».proof.Proof.KernelIdealHost
public import proofs.«01_k».proof.Proof.ReferenceIdealHost

@[expose] public section

set_option maxRecDepth 65536
set_option maxHeartbeats 400000

noncomputable section

namespace Cert.Proof

open Idealize.ShloMosaic Idealize.ShloMosaic.TcCoe Idealize.ShloMosaic.StableHlo
open Idealize.SL.Sem

/-- The hidden state after `n` steps reads the input parts of those steps alone. -/
theorem H_congr {P P' : ℕ → Fin 128 → Fin 80 → Fin 3 → EReal} {len : Fin 128 → ℤ} {Wh : Fin 80 → Fin 3 → Fin 80 → EReal} {sh bh : Fin 3 → Fin 80 → EReal} {N : ℕ}
    (hP : ∀ t, t < N → ∀ r j g, P t r j g = P' t r j g) : ∀ n, n ≤ N → Spec.H P len Wh sh bh n = Spec.H P' len Wh sh bh n
  | 0, _ => rfl
  | n + 1, hn => by
    funext r j
    unfold Spec.H
    rw [H_congr hP n (by omega), show P n r j = P' n r j from funext fun g => hP n (by omega) r j g]

/-- A table that lists every row once: the sum over the rows listed at `q` is its one term. -/
theorem sum_pick {o : Fin 128 → BitVec 32} (inj : ∀ r s, o s = o r → s = r) (f : Fin 128 → EReal) (r q : Fin 128) (hq : q.val = (o r).toNat) :
    (∑ s : Fin 128, if o s = BitVec.ofNat 32 q.val then f s else 0) = f r := by
  have e : BitVec.ofNat 32 q.val = o r := by
    rw [hq]
    exact BitVec.eq_of_toNat_eq (by rw [BitVec.toNat_ofNat]; exact Nat.mod_eq_of_lt (o r).isLt)
  rw [e, Finset.sum_eq_single r (fun s _ h => if_neg fun he => h (inj r s he)) fun h => absurd (Finset.mem_univ r) h]
  exact if_pos rfl

/-- Such a table reaches every row. -/
theorem reach {o : Fin 128 → BitVec 32} (inj : ∀ r s, o s = o r → s = r) (hlt : ∀ r, (o r).toNat < 128) (q : Fin 128) : ∃ r, q.val = (o r).toNat := by
  have hi : Function.Injective fun r => (⟨(o r).toNat, hlt r⟩ : Fin 128) := fun r s h =>
    inj s r (BitVec.eq_of_toNat_eq (Fin.mk.inj_iff.mp h))
  obtain ⟨r, hr⟩ := Finite.injective_iff_surjective.mp hi q
  exact ⟨r, (congrArg Fin.val hr).symm⟩

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- What the precondition gives the kernel. -/
theorem fit (h : ∀ s t : Fin 128, ((KernelIdeal.Hand.V m 0 KernelIdeal.main_arg2 : KernelIdeal.S128.Idx → BitVec 32) (ix1 s)).toNat < 128
      ∧ ((KernelIdeal.Hand.V m 0 KernelIdeal.main_arg2 : KernelIdeal.S128.Idx → BitVec 32) (ix1 s) = (KernelIdeal.Hand.V m 0 KernelIdeal.main_arg2 : KernelIdeal.S128.Idx → BitVec 32) (ix1 t) → s = t)
      ∧ (s ≤ t → ((KernelIdeal.Hand.V m 0 KernelIdeal.main_arg1 : KernelIdeal.S128.Idx → BitVec 32) (ix1 t)).toInt ≤ ((KernelIdeal.Hand.V m 0 KernelIdeal.main_arg1 : KernelIdeal.S128.Idx → BitVec 32) (ix1 s)).toInt)) :
    KernelIdeal.Hand.Fit m where
  hL a b hab := (h a b).2.2 hab
  hO := KernelIdeal.Hand.orderOk_of m 0 fun y => by
    rw [← KernelIdeal.Hand.V_arg2 m 0, eq_ix1 y]
    exact (h (y 0) (y 0)).1
  inj r s e := (h s r).2.1 e
  h5 r := by
    rw [KernelIdeal.Hand.host_v36]
    refine congrArg (fun i => ((KernelIdeal.Hand.V m 0 KernelIdeal.main_arg1 : KernelIdeal.S128.Idx → BitVec 32) i).toInt)
      (Shape.reshapeEquiv_eq_of_vals KernelIdeal.Facts₀.shapeCasts_S128_S128x1 (ix2 r 0) (ix1 r) _ _ (rowMajor_val1 _) (rowMajor_val2 _ 1 rfl) ?_)
    show r.val = r.val * 1 + 0
    omega

/-- The two programs are run on the same arguments. -/
structure Same : Prop where
  a0 : (ReferenceIdeal.Gen.V m' 0 ReferenceIdeal.main_arg0 : ReferenceIdeal.S82048x128.Idx → BitVec 32) = KernelIdeal.Hand.V m 0 KernelIdeal.main_arg0
  a1 : (ReferenceIdeal.Gen.V m' 0 ReferenceIdeal.main_arg1 : ReferenceIdeal.S128.Idx → BitVec 32) = KernelIdeal.Hand.V m 0 KernelIdeal.main_arg1
  a2 : (ReferenceIdeal.Gen.V m' 0 ReferenceIdeal.main_arg2 : ReferenceIdeal.S128.Idx → BitVec 32) = KernelIdeal.Hand.V m 0 KernelIdeal.main_arg2
  a3 : (ReferenceIdeal.Gen.V m' 0 ReferenceIdeal.main_arg3 : ReferenceIdeal.S352x3x80.Idx → EReal) = KernelIdeal.Hand.V m 0 KernelIdeal.main_arg3
  a4 : (ReferenceIdeal.Gen.V m' 0 ReferenceIdeal.main_arg4 : ReferenceIdeal.S3x80.Idx → EReal) = KernelIdeal.Hand.V m 0 KernelIdeal.main_arg4
  a5 : (ReferenceIdeal.Gen.V m' 0 ReferenceIdeal.main_arg5 : ReferenceIdeal.S80x3x80.Idx → EReal) = KernelIdeal.Hand.V m 0 KernelIdeal.main_arg5
  a6 : (ReferenceIdeal.Gen.V m' 0 ReferenceIdeal.main_arg6 : ReferenceIdeal.S3x80.Idx → EReal) = KernelIdeal.Hand.V m 0 KernelIdeal.main_arg6
  a7 : (ReferenceIdeal.Gen.V m' 0 ReferenceIdeal.main_arg7 : ReferenceIdeal.S3x80.Idx → EReal) = KernelIdeal.Hand.V m 0 KernelIdeal.main_arg7
  a8 : (ReferenceIdeal.Gen.V m' 0 ReferenceIdeal.main_arg8 : ReferenceIdeal.S3x80.Idx → EReal) = KernelIdeal.Hand.V m 0 KernelIdeal.main_arg8

theorem hid_same (hS : Same m m') (r : Fin 128) (j : Fin 80) :
    ReferenceIdeal.Hand.HR (ReferenceIdeal.Gen.V m' 0 ReferenceIdeal.main_arg0) (ReferenceIdeal.Gen.V m' 0 ReferenceIdeal.main_v0) (ReferenceIdeal.Gen.V m' 0 ReferenceIdeal.main_v2) (ReferenceIdeal.Gen.V m' 0 ReferenceIdeal.main_v3)
      (ReferenceIdeal.Gen.V m' 0 ReferenceIdeal.main_v4) (ReferenceIdeal.Gen.V m' 0 ReferenceIdeal.main_v5) (ReferenceIdeal.Gen.V m' 0 ReferenceIdeal.main_v6) (ReferenceIdeal.Gen.V m' 0 ReferenceIdeal.main_v7) 640 r j
      = KernelIdeal.Hand.HV m 640 r j := by
  unfold ReferenceIdeal.Hand.HR KernelIdeal.Hand.HV
  have eL : (fun r : Fin 128 => ((ReferenceIdeal.Gen.V m' 0 ReferenceIdeal.main_v0 : ReferenceIdeal.S128x1.Idx → BitVec 32) (ix2 r 0)).toInt) = KernelIdeal.Hand.Ls m := by
    funext r
    rw [ReferenceIdeal.Hand.len_at, hS.a1]
    rfl
  have eW : (fun (k : Fin 80) (g : Fin 3) (j : Fin 80) => (ReferenceIdeal.Gen.V m' 0 ReferenceIdeal.main_v4 : ReferenceIdeal.S80x240.Idx → EReal) (ix2 k (Spec.col80 g j))) = KernelIdeal.Hand.WhV m := by
    funext k g j
    rw [ReferenceIdeal.Hand.host_v4, hS.a5]
    unfold KernelIdeal.Hand.WhV
    rw [KernelIdeal.Hand.host_v3]
  have es : (fun (g : Fin 3) (j : Fin 80) => (ReferenceIdeal.Gen.V m' 0 ReferenceIdeal.main_v5 : ReferenceIdeal.S1x240.Idx → EReal) (ix2 0 (Spec.col80 g j))) = KernelIdeal.Hand.sbV m 2 := by
    funext g j
    rw [ReferenceIdeal.Hand.host_v5, ReferenceIdeal.Hand.row_at, hS.a6]
    exact (KernelIdeal.Hand.host_sb m 2 g j).symm
  have eb : (fun (g : Fin 3) (j : Fin 80) => (ReferenceIdeal.Gen.V m' 0 ReferenceIdeal.main_v7 : ReferenceIdeal.S1x240.Idx → EReal) (ix2 0 (Spec.col80 g j))) = KernelIdeal.Hand.sbV m 3 := by
    funext g j
    rw [ReferenceIdeal.Hand.host_v7, ReferenceIdeal.Hand.row_at, hS.a8]
    exact (KernelIdeal.Hand.host_sb m 3 g j).symm
  rw [eL, eW, es, eb]
  refine congrFun (congrFun (H_congr (N := 640) (fun t ht r j g => ?_) 640 (le_refl _)) r) j
  unfold ReferenceIdeal.Hand.PR KernelIdeal.Hand.PV
  rw [dif_pos (by omega), dif_pos ht]
  have e1 : (ReferenceIdeal.Gen.V m' 0 ReferenceIdeal.main_v3 : ReferenceIdeal.S1x240.Idx → EReal) (ix2 0 (Spec.col80 g j)) = KernelIdeal.Hand.sbV m 0 g j := by
    rw [ReferenceIdeal.Hand.host_v3, ReferenceIdeal.Hand.row_at, hS.a4]
    exact (KernelIdeal.Hand.host_sb m 0 g j).symm
  have e2 : (ReferenceIdeal.Gen.V m' 0 ReferenceIdeal.main_v6 : ReferenceIdeal.S1x240.Idx → EReal) (ix2 0 (Spec.col80 g j)) = KernelIdeal.Hand.sbV m 1 g j := by
    rw [ReferenceIdeal.Hand.host_v6, ReferenceIdeal.Hand.row_at, hS.a7]
    exact (KernelIdeal.Hand.host_sb m 1 g j).symm
  have e3 : ReferenceIdeal.Hand.colW (ReferenceIdeal.Gen.V m' 0 ReferenceIdeal.main_v2) (Spec.col80 g j) = KernelIdeal.Hand.WpV m g j := by
    funext k
    unfold ReferenceIdeal.Hand.colW KernelIdeal.Hand.WpV
    rw [ReferenceIdeal.Hand.host_v2, hS.a3, KernelIdeal.Hand.host_v0]
  rw [e1, e2, e3, hS.a0]

/-- The value both programs leave. -/
def fin (i : KernelIdeal.S128x80.Idx) : EReal :=
  ∑ r : Fin 128, if (KernelIdeal.Hand.V m 0 KernelIdeal.main_arg2 : KernelIdeal.S128.Idx → BitVec 32) (ix1 r) = BitVec.ofNat 32 (i 0).val then KernelIdeal.Hand.HV m 640 r (i 1) else 0

theorem ref_fin (hS : Same m m') : (ReferenceIdeal.Gen.dats (F := Ideal) m' 0 0).arrAt 9 ReferenceIdeal.cfg0.N = fin m := by
  have key : ∀ (q : Fin 128) (j : Fin 80), (ReferenceIdeal.Gen.dats (F := Ideal) m' 0 0).arrAt 9 ReferenceIdeal.cfg0.N (ix2 q j) = fin m (ix2 q j) := by
    intro q j
    refine Eq.trans (α := EReal) (ReferenceIdeal.Hand.arr_at m' q j) (Finset.sum_congr rfl fun r _ => ?_)
    rw [ReferenceIdeal.Hand.ord_at, hS.a2, hid_same m m' hS r j]
    rfl
  funext (i : KernelIdeal.S128x80.Idx)
  rw [show i = ix2 (i 0) (i 1) from (by funext a; revert a; exact Fin.forall_fin_two.mpr ⟨rfl, rfl⟩)]
  exact key (i 0) (i 1)

theorem ker_fin (hF : KernelIdeal.Hand.Fit m) (hlt : ∀ r : Fin 128, ((KernelIdeal.Hand.V m 0 KernelIdeal.main_arg2 : KernelIdeal.S128.Idx → BitVec 32) (ix1 r)).toNat < 128)
    {f : KernelIdeal.S128x80.Idx → EReal} (hf : KernelIdeal.Hand.Out (KernelIdeal.Hand.V m 0 KernelIdeal.main_arg2) (KernelIdeal.Hand.HV m 640) f) : f = fin m := by
  funext i
  obtain ⟨r, hr⟩ := reach (o := fun r => (KernelIdeal.Hand.V m 0 KernelIdeal.main_arg2 : KernelIdeal.S128.Idx → BitVec 32) (ix1 r)) hF.inj hlt (i 0)
  rw [show i = ix2 (i 0) (i 1) from (by funext a; revert a; exact Fin.forall_fin_two.mpr ⟨rfl, rfl⟩)]
  exact (hf r (i 0) (i 1) hr).trans (sum_pick hF.inj (fun r => KernelIdeal.Hand.HV m 640 r (i 1)) r (i 0) hr).symm

end Cert.Proof
-- ==== Proof.lean ====
/- The certificate's proof: the two kernel programs run under the precondition (the frames of
   KernelFrame and KernelIdealFrame), the reference runs (its generated frame), and at the exact values
   the kernel's third result is the reference's (Algebra). -/
module

public import proofs.«01_k».proof.Defs
public import proofs.«01_k».proof.Proof.Gen.Kernel
public import proofs.«01_k».proof.Proof.Gen.KernelIdeal
public import proofs.«01_k».proof.Proof.Gen.ReferenceIdeal.Value
public import proofs.«01_k».proof.Proof.Gen.Pre_well_formed
public import proofs.«01_k».proof.Proof.KernelFrame
public import proofs.«01_k».proof.Proof.KernelIdealFrame
public import proofs.«01_k».proof.Proof.Pre
public import proofs.«01_k».proof.Proof.Algebra

@[expose] public section

noncomputable section

namespace Cert.Proof

open Idealize.ShloMosaic Idealize.ShloMosaic.TcCoe Idealize.SL.Sem

/-- A rank-one position is its coordinate. -/
theorem order_small {F : FTy → Type} [FloatOps F] {a0 a1 a2 a3 a4 a5 a6 a7 a8 a9 a10 a11 a12 a13 a14 a15}
    (h : Cert.Pre_well_formed.fn (F := F) a0 a1 a2 a3 a4 a5 a6 a7 a8 a9 a10 a11 a12 a13 a14 a15 = fun _ => 1#1)
    (y : Cert.Kernel.S128.Idx) : (a2 y : BitVec 32).toNat < 128 := by
  rw [eq_ix1 y]
  exact (Cert.Pre_well_formed.Hand.decode h (y 0) (y 0)).1

theorem algebraic : Cert.algebraic_KernelIdeal_ReferenceIdeal := by
  intro m g m' g' hp he
  have hd : ∀ s t : Fin 128, ((KernelIdeal.Hand.V m 0 KernelIdeal.main_arg2 : KernelIdeal.S128.Idx → BitVec 32) (ix1 s)).toNat < 128
      ∧ ((KernelIdeal.Hand.V m 0 KernelIdeal.main_arg2 : KernelIdeal.S128.Idx → BitVec 32) (ix1 s) = (KernelIdeal.Hand.V m 0 KernelIdeal.main_arg2 : KernelIdeal.S128.Idx → BitVec 32) (ix1 t) → s = t)
      ∧ (s ≤ t → ((KernelIdeal.Hand.V m 0 KernelIdeal.main_arg1 : KernelIdeal.S128.Idx → BitVec 32) (ix1 t)).toInt ≤ ((KernelIdeal.Hand.V m 0 KernelIdeal.main_arg1 : KernelIdeal.S128.Idx → BitVec 32) (ix1 s)).toInt) := by
    rw [KernelIdeal.Hand.V_arg1, KernelIdeal.Hand.V_arg2]
    exact fun s t => Cert.Pre_well_formed.Hand.decode (hp 0) s t
  have hF := fit m hd
  obtain ⟨e0, e1, e2, e3, e4, e5, e6, e7, e8, -⟩ := he 0
  have hS : Same m m' := {
    a0 := (ReferenceIdeal.Gen.V_main_arg0 m' 0).trans (e0.trans (KernelIdeal.Hand.V_arg0 m 0).symm),
    a1 := (ReferenceIdeal.Gen.V_main_arg1 m' 0).trans (e1.trans (KernelIdeal.Hand.V_arg1 m 0).symm),
    a2 := (ReferenceIdeal.Gen.V_main_arg2 m' 0).trans (e2.trans (KernelIdeal.Hand.V_arg2 m 0).symm),
    a3 := (ReferenceIdeal.Gen.V_main_arg3 m' 0).trans (e3.trans (KernelIdeal.Hand.V_arg3 m 0).symm),
    a4 := (ReferenceIdeal.Gen.V_main_arg4 m' 0).trans (e4.trans (KernelIdeal.Hand.V_arg4 m 0).symm),
    a5 := (ReferenceIdeal.Gen.V_main_arg5 m' 0).trans (e5.trans (KernelIdeal.Hand.V_arg5 m 0).symm),
    a6 := (ReferenceIdeal.Gen.V_main_arg6 m' 0).trans (e6.trans (KernelIdeal.Hand.V_arg6 m 0).symm),
    a7 := (ReferenceIdeal.Gen.V_main_arg7 m' 0).trans (e7.trans (KernelIdeal.Hand.V_arg7 m 0).symm),
    a8 := (ReferenceIdeal.Gen.V_main_arg8 m' 0).trans (e8.trans (KernelIdeal.Hand.V_arg8 m 0).symm) }
  refine ⟨fun c => by obtain rfl : c = 0 := Subsingleton.elim _ _; exact fin m, ?_, ?_⟩
  · refine (θ_run _ _ _).mono (fun r hr c => ?_) (KernelIdeal.Hand.run_value m g hF)
    obtain rfl : c = 0 := Subsingleton.elim _ _
    exact ⟨ker_fin m hF (fun r => (hd r r).1) (KernelIdeal.Hand.outV m hr.1),
        KernelIdeal.Hand.kept0 m 0 hr.1,
        KernelIdeal.Hand.kept1 m 0 hr.1,
        KernelIdeal.Hand.kept2 m 0 hr.1,
        KernelIdeal.Hand.kept3 m 0 hr.1,
        KernelIdeal.Hand.kept4 m 0 hr.1,
        KernelIdeal.Hand.kept5 m 0 hr.1,
        KernelIdeal.Hand.kept6 m 0 hr.1,
        KernelIdeal.Hand.kept7 m 0 hr.1,
        KernelIdeal.Hand.kept8 m 0 hr.1,
        KernelIdeal.Hand.kept9 m 0 hr.1,
        KernelIdeal.Hand.kept10 m 0 hr.1,
        KernelIdeal.Hand.kept11 m 0 hr.1,
        KernelIdeal.Hand.kept12 m 0 hr.1,
        KernelIdeal.Hand.kept13 m 0 hr.1,
        KernelIdeal.Hand.kept14 m 0 hr.1,
        KernelIdeal.Hand.kept15 m 0 hr.1⟩
  · refine (θ_run _ _ _).mono (fun r hr c => ?_) (ReferenceIdeal.Value.run_blocks m' g')
    obtain rfl : c = 0 := Subsingleton.elim _ _
    exact ⟨(hr 0).1.trans (ref_fin m m' hS), (hr 0).2⟩

theorem claim : Cert.Claim :=
  ⟨Cert.Kernel.Gen.facts, Cert.KernelIdeal.Gen.facts, Cert.ReferenceIdeal.Gen.facts, Cert.Pre_well_formed.Gen.facts,
    fun m ρ h => Cert.Kernel.Hand.frame_run m ρ fun c y => order_small (h c) y,
    fun m ρ h => Cert.KernelIdeal.Hand.frame_run m ρ fun c y => order_small (h c) y,
    fun m ρ _ => Cert.ReferenceIdeal.Gen.frame m ρ,
    fun m ρ _ => Cert.ReferenceIdeal.Gen.frame m ρ,
    trivial,
    algebraic⟩

end Cert.Proof

end
